-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_unit_lane [hPre_finite_scores_unit_lane : Cert.Pre_finite_scores_unit_lane.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_unit_lane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_unit_lane [hPre_finite_scores_unit_lane : Cert.Pre_finite_scores_unit_lane.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_unit_lane.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_FeedForward (m : (ℓ : Loc Cert.FeedForward.nD Cert.FeedForward.τ Cert.FeedForward.sig) → Buf (Elt Bits) ℓ) : Prop :=
  True

def Pre_FeedForwardIdeal (m : (ℓ : Loc Cert.FeedForwardIdeal.nD Cert.FeedForwardIdeal.τ Cert.FeedForwardIdeal.sig) → Buf (Elt Ideal) ℓ) : Prop :=
  True

def Pre_FeedForwardRefIdeal (m : (ℓ : Loc Cert.FeedForwardRefIdeal.nD Cert.FeedForwardRefIdeal.τ Cert.FeedForwardRefIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInRefIdeal (m : (ℓ : Loc Cert.OddInRefIdeal.nD Cert.OddInRefIdeal.τ Cert.OddInRefIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutRefIdeal (m : (ℓ : Loc Cert.EvenOutRefIdeal.nD Cert.EvenOutRefIdeal.τ Cert.EvenOutRefIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutRefIdeal (m : (ℓ : Loc Cert.OddOutRefIdeal.nD Cert.OddOutRefIdeal.τ Cert.OddOutRefIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def Pre_KeyPrep (m : (ℓ : Loc Cert.KeyPrep.nD Cert.KeyPrep.τ Cert.KeyPrep.sig) → Buf (Elt Bits) ℓ) : Prop :=
  True

def Pre_KeyPrepIdeal (m : (ℓ : Loc Cert.KeyPrepIdeal.nD Cert.KeyPrepIdeal.τ Cert.KeyPrepIdeal.sig) → Buf (Elt Ideal) ℓ) : Prop :=
  True

def Pre_KeyPrepIdeal_finite_keys [hPre_finite_keys : Cert.Pre_finite_keys.Facts] (m : (ℓ : Loc Cert.KeyPrepIdeal.nD Cert.KeyPrepIdeal.τ Cert.KeyPrepIdeal.sig) → Buf (Elt Ideal) ℓ) : Prop :=
  ∀ c : Dev Cert.KeyPrepIdeal.nD,
    (Cert.Pre_finite_keys.fn (F := Ideal) (m ((c.tc : Thread Cert.KeyPrepIdeal.nD Cert.KeyPrepIdeal.τ).loc Cert.KeyPrepIdeal.main_arg0)) (m ((c.tc : Thread Cert.KeyPrepIdeal.nD Cert.KeyPrepIdeal.τ).loc Cert.KeyPrepIdeal.main_arg1)) (m ((c.tc : Thread Cert.KeyPrepIdeal.nD Cert.KeyPrepIdeal.τ).loc Cert.KeyPrepIdeal.main_arg2)) (m ((c.tc : Thread Cert.KeyPrepIdeal.nD Cert.KeyPrepIdeal.τ).loc Cert.KeyPrepIdeal.main_arg3)) (m ((c.tc : Thread Cert.KeyPrepIdeal.nD Cert.KeyPrepIdeal.τ).loc Cert.KeyPrepIdeal.main_arg4))) = (fun _ => 1#1)

def Pre_KeyPrepRefIdeal (m : (ℓ : Loc Cert.KeyPrepRefIdeal.nD Cert.KeyPrepRefIdeal.τ Cert.KeyPrepRefIdeal.sig) → Buf (Elt Ideal) ℓ) : Prop :=
  True

def Pre_KeyPrepRefIdeal_finite_keys [hPre_finite_keys : Cert.Pre_finite_keys.Facts] (m : (ℓ : Loc Cert.KeyPrepRefIdeal.nD Cert.KeyPrepRefIdeal.τ Cert.KeyPrepRefIdeal.sig) → Buf (Elt Ideal) ℓ) : Prop :=
  ∀ c : Dev Cert.KeyPrepRefIdeal.nD,
    (Cert.Pre_finite_keys.fn (F := Ideal) (m ((c.tc : Thread Cert.KeyPrepRefIdeal.nD Cert.KeyPrepRefIdeal.τ).loc Cert.KeyPrepRefIdeal.main_arg0)) (m ((c.tc : Thread Cert.KeyPrepRefIdeal.nD Cert.KeyPrepRefIdeal.τ).loc Cert.KeyPrepRefIdeal.main_arg1)) (m ((c.tc : Thread Cert.KeyPrepRefIdeal.nD Cert.KeyPrepRefIdeal.τ).loc Cert.KeyPrepRefIdeal.main_arg2)) (m ((c.tc : Thread Cert.KeyPrepRefIdeal.nD Cert.KeyPrepRefIdeal.τ).loc Cert.KeyPrepRefIdeal.main_arg3)) (m ((c.tc : Thread Cert.KeyPrepRefIdeal.nD Cert.KeyPrepRefIdeal.τ).loc Cert.KeyPrepRefIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores_unit_lane [hKernelIdeal : Cert.KernelIdeal.Facts] [hPre_finite_scores_unit_lane : Cert.Pre_finite_scores_unit_lane.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_unit_lane m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores_unit_lane [hReferenceIdeal : Cert.ReferenceIdeal.Facts] [hPre_finite_scores_unit_lane : Cert.Pre_finite_scores_unit_lane.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_unit_lane m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_FeedForward [hFeedForward : Cert.FeedForward.Facts] : Prop :=
  ∀ (m : (ℓ : Loc Cert.FeedForward.nD Cert.FeedForward.τ Cert.FeedForward.sig) → Buf (Elt Bits) ℓ) (g : Dev Cert.FeedForward.nD → PrngReg), Pre_FeedForward m →
    θ_run (Cert.FeedForward.defs (F := Bits)) (onTc (τ := Cert.FeedForward.τ) (Cert.FeedForward.main (F := Bits))) ⟨m, fun _ => 0, g⟩ (fun r => (∀ c : Dev Cert.FeedForward.nD,
      r.2.mem ((c.tc : Thread Cert.FeedForward.nD Cert.FeedForward.τ).loc Cert.FeedForward.main_arg0) = m ((c.tc : Thread Cert.FeedForward.nD Cert.FeedForward.τ).loc Cert.FeedForward.main_arg0)
      ∧ r.2.mem ((c.tc : Thread Cert.FeedForward.nD Cert.FeedForward.τ).loc Cert.FeedForward.main_arg1) = m ((c.tc : Thread Cert.FeedForward.nD Cert.FeedForward.τ).loc Cert.FeedForward.main_arg1)
      ∧ r.2.mem ((c.tc : Thread Cert.FeedForward.nD Cert.FeedForward.τ).loc Cert.FeedForward.main_arg2) = m ((c.tc : Thread Cert.FeedForward.nD Cert.FeedForward.τ).loc Cert.FeedForward.main_arg2)
      ∧ r.2.mem ((c.tc : Thread Cert.FeedForward.nD Cert.FeedForward.τ).loc Cert.FeedForward.main_arg3) = m ((c.tc : Thread Cert.FeedForward.nD Cert.FeedForward.τ).loc Cert.FeedForward.main_arg3)
      ∧ r.2.mem ((c.tc : Thread Cert.FeedForward.nD Cert.FeedForward.τ).loc Cert.FeedForward.main_arg4) = m ((c.tc : Thread Cert.FeedForward.nD Cert.FeedForward.τ).loc Cert.FeedForward.main_arg4)
      ∧ r.2.mem ((c.tc : Thread Cert.FeedForward.nD Cert.FeedForward.τ).loc Cert.FeedForward.main_arg5) = m ((c.tc : Thread Cert.FeedForward.nD Cert.FeedForward.τ).loc Cert.FeedForward.main_arg5)
      ∧ r.2.mem ((c.tc : Thread Cert.FeedForward.nD Cert.FeedForward.τ).loc Cert.FeedForward.main_arg6) = m ((c.tc : Thread Cert.FeedForward.nD Cert.FeedForward.τ).loc Cert.FeedForward.main_arg6))
      ∧ r.2.sem = fun _ => 0)

def quiescent_FeedForwardIdeal [hFeedForwardIdeal : Cert.FeedForwardIdeal.Facts] : Prop :=
  ∀ (m : (ℓ : Loc Cert.FeedForwardIdeal.nD Cert.FeedForwardIdeal.τ Cert.FeedForwardIdeal.sig) → Buf (Elt Ideal) ℓ) (g : Dev Cert.FeedForwardIdeal.nD → PrngReg), Pre_FeedForwardIdeal m →
    θ_run (Cert.FeedForwardIdeal.defs (F := Ideal)) (onTc (τ := Cert.FeedForwardIdeal.τ) (Cert.FeedForwardIdeal.main (F := Ideal))) ⟨m, fun _ => 0, g⟩ (fun r => (∀ c : Dev Cert.FeedForwardIdeal.nD,
      r.2.mem ((c.tc : Thread Cert.FeedForwardIdeal.nD Cert.FeedForwardIdeal.τ).loc Cert.FeedForwardIdeal.main_arg0) = m ((c.tc : Thread Cert.FeedForwardIdeal.nD Cert.FeedForwardIdeal.τ).loc Cert.FeedForwardIdeal.main_arg0)
      ∧ r.2.mem ((c.tc : Thread Cert.FeedForwardIdeal.nD Cert.FeedForwardIdeal.τ).loc Cert.FeedForwardIdeal.main_arg1) = m ((c.tc : Thread Cert.FeedForwardIdeal.nD Cert.FeedForwardIdeal.τ).loc Cert.FeedForwardIdeal.main_arg1)
      ∧ r.2.mem ((c.tc : Thread Cert.FeedForwardIdeal.nD Cert.FeedForwardIdeal.τ).loc Cert.FeedForwardIdeal.main_arg2) = m ((c.tc : Thread Cert.FeedForwardIdeal.nD Cert.FeedForwardIdeal.τ).loc Cert.FeedForwardIdeal.main_arg2)
      ∧ r.2.mem ((c.tc : Thread Cert.FeedForwardIdeal.nD Cert.FeedForwardIdeal.τ).loc Cert.FeedForwardIdeal.main_arg3) = m ((c.tc : Thread Cert.FeedForwardIdeal.nD Cert.FeedForwardIdeal.τ).loc Cert.FeedForwardIdeal.main_arg3)
      ∧ r.2.mem ((c.tc : Thread Cert.FeedForwardIdeal.nD Cert.FeedForwardIdeal.τ).loc Cert.FeedForwardIdeal.main_arg4) = m ((c.tc : Thread Cert.FeedForwardIdeal.nD Cert.FeedForwardIdeal.τ).loc Cert.FeedForwardIdeal.main_arg4)
      ∧ r.2.mem ((c.tc : Thread Cert.FeedForwardIdeal.nD Cert.FeedForwardIdeal.τ).loc Cert.FeedForwardIdeal.main_arg5) = m ((c.tc : Thread Cert.FeedForwardIdeal.nD Cert.FeedForwardIdeal.τ).loc Cert.FeedForwardIdeal.main_arg5)
      ∧ r.2.mem ((c.tc : Thread Cert.FeedForwardIdeal.nD Cert.FeedForwardIdeal.τ).loc Cert.FeedForwardIdeal.main_arg6) = m ((c.tc : Thread Cert.FeedForwardIdeal.nD Cert.FeedForwardIdeal.τ).loc Cert.FeedForwardIdeal.main_arg6))
      ∧ r.2.sem = fun _ => 0)

def quiescent_FeedForwardRefIdeal [hFeedForwardRefIdeal : Cert.FeedForwardRefIdeal.Facts] : Prop :=
  ∀ (m : (ℓ : Loc Cert.FeedForwardRefIdeal.nD Cert.FeedForwardRefIdeal.τ Cert.FeedForwardRefIdeal.sig) → Buf (Elt Ideal) ℓ) (g : Dev Cert.FeedForwardRefIdeal.nD → PrngReg), Pre_FeedForwardRefIdeal m →
    θ_run (Cert.FeedForwardRefIdeal.defs (F := Ideal)) (onTc (τ := Cert.FeedForwardRefIdeal.τ) (Cert.FeedForwardRefIdeal.main (F := Ideal))) ⟨m, fun _ => 0, g⟩ (fun r => (∀ c : Dev Cert.FeedForwardRefIdeal.nD,
      r.2.mem ((c.tc : Thread Cert.FeedForwardRefIdeal.nD Cert.FeedForwardRefIdeal.τ).loc Cert.FeedForwardRefIdeal.main_arg0) = m ((c.tc : Thread Cert.FeedForwardRefIdeal.nD Cert.FeedForwardRefIdeal.τ).loc Cert.FeedForwardRefIdeal.main_arg0)
      ∧ r.2.mem ((c.tc : Thread Cert.FeedForwardRefIdeal.nD Cert.FeedForwardRefIdeal.τ).loc Cert.FeedForwardRefIdeal.main_arg1) = m ((c.tc : Thread Cert.FeedForwardRefIdeal.nD Cert.FeedForwardRefIdeal.τ).loc Cert.FeedForwardRefIdeal.main_arg1)
      ∧ r.2.mem ((c.tc : Thread Cert.FeedForwardRefIdeal.nD Cert.FeedForwardRefIdeal.τ).loc Cert.FeedForwardRefIdeal.main_arg2) = m ((c.tc : Thread Cert.FeedForwardRefIdeal.nD Cert.FeedForwardRefIdeal.τ).loc Cert.FeedForwardRefIdeal.main_arg2)
      ∧ r.2.mem ((c.tc : Thread Cert.FeedForwardRefIdeal.nD Cert.FeedForwardRefIdeal.τ).loc Cert.FeedForwardRefIdeal.main_arg3) = m ((c.tc : Thread Cert.FeedForwardRefIdeal.nD Cert.FeedForwardRefIdeal.τ).loc Cert.FeedForwardRefIdeal.main_arg3)
      ∧ r.2.mem ((c.tc : Thread Cert.FeedForwardRefIdeal.nD Cert.FeedForwardRefIdeal.τ).loc Cert.FeedForwardRefIdeal.main_arg4) = m ((c.tc : Thread Cert.FeedForwardRefIdeal.nD Cert.FeedForwardRefIdeal.τ).loc Cert.FeedForwardRefIdeal.main_arg4)
      ∧ r.2.mem ((c.tc : Thread Cert.FeedForwardRefIdeal.nD Cert.FeedForwardRefIdeal.τ).loc Cert.FeedForwardRefIdeal.main_arg5) = m ((c.tc : Thread Cert.FeedForwardRefIdeal.nD Cert.FeedForwardRefIdeal.τ).loc Cert.FeedForwardRefIdeal.main_arg5)
      ∧ r.2.mem ((c.tc : Thread Cert.FeedForwardRefIdeal.nD Cert.FeedForwardRefIdeal.τ).loc Cert.FeedForwardRefIdeal.main_arg6) = m ((c.tc : Thread Cert.FeedForwardRefIdeal.nD Cert.FeedForwardRefIdeal.τ).loc Cert.FeedForwardRefIdeal.main_arg6))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1)
      ∧ r.2.mem ((c.tc : Thread Cert.EvenInRefIdeal.nD Cert.EvenInRefIdeal.τ).loc Cert.EvenInRefIdeal.main_arg2) = m ((c.tc : Thread Cert.EvenInRefIdeal.nD Cert.EvenInRefIdeal.τ).loc Cert.EvenInRefIdeal.main_arg2))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1)
      ∧ r.2.mem ((c.tc : Thread Cert.OddIn.nD Cert.OddIn.τ).loc Cert.OddIn.main_arg2) = m ((c.tc : Thread Cert.OddIn.nD Cert.OddIn.τ).loc Cert.OddIn.main_arg2))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
      ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1)
      ∧ r.2.mem ((c.tc : Thread Cert.OddInRefIdeal.nD Cert.OddInRefIdeal.τ).loc Cert.OddInRefIdeal.main_arg2) = m ((c.tc : Thread Cert.OddInRefIdeal.nD Cert.OddInRefIdeal.τ).loc Cert.OddInRefIdeal.main_arg2))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3)
      ∧ r.2.mem ((c.tc : Thread Cert.EvenOut.nD Cert.EvenOut.τ).loc Cert.EvenOut.main_arg4) = m ((c.tc : Thread Cert.EvenOut.nD Cert.EvenOut.τ).loc Cert.EvenOut.main_arg4))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
      ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4))
      ∧ r.2.sem = fun _ => 0)

def quiescent_EvenOutRefIdeal [hEvenOutRefIdeal : Cert.EvenOutRefIdeal.Facts] : Prop :=
  ∀ (m : (ℓ : Loc Cert.EvenOutRefIdeal.nD Cert.EvenOutRefIdeal.τ Cert.EvenOutRefIdeal.sig) → Buf (Elt Ideal) ℓ) (g : Dev Cert.EvenOutRefIdeal.nD → PrngReg), Pre_EvenOutRefIdeal m →
    θ_run (Cert.EvenOutRefIdeal.defs (F := Ideal)) (onTc (τ := Cert.EvenOutRefIdeal.τ) (Cert.EvenOutRefIdeal.main (F := Ideal))) ⟨m, fun _ => 0, g⟩ (fun r => (∀ c : Dev Cert.EvenOutRefIdeal.nD,
      r.2.mem ((c.tc : Thread Cert.EvenOutRefIdeal.nD Cert.EvenOutRefIdeal.τ).loc Cert.EvenOutRefIdeal.main_arg0) = m ((c.tc : Thread Cert.EvenOutRefIdeal.nD Cert.EvenOutRefIdeal.τ).loc Cert.EvenOutRefIdeal.main_arg0)
      ∧ r.2.mem ((c.tc : Thread Cert.EvenOutRefIdeal.nD Cert.EvenOutRefIdeal.τ).loc Cert.EvenOutRefIdeal.main_arg1) = m ((c.tc : Thread Cert.EvenOutRefIdeal.nD Cert.EvenOutRefIdeal.τ).loc Cert.EvenOutRefIdeal.main_arg1)
      ∧ r.2.mem ((c.tc : Thread Cert.EvenOutRefIdeal.nD Cert.EvenOutRefIdeal.τ).loc Cert.EvenOutRefIdeal.main_arg2) = m ((c.tc : Thread Cert.EvenOutRefIdeal.nD Cert.EvenOutRefIdeal.τ).loc Cert.EvenOutRefIdeal.main_arg2)
      ∧ r.2.mem ((c.tc : Thread Cert.EvenOutRefIdeal.nD Cert.EvenOutRefIdeal.τ).loc Cert.EvenOutRefIdeal.main_arg3) = m ((c.tc : Thread Cert.EvenOutRefIdeal.nD Cert.EvenOutRefIdeal.τ).loc Cert.EvenOutRefIdeal.main_arg3)
      ∧ r.2.mem ((c.tc : Thread Cert.EvenOutRefIdeal.nD Cert.EvenOutRefIdeal.τ).loc Cert.EvenOutRefIdeal.main_arg4) = m ((c.tc : Thread Cert.EvenOutRefIdeal.nD Cert.EvenOutRefIdeal.τ).loc Cert.EvenOutRefIdeal.main_arg4))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2))
      ∧ r.2.sem = fun _ => 0)

def quiescent_OddOutRefIdeal [hOddOutRefIdeal : Cert.OddOutRefIdeal.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1)
      ∧ r.2.mem ((c.tc : Thread Cert.OddOutRefIdeal.nD Cert.OddOutRefIdeal.τ).loc Cert.OddOutRefIdeal.main_arg2) = m ((c.tc : Thread Cert.OddOutRefIdeal.nD Cert.OddOutRefIdeal.τ).loc Cert.OddOutRefIdeal.main_arg2))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1))
      ∧ r.2.sem = fun _ => 0)

def quiescent_KeyPrep [hKeyPrep : Cert.KeyPrep.Facts] : Prop :=
  ∀ (m : (ℓ : Loc Cert.KeyPrep.nD Cert.KeyPrep.τ Cert.KeyPrep.sig) → Buf (Elt Bits) ℓ) (g : Dev Cert.KeyPrep.nD → PrngReg), Pre_KeyPrep m →
    θ_run (Cert.KeyPrep.defs (F := Bits)) (onTc (τ := Cert.KeyPrep.τ) (Cert.KeyPrep.main (F := Bits))) ⟨m, fun _ => 0, g⟩ (fun r => (∀ c : Dev Cert.KeyPrep.nD,
      r.2.mem ((c.tc : Thread Cert.KeyPrep.nD Cert.KeyPrep.τ).loc Cert.KeyPrep.main_arg0) = m ((c.tc : Thread Cert.KeyPrep.nD Cert.KeyPrep.τ).loc Cert.KeyPrep.main_arg0)
      ∧ r.2.mem ((c.tc : Thread Cert.KeyPrep.nD Cert.KeyPrep.τ).loc Cert.KeyPrep.main_arg1) = m ((c.tc : Thread Cert.KeyPrep.nD Cert.KeyPrep.τ).loc Cert.KeyPrep.main_arg1)
      ∧ r.2.mem ((c.tc : Thread Cert.KeyPrep.nD Cert.KeyPrep.τ).loc Cert.KeyPrep.main_arg2) = m ((c.tc : Thread Cert.KeyPrep.nD Cert.KeyPrep.τ).loc Cert.KeyPrep.main_arg2)
      ∧ r.2.mem ((c.tc : Thread Cert.KeyPrep.nD Cert.KeyPrep.τ).loc Cert.KeyPrep.main_arg3) = m ((c.tc : Thread Cert.KeyPrep.nD Cert.KeyPrep.τ).loc Cert.KeyPrep.main_arg3)
      ∧ r.2.mem ((c.tc : Thread Cert.KeyPrep.nD Cert.KeyPrep.τ).loc Cert.KeyPrep.main_arg4) = m ((c.tc : Thread Cert.KeyPrep.nD Cert.KeyPrep.τ).loc Cert.KeyPrep.main_arg4))
      ∧ r.2.sem = fun _ => 0)

def quiescent_KeyPrepIdeal [hKeyPrepIdeal : Cert.KeyPrepIdeal.Facts] : Prop :=
  ∀ (m : (ℓ : Loc Cert.KeyPrepIdeal.nD Cert.KeyPrepIdeal.τ Cert.KeyPrepIdeal.sig) → Buf (Elt Ideal) ℓ) (g : Dev Cert.KeyPrepIdeal.nD → PrngReg), Pre_KeyPrepIdeal m →
    θ_run (Cert.KeyPrepIdeal.defs (F := Ideal)) (onTc (τ := Cert.KeyPrepIdeal.τ) (Cert.KeyPrepIdeal.main (F := Ideal))) ⟨m, fun _ => 0, g⟩ (fun r => (∀ c : Dev Cert.KeyPrepIdeal.nD,
      r.2.mem ((c.tc : Thread Cert.KeyPrepIdeal.nD Cert.KeyPrepIdeal.τ).loc Cert.KeyPrepIdeal.main_arg0) = m ((c.tc : Thread Cert.KeyPrepIdeal.nD Cert.KeyPrepIdeal.τ).loc Cert.KeyPrepIdeal.main_arg0)
      ∧ r.2.mem ((c.tc : Thread Cert.KeyPrepIdeal.nD Cert.KeyPrepIdeal.τ).loc Cert.KeyPrepIdeal.main_arg1) = m ((c.tc : Thread Cert.KeyPrepIdeal.nD Cert.KeyPrepIdeal.τ).loc Cert.KeyPrepIdeal.main_arg1)
      ∧ r.2.mem ((c.tc : Thread Cert.KeyPrepIdeal.nD Cert.KeyPrepIdeal.τ).loc Cert.KeyPrepIdeal.main_arg2) = m ((c.tc : Thread Cert.KeyPrepIdeal.nD Cert.KeyPrepIdeal.τ).loc Cert.KeyPrepIdeal.main_arg2)
      ∧ r.2.mem ((c.tc : Thread Cert.KeyPrepIdeal.nD Cert.KeyPrepIdeal.τ).loc Cert.KeyPrepIdeal.main_arg3) = m ((c.tc : Thread Cert.KeyPrepIdeal.nD Cert.KeyPrepIdeal.τ).loc Cert.KeyPrepIdeal.main_arg3)
      ∧ r.2.mem ((c.tc : Thread Cert.KeyPrepIdeal.nD Cert.KeyPrepIdeal.τ).loc Cert.KeyPrepIdeal.main_arg4) = m ((c.tc : Thread Cert.KeyPrepIdeal.nD Cert.KeyPrepIdeal.τ).loc Cert.KeyPrepIdeal.main_arg4))
      ∧ r.2.sem = fun _ => 0)

def quiescent_KeyPrepIdeal_pre_finite_keys [hKeyPrepIdeal : Cert.KeyPrepIdeal.Facts] [hPre_finite_keys : Cert.Pre_finite_keys.Facts] : Prop :=
  ∀ (m : (ℓ : Loc Cert.KeyPrepIdeal.nD Cert.KeyPrepIdeal.τ Cert.KeyPrepIdeal.sig) → Buf (Elt Ideal) ℓ) (g : Dev Cert.KeyPrepIdeal.nD → PrngReg), Pre_KeyPrepIdeal_finite_keys m →
    θ_run (Cert.KeyPrepIdeal.defs (F := Ideal)) (onTc (τ := Cert.KeyPrepIdeal.τ) (Cert.KeyPrepIdeal.main (F := Ideal))) ⟨m, fun _ => 0, g⟩ (fun r => (∀ c : Dev Cert.KeyPrepIdeal.nD,
      r.2.mem ((c.tc : Thread Cert.KeyPrepIdeal.nD Cert.KeyPrepIdeal.τ).loc Cert.KeyPrepIdeal.main_arg0) = m ((c.tc : Thread Cert.KeyPrepIdeal.nD Cert.KeyPrepIdeal.τ).loc Cert.KeyPrepIdeal.main_arg0)
      ∧ r.2.mem ((c.tc : Thread Cert.KeyPrepIdeal.nD Cert.KeyPrepIdeal.τ).loc Cert.KeyPrepIdeal.main_arg1) = m ((c.tc : Thread Cert.KeyPrepIdeal.nD Cert.KeyPrepIdeal.τ).loc Cert.KeyPrepIdeal.main_arg1)
      ∧ r.2.mem ((c.tc : Thread Cert.KeyPrepIdeal.nD Cert.KeyPrepIdeal.τ).loc Cert.KeyPrepIdeal.main_arg2) = m ((c.tc : Thread Cert.KeyPrepIdeal.nD Cert.KeyPrepIdeal.τ).loc Cert.KeyPrepIdeal.main_arg2)
      ∧ r.2.mem ((c.tc : Thread Cert.KeyPrepIdeal.nD Cert.KeyPrepIdeal.τ).loc Cert.KeyPrepIdeal.main_arg3) = m ((c.tc : Thread Cert.KeyPrepIdeal.nD Cert.KeyPrepIdeal.τ).loc Cert.KeyPrepIdeal.main_arg3)
      ∧ r.2.mem ((c.tc : Thread Cert.KeyPrepIdeal.nD Cert.KeyPrepIdeal.τ).loc Cert.KeyPrepIdeal.main_arg4) = m ((c.tc : Thread Cert.KeyPrepIdeal.nD Cert.KeyPrepIdeal.τ).loc Cert.KeyPrepIdeal.main_arg4))
      ∧ r.2.sem = fun _ => 0)

def quiescent_KeyPrepRefIdeal [hKeyPrepRefIdeal : Cert.KeyPrepRefIdeal.Facts] : Prop :=
  ∀ (m : (ℓ : Loc Cert.KeyPrepRefIdeal.nD Cert.KeyPrepRefIdeal.τ Cert.KeyPrepRefIdeal.sig) → Buf (Elt Ideal) ℓ) (g : Dev Cert.KeyPrepRefIdeal.nD → PrngReg), Pre_KeyPrepRefIdeal m →
    θ_run (Cert.KeyPrepRefIdeal.defs (F := Ideal)) (onTc (τ := Cert.KeyPrepRefIdeal.τ) (Cert.KeyPrepRefIdeal.main (F := Ideal))) ⟨m, fun _ => 0, g⟩ (fun r => (∀ c : Dev Cert.KeyPrepRefIdeal.nD,
      r.2.mem ((c.tc : Thread Cert.KeyPrepRefIdeal.nD Cert.KeyPrepRefIdeal.τ).loc Cert.KeyPrepRefIdeal.main_arg0) = m ((c.tc : Thread Cert.KeyPrepRefIdeal.nD Cert.KeyPrepRefIdeal.τ).loc Cert.KeyPrepRefIdeal.main_arg0)
      ∧ r.2.mem ((c.tc : Thread Cert.KeyPrepRefIdeal.nD Cert.KeyPrepRefIdeal.τ).loc Cert.KeyPrepRefIdeal.main_arg1) = m ((c.tc : Thread Cert.KeyPrepRefIdeal.nD Cert.KeyPrepRefIdeal.τ).loc Cert.KeyPrepRefIdeal.main_arg1)
      ∧ r.2.mem ((c.tc : Thread Cert.KeyPrepRefIdeal.nD Cert.KeyPrepRefIdeal.τ).loc Cert.KeyPrepRefIdeal.main_arg2) = m ((c.tc : Thread Cert.KeyPrepRefIdeal.nD Cert.KeyPrepRefIdeal.τ).loc Cert.KeyPrepRefIdeal.main_arg2)
      ∧ r.2.mem ((c.tc : Thread Cert.KeyPrepRefIdeal.nD Cert.KeyPrepRefIdeal.τ).loc Cert.KeyPrepRefIdeal.main_arg3) = m ((c.tc : Thread Cert.KeyPrepRefIdeal.nD Cert.KeyPrepRefIdeal.τ).loc Cert.KeyPrepRefIdeal.main_arg3)
      ∧ r.2.mem ((c.tc : Thread Cert.KeyPrepRefIdeal.nD Cert.KeyPrepRefIdeal.τ).loc Cert.KeyPrepRefIdeal.main_arg4) = m ((c.tc : Thread Cert.KeyPrepRefIdeal.nD Cert.KeyPrepRefIdeal.τ).loc Cert.KeyPrepRefIdeal.main_arg4))
      ∧ r.2.sem = fun _ => 0)

def quiescent_KeyPrepRefIdeal_pre_finite_keys [hKeyPrepRefIdeal : Cert.KeyPrepRefIdeal.Facts] [hPre_finite_keys : Cert.Pre_finite_keys.Facts] : Prop :=
  ∀ (m : (ℓ : Loc Cert.KeyPrepRefIdeal.nD Cert.KeyPrepRefIdeal.τ Cert.KeyPrepRefIdeal.sig) → Buf (Elt Ideal) ℓ) (g : Dev Cert.KeyPrepRefIdeal.nD → PrngReg), Pre_KeyPrepRefIdeal_finite_keys m →
    θ_run (Cert.KeyPrepRefIdeal.defs (F := Ideal)) (onTc (τ := Cert.KeyPrepRefIdeal.τ) (Cert.KeyPrepRefIdeal.main (F := Ideal))) ⟨m, fun _ => 0, g⟩ (fun r => (∀ c : Dev Cert.KeyPrepRefIdeal.nD,
      r.2.mem ((c.tc : Thread Cert.KeyPrepRefIdeal.nD Cert.KeyPrepRefIdeal.τ).loc Cert.KeyPrepRefIdeal.main_arg0) = m ((c.tc : Thread Cert.KeyPrepRefIdeal.nD Cert.KeyPrepRefIdeal.τ).loc Cert.KeyPrepRefIdeal.main_arg0)
      ∧ r.2.mem ((c.tc : Thread Cert.KeyPrepRefIdeal.nD Cert.KeyPrepRefIdeal.τ).loc Cert.KeyPrepRefIdeal.main_arg1) = m ((c.tc : Thread Cert.KeyPrepRefIdeal.nD Cert.KeyPrepRefIdeal.τ).loc Cert.KeyPrepRefIdeal.main_arg1)
      ∧ r.2.mem ((c.tc : Thread Cert.KeyPrepRefIdeal.nD Cert.KeyPrepRefIdeal.τ).loc Cert.KeyPrepRefIdeal.main_arg2) = m ((c.tc : Thread Cert.KeyPrepRefIdeal.nD Cert.KeyPrepRefIdeal.τ).loc Cert.KeyPrepRefIdeal.main_arg2)
      ∧ r.2.mem ((c.tc : Thread Cert.KeyPrepRefIdeal.nD Cert.KeyPrepRefIdeal.τ).loc Cert.KeyPrepRefIdeal.main_arg3) = m ((c.tc : Thread Cert.KeyPrepRefIdeal.nD Cert.KeyPrepRefIdeal.τ).loc Cert.KeyPrepRefIdeal.main_arg3)
      ∧ r.2.mem ((c.tc : Thread Cert.KeyPrepRefIdeal.nD Cert.KeyPrepRefIdeal.τ).loc Cert.KeyPrepRefIdeal.main_arg4) = m ((c.tc : Thread Cert.KeyPrepRefIdeal.nD Cert.KeyPrepRefIdeal.τ).loc Cert.KeyPrepRefIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores_unit_lane [hKernelIdeal : Cert.KernelIdeal.Facts] [hReferenceIdeal : Cert.ReferenceIdeal.Facts] [hPre_finite_scores_unit_lane : Cert.Pre_finite_scores_unit_lane.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_unit_lane m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_FeedForward_FeedForwardIdeal : Prop :=
  True

def algebraic_FeedForwardIdeal_FeedForwardRefIdeal [hFeedForwardIdeal : Cert.FeedForwardIdeal.Facts] [hFeedForwardRefIdeal : Cert.FeedForwardRefIdeal.Facts] : Prop :=
  ∀ (m : (ℓ : Loc Cert.FeedForwardIdeal.nD Cert.FeedForwardIdeal.τ Cert.FeedForwardIdeal.sig) → Buf (Elt Ideal) ℓ) (g : Dev Cert.FeedForwardIdeal.nD → PrngReg)
    (m' : (ℓ : Loc Cert.FeedForwardRefIdeal.nD Cert.FeedForwardRefIdeal.τ Cert.FeedForwardRefIdeal.sig) → Buf (Elt Ideal) ℓ) (g' : Dev Cert.FeedForwardRefIdeal.nD → PrngReg), Pre_FeedForwardIdeal m →
    (∀ c : Dev Cert.FeedForwardIdeal.nD,
      m' ((c.tc : Thread Cert.FeedForwardRefIdeal.nD Cert.FeedForwardRefIdeal.τ).loc Cert.FeedForwardRefIdeal.main_arg0) = m ((c.tc : Thread Cert.FeedForwardIdeal.nD Cert.FeedForwardIdeal.τ).loc Cert.FeedForwardIdeal.main_arg0)
      ∧ m' ((c.tc : Thread Cert.FeedForwardRefIdeal.nD Cert.FeedForwardRefIdeal.τ).loc Cert.FeedForwardRefIdeal.main_arg1) = m ((c.tc : Thread Cert.FeedForwardIdeal.nD Cert.FeedForwardIdeal.τ).loc Cert.FeedForwardIdeal.main_arg1)
      ∧ m' ((c.tc : Thread Cert.FeedForwardRefIdeal.nD Cert.FeedForwardRefIdeal.τ).loc Cert.FeedForwardRefIdeal.main_arg2) = m ((c.tc : Thread Cert.FeedForwardIdeal.nD Cert.FeedForwardIdeal.τ).loc Cert.FeedForwardIdeal.main_arg2)
      ∧ m' ((c.tc : Thread Cert.FeedForwardRefIdeal.nD Cert.FeedForwardRefIdeal.τ).loc Cert.FeedForwardRefIdeal.main_arg3) = m ((c.tc : Thread Cert.FeedForwardIdeal.nD Cert.FeedForwardIdeal.τ).loc Cert.FeedForwardIdeal.main_arg3)
      ∧ m' ((c.tc : Thread Cert.FeedForwardRefIdeal.nD Cert.FeedForwardRefIdeal.τ).loc Cert.FeedForwardRefIdeal.main_arg4) = m ((c.tc : Thread Cert.FeedForwardIdeal.nD Cert.FeedForwardIdeal.τ).loc Cert.FeedForwardIdeal.main_arg4)
      ∧ m' ((c.tc : Thread Cert.FeedForwardRefIdeal.nD Cert.FeedForwardRefIdeal.τ).loc Cert.FeedForwardRefIdeal.main_arg5) = m ((c.tc : Thread Cert.FeedForwardIdeal.nD Cert.FeedForwardIdeal.τ).loc Cert.FeedForwardIdeal.main_arg5)
      ∧ m' ((c.tc : Thread Cert.FeedForwardRefIdeal.nD Cert.FeedForwardRefIdeal.τ).loc Cert.FeedForwardRefIdeal.main_arg6) = m ((c.tc : Thread Cert.FeedForwardIdeal.nD Cert.FeedForwardIdeal.τ).loc Cert.FeedForwardIdeal.main_arg6)) →
    ∃ (v0 : (c : Dev Cert.FeedForwardIdeal.nD) → Buf (Elt Ideal) ((c.tc : Thread Cert.FeedForwardIdeal.nD Cert.FeedForwardIdeal.τ).loc Cert.FeedForwardIdeal.main_v4_0)) (v1 : (c : Dev Cert.FeedForwardIdeal.nD) → Buf (Elt Ideal) ((c.tc : Thread Cert.FeedForwardIdeal.nD Cert.FeedForwardIdeal.τ).loc Cert.FeedForwardIdeal.main_v4_1)),
      θ_run (Cert.FeedForwardIdeal.defs (F := Ideal)) (onTc (τ := Cert.FeedForwardIdeal.τ) (Cert.FeedForwardIdeal.main (F := Ideal))) ⟨m, fun _ => 0, g⟩ (fun r => ∀ c : Dev Cert.FeedForwardIdeal.nD,
          r.2.mem ((c.tc : Thread Cert.FeedForwardIdeal.nD Cert.FeedForwardIdeal.τ).loc Cert.FeedForwardIdeal.main_v4_0) = v0 c
          ∧ r.2.mem ((c.tc : Thread Cert.FeedForwardIdeal.nD Cert.FeedForwardIdeal.τ).loc Cert.FeedForwardIdeal.main_v4_1) = v1 c
          ∧ r.2.mem ((c.tc : Thread Cert.FeedForwardIdeal.nD Cert.FeedForwardIdeal.τ).loc Cert.FeedForwardIdeal.main_arg0) = m ((c.tc : Thread Cert.FeedForwardIdeal.nD Cert.FeedForwardIdeal.τ).loc Cert.FeedForwardIdeal.main_arg0)
          ∧ r.2.mem ((c.tc : Thread Cert.FeedForwardIdeal.nD Cert.FeedForwardIdeal.τ).loc Cert.FeedForwardIdeal.main_arg1) = m ((c.tc : Thread Cert.FeedForwardIdeal.nD Cert.FeedForwardIdeal.τ).loc Cert.FeedForwardIdeal.main_arg1)
          ∧ r.2.mem ((c.tc : Thread Cert.FeedForwardIdeal.nD Cert.FeedForwardIdeal.τ).loc Cert.FeedForwardIdeal.main_arg2) = m ((c.tc : Thread Cert.FeedForwardIdeal.nD Cert.FeedForwardIdeal.τ).loc Cert.FeedForwardIdeal.main_arg2)
          ∧ r.2.mem ((c.tc : Thread Cert.FeedForwardIdeal.nD Cert.FeedForwardIdeal.τ).loc Cert.FeedForwardIdeal.main_arg3) = m ((c.tc : Thread Cert.FeedForwardIdeal.nD Cert.FeedForwardIdeal.τ).loc Cert.FeedForwardIdeal.main_arg3)
          ∧ r.2.mem ((c.tc : Thread Cert.FeedForwardIdeal.nD Cert.FeedForwardIdeal.τ).loc Cert.FeedForwardIdeal.main_arg4) = m ((c.tc : Thread Cert.FeedForwardIdeal.nD Cert.FeedForwardIdeal.τ).loc Cert.FeedForwardIdeal.main_arg4)
          ∧ r.2.mem ((c.tc : Thread Cert.FeedForwardIdeal.nD Cert.FeedForwardIdeal.τ).loc Cert.FeedForwardIdeal.main_arg5) = m ((c.tc : Thread Cert.FeedForwardIdeal.nD Cert.FeedForwardIdeal.τ).loc Cert.FeedForwardIdeal.main_arg5)
          ∧ r.2.mem ((c.tc : Thread Cert.FeedForwardIdeal.nD Cert.FeedForwardIdeal.τ).loc Cert.FeedForwardIdeal.main_arg6) = m ((c.tc : Thread Cert.FeedForwardIdeal.nD Cert.FeedForwardIdeal.τ).loc Cert.FeedForwardIdeal.main_arg6))
      ∧ θ_run (Cert.FeedForwardRefIdeal.defs (F := Ideal)) (onTc (τ := Cert.FeedForwardRefIdeal.τ) (Cert.FeedForwardRefIdeal.main (F := Ideal))) ⟨m', fun _ => 0, g'⟩ (fun r => ∀ c : Dev Cert.FeedForwardRefIdeal.nD,
          r.2.mem ((c.tc : Thread Cert.FeedForwardRefIdeal.nD Cert.FeedForwardRefIdeal.τ).loc Cert.FeedForwardRefIdeal.main_v49) = v0 c
          ∧ r.2.mem ((c.tc : Thread Cert.FeedForwardRefIdeal.nD Cert.FeedForwardRefIdeal.τ).loc Cert.FeedForwardRefIdeal.main_v50) = v1 c
          ∧ r.2.mem ((c.tc : Thread Cert.FeedForwardRefIdeal.nD Cert.FeedForwardRefIdeal.τ).loc Cert.FeedForwardRefIdeal.main_arg0) = m' ((c.tc : Thread Cert.FeedForwardRefIdeal.nD Cert.FeedForwardRefIdeal.τ).loc Cert.FeedForwardRefIdeal.main_arg0)
          ∧ r.2.mem ((c.tc : Thread Cert.FeedForwardRefIdeal.nD Cert.FeedForwardRefIdeal.τ).loc Cert.FeedForwardRefIdeal.main_arg1) = m' ((c.tc : Thread Cert.FeedForwardRefIdeal.nD Cert.FeedForwardRefIdeal.τ).loc Cert.FeedForwardRefIdeal.main_arg1)
          ∧ r.2.mem ((c.tc : Thread Cert.FeedForwardRefIdeal.nD Cert.FeedForwardRefIdeal.τ).loc Cert.FeedForwardRefIdeal.main_arg2) = m' ((c.tc : Thread Cert.FeedForwardRefIdeal.nD Cert.FeedForwardRefIdeal.τ).loc Cert.FeedForwardRefIdeal.main_arg2)
          ∧ r.2.mem ((c.tc : Thread Cert.FeedForwardRefIdeal.nD Cert.FeedForwardRefIdeal.τ).loc Cert.FeedForwardRefIdeal.main_arg3) = m' ((c.tc : Thread Cert.FeedForwardRefIdeal.nD Cert.FeedForwardRefIdeal.τ).loc Cert.FeedForwardRefIdeal.main_arg3)
          ∧ r.2.mem ((c.tc : Thread Cert.FeedForwardRefIdeal.nD Cert.FeedForwardRefIdeal.τ).loc Cert.FeedForwardRefIdeal.main_arg4) = m' ((c.tc : Thread Cert.FeedForwardRefIdeal.nD Cert.FeedForwardRefIdeal.τ).loc Cert.FeedForwardRefIdeal.main_arg4)
          ∧ r.2.mem ((c.tc : Thread Cert.FeedForwardRefIdeal.nD Cert.FeedForwardRefIdeal.τ).loc Cert.FeedForwardRefIdeal.main_arg5) = m' ((c.tc : Thread Cert.FeedForwardRefIdeal.nD Cert.FeedForwardRefIdeal.τ).loc Cert.FeedForwardRefIdeal.main_arg5)
          ∧ r.2.mem ((c.tc : Thread Cert.FeedForwardRefIdeal.nD Cert.FeedForwardRefIdeal.τ).loc Cert.FeedForwardRefIdeal.main_arg6) = m' ((c.tc : Thread Cert.FeedForwardRefIdeal.nD Cert.FeedForwardRefIdeal.τ).loc Cert.FeedForwardRefIdeal.main_arg6))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)
      ∧ m' ((c.tc : Thread Cert.EvenInRefIdeal.nD Cert.EvenInRefIdeal.τ).loc Cert.EvenInRefIdeal.main_arg2) = m ((c.tc : Thread Cert.EvenInIdeal.nD Cert.EvenInIdeal.τ).loc Cert.EvenInIdeal.main_arg2)) →
    ∃ (v0 : (c : Dev Cert.EvenInIdeal.nD) → Buf (Elt Ideal) ((c.tc : Thread Cert.EvenInIdeal.nD Cert.EvenInIdeal.τ).loc Cert.EvenInIdeal.main_v7_0)) (v1 : (c : Dev Cert.EvenInIdeal.nD) → Buf (Elt Ideal) ((c.tc : Thread Cert.EvenInIdeal.nD Cert.EvenInIdeal.τ).loc Cert.EvenInIdeal.main_v7_1)) (v2 : (c : Dev Cert.EvenInIdeal.nD) → Buf (Elt Ideal) ((c.tc : Thread Cert.EvenInIdeal.nD Cert.EvenInIdeal.τ).loc Cert.EvenInIdeal.main_v7_2)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v7_0) = v0 c
          ∧ r.2.mem ((c.tc : Thread Cert.EvenInIdeal.nD Cert.EvenInIdeal.τ).loc Cert.EvenInIdeal.main_v7_1) = v1 c
          ∧ r.2.mem ((c.tc : Thread Cert.EvenInIdeal.nD Cert.EvenInIdeal.τ).loc Cert.EvenInIdeal.main_v7_2) = v2 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v16) = v0 c
          ∧ r.2.mem ((c.tc : Thread Cert.EvenInRefIdeal.nD Cert.EvenInRefIdeal.τ).loc Cert.EvenInRefIdeal.main_v17) = v1 c
          ∧ r.2.mem ((c.tc : Thread Cert.EvenInRefIdeal.nD Cert.EvenInRefIdeal.τ).loc Cert.EvenInRefIdeal.main_v19) = v2 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1)
          ∧ r.2.mem ((c.tc : Thread Cert.EvenInRefIdeal.nD Cert.EvenInRefIdeal.τ).loc Cert.EvenInRefIdeal.main_arg2) = m' ((c.tc : Thread Cert.EvenInRefIdeal.nD Cert.EvenInRefIdeal.τ).loc Cert.EvenInRefIdeal.main_arg2))

def preserves_OddIn_OddInIdeal : Prop :=
  True

def algebraic_OddInIdeal_OddInRefIdeal [hOddInIdeal : Cert.OddInIdeal.Facts] [hOddInRefIdeal : Cert.OddInRefIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInIdeal m →
    (∀ c : Dev Cert.OddInIdeal.nD,
      m' ((c.tc : Thread Cert.OddInRefIdeal.nD Cert.OddInRefIdeal.τ).loc Cert.OddInRefIdeal.main_arg0) = m ((c.tc : Thread Cert.OddInIdeal.nD Cert.OddInIdeal.τ).loc Cert.OddInIdeal.main_arg0)
      ∧ m' ((c.tc : Thread Cert.OddInRefIdeal.nD Cert.OddInRefIdeal.τ).loc Cert.OddInRefIdeal.main_arg1) = m ((c.tc : Thread Cert.OddInIdeal.nD Cert.OddInIdeal.τ).loc Cert.OddInIdeal.main_arg1)
      ∧ m' ((c.tc : Thread Cert.OddInRefIdeal.nD Cert.OddInRefIdeal.τ).loc Cert.OddInRefIdeal.main_arg2) = m ((c.tc : Thread Cert.OddInIdeal.nD Cert.OddInIdeal.τ).loc Cert.OddInIdeal.main_arg2)) →
    ∃ (v0 : (c : Dev Cert.OddInIdeal.nD) → Buf (Elt Ideal) ((c.tc : Thread Cert.OddInIdeal.nD Cert.OddInIdeal.τ).loc Cert.OddInIdeal.main_v4_0)) (v1 : (c : Dev Cert.OddInIdeal.nD) → Buf (Elt Ideal) ((c.tc : Thread Cert.OddInIdeal.nD Cert.OddInIdeal.τ).loc Cert.OddInIdeal.main_v4_1)) (v2 : (c : Dev Cert.OddInIdeal.nD) → Buf (Elt Ideal) ((c.tc : Thread Cert.OddInIdeal.nD Cert.OddInIdeal.τ).loc Cert.OddInIdeal.main_v4_2)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v4_0) = v0 c
          ∧ r.2.mem ((c.tc : Thread Cert.OddInIdeal.nD Cert.OddInIdeal.τ).loc Cert.OddInIdeal.main_v4_1) = v1 c
          ∧ r.2.mem ((c.tc : Thread Cert.OddInIdeal.nD Cert.OddInIdeal.τ).loc Cert.OddInIdeal.main_v4_2) = v2 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
          ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v16) = v0 c
          ∧ r.2.mem ((c.tc : Thread Cert.OddInRefIdeal.nD Cert.OddInRefIdeal.τ).loc Cert.OddInRefIdeal.main_v17) = v1 c
          ∧ r.2.mem ((c.tc : Thread Cert.OddInRefIdeal.nD Cert.OddInRefIdeal.τ).loc Cert.OddInRefIdeal.main_v19) = v2 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1)
          ∧ r.2.mem ((c.tc : Thread Cert.OddInRefIdeal.nD Cert.OddInRefIdeal.τ).loc Cert.OddInRefIdeal.main_arg2) = m' ((c.tc : Thread Cert.OddInRefIdeal.nD Cert.OddInRefIdeal.τ).loc Cert.OddInRefIdeal.main_arg2))

def preserves_EvenOut_EvenOutIdeal : Prop :=
  True

def algebraic_EvenOutIdeal_EvenOutRefIdeal [hEvenOutIdeal : Cert.EvenOutIdeal.Facts] [hEvenOutRefIdeal : Cert.EvenOutRefIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutRefIdeal.nD Cert.EvenOutRefIdeal.τ Cert.EvenOutRefIdeal.sig) → Buf (Elt Ideal) ℓ) (g' : Dev Cert.EvenOutRefIdeal.nD → PrngReg), Pre_EvenOutIdeal m →
    (∀ c : Dev Cert.EvenOutIdeal.nD,
      m' ((c.tc : Thread Cert.EvenOutRefIdeal.nD Cert.EvenOutRefIdeal.τ).loc Cert.EvenOutRefIdeal.main_arg0) = m ((c.tc : Thread Cert.EvenOutIdeal.nD Cert.EvenOutIdeal.τ).loc Cert.EvenOutIdeal.main_arg0)
      ∧ m' ((c.tc : Thread Cert.EvenOutRefIdeal.nD Cert.EvenOutRefIdeal.τ).loc Cert.EvenOutRefIdeal.main_arg1) = m ((c.tc : Thread Cert.EvenOutIdeal.nD Cert.EvenOutIdeal.τ).loc Cert.EvenOutIdeal.main_arg1)
      ∧ m' ((c.tc : Thread Cert.EvenOutRefIdeal.nD Cert.EvenOutRefIdeal.τ).loc Cert.EvenOutRefIdeal.main_arg2) = m ((c.tc : Thread Cert.EvenOutIdeal.nD Cert.EvenOutIdeal.τ).loc Cert.EvenOutIdeal.main_arg2)
      ∧ m' ((c.tc : Thread Cert.EvenOutRefIdeal.nD Cert.EvenOutRefIdeal.τ).loc Cert.EvenOutRefIdeal.main_arg3) = m ((c.tc : Thread Cert.EvenOutIdeal.nD Cert.EvenOutIdeal.τ).loc Cert.EvenOutIdeal.main_arg3)
      ∧ m' ((c.tc : Thread Cert.EvenOutRefIdeal.nD Cert.EvenOutRefIdeal.τ).loc Cert.EvenOutRefIdeal.main_arg4) = m ((c.tc : Thread Cert.EvenOutIdeal.nD Cert.EvenOutIdeal.τ).loc Cert.EvenOutIdeal.main_arg4)) →
    ∃ (v0 : (c : Dev Cert.EvenOutIdeal.nD) → Buf (Elt Ideal) ((c.tc : Thread Cert.EvenOutIdeal.nD Cert.EvenOutIdeal.τ).loc Cert.EvenOutIdeal.main_v1)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v1) = v0 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
          ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4))
      ∧ θ_run (Cert.EvenOutRefIdeal.defs (F := Ideal)) (onTc (τ := Cert.EvenOutRefIdeal.τ) (Cert.EvenOutRefIdeal.main (F := Ideal))) ⟨m', fun _ => 0, g'⟩ (fun r => ∀ c : Dev Cert.EvenOutRefIdeal.nD,
          r.2.mem ((c.tc : Thread Cert.EvenOutRefIdeal.nD Cert.EvenOutRefIdeal.τ).loc Cert.EvenOutRefIdeal.main_v12) = v0 c
          ∧ r.2.mem ((c.tc : Thread Cert.EvenOutRefIdeal.nD Cert.EvenOutRefIdeal.τ).loc Cert.EvenOutRefIdeal.main_arg0) = m' ((c.tc : Thread Cert.EvenOutRefIdeal.nD Cert.EvenOutRefIdeal.τ).loc Cert.EvenOutRefIdeal.main_arg0)
          ∧ r.2.mem ((c.tc : Thread Cert.EvenOutRefIdeal.nD Cert.EvenOutRefIdeal.τ).loc Cert.EvenOutRefIdeal.main_arg1) = m' ((c.tc : Thread Cert.EvenOutRefIdeal.nD Cert.EvenOutRefIdeal.τ).loc Cert.EvenOutRefIdeal.main_arg1)
          ∧ r.2.mem ((c.tc : Thread Cert.EvenOutRefIdeal.nD Cert.EvenOutRefIdeal.τ).loc Cert.EvenOutRefIdeal.main_arg2) = m' ((c.tc : Thread Cert.EvenOutRefIdeal.nD Cert.EvenOutRefIdeal.τ).loc Cert.EvenOutRefIdeal.main_arg2)
          ∧ r.2.mem ((c.tc : Thread Cert.EvenOutRefIdeal.nD Cert.EvenOutRefIdeal.τ).loc Cert.EvenOutRefIdeal.main_arg3) = m' ((c.tc : Thread Cert.EvenOutRefIdeal.nD Cert.EvenOutRefIdeal.τ).loc Cert.EvenOutRefIdeal.main_arg3)
          ∧ r.2.mem ((c.tc : Thread Cert.EvenOutRefIdeal.nD Cert.EvenOutRefIdeal.τ).loc Cert.EvenOutRefIdeal.main_arg4) = m' ((c.tc : Thread Cert.EvenOutRefIdeal.nD Cert.EvenOutRefIdeal.τ).loc Cert.EvenOutRefIdeal.main_arg4))

def preserves_OddOut_OddOutIdeal : Prop :=
  True

def algebraic_OddOutIdeal_OddOutRefIdeal [hOddOutIdeal : Cert.OddOutIdeal.Facts] [hOddOutRefIdeal : Cert.OddOutRefIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutRefIdeal.nD Cert.OddOutRefIdeal.τ Cert.OddOutRefIdeal.sig) → Buf (Elt Ideal) ℓ) (g' : Dev Cert.OddOutRefIdeal.nD → PrngReg), Pre_OddOutIdeal m →
    (∀ c : Dev Cert.OddOutIdeal.nD,
      m' ((c.tc : Thread Cert.OddOutRefIdeal.nD Cert.OddOutRefIdeal.τ).loc Cert.OddOutRefIdeal.main_arg0) = m ((c.tc : Thread Cert.OddOutIdeal.nD Cert.OddOutIdeal.τ).loc Cert.OddOutIdeal.main_arg0)
      ∧ m' ((c.tc : Thread Cert.OddOutRefIdeal.nD Cert.OddOutRefIdeal.τ).loc Cert.OddOutRefIdeal.main_arg1) = m ((c.tc : Thread Cert.OddOutIdeal.nD Cert.OddOutIdeal.τ).loc Cert.OddOutIdeal.main_arg1)
      ∧ m' ((c.tc : Thread Cert.OddOutRefIdeal.nD Cert.OddOutRefIdeal.τ).loc Cert.OddOutRefIdeal.main_arg2) = m ((c.tc : Thread Cert.OddOutIdeal.nD Cert.OddOutIdeal.τ).loc Cert.OddOutIdeal.main_arg2)) →
    ∃ (v0 : (c : Dev Cert.OddOutIdeal.nD) → Buf (Elt Ideal) ((c.tc : Thread Cert.OddOutIdeal.nD Cert.OddOutIdeal.τ).loc Cert.OddOutIdeal.main_v1)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v1) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2))
      ∧ θ_run (Cert.OddOutRefIdeal.defs (F := Ideal)) (onTc (τ := Cert.OddOutRefIdeal.τ) (Cert.OddOutRefIdeal.main (F := Ideal))) ⟨m', fun _ => 0, g'⟩ (fun r => ∀ c : Dev Cert.OddOutRefIdeal.nD,
          r.2.mem ((c.tc : Thread Cert.OddOutRefIdeal.nD Cert.OddOutRefIdeal.τ).loc Cert.OddOutRefIdeal.main_v3) = v0 c
          ∧ r.2.mem ((c.tc : Thread Cert.OddOutRefIdeal.nD Cert.OddOutRefIdeal.τ).loc Cert.OddOutRefIdeal.main_arg0) = m' ((c.tc : Thread Cert.OddOutRefIdeal.nD Cert.OddOutRefIdeal.τ).loc Cert.OddOutRefIdeal.main_arg0)
          ∧ r.2.mem ((c.tc : Thread Cert.OddOutRefIdeal.nD Cert.OddOutRefIdeal.τ).loc Cert.OddOutRefIdeal.main_arg1) = m' ((c.tc : Thread Cert.OddOutRefIdeal.nD Cert.OddOutRefIdeal.τ).loc Cert.OddOutRefIdeal.main_arg1)
          ∧ r.2.mem ((c.tc : Thread Cert.OddOutRefIdeal.nD Cert.OddOutRefIdeal.τ).loc Cert.OddOutRefIdeal.main_arg2) = m' ((c.tc : Thread Cert.OddOutRefIdeal.nD Cert.OddOutRefIdeal.τ).loc Cert.OddOutRefIdeal.main_arg2))

def preserves_FinalNorm_FinalNormIdeal : Prop :=
  True

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v1)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v1) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v12) = v0 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1))

def preserves_KeyPrep_KeyPrepIdeal : Prop :=
  True

def algebraic_KeyPrepIdeal_KeyPrepRefIdeal_pre_finite_keys [hKeyPrepIdeal : Cert.KeyPrepIdeal.Facts] [hKeyPrepRefIdeal : Cert.KeyPrepRefIdeal.Facts] [hPre_finite_keys : Cert.Pre_finite_keys.Facts] : Prop :=
  ∀ (m : (ℓ : Loc Cert.KeyPrepIdeal.nD Cert.KeyPrepIdeal.τ Cert.KeyPrepIdeal.sig) → Buf (Elt Ideal) ℓ) (g : Dev Cert.KeyPrepIdeal.nD → PrngReg)
    (m' : (ℓ : Loc Cert.KeyPrepRefIdeal.nD Cert.KeyPrepRefIdeal.τ Cert.KeyPrepRefIdeal.sig) → Buf (Elt Ideal) ℓ) (g' : Dev Cert.KeyPrepRefIdeal.nD → PrngReg), Pre_KeyPrepIdeal_finite_keys m →
    (∀ c : Dev Cert.KeyPrepIdeal.nD,
      m' ((c.tc : Thread Cert.KeyPrepRefIdeal.nD Cert.KeyPrepRefIdeal.τ).loc Cert.KeyPrepRefIdeal.main_arg0) = m ((c.tc : Thread Cert.KeyPrepIdeal.nD Cert.KeyPrepIdeal.τ).loc Cert.KeyPrepIdeal.main_arg0)
      ∧ m' ((c.tc : Thread Cert.KeyPrepRefIdeal.nD Cert.KeyPrepRefIdeal.τ).loc Cert.KeyPrepRefIdeal.main_arg1) = m ((c.tc : Thread Cert.KeyPrepIdeal.nD Cert.KeyPrepIdeal.τ).loc Cert.KeyPrepIdeal.main_arg1)
      ∧ m' ((c.tc : Thread Cert.KeyPrepRefIdeal.nD Cert.KeyPrepRefIdeal.τ).loc Cert.KeyPrepRefIdeal.main_arg2) = m ((c.tc : Thread Cert.KeyPrepIdeal.nD Cert.KeyPrepIdeal.τ).loc Cert.KeyPrepIdeal.main_arg2)
      ∧ m' ((c.tc : Thread Cert.KeyPrepRefIdeal.nD Cert.KeyPrepRefIdeal.τ).loc Cert.KeyPrepRefIdeal.main_arg3) = m ((c.tc : Thread Cert.KeyPrepIdeal.nD Cert.KeyPrepIdeal.τ).loc Cert.KeyPrepIdeal.main_arg3)
      ∧ m' ((c.tc : Thread Cert.KeyPrepRefIdeal.nD Cert.KeyPrepRefIdeal.τ).loc Cert.KeyPrepRefIdeal.main_arg4) = m ((c.tc : Thread Cert.KeyPrepIdeal.nD Cert.KeyPrepIdeal.τ).loc Cert.KeyPrepIdeal.main_arg4)) →
    ∃ (v0 : (c : Dev Cert.KeyPrepIdeal.nD) → Buf (Elt Ideal) ((c.tc : Thread Cert.KeyPrepIdeal.nD Cert.KeyPrepIdeal.τ).loc Cert.KeyPrepIdeal.main_v93_3)) (v1 : (c : Dev Cert.KeyPrepIdeal.nD) → Buf (Elt Ideal) ((c.tc : Thread Cert.KeyPrepIdeal.nD Cert.KeyPrepIdeal.τ).loc Cert.KeyPrepIdeal.main_v93_4)),
      θ_run (Cert.KeyPrepIdeal.defs (F := Ideal)) (onTc (τ := Cert.KeyPrepIdeal.τ) (Cert.KeyPrepIdeal.main (F := Ideal))) ⟨m, fun _ => 0, g⟩ (fun r => ∀ c : Dev Cert.KeyPrepIdeal.nD,
          r.2.mem ((c.tc : Thread Cert.KeyPrepIdeal.nD Cert.KeyPrepIdeal.τ).loc Cert.KeyPrepIdeal.main_v93_3) = v0 c
          ∧ r.2.mem ((c.tc : Thread Cert.KeyPrepIdeal.nD Cert.KeyPrepIdeal.τ).loc Cert.KeyPrepIdeal.main_v93_4) = v1 c
          ∧ r.2.mem ((c.tc : Thread Cert.KeyPrepIdeal.nD Cert.KeyPrepIdeal.τ).loc Cert.KeyPrepIdeal.main_arg0) = m ((c.tc : Thread Cert.KeyPrepIdeal.nD Cert.KeyPrepIdeal.τ).loc Cert.KeyPrepIdeal.main_arg0)
          ∧ r.2.mem ((c.tc : Thread Cert.KeyPrepIdeal.nD Cert.KeyPrepIdeal.τ).loc Cert.KeyPrepIdeal.main_arg1) = m ((c.tc : Thread Cert.KeyPrepIdeal.nD Cert.KeyPrepIdeal.τ).loc Cert.KeyPrepIdeal.main_arg1)
          ∧ r.2.mem ((c.tc : Thread Cert.KeyPrepIdeal.nD Cert.KeyPrepIdeal.τ).loc Cert.KeyPrepIdeal.main_arg2) = m ((c.tc : Thread Cert.KeyPrepIdeal.nD Cert.KeyPrepIdeal.τ).loc Cert.KeyPrepIdeal.main_arg2)
          ∧ r.2.mem ((c.tc : Thread Cert.KeyPrepIdeal.nD Cert.KeyPrepIdeal.τ).loc Cert.KeyPrepIdeal.main_arg3) = m ((c.tc : Thread Cert.KeyPrepIdeal.nD Cert.KeyPrepIdeal.τ).loc Cert.KeyPrepIdeal.main_arg3)
          ∧ r.2.mem ((c.tc : Thread Cert.KeyPrepIdeal.nD Cert.KeyPrepIdeal.τ).loc Cert.KeyPrepIdeal.main_arg4) = m ((c.tc : Thread Cert.KeyPrepIdeal.nD Cert.KeyPrepIdeal.τ).loc Cert.KeyPrepIdeal.main_arg4))
      ∧ θ_run (Cert.KeyPrepRefIdeal.defs (F := Ideal)) (onTc (τ := Cert.KeyPrepRefIdeal.τ) (Cert.KeyPrepRefIdeal.main (F := Ideal))) ⟨m', fun _ => 0, g'⟩ (fun r => ∀ c : Dev Cert.KeyPrepRefIdeal.nD,
          r.2.mem ((c.tc : Thread Cert.KeyPrepRefIdeal.nD Cert.KeyPrepRefIdeal.τ).loc Cert.KeyPrepRefIdeal.main_v15) = v0 c
          ∧ r.2.mem ((c.tc : Thread Cert.KeyPrepRefIdeal.nD Cert.KeyPrepRefIdeal.τ).loc Cert.KeyPrepRefIdeal.main_v20) = v1 c
          ∧ r.2.mem ((c.tc : Thread Cert.KeyPrepRefIdeal.nD Cert.KeyPrepRefIdeal.τ).loc Cert.KeyPrepRefIdeal.main_arg0) = m' ((c.tc : Thread Cert.KeyPrepRefIdeal.nD Cert.KeyPrepRefIdeal.τ).loc Cert.KeyPrepRefIdeal.main_arg0)
          ∧ r.2.mem ((c.tc : Thread Cert.KeyPrepRefIdeal.nD Cert.KeyPrepRefIdeal.τ).loc Cert.KeyPrepRefIdeal.main_arg1) = m' ((c.tc : Thread Cert.KeyPrepRefIdeal.nD Cert.KeyPrepRefIdeal.τ).loc Cert.KeyPrepRefIdeal.main_arg1)
          ∧ r.2.mem ((c.tc : Thread Cert.KeyPrepRefIdeal.nD Cert.KeyPrepRefIdeal.τ).loc Cert.KeyPrepRefIdeal.main_arg2) = m' ((c.tc : Thread Cert.KeyPrepRefIdeal.nD Cert.KeyPrepRefIdeal.τ).loc Cert.KeyPrepRefIdeal.main_arg2)
          ∧ r.2.mem ((c.tc : Thread Cert.KeyPrepRefIdeal.nD Cert.KeyPrepRefIdeal.τ).loc Cert.KeyPrepRefIdeal.main_arg3) = m' ((c.tc : Thread Cert.KeyPrepRefIdeal.nD Cert.KeyPrepRefIdeal.τ).loc Cert.KeyPrepRefIdeal.main_arg3)
          ∧ r.2.mem ((c.tc : Thread Cert.KeyPrepRefIdeal.nD Cert.KeyPrepRefIdeal.τ).loc Cert.KeyPrepRefIdeal.main_arg4) = m' ((c.tc : Thread Cert.KeyPrepRefIdeal.nD Cert.KeyPrepRefIdeal.τ).loc Cert.KeyPrepRefIdeal.main_arg4))

def Claim : Prop :=
  ∃ (hKernel : Cert.Kernel.Facts) (hKernelIdeal : Cert.KernelIdeal.Facts) (hReferenceIdeal : Cert.ReferenceIdeal.Facts) (hFeedForward : Cert.FeedForward.Facts) (hFeedForwardIdeal : Cert.FeedForwardIdeal.Facts) (hFeedForwardRefIdeal : Cert.FeedForwardRefIdeal.Facts) (hEvenIn : Cert.EvenIn.Facts) (hEvenInIdeal : Cert.EvenInIdeal.Facts) (hEvenInRefIdeal : Cert.EvenInRefIdeal.Facts) (hOddIn : Cert.OddIn.Facts) (hOddInIdeal : Cert.OddInIdeal.Facts) (hOddInRefIdeal : Cert.OddInRefIdeal.Facts) (hEvenOut : Cert.EvenOut.Facts) (hEvenOutIdeal : Cert.EvenOutIdeal.Facts) (hEvenOutRefIdeal : Cert.EvenOutRefIdeal.Facts) (hOddOut : Cert.OddOut.Facts) (hOddOutIdeal : Cert.OddOutIdeal.Facts) (hOddOutRefIdeal : Cert.OddOutRefIdeal.Facts) (hFinalNorm : Cert.FinalNorm.Facts) (hFinalNormIdeal : Cert.FinalNormIdeal.Facts) (hFinalNormRefIdeal : Cert.FinalNormRefIdeal.Facts) (hKeyPrep : Cert.KeyPrep.Facts) (hKeyPrepIdeal : Cert.KeyPrepIdeal.Facts) (hKeyPrepRefIdeal : Cert.KeyPrepRefIdeal.Facts) (hPre_finite_scores_unit_lane : Cert.Pre_finite_scores_unit_lane.Facts) (hPre_finite_keys : Cert.Pre_finite_keys.Facts),
    quiescent_Kernel (hKernel := hKernel)
    ∧ quiescent_KernelIdeal (hKernelIdeal := hKernelIdeal)
    ∧ quiescent_KernelIdeal_pre_finite_scores_unit_lane (hKernelIdeal := hKernelIdeal) (hPre_finite_scores_unit_lane := hPre_finite_scores_unit_lane)
    ∧ quiescent_ReferenceIdeal (hReferenceIdeal := hReferenceIdeal)
    ∧ quiescent_ReferenceIdeal_pre_finite_scores_unit_lane (hReferenceIdeal := hReferenceIdeal) (hPre_finite_scores_unit_lane := hPre_finite_scores_unit_lane)
    ∧ quiescent_FeedForward (hFeedForward := hFeedForward)
    ∧ quiescent_FeedForwardIdeal (hFeedForwardIdeal := hFeedForwardIdeal)
    ∧ quiescent_FeedForwardRefIdeal (hFeedForwardRefIdeal := hFeedForwardRefIdeal)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_OddIn (hOddIn := hOddIn)
    ∧ quiescent_OddInIdeal (hOddInIdeal := hOddInIdeal)
    ∧ quiescent_OddInRefIdeal (hOddInRefIdeal := hOddInRefIdeal)
    ∧ quiescent_EvenOut (hEvenOut := hEvenOut)
    ∧ quiescent_EvenOutIdeal (hEvenOutIdeal := hEvenOutIdeal)
    ∧ quiescent_EvenOutRefIdeal (hEvenOutRefIdeal := hEvenOutRefIdeal)
    ∧ quiescent_OddOut (hOddOut := hOddOut)
    ∧ quiescent_OddOutIdeal (hOddOutIdeal := hOddOutIdeal)
    ∧ quiescent_OddOutRefIdeal (hOddOutRefIdeal := hOddOutRefIdeal)
    ∧ quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ quiescent_KeyPrep (hKeyPrep := hKeyPrep)
    ∧ quiescent_KeyPrepIdeal (hKeyPrepIdeal := hKeyPrepIdeal)
    ∧ quiescent_KeyPrepIdeal_pre_finite_keys (hKeyPrepIdeal := hKeyPrepIdeal) (hPre_finite_keys := hPre_finite_keys)
    ∧ quiescent_KeyPrepRefIdeal (hKeyPrepRefIdeal := hKeyPrepRefIdeal)
    ∧ quiescent_KeyPrepRefIdeal_pre_finite_keys (hKeyPrepRefIdeal := hKeyPrepRefIdeal) (hPre_finite_keys := hPre_finite_keys)
    ∧ preserves_Kernel_KernelIdeal
    ∧ algebraic_KernelIdeal_ReferenceIdeal_pre_finite_scores_unit_lane (hKernelIdeal := hKernelIdeal) (hReferenceIdeal := hReferenceIdeal) (hPre_finite_scores_unit_lane := hPre_finite_scores_unit_lane)
    ∧ preserves_FeedForward_FeedForwardIdeal
    ∧ algebraic_FeedForwardIdeal_FeedForwardRefIdeal (hFeedForwardIdeal := hFeedForwardIdeal) (hFeedForwardRefIdeal := hFeedForwardRefIdeal)
    ∧ preserves_EvenIn_EvenInIdeal
    ∧ algebraic_EvenInIdeal_EvenInRefIdeal (hEvenInIdeal := hEvenInIdeal) (hEvenInRefIdeal := hEvenInRefIdeal)
    ∧ preserves_OddIn_OddInIdeal
    ∧ algebraic_OddInIdeal_OddInRefIdeal (hOddInIdeal := hOddInIdeal) (hOddInRefIdeal := hOddInRefIdeal)
    ∧ preserves_EvenOut_EvenOutIdeal
    ∧ algebraic_EvenOutIdeal_EvenOutRefIdeal (hEvenOutIdeal := hEvenOutIdeal) (hEvenOutRefIdeal := hEvenOutRefIdeal)
    ∧ preserves_OddOut_OddOutIdeal
    ∧ algebraic_OddOutIdeal_OddOutRefIdeal (hOddOutIdeal := hOddOutIdeal) (hOddOutRefIdeal := hOddOutRefIdeal)
    ∧ preserves_FinalNorm_FinalNormIdeal
    ∧ algebraic_FinalNormIdeal_FinalNormRefIdeal (hFinalNormIdeal := hFinalNormIdeal) (hFinalNormRefIdeal := hFinalNormRefIdeal)
    ∧ preserves_KeyPrep_KeyPrepIdeal
    ∧ algebraic_KeyPrepIdeal_KeyPrepRefIdeal_pre_finite_keys (hKeyPrepIdeal := hKeyPrepIdeal) (hKeyPrepRefIdeal := hKeyPrepRefIdeal) (hPre_finite_keys := hPre_finite_keys)
-- ==== Pre_finite_keys.lean ====
abbrev S16384x2048 : Shape := ⟨2, ![16384, 2048]⟩
abbrev S16384x128 : Shape := ⟨2, ![16384, 128]⟩
abbrev S64 : Shape := ⟨1, ![64]⟩
abbrev S8 : Shape := ⟨1, ![8]⟩
abbrev S16384x512 : Shape := ⟨2, ![16384, 512]⟩
abbrev S_ : Shape := ⟨0, ![]⟩

class Facts : Prop where
  slices_S16384x2048_S16384x512_0_512 : S16384x2048.Slices ![0, 512] S16384x512
  bcast_S_S16384x512 : S_.BroadcastsInDim S16384x512 (![] : Fin 0 → Fin S16384x512.rank)
  reducesTo_S16384x512_S_d0_1 : S16384x512.ReducesTo [0, 1] S_
  h_S_ : 0 < S_.numel

variable [Facts]

def fn {F : FTy → Type} [FloatOps F] (main_arg0 : FVec F S16384x2048 .f32) (main_arg1 : FVec F S16384x128 .f32) (main_arg2 : FVec F S64 .f32) (main_arg3 : FVec F S64 .f32) (main_arg4 : FVec F S8 .f32) : IVec S_ 1 :=
  let main_v0 : FVec F S16384x512 .f32 := (extractStridedSlice S16384x512 ![0, 512] · slices_S16384x2048_S16384x512_0_512) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_c : IVec S_ 1 := constantI S_ 1 1#1
  let main_v4 : IVec S_ 1 := (fun x v => Host.reduce IntOp.andi x v reducesTo_S16384x512_S_d0_1 h_S_) main_v3 main_c
  main_v4
-- ==== Pre_finite_scores_unit_lane.lean ====
abbrev S16384x1024 : Shape := ⟨2, ![16384, 1024]⟩
abbrev S2x8x16x128x512 : Shape := ⟨5, ![2, 8, 16, 128, 512]⟩
abbrev S_ : Shape := ⟨0, ![]⟩
abbrev S2x8x16x1x512 : Shape := ⟨5, ![2, 8, 16, 1, 512]⟩
abbrev S2x8x16x512 : Shape := ⟨4, ![2, 8, 16, 512]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  slices_S2x8x16x128x512_S2x8x16x1x512_0_0_0_64_0 : S2x8x16x128x512.Slices ![0, 0, 0, 64, 0] S2x8x16x1x512
  shapeCasts_S2x8x16x1x512_S2x8x16x512 : S2x8x16x1x512.ShapeCasts S2x8x16x512
  bcast_S_S2x8x16x512 : S_.BroadcastsInDim S2x8x16x512 (![] : Fin 0 → Fin S2x8x16x512.rank)
  reducesTo_S2x8x16x512_S_d0_1_2_3 : S2x8x16x512.ReducesTo [0, 1, 2, 3] S_

variable [Facts]

def fn {F : FTy → Type} [FloatOps F] (main_arg0 : FVec F S16384x1024 .bf16) (main_arg1 : FVec F S16384x1024 .bf16) (main_arg2 : FVec F S2x8x16x128x512 .bf16) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S16384x1024 .f32 := (extf .f32 · bitsLt_bf16_f32) main_arg1
  let main_v6 : FVec F S16384x1024 .f32 := Host.absf main_v5
  let main_cst_0 : FVec F S_ .f32 := constant S_ .f32 0x7F800000#32
  let main_v7 : FVec F S16384x1024 .f32 := broadcastInDim S16384x1024 ![] bcast_S_S16384x1024 main_cst_0
  let main_v8 : IVec S16384x1024 1 := cmpf .olt main_v6 main_v7
  let main_c_1 : IVec S_ 1 := constantI S_ 1 1#1
  let main_v9 : IVec S_ 1 := (fun x v => Host.reduce IntOp.andi x v reducesTo_S16384x1024_S_d0_1 h_S_) main_v8 main_c_1
  let main_v10 : IVec S_ 1 := andi main_v4 main_v9
  let main_v11 : FVec F S2x8x16x128x512 .f32 := (extf .f32 · bitsLt_bf16_f32) main_arg2
  let main_v12 : FVec F S2x8x16x1x512 .f32 := (extractStridedSlice S2x8x16x1x512 ![0, 0, 0, 64, 0] · slices_S2x8x16x128x512_S2x8x16x1x512_0_0_0_64_0) main_v11
  let main_v13 : FVec F S2x8x16x512 .f32 := shapeCast S2x8x16x512 main_v12 shapeCasts_S2x8x16x1x512_S2x8x16x512
  let main_cst_2 : FVec F S_ .f32 := constant S_ .f32 0x3F800000#32
  let main_v14 : FVec F S2x8x16x512 .f32 := broadcastInDim S2x8x16x512 ![] bcast_S_S2x8x16x512 main_cst_2
  let main_v15 : IVec S2x8x16x512 1 := cmpf .oeq main_v13 main_v14
  let main_c_3 : IVec S_ 1 := constantI S_ 1 1#1
  let main_v16 : IVec S_ 1 := (fun x v => Host.reduce IntOp.andi x v reducesTo_S2x8x16x512_S_d0_1_2_3 h_S_) main_v15 main_c_3
  let main_v17 : IVec S_ 1 := andi main_v10 main_v16
  main_v17
-- ==== Kernel.lean ====
abbrev S16384x1024 : Shape := ⟨2, ![16384, 1024]⟩
abbrev S2x8x16x128x512 : Shape := ⟨5, ![2, 8, 16, 128, 512]⟩
abbrev S16384x512 : Shape := ⟨2, ![16384, 512]⟩
abbrev S2048x256 : Shape := ⟨2, ![2048, 256]⟩
abbrev S8192x256 : Shape := ⟨2, ![8192, 256]⟩
abbrev S1x2x16x128x512 : Shape := ⟨5, ![1, 2, 16, 128, 512]⟩
abbrev S2048x128 : Shape := ⟨2, ![2048, 128]⟩
abbrev S512x512 : Shape := ⟨2, ![512, 512]⟩
abbrev S512x128 : Shape := ⟨2, ![512, 128]⟩
abbrev S1x512 : Shape := ⟨2, ![1, 512]⟩
abbrev S128x512 : Shape := ⟨2, ![128, 512]⟩
abbrev S1x1x1x128x512 : Shape := ⟨5, ![1, 1, 1, 128, 512]⟩
abbrev S512 : Shape := ⟨1, ![512]⟩
abbrev S64x512 : Shape := ⟨2, ![64, 512]⟩

abbrev nBuf : Space → Nat
  | .hbm => 4
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2x8x16x128x512, .bf16⟩
  | .hbm, ⟨3, _⟩ => ⟨S16384x512, .f32⟩
  | .local _ .vmem, ⟨0, _⟩ => ⟨S2048x256, .bf16⟩
  | .local _ .vmem, ⟨1, _⟩ => ⟨S2048x256, .bf16⟩
  | .local _ .vmem, ⟨2, _⟩ => ⟨S8192x256, .bf16⟩
  | .local _ .vmem, ⟨3, _⟩ => ⟨S8192x256, .bf16⟩
  | .local _ .vmem, ⟨4, _⟩ => ⟨S1x2x16x128x512, .bf16⟩
  | .local _ .vmem, ⟨5, _⟩ => ⟨S1x2x16x128x512, .bf16⟩
  | .local _ .vmem, ⟨6, _⟩ => ⟨S2048x128, .f32⟩
  | .local _ .vmem, ⟨7, _⟩ => ⟨S2048x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 4], ![false, false, false]⟩

@[reducible] def k0_t1_loop (i : grid0.Coords) : Scf.Loop 32 :=
  let c0_i32 : BitVec 32 := 0#32
  let c4_i32 : BitVec 32 := 4#32
  let arg2 : BitVec 32 := BitVec.ofNat 32 (i 2).val
  let v27 : BitVec 32 := Scalar.muli c4_i32 arg2
  let v28 : BitVec 32 := Scalar.subi v27 c0_i32
  let c1_i32 : BitVec 32 := 1#32
  let v30 : BitVec 32 := Scalar.divsi v28 c1_i32
  let v31 : BitVec 32 := Scalar.muli v30 c1_i32
  let v32 : BitVec 32 := Scalar.addi c0_i32 v31
  let c1_i32_26 : BitVec 32 := 1#32
  ⟨c0_i32, v32, c1_i32_26⟩
def k0_mult1 (i : grid0.Coords) (k0_t1 : Fin (k0_t1_loop i).trips) : BitVec 32 :=
  let c0_i32 : BitVec 32 := 0#32
  let c1_i32_26 : BitVec 32 := 1#32
  let arg7 : BitVec 32 := Scf.iv c0_i32 c1_i32_26 k0_t1
  let c512_i32_152 : BitVec 32 := 512#32
  let v431 : BitVec 32 := Scalar.muli arg7 c512_i32_152
  v431
def k0_off1 (i : grid0.Coords) (k0_t1 : Fin (k0_t1_loop i).trips) : Fin 2 → Nat :=
  let c0_i32 : BitVec 32 := 0#32
  let c1_i32_26 : BitVec 32 := 1#32
  let arg7 : BitVec 32 := Scf.iv c0_i32 c1_i32_26 k0_t1
  let c512_i32_152 : BitVec 32 := 512#32
  let v431 : BitVec 32 := Scalar.muli arg7 c512_i32_152
  let v432 : BitVec 32 := v431
  let v433 : Index := Scalar.indexCast v432
  let c0_153 : Index := 0#32
  ![v433.toNat, 0]
def k0_off2 (i : grid0.Coords) (k0_t1 : Fin (k0_t1_loop i).trips) : Fin 2 → Nat :=
  let c0_i32 : BitVec 32 := 0#32
  let c1_i32_26 : BitVec 32 := 1#32
  let arg7 : BitVec 32 := Scf.iv c0_i32 c1_i32_26 k0_t1
  let c512_i32_152 : BitVec 32 := 512#32
  let v431 : BitVec 32 := Scalar.muli arg7 c512_i32_152
  let v432 : BitVec 32 := v431
  let v435 : Index := Scalar.indexCast v432
  let c128_154 : Index := 128#32
  ![v435.toNat, 128]
def k0_off3 (i : grid0.Coords) (k0_t1 : Fin (k0_t1_loop i).trips) : Fin 5 → Nat :=
  let c0_155 : Index := 0#32
  let c0_156 : Index := 0#32
  let c0_i32 : BitVec 32 := 0#32
  let c1_i32_26 : BitVec 32 := 1#32
  let arg7 : BitVec 32 := Scf.iv c0_i32 c1_i32_26 k0_t1
  let v437 : Index := Scalar.indexCast arg7
  let c0_157 : Index := 0#32
  let c0_158 : Index := 0#32
  ![0, 0, v437.toNat, 0, 0]
def k0_off4 (i : grid0.Coords) (k0_t1 : Fin (k0_t1_loop i).trips) : Fin 5 → Nat :=
  let c0_159 : Index := 0#32
  let c1_160 : Index := 1#32
  let c0_i32 : BitVec 32 := 0#32
  let c1_i32_26 : BitVec 32 := 1#32
  let arg7 : BitVec 32 := Scf.iv c0_i32 c1_i32_26 k0_t1
  let v440 : Index := Scalar.indexCast arg7
  let c0_161 : Index := 0#32
  let c0_162 : Index := 0#32
  ![0, 1, v440.toNat, 0, 0]
@[reducible] def k0_t2_loop (i : grid0.Coords) : Scf.Loop 32 :=
  let c0_i32 : BitVec 32 := 0#32
  let c4_i32 : BitVec 32 := 4#32
  let arg2 : BitVec 32 := BitVec.ofNat 32 (i 2).val
  let v27 : BitVec 32 := Scalar.muli c4_i32 arg2
  let v28 : BitVec 32 := Scalar.subi v27 c0_i32
  let c1_i32 : BitVec 32 := 1#32
  let v30 : BitVec 32 := Scalar.divsi v28 c1_i32
  let v31 : BitVec 32 := Scalar.muli v30 c1_i32
  let v32 : BitVec 32 := Scalar.addi c0_i32 v31
  let v29 : BitVec 32 := Scalar.addi c0_i32 v28
  let c1_i32_27 : BitVec 32 := 1#32
  ⟨v32, v29, c1_i32_27⟩
def k0_mult2 (i : grid0.Coords) (k0_t2 : Fin (k0_t2_loop i).trips) : BitVec 32 :=
  let c0_i32 : BitVec 32 := 0#32
  let c4_i32 : BitVec 32 := 4#32
  let arg2 : BitVec 32 := BitVec.ofNat 32 (i 2).val
  let v27 : BitVec 32 := Scalar.muli c4_i32 arg2
  let v28 : BitVec 32 := Scalar.subi v27 c0_i32
  let c1_i32 : BitVec 32 := 1#32
  let v30 : BitVec 32 := Scalar.divsi v28 c1_i32
  let v31 : BitVec 32 := Scalar.muli v30 c1_i32
  let v32 : BitVec 32 := Scalar.addi c0_i32 v31
  let c1_i32_27 : BitVec 32 := 1#32
  let arg7 : BitVec 32 := Scf.iv v32 c1_i32_27 k0_t2
  let c512_i32_152 : BitVec 32 := 512#32
  let v431 : BitVec 32 := Scalar.muli arg7 c512_i32_152
  v431
def k0_off5 (i : grid0.Coords) (k0_t2 : Fin (k0_t2_loop i).trips) : Fin 2 → Nat :=
  let c0_i32 : BitVec 32 := 0#32
  let c4_i32 : BitVec 32 := 4#32
  let arg2 : BitVec 32 := BitVec.ofNat 32 (i 2).val
  let v27 : BitVec 32 := Scalar.muli c4_i32 arg2
  let v28 : BitVec 32 := Scalar.subi v27 c0_i32
  let c1_i32 : BitVec 32 := 1#32
  let v30 : BitVec 32 := Scalar.divsi v28 c1_i32
  let v31 : BitVec 32 := Scalar.muli v30 c1_i32
  let v32 : BitVec 32 := Scalar.addi c0_i32 v31
  let c1_i32_27 : BitVec 32 := 1#32
  let arg7 : BitVec 32 := Scf.iv v32 c1_i32_27 k0_t2
  let c512_i32_152 : BitVec 32 := 512#32
  let v431 : BitVec 32 := Scalar.muli arg7 c512_i32_152
  let v432 : BitVec 32 := v431
  let v433 : Index := Scalar.indexCast v432
  let c0_153 : Index := 0#32
  ![v433.toNat, 0]
def k0_off6 (i : grid0.Coords) (k0_t2 : Fin (k0_t2_loop i).trips) : Fin 2 → Nat :=
  let c0_i32 : BitVec 32 := 0#32
  let c4_i32 : BitVec 32 := 4#32
  let arg2 : BitVec 32 := BitVec.ofNat 32 (i 2).val
  let v27 : BitVec 32 := Scalar.muli c4_i32 arg2
  let v28 : BitVec 32 := Scalar.subi v27 c0_i32
  let c1_i32 : BitVec 32 := 1#32
  let v30 : BitVec 32 := Scalar.divsi v28 c1_i32
  let v31 : BitVec 32 := Scalar.muli v30 c1_i32
  let v32 : BitVec 32 := Scalar.addi c0_i32 v31
  let c1_i32_27 : BitVec 32 := 1#32
  let arg7 : BitVec 32 := Scf.iv v32 c1_i32_27 k0_t2
  let c512_i32_152 : BitVec 32 := 512#32
  let v431 : BitVec 32 := Scalar.muli arg7 c512_i32_152
  let v432 : BitVec 32 := v431
  let v435 : Index := Scalar.indexCast v432
  let c128_154 : Index := 128#32
  ![v435.toNat, 128]
def k0_off7 (i : grid0.Coords) (k0_t2 : Fin (k0_t2_loop i).trips) : Fin 5 → Nat :=
  let c0_155 : Index := 0#32
  let c0_156 : Index := 0#32
  let c0_i32 : BitVec 32 := 0#32
  let c4_i32 : BitVec 32 := 4#32
  let arg2 : BitVec 32 := BitVec.ofNat 32 (i 2).val
  let v27 : BitVec 32 := Scalar.muli c4_i32 arg2
  let v28 : BitVec 32 := Scalar.subi v27 c0_i32
  let c1_i32 : BitVec 32 := 1#32
  let v30 : BitVec 32 := Scalar.divsi v28 c1_i32
  let v31 : BitVec 32 := Scalar.muli v30 c1_i32
  let v32 : BitVec 32 := Scalar.addi c0_i32 v31
  let c1_i32_27 : BitVec 32 := 1#32
  let arg7 : BitVec 32 := Scf.iv v32 c1_i32_27 k0_t2
  let v437 : Index := Scalar.indexCast arg7
  let c0_157 : Index := 0#32
  let c0_158 : Index := 0#32
  ![0, 0, v437.toNat, 0, 0]
def k0_off8 (i : grid0.Coords) (k0_t2 : Fin (k0_t2_loop i).trips) : Fin 5 → Nat :=
  let c0_159 : Index := 0#32
  let c1_160 : Index := 1#32
  let c0_i32 : BitVec 32 := 0#32
  let c4_i32 : BitVec 32 := 4#32
  let arg2 : BitVec 32 := BitVec.ofNat 32 (i 2).val
  let v27 : BitVec 32 := Scalar.muli c4_i32 arg2
  let v28 : BitVec 32 := Scalar.subi v27 c0_i32
  let c1_i32 : BitVec 32 := 1#32
  let v30 : BitVec 32 := Scalar.divsi v28 c1_i32
  let v31 : BitVec 32 := Scalar.muli v30 c1_i32
  let v32 : BitVec 32 := Scalar.addi c0_i32 v31
  let c1_i32_27 : BitVec 32 := 1#32
  let arg7 : BitVec 32 := Scf.iv v32 c1_i32_27 k0_t2
  let v440 : Index := Scalar.indexCast arg7
  let c0_161 : Index := 0#32
  let c0_162 : Index := 0#32
  ![0, 1, v440.toNat, 0, 0]
def k0_mult3 (i : grid0.Coords) : BitVec 32 :=
  let c4_i32_28 : BitVec 32 := 4#32
  let arg2 : BitVec 32 := BitVec.ofNat 32 (i 2).val
  let v35 : BitVec 32 := Scalar.muli c4_i32_28 arg2
  let c0_i32_29 : BitVec 32 := 0#32
  let v36 : BitVec 32 := Scalar.addi v35 c0_i32_29
  let c512_i32 : BitVec 32 := 512#32
  let v37 : BitVec 32 := Scalar.muli v36 c512_i32
  v37
def k0_off9 (i : grid0.Coords) (c0_i32_29 : BitVec 32) : Fin 2 → Nat :=
  let c4_i32_28 : BitVec 32 := 4#32
  let arg2 : BitVec 32 := BitVec.ofNat 32 (i 2).val
  let v35 : BitVec 32 := Scalar.muli c4_i32_28 arg2
  let v36 : BitVec 32 := Scalar.addi v35 c0_i32_29
  let c512_i32 : BitVec 32 := 512#32
  let v37 : BitVec 32 := Scalar.muli v36 c512_i32
  let v38 : BitVec 32 := v37
  let v39 : Index := Scalar.indexCast v38
  let c0_30 : Index := 0#32
  ![v39.toNat, 0]
def k0_off10 (i : grid0.Coords) (c0_i32_29 : BitVec 32) : Fin 2 → Nat :=
  let c4_i32_28 : BitVec 32 := 4#32
  let arg2 : BitVec 32 := BitVec.ofNat 32 (i 2).val
  let v35 : BitVec 32 := Scalar.muli c4_i32_28 arg2
  let v36 : BitVec 32 := Scalar.addi v35 c0_i32_29
  let c512_i32 : BitVec 32 := 512#32
  let v37 : BitVec 32 := Scalar.muli v36 c512_i32
  let v38 : BitVec 32 := v37
  let v41 : Index := Scalar.indexCast v38
  let c128_31 : Index := 128#32
  ![v41.toNat, 128]
def k0_off11 (i : grid0.Coords) (c0_i32_29 : BitVec 32) : Fin 5 → Nat :=
  let c0_32 : Index := 0#32
  let c0_33 : Index := 0#32
  let c4_i32_28 : BitVec 32 := 4#32
  let arg2 : BitVec 32 := BitVec.ofNat 32 (i 2).val
  let v35 : BitVec 32 := Scalar.muli c4_i32_28 arg2
  let v36 : BitVec 32 := Scalar.addi v35 c0_i32_29
  let v43 : Index := Scalar.indexCast v36
  let c0_34 : Index := 0#32
  let c0_35 : Index := 0#32
  ![0, 0, v43.toNat, 0, 0]
def k0_off12 (i : grid0.Coords) (c0_i32_29 : BitVec 32) : Fin 5 → Nat :=
  let c0_36 : Index := 0#32
  let c1 : Index := 1#32
  let c4_i32_28 : BitVec 32 := 4#32
  let arg2 : BitVec 32 := BitVec.ofNat 32 (i 2).val
  let v35 : BitVec 32 := Scalar.muli c4_i32_28 arg2
  let v36 : BitVec 32 := Scalar.addi v35 c0_i32_29
  let v46 : Index := Scalar.indexCast v36
  let c0_37 : Index := 0#32
  let c0_38 : Index := 0#32
  ![0, 1, v46.toNat, 0, 0]
def k0_mult4 (i : grid0.Coords) : BitVec 32 :=
  let c4_i32_65 : BitVec 32 := 4#32
  let arg2 : BitVec 32 := BitVec.ofNat 32 (i 2).val
  let v165 : BitVec 32 := Scalar.muli c4_i32_65 arg2
  let c1_i32_66 : BitVec 32 := 1#32
  let v166 : BitVec 32 := Scalar.addi v165 c1_i32_66
  let c512_i32_67 : BitVec 32 := 512#32
  let v167 : BitVec 32 := Scalar.muli v166 c512_i32_67
  v167
def k0_mult5 (i : grid0.Coords) : BitVec 32 :=
  let c4_i32_98 : BitVec 32 := 4#32
  let arg2 : BitVec 32 := BitVec.ofNat 32 (i 2).val
  let v267 : BitVec 32 := Scalar.muli c4_i32_98 arg2
  let c2_i32 : BitVec 32 := 2#32
  let v268 : BitVec 32 := Scalar.addi v267 c2_i32
  let c512_i32_99 : BitVec 32 := 512#32
  let v269 : BitVec 32 := Scalar.muli v268 c512_i32_99
  v269
def k0_mult6 (i : grid0.Coords) : BitVec 32 :=
  let c4_i32_124 : BitVec 32 := 4#32
  let arg2 : BitVec 32 := BitVec.ofNat 32 (i 2).val
  let v341 : BitVec 32 := Scalar.muli c4_i32_124 arg2
  let c3_i32 : BitVec 32 := 3#32
  let v342 : BitVec 32 := Scalar.addi v341 c3_i32
  let c512_i32_125 : BitVec 32 := 512#32
  let v343 : BitVec 32 := Scalar.muli v342 c512_i32_125
  v343
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x16x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16384x1024 : Shape := ⟨2, ![16384, 1024]⟩
abbrev S2x8x16x128x512 : Shape := ⟨5, ![2, 8, 16, 128, 512]⟩
abbrev S2x8192x8x128 : Shape := ⟨4, ![2, 8192, 8, 128]⟩
abbrev S2x8x16x64x512 : Shape := ⟨5, ![2, 8, 16, 64, 512]⟩
abbrev S2x16x512x8x64 : Shape := ⟨5, ![2, 16, 512, 8, 64]⟩
abbrev S2x8192x8x64 : Shape := ⟨4, ![2, 8192, 8, 64]⟩
abbrev S2x8x8192x8192 : Shape := ⟨4, ![2, 8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S2x8x8192 : Shape := ⟨3, ![2, 8, 8192]⟩
abbrev S2x8x8192x1 : Shape := ⟨4, ![2, 8, 8192, 1]⟩
abbrev S2x8x64x8192 : Shape := ⟨4, ![2, 8, 64, 8192]⟩
abbrev S16384x512 : Shape := ⟨2, ![16384, 512]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2x8x16x128x512, .bf16⟩
  | .hbm, ⟨3, _⟩ => ⟨S16384x1024, .f32⟩
  | .hbm, ⟨4, _⟩ => ⟨S2x8192x8x128, .f32⟩
  | .hbm, ⟨5, _⟩ => ⟨S16384x1024, .f32⟩
  | .hbm, ⟨6, _⟩ => ⟨S2x8192x8x128, .f32⟩
  | .hbm, ⟨7, _⟩ => ⟨S2x8x16x128x512, .f32⟩
  | .hbm, ⟨8, _⟩ => ⟨S2x8x16x64x512, .f32⟩
  | .hbm, ⟨9, _⟩ => ⟨S2x16x512x8x64, .f32⟩
  | .hbm, ⟨10, _⟩ => ⟨S2x8192x8x64, .f32⟩
  | .hbm, ⟨11, _⟩ => ⟨S2x8x8192x8192, .f32⟩
  | .hbm, ⟨12, _⟩ => ⟨S8192, .i32⟩
  | .hbm, ⟨13, _⟩ => ⟨S1x8192, .i32⟩
  | .hbm, ⟨14, _⟩ => ⟨S8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S_, .f32⟩
  | .hbm, ⟨20, _⟩ => ⟨S_, .f32⟩
  | .hbm, ⟨21, _⟩ => ⟨S2x8x8192x8192, .i1⟩
  | .hbm, ⟨22, _⟩ => ⟨S2x8x8192x8192, .f32⟩
  | .hbm, ⟨23, _⟩ => ⟨S2x8x8192x8192, .f32⟩
  | .hbm, ⟨24, _⟩ => ⟨S_, .f32⟩
  | .hbm, ⟨25, _⟩ => ⟨S2x8x8192, .f32⟩
  | .hbm, ⟨26, _⟩ => ⟨S_, .f32⟩
  | .hbm, ⟨27, _⟩ => ⟨S2x8x8192, .f32⟩
  | .hbm, ⟨28, _⟩ => ⟨S2x8x8192, .f32⟩
  | .hbm, ⟨29, _⟩ => ⟨S2x8x8192x1, .f32⟩
  | .hbm, ⟨30, _⟩ => ⟨S2x8x8192x8192, .f32⟩
  | .hbm, ⟨31, _⟩ => ⟨S2x8x8192x8192, .f32⟩
  | .hbm, ⟨32, _⟩ => ⟨S2x8x8192x8192, .f32⟩
  | .hbm, ⟨33, _⟩ => ⟨S_, .f32⟩
  | .hbm, ⟨34, _⟩ => ⟨S2x8x8192, .f32⟩
  | .hbm, ⟨35, _⟩ => ⟨S2x8x8192x1, .f32⟩
  | .hbm, ⟨36, _⟩ => ⟨S2x8x8192x8192, .f32⟩
  | .hbm, ⟨37, _⟩ => ⟨S2x8x8192x8192, .f32⟩
  | .hbm, ⟨38, _⟩ => ⟨S2x8x64x8192, .f32⟩
  | .hbm, ⟨39, _⟩ => ⟨S2x8192x8x64, .f32⟩
  | .hbm, ⟨40, _⟩ => ⟨S16384x512, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== FeedForward.lean ====
abbrev S16384x1024 : Shape := ⟨2, ![16384, 1024]⟩
abbrev S1024 : Shape := ⟨1, ![1024]⟩
abbrev S4x1024x5632 : Shape := ⟨3, ![4, 1024, 5632]⟩
abbrev S3x5632 : Shape := ⟨2, ![3, 5632]⟩
abbrev S5632 : Shape := ⟨1, ![5632]⟩
abbrev S4x2816x1024 : Shape := ⟨3, ![4, 2816, 1024]⟩
abbrev S2x2x5632 : Shape := ⟨3, ![2, 2, 5632]⟩
abbrev S1x1024 : Shape := ⟨2, ![1, 1024]⟩
abbrev S1x5632 : Shape := ⟨2, ![1, 5632]⟩
abbrev S512x1024 : Shape := ⟨2, ![512, 1024]⟩
abbrev S1x1024x5632 : Shape := ⟨3, ![1, 1024, 5632]⟩
abbrev S1x2816x1024 : Shape := ⟨3, ![1, 2816, 1024]⟩
abbrev S1x2x5632 : Shape := ⟨3, ![1, 2, 5632]⟩
abbrev S8x5632 : Shape := ⟨2, ![8, 5632]⟩
abbrev S2x5632 : Shape := ⟨2, ![2, 5632]⟩
abbrev S512 : Shape := ⟨1, ![512]⟩
abbrev S512x1 : Shape := ⟨2, ![512, 1]⟩
abbrev S1x1024x2816 : Shape := ⟨3, ![1, 1024, 2816]⟩
abbrev S1024x2816 : Shape := ⟨2, ![1024, 2816]⟩
abbrev S512x2816 : Shape := ⟨2, ![512, 2816]⟩
abbrev S2x2816 : Shape := ⟨2, ![2, 2816]⟩
abbrev S8x2816 : Shape := ⟨2, ![8, 2816]⟩
abbrev S1x2816 : Shape := ⟨2, ![1, 2816]⟩
abbrev S504x2816 : Shape := ⟨2, ![504, 2816]⟩
abbrev S1x2x2816 : Shape := ⟨3, ![1, 2, 2816]⟩
abbrev S2816x1024 : Shape := ⟨2, ![2816, 1024]⟩

abbrev nBuf : Space → Nat
  | .hbm => 13
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x1024x5632, .f32⟩
  | .hbm, ⟨3, _⟩ => ⟨S3x5632, .f32⟩
  | .hbm, ⟨4, _⟩ => ⟨S5632, .f32⟩
  | .hbm, ⟨5, _⟩ => ⟨S4x2816x1024, .f32⟩
  | .hbm, ⟨6, _⟩ => ⟨S2x2x5632, .f32⟩
  | .hbm, ⟨7, _⟩ => ⟨S4x1024x5632, .bf16⟩
  | .hbm, ⟨8, _⟩ => ⟨S4x2816x1024, .bf16⟩
  | .hbm, ⟨9, _⟩ => ⟨S1x1024, .f32⟩
  | .hbm, ⟨10, _⟩ => ⟨S1x5632, .f32⟩
  | .hbm, ⟨11, _⟩ => ⟨S16384x1024, .f32⟩
  | .hbm, ⟨12, _⟩ => ⟨S2x2x5632, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x5632, .bf16⟩
  | .local _ .vmem, ⟨4, _⟩ => ⟨S3x5632, .f32⟩
  | .local _ .vmem, ⟨5, _⟩ => ⟨S1x5632, .f32⟩
  | .local _ .vmem, ⟨6, _⟩ => ⟨S1x2816x1024, .bf16⟩
  | .local _ .vmem, ⟨7, _⟩ => ⟨S1x2x5632, .f32⟩
  | .local _ .vmem, ⟨8, _⟩ => ⟨S1x2x5632, .f32⟩
  | .local _ .vmem, ⟨9, _⟩ => ⟨S512x1024, .f32⟩
  | .local _ .vmem, ⟨10, _⟩ => ⟨S512x1024, .f32⟩
  | .local _ .vmem, ⟨11, _⟩ => ⟨S1x2x5632, .f32⟩
  | .local _ .vmem, ⟨12, _⟩ => ⟨S1x2x5632, .f32⟩
  | .local _ .vmem, ⟨13, _⟩ => ⟨S8x5632, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2x5632 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FeedForwardRefIdeal.lean ====
abbrev S16384x1024 : Shape := ⟨2, ![16384, 1024]⟩
abbrev S1024 : Shape := ⟨1, ![1024]⟩
abbrev S4x1024x5632 : Shape := ⟨3, ![4, 1024, 5632]⟩
abbrev S3x5632 : Shape := ⟨2, ![3, 5632]⟩
abbrev S5632 : Shape := ⟨1, ![5632]⟩
abbrev S4x2816x1024 : Shape := ⟨3, ![4, 2816, 1024]⟩
abbrev S2x2x5632 : Shape := ⟨3, ![2, 2, 5632]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S2x8192x5632 : Shape := ⟨3, ![2, 8192, 5632]⟩
abbrev S2x8194x5632 : Shape := ⟨3, ![2, 8194, 5632]⟩
abbrev S1x5632 : Shape := ⟨2, ![1, 5632]⟩
abbrev S1x1x5632 : Shape := ⟨3, ![1, 1, 5632]⟩
abbrev S2x8192x2816 : Shape := ⟨3, ![2, 8192, 2816]⟩
abbrev S1x2816x1024 : Shape := ⟨3, ![1, 2816, 1024]⟩
abbrev S2816x1024 : Shape := ⟨2, ![2816, 1024]⟩

abbrev nBuf : Space → Nat
  | .hbm => 69
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x1024x5632, .f32⟩
  | .hbm, ⟨3, _⟩ => ⟨S3x5632, .f32⟩
  | .hbm, ⟨4, _⟩ => ⟨S5632, .f32⟩
  | .hbm, ⟨5, _⟩ => ⟨S4x2816x1024, .f32⟩
  | .hbm, ⟨6, _⟩ => ⟨S2x2x5632, .f32⟩
  | .hbm, ⟨7, _⟩ => ⟨S2x8192x1024, .f32⟩
  | .hbm, ⟨8, _⟩ => ⟨S2x8192x1024, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x1024, .f32⟩
  | .hbm, ⟨20, _⟩ => ⟨S2x8192x1024, .f32⟩
  | .hbm, ⟨21, _⟩ => ⟨S1x1x1024, .f32⟩
  | .hbm, ⟨22, _⟩ => ⟨S2x8192x1024, .f32⟩
  | .hbm, ⟨23, _⟩ => ⟨S2x8192x1024, .f32⟩
  | .hbm, ⟨24, _⟩ => ⟨S1x1024x5632, .f32⟩
  | .hbm, ⟨25, _⟩ => ⟨S1024x5632, .f32⟩
  | .hbm, ⟨26, _⟩ => ⟨S2x8192x5632, .f32⟩
  | .hbm, ⟨27, _⟩ => ⟨S2x8194x5632, .f32⟩
  | .hbm, ⟨28, _⟩ => ⟨S2x8192x5632, .f32⟩
  | .hbm, ⟨29, _⟩ => ⟨S1x5632, .f32⟩
  | .hbm, ⟨30, _⟩ => ⟨S5632, .f32⟩
  | .hbm, ⟨31, _⟩ => ⟨S1x1x5632, .f32⟩
  | .hbm, ⟨32, _⟩ => ⟨S2x8192x5632, .f32⟩
  | .hbm, ⟨33, _⟩ => ⟨S2x8192x5632, .f32⟩
  | .hbm, ⟨34, _⟩ => ⟨S2x8192x5632, .f32⟩
  | .hbm, ⟨35, _⟩ => ⟨S1x5632, .f32⟩
  | .hbm, ⟨36, _⟩ => ⟨S5632, .f32⟩
  | .hbm, ⟨37, _⟩ => ⟨S1x1x5632, .f32⟩
  | .hbm, ⟨38, _⟩ => ⟨S2x8192x5632, .f32⟩
  | .hbm, ⟨39, _⟩ => ⟨S2x8192x5632, .f32⟩
  | .hbm, ⟨40, _⟩ => ⟨S2x8192x5632, .f32⟩
  | .hbm, ⟨41, _⟩ => ⟨S2x8192x5632, .f32⟩
  | .hbm, ⟨42, _⟩ => ⟨S1x5632, .f32⟩
  | .hbm, ⟨43, _⟩ => ⟨S5632, .f32⟩
  | .hbm, ⟨44, _⟩ => ⟨S1x1x5632, .f32⟩
  | .hbm, ⟨45, _⟩ => ⟨S2x8192x5632, .f32⟩
  | .hbm, ⟨46, _⟩ => ⟨S2x8192x5632, .f32⟩
  | .hbm, ⟨47, _⟩ => ⟨S2x8192x5632, .f32⟩
  | .hbm, ⟨48, _⟩ => ⟨S1x1x5632, .f32⟩
  | .hbm, ⟨49, _⟩ => ⟨S2x8192x5632, .f32⟩
  | .hbm, ⟨50, _⟩ => ⟨S2x8192x5632, .f32⟩
  | .hbm, ⟨51, _⟩ => ⟨S2x8192x2816, .f32⟩
  | .hbm, ⟨52, _⟩ => ⟨S2x8192x2816, .f32⟩
  | .hbm, ⟨53, _⟩ => ⟨S2x8192x2816, .f32⟩
  | .hbm, ⟨54, _⟩ => ⟨S2x8192x2816, .f32⟩
  | .hbm, ⟨55, _⟩ => ⟨S_, .f32⟩
  | .hbm, ⟨56, _⟩ => ⟨S2x8192x2816, .f32⟩
  | .hbm, ⟨57, _⟩ => ⟨S2x8192x2816, .f32⟩
  | .hbm, ⟨58, _⟩ => ⟨S_, .f32⟩
  | .hbm, ⟨59, _⟩ => ⟨S2x8192x2816, .f32⟩
  | .hbm, ⟨60, _⟩ => ⟨S2x8192x2816, .f32⟩
  | .hbm, ⟨61, _⟩ => ⟨S2x8192x2816, .f32⟩
  | .hbm, ⟨62, _⟩ => ⟨S2x8192x2816, .f32⟩
  | .hbm, ⟨63, _⟩ => ⟨S1x2816x1024, .f32⟩
  | .hbm, ⟨64, _⟩ => ⟨S2816x1024, .f32⟩
  | .hbm, ⟨65, _⟩ => ⟨S2x8192x1024, .f32⟩
  | .hbm, ⟨66, _⟩ => ⟨S2x8192x1024, .f32⟩
  | .hbm, ⟨67, _⟩ => ⟨S16384x1024, .f32⟩
  | .hbm, ⟨68, _⟩ => ⟨S2x2x5632, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== EvenIn.lean ====
abbrev S16384x1024 : Shape := ⟨2, ![16384, 1024]⟩
abbrev S1024 : Shape := ⟨1, ![1024]⟩
abbrev S2x1024x3848 : Shape := ⟨3, ![2, 1024, 3848]⟩
abbrev S_ : Shape := ⟨0, ![]⟩
abbrev S2x1024x120 : Shape := ⟨3, ![2, 1024, 120]⟩
abbrev S2x1024x2048 : Shape := ⟨3, ![2, 1024, 2048]⟩
abbrev S2x1024x1792 : Shape := ⟨3, ![2, 1024, 1792]⟩
abbrev S2x1024x8 : Shape := ⟨3, ![2, 1024, 8]⟩
abbrev S2x1024x3968 : Shape := ⟨3, ![2, 1024, 3968]⟩
abbrev S1x1024 : Shape := ⟨2, ![1, 1024]⟩
abbrev S16384x2048 : Shape := ⟨2, ![16384, 2048]⟩
abbrev S16384x1792 : Shape := ⟨2, ![16384, 1792]⟩
abbrev S16384x128 : Shape := ⟨2, ![16384, 128]⟩
abbrev S512x1024 : Shape := ⟨2, ![512, 1024]⟩
abbrev S1x1024x3968 : Shape := ⟨3, ![1, 1024, 3968]⟩
abbrev S512x2048 : Shape := ⟨2, ![512, 2048]⟩
abbrev S512x1792 : Shape := ⟨2, ![512, 1792]⟩
abbrev S512x128 : Shape := ⟨2, ![512, 128]⟩
abbrev S512 : Shape := ⟨1, ![512]⟩
abbrev S512x1 : Shape := ⟨2, ![512, 1]⟩
abbrev S1x1024x2048 : Shape := ⟨3, ![1, 1024, 2048]⟩
abbrev S1024x2048 : Shape := ⟨2, ![1024, 2048]⟩
abbrev S1x1024x1792 : Shape := ⟨3, ![1, 1024, 1792]⟩
abbrev S1024x1792 : Shape := ⟨2, ![1024, 1792]⟩
abbrev S1x1024x128 : Shape := ⟨3, ![1, 1024, 128]⟩
abbrev S1024x128 : Shape := ⟨2, ![1024, 128]⟩

abbrev nBuf : Space → Nat
  | .hbm => 14
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024x3848, .f32⟩
  | .hbm, ⟨3, _⟩ => ⟨S_, .f32⟩
  | .hbm, ⟨4, _⟩ => ⟨S2x1024x120, .f32⟩
  | .hbm, ⟨5, _⟩ => ⟨S2x1024x2048, .f32⟩
  | .hbm, ⟨6, _⟩ => ⟨S2x1024x1792, .f32⟩
  | .hbm, ⟨7, _⟩ => ⟨S2x1024x8, .f32⟩
  | .hbm, ⟨8, _⟩ => ⟨S2x1024x3968, .f32⟩
  | .hbm, ⟨9, _⟩ => ⟨S2x1024x3968, .bf16⟩
  | .hbm, ⟨10, _⟩ => ⟨S1x1024, .f32⟩
  | .hbm, ⟨11, _⟩ => ⟨S16384x2048, .f32⟩
  | .hbm, ⟨12, _⟩ => ⟨S16384x1792, .f32⟩
  | .hbm, ⟨13, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x3968, .bf16⟩
  | .local _ .vmem, ⟨4, _⟩ => ⟨S512x2048, .f32⟩
  | .local _ .vmem, ⟨5, _⟩ => ⟨S512x2048, .f32⟩
  | .local _ .vmem, ⟨6, _⟩ => ⟨S512x1792, .f32⟩
  | .local _ .vmem, ⟨7, _⟩ => ⟨S512x1792, .f32⟩
  | .local _ .vmem, ⟨8, _⟩ => ⟨S512x128, .f32⟩
  | .local _ .vmem, ⟨9, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x3968 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== EvenInRefIdeal.lean ====
abbrev S16384x1024 : Shape := ⟨2, ![16384, 1024]⟩
abbrev S1024 : Shape := ⟨1, ![1024]⟩
abbrev S2x1024x3848 : Shape := ⟨3, ![2, 1024, 3848]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1024x3848 : Shape := ⟨3, ![1, 1024, 3848]⟩
abbrev S1024x3848 : Shape := ⟨2, ![1024, 3848]⟩
abbrev S16384x3848 : Shape := ⟨2, ![16384, 3848]⟩
abbrev S16384x2048 : Shape := ⟨2, ![16384, 2048]⟩
abbrev S16384x1792 : Shape := ⟨2, ![16384, 1792]⟩
abbrev S16384x8 : Shape := ⟨2, ![16384, 8]⟩
abbrev S16384x128 : Shape := ⟨2, ![16384, 128]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024x3848, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S1x1024x3848, .f32⟩
  | .hbm, ⟨20, _⟩ => ⟨S1024x3848, .f32⟩
  | .hbm, ⟨21, _⟩ => ⟨S16384x3848, .f32⟩
  | .hbm, ⟨22, _⟩ => ⟨S16384x2048, .f32⟩
  | .hbm, ⟨23, _⟩ => ⟨S16384x1792, .f32⟩
  | .hbm, ⟨24, _⟩ => ⟨S16384x8, .f32⟩
  | .hbm, ⟨25, _⟩ => ⟨S_, .i32⟩
  | .hbm, ⟨26, _⟩ => ⟨S_, .f32⟩
  | .hbm, ⟨27, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== OddIn.lean ====
abbrev S16384x1024 : Shape := ⟨2, ![16384, 1024]⟩
abbrev S1024 : Shape := ⟨1, ![1024]⟩
abbrev S2x1024x4112 : Shape := ⟨3, ![2, 1024, 4112]⟩
abbrev S_ : Shape := ⟨0, ![]⟩
abbrev S2x1024x112 : Shape := ⟨3, ![2, 1024, 112]⟩
abbrev S2x1024x4224 : Shape := ⟨3, ![2, 1024, 4224]⟩
abbrev S1x1024 : Shape := ⟨2, ![1, 1024]⟩
abbrev S16384x3072 : Shape := ⟨2, ![16384, 3072]⟩
abbrev S16384x128 : Shape := ⟨2, ![16384, 128]⟩
abbrev S512x1024 : Shape := ⟨2, ![512, 1024]⟩
abbrev S1x1024x4224 : Shape := ⟨3, ![1, 1024, 4224]⟩
abbrev S512x3072 : Shape := ⟨2, ![512, 3072]⟩
abbrev S512x128 : Shape := ⟨2, ![512, 128]⟩
abbrev S512 : Shape := ⟨1, ![512]⟩
abbrev S512x1 : Shape := ⟨2, ![512, 1]⟩
abbrev S1x1024x3072 : Shape := ⟨3, ![1, 1024, 3072]⟩
abbrev S1024x3072 : Shape := ⟨2, ![1024, 3072]⟩
abbrev S1x1024x1024 : Shape := ⟨3, ![1, 1024, 1024]⟩
abbrev S1024x1024 : Shape := ⟨2, ![1024, 1024]⟩
abbrev S1x1024x128 : Shape := ⟨3, ![1, 1024, 128]⟩
abbrev S1024x128 : Shape := ⟨2, ![1024, 128]⟩

abbrev nBuf : Space → Nat
  | .hbm => 11
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024x4112, .f32⟩
  | .hbm, ⟨3, _⟩ => ⟨S_, .f32⟩
  | .hbm, ⟨4, _⟩ => ⟨S2x1024x112, .f32⟩
  | .hbm, ⟨5, _⟩ => ⟨S2x1024x4224, .f32⟩
  | .hbm, ⟨6, _⟩ => ⟨S2x1024x4224, .bf16⟩
  | .hbm, ⟨7, _⟩ => ⟨S1x1024, .f32⟩
  | .hbm, ⟨8, _⟩ => ⟨S16384x3072, .f32⟩
  | .hbm, ⟨9, _⟩ => ⟨S16384x1024, .f32⟩
  | .hbm, ⟨10, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x4224, .bf16⟩
  | .local _ .vmem, ⟨4, _⟩ => ⟨S512x3072, .f32⟩
  | .local _ .vmem, ⟨5, _⟩ => ⟨S512x3072, .f32⟩
  | .local _ .vmem, ⟨6, _⟩ => ⟨S512x1024, .f32⟩
  | .local _ .vmem, ⟨7, _⟩ => ⟨S512x1024, .f32⟩
  | .local _ .vmem, ⟨8, _⟩ => ⟨S512x128, .f32⟩
  | .local _ .vmem, ⟨9, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x4224 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OddInRefIdeal.lean ====
abbrev S16384x1024 : Shape := ⟨2, ![16384, 1024]⟩
abbrev S1024 : Shape := ⟨1, ![1024]⟩
abbrev S2x1024x4112 : Shape := ⟨3, ![2, 1024, 4112]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1024x4112 : Shape := ⟨3, ![1, 1024, 4112]⟩
abbrev S1024x4112 : Shape := ⟨2, ![1024, 4112]⟩
abbrev S16384x4112 : Shape := ⟨2, ![16384, 4112]⟩
abbrev S16384x3072 : Shape := ⟨2, ![16384, 3072]⟩
abbrev S16384x16 : Shape := ⟨2, ![16384, 16]⟩
abbrev S16384x128 : Shape := ⟨2, ![16384, 128]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024x4112, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S1x1024x4112, .f32⟩
  | .hbm, ⟨20, _⟩ => ⟨S1024x4112, .f32⟩
  | .hbm, ⟨21, _⟩ => ⟨S16384x4112, .f32⟩
  | .hbm, ⟨22, _⟩ => ⟨S16384x3072, .f32⟩
  | .hbm, ⟨23, _⟩ => ⟨S16384x1024, .f32⟩
  | .hbm, ⟨24, _⟩ => ⟨S16384x16, .f32⟩
  | .hbm, ⟨25, _⟩ => ⟨S_, .i32⟩
  | .hbm, ⟨26, _⟩ => ⟨S_, .f32⟩
  | .hbm, ⟨27, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== EvenOut.lean ====
abbrev S16384x512 : Shape := ⟨2, ![16384, 512]⟩
abbrev S16384x2048 : Shape := ⟨2, ![16384, 2048]⟩
abbrev S2x1024x1024 : Shape := ⟨3, ![2, 1024, 1024]⟩
abbrev S16384x1024 : Shape := ⟨2, ![16384, 1024]⟩
abbrev S512x512 : Shape := ⟨2, ![512, 512]⟩
abbrev S1x1024x1024 : Shape := ⟨3, ![1, 1024, 1024]⟩
abbrev S512x1024 : Shape := ⟨2, ![512, 1024]⟩
abbrev S1x512x1024 : Shape := ⟨3, ![1, 512, 1024]⟩

abbrev nBuf : Space → Nat
  | .hbm => 7
  | .vmem => 11
  | .smem => 0
  | _ => 0

abbrev bufTy : (tb : Table) → Fin (tcTables nBuf tb) → BufTy
  | .hbm, ⟨0, _⟩ => ⟨S16384x512, .f32⟩
  | .hbm, ⟨1, _⟩ => ⟨S16384x2048, .f32⟩
  | .hbm, ⟨2, _⟩ => ⟨S16384x512, .f32⟩
  | .hbm, ⟨3, _⟩ => ⟨S2x1024x1024, .f32⟩
  | .hbm, ⟨4, _⟩ => ⟨S16384x1024, .f32⟩
  | .hbm, ⟨5, _⟩ => ⟨S2x1024x1024, .bf16⟩
  | .hbm, ⟨6, _⟩ => ⟨S16384x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== EvenOutRefIdeal.lean ====
abbrev S16384x512 : Shape := ⟨2, ![16384, 512]⟩
abbrev S16384x2048 : Shape := ⟨2, ![16384, 2048]⟩
abbrev S2x1024x1024 : Shape := ⟨3, ![2, 1024, 1024]⟩
abbrev S16384x1024 : Shape := ⟨2, ![16384, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 20
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x2048, .f32⟩
  | .hbm, ⟨2, _⟩ => ⟨S16384x512, .f32⟩
  | .hbm, ⟨3, _⟩ => ⟨S2x1024x1024, .f32⟩
  | .hbm, ⟨4, _⟩ => ⟨S16384x1024, .f32⟩
  | .hbm, ⟨5, _⟩ => ⟨S16384x512, .f32⟩
  | .hbm, ⟨6, _⟩ => ⟨S16384x512, .f32⟩
  | .hbm, ⟨7, _⟩ => ⟨S16384x512, .f32⟩
  | .hbm, ⟨8, _⟩ => ⟨S_, .f32⟩
  | .hbm, ⟨9, _⟩ => ⟨S16384x512, .f32⟩
  | .hbm, ⟨10, _⟩ => ⟨S16384x512, .f32⟩
  | .hbm, ⟨11, _⟩ => ⟨S_, .f32⟩
  | .hbm, ⟨12, _⟩ => ⟨S16384x512, .f32⟩
  | .hbm, ⟨13, _⟩ => ⟨S16384x512, .f32⟩
  | .hbm, ⟨14, _⟩ => ⟨S16384x512, .f32⟩
  | .hbm, ⟨15, _⟩ => ⟨S16384x1024, .f32⟩
  | .hbm, ⟨16, _⟩ => ⟨S1x1024x1024, .f32⟩
  | .hbm, ⟨17, _⟩ => ⟨S1024x1024, .f32⟩
  | .hbm, ⟨18, _⟩ => ⟨S16384x1024, .f32⟩
  | .hbm, ⟨19, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== OddOut.lean ====
abbrev S16384x1024 : Shape := ⟨2, ![16384, 1024]⟩
abbrev S2x1024x1024 : Shape := ⟨3, ![2, 1024, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S2x1024x1024, .f32⟩
  | .hbm, ⟨2, _⟩ => ⟨S16384x1024, .f32⟩
  | .hbm, ⟨3, _⟩ => ⟨S2x1024x1024, .bf16⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OddOutRefIdeal.lean ====
abbrev S16384x1024 : Shape := ⟨2, ![16384, 1024]⟩
abbrev S2x1024x1024 : Shape := ⟨3, ![2, 1024, 1024]⟩
abbrev S1x1024x1024 : Shape := ⟨3, ![1, 1024, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024x1024, .f32⟩
  | .hbm, ⟨2, _⟩ => ⟨S16384x1024, .f32⟩
  | .hbm, ⟨3, _⟩ => ⟨S1x1024x1024, .f32⟩
  | .hbm, ⟨4, _⟩ => ⟨S1024x1024, .f32⟩
  | .hbm, ⟨5, _⟩ => ⟨S16384x1024, .f32⟩
  | .hbm, ⟨6, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FinalNorm.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KeyPrep.lean ====
abbrev S16384x2048 : Shape := ⟨2, ![16384, 2048]⟩
abbrev S16384x128 : Shape := ⟨2, ![16384, 128]⟩
abbrev S64 : Shape := ⟨1, ![64]⟩
abbrev S8 : Shape := ⟨1, ![8]⟩
abbrev S512x1024 : Shape := ⟨2, ![512, 1024]⟩
abbrev S_ : Shape := ⟨0, ![]⟩
abbrev S1024x512 : Shape := ⟨2, ![1024, 512]⟩
abbrev S3x128x1024 : Shape := ⟨3, ![3, 128, 1024]⟩
abbrev S1x1024 : Shape := ⟨2, ![1, 1024]⟩
abbrev S1024x1 : Shape := ⟨2, ![1024, 1]⟩
abbrev S512x512 : Shape := ⟨2, ![512, 512]⟩
abbrev S8x64 : Shape := ⟨2, ![8, 64]⟩
abbrev S512 : Shape := ⟨1, ![512]⟩
abbrev S512x1 : Shape := ⟨2, ![512, 1]⟩
abbrev S1x512 : Shape := ⟨2, ![1, 512]⟩
abbrev S0 : Shape := ⟨1, ![0]⟩
abbrev S120 : Shape := ⟨1, ![120]⟩
abbrev S128 : Shape := ⟨1, ![128]⟩
abbrev S1x128 : Shape := ⟨2, ![1, 128]⟩
abbrev S1x64 : Shape := ⟨2, ![1, 64]⟩
abbrev S16384x1024 : Shape := ⟨2, ![16384, 1024]⟩
abbrev S2x8x16x128x512 : Shape := ⟨5, ![2, 8, 16, 128, 512]⟩
abbrev S16384x512 : Shape := ⟨2, ![16384, 512]⟩
abbrev S512x128 : Shape := ⟨2, ![512, 128]⟩
abbrev S1x8x1x128x512 : Shape := ⟨5, ![1, 8, 1, 128, 512]⟩
abbrev S8x128 : Shape := ⟨2, ![8, 128]⟩
abbrev S1x128x1024 : Shape := ⟨3, ![1, 128, 1024]⟩
abbrev S128x1024 : Shape := ⟨2, ![128, 1024]⟩
abbrev S8x128x512 : Shape := ⟨3, ![8, 128, 512]⟩

abbrev nBuf : Space → Nat
  | .hbm => 125
  | .vmem => 31
  | .smem => 0
  | _ => 0

abbrev bufTy : (tb : Table) → Fin (tcTables nBuf tb) → BufTy
  | .hbm, ⟨0, _⟩ => ⟨S16384x2048, .f32⟩
  | .hbm, ⟨1, _⟩ => ⟨S16384x128, .f32⟩
  | .hbm, ⟨2, _⟩ => ⟨S64, .f32⟩
  | .hbm, ⟨3, _⟩ => ⟨S64, .f32⟩
  | .hbm, ⟨4, _⟩ => ⟨S8, .f32⟩
  | .hbm, ⟨5, _⟩ => ⟨S512x1024, .i32⟩
  | .hbm, ⟨6, _⟩ => ⟨S512x1024, .i32⟩
  | .hbm, ⟨7, _⟩ => ⟨S_, .i32⟩
  | .hbm, ⟨8, _⟩ => ⟨S512x1024, .i32⟩
  | .hbm, ⟨9, _⟩ => ⟨S512x1024, .i32⟩
  | .hbm, ⟨10, _⟩ => ⟨S_, .i32⟩
  | .hbm, ⟨11, _⟩ => ⟨S512x1024, .i32⟩
  | .hbm, ⟨12, _⟩ => ⟨S512x1024, .i32⟩
  | .hbm, ⟨13, _⟩ => ⟨S_, .i32⟩
  | .hbm, ⟨14, _⟩ => ⟨S512x1024, .i32⟩
  | .hbm, ⟨15, _⟩ => ⟨S512x1024, .i32⟩
  | .hbm, ⟨16, _⟩ => ⟨S512x1024, .i32⟩
  | .hbm, ⟨17, _⟩ => ⟨S512x1024, .i1⟩
  | .hbm, ⟨18, _⟩ => ⟨S1024x512, .i32⟩
  | .hbm, ⟨19, _⟩ => ⟨S1024x512, .i32⟩
  | .hbm, ⟨20, _⟩ => ⟨S_, .i32⟩
  | .hbm, ⟨21, _⟩ => ⟨S1024x512, .i32⟩
  | .hbm, ⟨22, _⟩ => ⟨S1024x512, .i32⟩
  | .hbm, ⟨23, _⟩ => ⟨S_, .i32⟩
  | .hbm, ⟨24, _⟩ => ⟨S1024x512, .i32⟩
  | .hbm, ⟨25, _⟩ => ⟨S1024x512, .i32⟩
  | .hbm, ⟨26, _⟩ => ⟨S_, .i32⟩
  | .hbm, ⟨27, _⟩ => ⟨S1024x512, .i32⟩
  | .hbm, ⟨28, _⟩ => ⟨S1024x512, .i32⟩
  | .hbm, ⟨29, _⟩ => ⟨S1024x512, .i32⟩
  | .hbm, ⟨30, _⟩ => ⟨S1024x512, .i1⟩
  | .hbm, ⟨31, _⟩ => ⟨S3x128x1024, .i32⟩
  | .hbm, ⟨32, _⟩ => ⟨S3x128x1024, .i32⟩
  | .hbm, ⟨33, _⟩ => ⟨S3x128x1024, .i32⟩
  | .hbm, ⟨34, _⟩ => ⟨S_, .i32⟩
  | .hbm, ⟨35, _⟩ => ⟨S3x128x1024, .i32⟩
  | .hbm, ⟨36, _⟩ => ⟨S3x128x1024, .i1⟩
  | .hbm, ⟨37, _⟩ => ⟨S_, .i32⟩
  | .hbm, ⟨38, _⟩ => ⟨S3x128x1024, .i32⟩
  | .hbm, ⟨39, _⟩ => ⟨S3x128x1024, .i32⟩
  | .hbm, ⟨40, _⟩ => ⟨S_, .i32⟩
  | .hbm, ⟨41, _⟩ => ⟨S3x128x1024, .i32⟩
  | .hbm, ⟨42, _⟩ => ⟨S3x128x1024, .i32⟩
  | .hbm, ⟨43, _⟩ => ⟨S3x128x1024, .i32⟩
  | .hbm, ⟨44, _⟩ => ⟨S3x128x1024, .i1⟩
  | .hbm, ⟨45, _⟩ => ⟨S3x128x1024, .i1⟩
  | .hbm, ⟨46, _⟩ => ⟨S_, .i32⟩
  | .hbm, ⟨47, _⟩ => ⟨S3x128x1024, .i32⟩
  | .hbm, ⟨48, _⟩ => ⟨S3x128x1024, .i1⟩
  | .hbm, ⟨49, _⟩ => ⟨S_, .i32⟩
  | .hbm, ⟨50, _⟩ => ⟨S3x128x1024, .i32⟩
  | .hbm, ⟨51, _⟩ => ⟨S3x128x1024, .i32⟩
  | .hbm, ⟨52, _⟩ => ⟨S_, .i32⟩
  | .hbm, ⟨53, _⟩ => ⟨S3x128x1024, .i32⟩
  | .hbm, ⟨54, _⟩ => ⟨S3x128x1024, .i32⟩
  | .hbm, ⟨55, _⟩ => ⟨S_, .i32⟩
  | .hbm, ⟨56, _⟩ => ⟨S3x128x1024, .i32⟩
  | .hbm, ⟨57, _⟩ => ⟨S3x128x1024, .i32⟩
  | .hbm, ⟨58, _⟩ => ⟨S3x128x1024, .i32⟩
  | .hbm, ⟨59, _⟩ => ⟨S3x128x1024, .i1⟩
  | .hbm, ⟨60, _⟩ => ⟨S3x128x1024, .i1⟩
  | .hbm, ⟨61, _⟩ => ⟨S1x1024, .i32⟩
  | .hbm, ⟨62, _⟩ => ⟨S_, .i32⟩
  | .hbm, ⟨63, _⟩ => ⟨S1x1024, .i32⟩
  | .hbm, ⟨64, _⟩ => ⟨S1x1024, .i32⟩
  | .hbm, ⟨65, _⟩ => ⟨S_, .i32⟩
  | .hbm, ⟨66, _⟩ => ⟨S1x1024, .i32⟩
  | .hbm, ⟨67, _⟩ => ⟨S1x1024, .i1⟩
  | .hbm, ⟨68, _⟩ => ⟨S_, .i32⟩
  | .hbm, ⟨69, _⟩ => ⟨S1x1024, .i32⟩
  | .hbm, ⟨70, _⟩ => ⟨S1x1024, .i1⟩
  | .hbm, ⟨71, _⟩ => ⟨S1x1024, .i1⟩
  | .hbm, ⟨72, _⟩ => ⟨S_, .i32⟩
  | .hbm, ⟨73, _⟩ => ⟨S1x1024, .i32⟩
  | .hbm, ⟨74, _⟩ => ⟨S1x1024, .i1⟩
  | .hbm, ⟨75, _⟩ => ⟨S_, .i32⟩
  | .hbm, ⟨76, _⟩ => ⟨S1x1024, .i32⟩
  | .hbm, ⟨77, _⟩ => ⟨S1x1024, .i1⟩
  | .hbm, ⟨78, _⟩ => ⟨S1x1024, .i1⟩
  | .hbm, ⟨79, _⟩ => ⟨S512x1024, .bf16⟩
  | .hbm, ⟨80, _⟩ => ⟨S1024x512, .bf16⟩
  | .hbm, ⟨81, _⟩ => ⟨S3x128x1024, .bf16⟩
  | .hbm, ⟨82, _⟩ => ⟨S3x128x1024, .bf16⟩
  | .hbm, ⟨83, _⟩ => ⟨S3x128x1024, .bf16⟩
  | .hbm, ⟨84, _⟩ => ⟨S1x1024, .f32⟩
  | .hbm, ⟨85, _⟩ => ⟨S1x1024, .f32⟩
  | .hbm, ⟨86, _⟩ => ⟨S1024x1, .i32⟩
  | .hbm, ⟨87, _⟩ => ⟨S_, .i32⟩
  | .hbm, ⟨88, _⟩ => ⟨S1024x1, .i32⟩
  | .hbm, ⟨89, _⟩ => ⟨S1024x1, .i32⟩
  | .hbm, ⟨90, _⟩ => ⟨S_, .i32⟩
  | .hbm, ⟨91, _⟩ => ⟨S1024x1, .i32⟩
  | .hbm, ⟨92, _⟩ => ⟨S1024x1, .i1⟩
  | .hbm, ⟨93, _⟩ => ⟨S1024x1, .f32⟩
  | .hbm, ⟨94, _⟩ => ⟨S512x512, .i32⟩
  | .hbm, ⟨95, _⟩ => ⟨S512x512, .i32⟩
  | .hbm, ⟨96, _⟩ => ⟨S512x512, .i1⟩
  | .hbm, ⟨97, _⟩ => ⟨S512x512, .bf16⟩
  | .hbm, ⟨98, _⟩ => ⟨S8x64, .i32⟩
  | .hbm, ⟨99, _⟩ => ⟨S512, .i32⟩
  | .hbm, ⟨100, _⟩ => ⟨S512x1, .i32⟩
  | .hbm, ⟨101, _⟩ => ⟨S1x512, .i32⟩
  | .hbm, ⟨102, _⟩ => ⟨S512x512, .i32⟩
  | .hbm, ⟨103, _⟩ => ⟨S512x512, .i32⟩
  | .hbm, ⟨104, _⟩ => ⟨S512x512, .i1⟩
  | .hbm, ⟨105, _⟩ => ⟨S512x512, .bf16⟩
  | .hbm, ⟨106, _⟩ => ⟨S_, .f32⟩
  | .hbm, ⟨107, _⟩ => ⟨S0, .f32⟩
  | .hbm, ⟨108, _⟩ => ⟨S_, .f32⟩
  | .hbm, ⟨109, _⟩ => ⟨S120, .f32⟩
  | .hbm, ⟨110, _⟩ => ⟨S128, .f32⟩
  | .hbm, ⟨111, _⟩ => ⟨S1x128, .f32⟩
  | .hbm, ⟨112, _⟩ => ⟨S1x64, .f32⟩
  | .hbm, ⟨113, _⟩ => ⟨S8x64, .f32⟩
  | .hbm, ⟨114, _⟩ => ⟨S512, .f32⟩
  | .hbm, ⟨115, _⟩ => ⟨S1x512, .f32⟩
  | .hbm, ⟨116, _⟩ => ⟨S1x64, .f32⟩
  | .hbm, ⟨117, _⟩ => ⟨S8x64, .f32⟩
  | .hbm, ⟨118, _⟩ => ⟨S512, .f32⟩
  | .hbm, ⟨119, _⟩ => ⟨S1x512, .f32⟩
  | .hbm, ⟨120, _⟩ => ⟨S16384x1024, .bf16⟩
  | .hbm, ⟨121, _⟩ => ⟨S16384x1024, .bf16⟩
  | .hbm, ⟨122, _⟩ => ⟨S2x8x16x128x512, .bf16⟩
  | .hbm, ⟨123, _⟩ => ⟨S16384x512, .f32⟩
  | .hbm, ⟨124, _⟩ => ⟨S16384x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x128, .f32⟩
  | .local _ .vmem, ⟨7, _⟩ => ⟨S512x128, .f32⟩
  | .local _ .vmem, ⟨8, _⟩ => ⟨S1x512, .f32⟩
  | .local _ .vmem, ⟨9, _⟩ => ⟨S1x512, .f32⟩
  | .local _ .vmem, ⟨10, _⟩ => ⟨S1x128, .f32⟩
  | .local _ .vmem, ⟨11, _⟩ => ⟨S512x1024, .bf16⟩
  | .local _ .vmem, ⟨12, _⟩ => ⟨S1024x512, .bf16⟩
  | .local _ .vmem, ⟨13, _⟩ => ⟨S3x128x1024, .bf16⟩
  | .local _ .vmem, ⟨14, _⟩ => ⟨S3x128x1024, .bf16⟩
  | .local _ .vmem, ⟨15, _⟩ => ⟨S1x1024, .f32⟩
  | .local _ .vmem, ⟨16, _⟩ => ⟨S1x1024, .f32⟩
  | .local _ .vmem, ⟨17, _⟩ => ⟨S1024x1, .f32⟩
  | .local _ .vmem, ⟨18, _⟩ => ⟨S512x512, .bf16⟩
  | .local _ .vmem, ⟨19, _⟩ => ⟨S512x512, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S1x8x1x128x512, .bf16⟩
  | .local _ .vmem, ⟨25, _⟩ => ⟨S1x8x1x128x512, .bf16⟩
  | .local _ .vmem, ⟨26, _⟩ => ⟨S512x512, .f32⟩
  | .local _ .vmem, ⟨27, _⟩ => ⟨S512x512, .f32⟩
  | .local _ .vmem, ⟨28, _⟩ => ⟨S512x128, .f32⟩
  | .local _ .vmem, ⟨29, _⟩ => ⟨S512x128, .f32⟩
  | .local _ .vmem, ⟨30, _⟩ => ⟨S8x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_5 : Ref sig .tc := ⟨.hbm, 34, rfl⟩
abbrev main_v23 : Ref sig .tc := ⟨.hbm, 35, rfl⟩
abbrev main_v24 : Ref sig .tc := ⟨.hbm, 36, rfl⟩
abbrev main_c_6 : Ref sig .tc := ⟨.hbm, 37, rfl⟩
abbrev main_v25 : Ref sig .tc := ⟨.hbm, 38, rfl⟩
abbrev main_v26 : Ref sig .tc := ⟨.hbm, 39, rfl⟩
abbrev main_c_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_8 : Ref sig .tc := ⟨.hbm, 46, rfl⟩
abbrev main_v32 : Ref sig .tc := ⟨.hbm, 47, rfl⟩
abbrev main_v33 : Ref sig .tc := ⟨.hbm, 48, rfl⟩
abbrev main_c_9 : Ref sig .tc := ⟨.hbm, 49, rfl⟩
abbrev main_v34 : Ref sig .tc := ⟨.hbm, 50, rfl⟩
abbrev main_v35 : Ref sig .tc := ⟨.hbm, 51, rfl⟩
abbrev main_c_10 : Ref sig .tc := ⟨.hbm, 52, rfl⟩
abbrev main_v36 : Ref sig .tc := ⟨.hbm, 53, rfl⟩
abbrev main_v37 : Ref sig .tc := ⟨.hbm, 54, rfl⟩
abbrev main_c_11 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_12 : Ref sig .tc := ⟨.hbm, 62, rfl⟩
abbrev main_v44 : Ref sig .tc := ⟨.hbm, 63, rfl⟩
abbrev main_v45 : Ref sig .tc := ⟨.hbm, 64, rfl⟩
abbrev main_c_13 : Ref sig .tc := ⟨.hbm, 65, rfl⟩
abbrev main_v46 : Ref sig .tc := ⟨.hbm, 66, rfl⟩
abbrev main_v47 : Ref sig .tc := ⟨.hbm, 67, rfl⟩
abbrev main_c_14 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_15 : Ref sig .tc := ⟨.hbm, 72, rfl⟩
abbrev main_v51 : Ref sig .tc := ⟨.hbm, 73, rfl⟩
abbrev main_v52 : Ref sig .tc := ⟨.hbm, 74, rfl⟩
abbrev main_c_16 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_17 : Ref sig .tc := ⟨.hbm, 87, rfl⟩
abbrev main_v64 : Ref sig .tc := ⟨.hbm, 88, rfl⟩
abbrev main_v65 : Ref sig .tc := ⟨.hbm, 89, rfl⟩
abbrev main_c_18 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst : Ref sig .tc := ⟨.hbm, 106, rfl⟩
abbrev main_v81 : Ref sig .tc := ⟨.hbm, 107, rfl⟩
abbrev main_cst_19 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93_0 : Ref sig .tc := ⟨.hbm, 120, rfl⟩
abbrev main_v93_1 : Ref sig .tc := ⟨.hbm, 121, rfl⟩
abbrev main_v93_2 : Ref sig .tc := ⟨.hbm, 122, rfl⟩
abbrev main_v93_3 : Ref sig .tc := ⟨.hbm, 123, rfl⟩
abbrev main_v93_4 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_19 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_20 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S512x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S512x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x8x1x128x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S512x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== KeyPrepRefIdeal.lean ====
abbrev S16384x2048 : Shape := ⟨2, ![16384, 2048]⟩
abbrev S16384x128 : Shape := ⟨2, ![16384, 128]⟩
abbrev S64 : Shape := ⟨1, ![64]⟩
abbrev S8 : Shape := ⟨1, ![8]⟩
abbrev S16384x512 : Shape := ⟨2, ![16384, 512]⟩
abbrev S16384x8x64 : Shape := ⟨3, ![16384, 8, 64]⟩
abbrev S_ : Shape := ⟨0, ![]⟩
abbrev S16384x8 : Shape := ⟨2, ![16384, 8]⟩
abbrev S16384x8x1 : Shape := ⟨3, ![16384, 8, 1]⟩
abbrev S1x1x64 : Shape := ⟨3, ![1, 1, 64]⟩
abbrev S128 : Shape := ⟨1, ![128]⟩
abbrev S1x128 : Shape := ⟨2, ![1, 128]⟩

abbrev nBuf : Space → Nat
  | .hbm => 46
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x128, .f32⟩
  | .hbm, ⟨2, _⟩ => ⟨S64, .f32⟩
  | .hbm, ⟨3, _⟩ => ⟨S64, .f32⟩
  | .hbm, ⟨4, _⟩ => ⟨S8, .f32⟩
  | .hbm, ⟨5, _⟩ => ⟨S16384x512, .f32⟩
  | .hbm, ⟨6, _⟩ => ⟨S16384x8x64, .f32⟩
  | .hbm, ⟨7, _⟩ => ⟨S16384x8x64, .f32⟩
  | .hbm, ⟨8, _⟩ => ⟨S_, .f32⟩
  | .hbm, ⟨9, _⟩ => ⟨S16384x8, .f32⟩
  | .hbm, ⟨10, _⟩ => ⟨S16384x8x1, .f32⟩
  | .hbm, ⟨11, _⟩ => ⟨S_, .f32⟩
  | .hbm, ⟨12, _⟩ => ⟨S16384x8x1, .f32⟩
  | .hbm, ⟨13, _⟩ => ⟨S16384x8x1, .f32⟩
  | .hbm, ⟨14, _⟩ => ⟨S_, .f32⟩
  | .hbm, ⟨15, _⟩ => ⟨S16384x8x1, .f32⟩
  | .hbm, ⟨16, _⟩ => ⟨S16384x8x1, .f32⟩
  | .hbm, ⟨17, _⟩ => ⟨S16384x8x1, .f32⟩
  | .hbm, ⟨18, _⟩ => ⟨S16384x8x64, .f32⟩
  | .hbm, ⟨19, _⟩ => ⟨S16384x8x64, .f32⟩
  | .hbm, ⟨20, _⟩ => ⟨S1x1x64, .f32⟩
  | .hbm, ⟨21, _⟩ => ⟨S16384x8x64, .f32⟩
  | .hbm, ⟨22, _⟩ => ⟨S16384x8x64, .f32⟩
  | .hbm, ⟨23, _⟩ => ⟨S16384x512, .f32⟩
  | .hbm, ⟨24, _⟩ => ⟨S_, .i32⟩
  | .hbm, ⟨25, _⟩ => ⟨S_, .f32⟩
  | .hbm, ⟨26, _⟩ => ⟨S128, .f32⟩
  | .hbm, ⟨27, _⟩ => ⟨S1x128, .f32⟩
  | .hbm, ⟨28, _⟩ => ⟨S16384x128, .f32⟩
  | .hbm, ⟨29, _⟩ => ⟨S16384x128, .f32⟩
  | .hbm, ⟨30, _⟩ => ⟨S16384x128, .f32⟩
  | .hbm, ⟨31, _⟩ => ⟨S_, .f32⟩
  | .hbm, ⟨32, _⟩ => ⟨S16384x128, .f32⟩
  | .hbm, ⟨33, _⟩ => ⟨S16384x128, .f32⟩
  | .hbm, ⟨34, _⟩ => ⟨S16384x128, .f32⟩
  | .hbm, ⟨35, _⟩ => ⟨S16384x128, .f32⟩
  | .hbm, ⟨36, _⟩ => ⟨S16384x128, .i1⟩
  | .hbm, ⟨37, _⟩ => ⟨S16384x128, .f32⟩
  | .hbm, ⟨38, _⟩ => ⟨S16384x128, .f32⟩
  | .hbm, ⟨39, _⟩ => ⟨S16384x128, .f32⟩
  | .hbm, ⟨40, _⟩ => ⟨S16384x128, .f32⟩
  | .hbm, ⟨41, _⟩ => ⟨S16384x128, .f32⟩
  | .hbm, ⟨42, _⟩ => ⟨S16384x128, .f32⟩
  | .hbm, ⟨43, _⟩ => ⟨S16384x128, .f32⟩
  | .hbm, ⟨44, _⟩ => ⟨S16384x128, .f32⟩
  | .hbm, ⟨45, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call1_v0 : Ref sig .tc := ⟨.hbm, 30, rfl⟩
abbrev main_call1_call0_cst : Ref sig .tc := ⟨.hbm, 31, rfl⟩
abbrev main_call1_call0_v0 : Ref sig .tc := ⟨.hbm, 32, rfl⟩
abbrev main_call1_call0_v1 : Ref sig .tc := ⟨.hbm, 33, rfl⟩
abbrev main_call1_call0_v2 : Ref sig .tc := ⟨.hbm, 34, rfl⟩
abbrev main_call1_call0_v3 : Ref sig .tc := ⟨.hbm, 35, rfl⟩
abbrev main_call1_call0_v4 : Ref sig .tc := ⟨.hbm, 36, rfl⟩
abbrev main_call1_call0_v5 : Ref sig .tc := ⟨.hbm, 37, rfl⟩
abbrev main_call1_call0_v6 : Ref sig .tc := ⟨.hbm, 38, rfl⟩
abbrev main_call1_call0_v7 : Ref sig .tc := ⟨.hbm, 39, rfl⟩
abbrev main_call1_call0_v8 : Ref sig .tc := ⟨.hbm, 40, rfl⟩
abbrev main_call1_call0_v9 : Ref sig .tc := ⟨.hbm, 41, rfl⟩
abbrev main_call1_call0_v10 : Ref sig .tc := ⟨.hbm, 42, rfl⟩
abbrev main_call1_call0_v11 : Ref sig .tc := ⟨.hbm, 43, rfl⟩
abbrev main_call1_v1 : Ref sig .tc := ⟨.hbm, 44, rfl⟩
abbrev main_v20 : Ref sig .tc := ⟨.hbm, 45, rfl⟩

abbrev nD : Nat := 1
abbrev τ : Topo := Topo.v7x

variable {F : FTy → Type} [FloatOps F]
-- ==== Proof.Ffn.Meaning.lean ====
module

public import proofs.«01_k».proof.Proof.Gen.FeedForwardIdeal
public import Idealize.ShloMosaic.Lib.IdealHost
public import Idealize.ShloMosaic.Lib.Pointwise

/-!
# The feed-forward layer, in formulas

Each row of the activations is normed and projected; the projected rows, with two rows before them, go through a convolution
of three taps down the sequence; the convolution's second half is the gate of its first half, and the gated columns are
projected back and added to the activations. The two results are this sum, and the last two projected rows of each sequence.
-/

@[expose] public section

set_option maxRecDepth 16384

noncomputable section

namespace Cert.FfnMath

open Cert.FeedForwardIdeal Idealize.ShloMosaic

/-- One over one plus the exponential of the negation, times the number: the sigmoid-weighted unit. -/
def silu (x : EReal) : EReal := x * Ideal.div 1 (1 + Ideal.exp (-x))

/-- Entry `l` of row `x`, over the root of the row's mean square, times weight `l`. -/
def normed (x g : Fin 1024 → EReal) (l : Fin 1024) : EReal :=
  x l * Ideal.rsqrt (Ideal.div (∑ k : Fin 1024, x k * x k) (Ideal.ofBits .f32 0x44800000#32) + Ideal.ofBits .f32 0x358637BD#32) * g l

/-- A row's normed entries against one column of the projection. -/
def project (x g w : Fin 1024 → EReal) : EReal := ∑ l : Fin 1024, normed x g l * w l

/-- Three taps of a column, and its bias. -/
def taps (r0 r1 r2 c0 c1 c2 b : EReal) : EReal := r0 * c0 + r1 * c1 + r2 * c2 + b

variable (X : Vec Ideal S16384x1024 .f32) (g : Vec Ideal S1024 .f32) (W : Vec Ideal S4x1024x5632 .f32)
  (cw : Vec Ideal S3x5632 .f32) (cb : Vec Ideal S5632 .f32) (D : Vec Ideal S4x2816x1024 .f32) (P : Vec Ideal S2x2x5632 .f32)

/-- Row `a` of the activations. -/
def row (a : ℕ) (l : Fin 1024) : EReal := X (ix2 ⟨a % 16384, Nat.mod_lt _ (by decide)⟩ l)

/-- Row `a`'s projection to column `e`. -/
def proj (a : ℕ) (e : Fin 5632) : EReal := project (row X a) (fun l => g (ix1 l)) fun l => W (ix3 0 l e)

/-- Place `s` of sequence `b`, the two rows before it counted. -/
def place (b s : ℕ) (e : Fin 5632) : EReal :=
  if s < 2 then P (ix3 ⟨b % 2, Nat.mod_lt _ (by decide)⟩ ⟨s % 2, Nat.mod_lt _ (by decide)⟩ e) else proj X g W (8192 * b + (s - 2)) e

/-- The convolution at row `i` of sequence `b`. -/
def conv (b i : ℕ) (e : Fin 5632) : EReal :=
  taps (place X g W P b i e) (place X g W P b (i + 1) e) (place X g W P b (i + 2) e)
    (cw (ix2 0 e)) (cw (ix2 1 e)) (cw (ix2 2 e)) (cb (ix1 e))

/-- The gated column `k` at row `i` of sequence `b`. -/
def gated (b i : ℕ) (k : Fin 2816) : EReal :=
  silu (conv X g W cw cb P b i ⟨2816 + k.val, by omega⟩) * conv X g W cw cb P b i ⟨k.val, by omega⟩

/-- The layer's output. -/
def output : Vec Ideal S16384x1024 .f32 := fun y =>
  X y + ∑ k : Fin 2816, gated X g W cw cb P ((y 0).val / 8192) ((y 0).val % 8192) k * D (ix3 0 k (y 1))

/-- An entry of the output. -/
theorem output_at (a : Fin 16384) (d : Fin 1024) : output X g W cw cb D P (ix2 a d)
    = X (ix2 a d) + ∑ k : Fin 2816, gated X g W cw cb P (a.val / 8192) (a.val % 8192) k * D (ix3 0 k d) := rfl

/-- The last two projected rows of each sequence. -/
def last : Vec Ideal S2x2x5632 .f32 := fun y => proj X g W (8192 * (y 0).val + (8190 + (y 1).val)) (y 2)

/-- An entry of the last projected rows. -/
theorem last_at (b j : Fin 2) (e : Fin 5632) : last X g W (ix3 b j e) = proj X g W (8192 * b.val + (8190 + j.val)) e := rfl

end Cert.FfnMath

end
-- ==== Proof.Proj.EvenIn.lean ====
module

public import proofs.«01_k».proof.Proof.Gen.EvenInIdeal.Value
public import proofs.«01_k».proof.Proof.Ffn.Meaning
public import Idealize.ShloMosaic.Lib.IdealHost
public import Idealize.ShloMosaic.Lib.Pointwise
public import Idealize.ShloMosaic.Lib.Pipeline.ValueKit.Basic

/-!
# The input projection of the even layers

Each row of the activations is normed and projected. The call reads the projection's columns in an order of its own, with columns
of zeros behind them, and writes three parts; what a point writes is its block of each part, and the blocks cover the results.
-/

@[expose] public section

set_option maxRecDepth 16384

noncomputable section

namespace Cert.EvenInIdeal.Proj

open Cert.EvenInIdeal Cert.EvenInIdeal.Gen Idealize.ShloMosaic Idealize.ShloMosaic.TcCoe Idealize.SL.Sem
open Idealize.ShloMosaic.Pipeline (Dat)
open Cert.FfnMath

/-! ## The formula -/

/-- Row `a` normed, against column `e` of the projection. -/
def column (X : Vec Ideal S16384x1024 .f32) (g : Vec Ideal S1024 .f32) (W : Vec Ideal S2x1024x3848 .f32) (a : Fin 16384) (e : Fin 3848) : EReal :=
  project (fun k => X (ix2 a k)) (fun k => g (ix1 k)) fun l => W (ix3 0 l e)

/-- An entry of attention's columns. -/
def foxEntry (X : Vec Ideal S16384x1024 .f32) (g : Vec Ideal S1024 .f32) (W : Vec Ideal S2x1024x3848 .f32) (a : Fin 16384) (e : Fin 2048) : EReal :=
  column X g W a ⟨e.val, by omega⟩

/-- Attention's columns. -/
def fox (X : Vec Ideal S16384x1024 .f32) (g : Vec Ideal S1024 .f32) (W : Vec Ideal S2x1024x3848 .f32) : Vec Ideal S16384x2048 .f32 := fun y =>
  foxEntry X g W (y 0) (y 1)

/-- An entry of the second branch's columns. -/
def rwkvEntry (X : Vec Ideal S16384x1024 .f32) (g : Vec Ideal S1024 .f32) (W : Vec Ideal S2x1024x3848 .f32) (a : Fin 16384) (e : Fin 1792) : EReal :=
  column X g W a ⟨2056 + e.val, by omega⟩

/-- The second branch's columns. -/
def rwkv (X : Vec Ideal S16384x1024 .f32) (g : Vec Ideal S1024 .f32) (W : Vec Ideal S2x1024x3848 .f32) : Vec Ideal S16384x1792 .f32 := fun y =>
  rwkvEntry X g W (y 0) (y 1)

/-- An entry of the forget gates' columns. -/
def forgetEntry (X : Vec Ideal S16384x1024 .f32) (g : Vec Ideal S1024 .f32) (W : Vec Ideal S2x1024x3848 .f32) (a : Fin 16384) (e : Fin 128) : EReal :=
  if h : e.val < 8 then column X g W a ⟨2048 + e.val, by omega⟩ else 0

/-- The forget gates' columns. -/
def forget (X : Vec Ideal S16384x1024 .f32) (g : Vec Ideal S1024 .f32) (W : Vec Ideal S2x1024x3848 .f32) : Vec Ideal S16384x128 .f32 := fun y =>
  forgetEntry X g W (y 0) (y 1)

/-! ## The windows' places -/

/-- The block of activations of a point: its number. -/
theorem place_0 : ∀ t : Fin grid0.N, win0_0.index t 0 = t.val ∧ win0_0.index t 1 = 0 := by decide +kernel
/-- The norm's weights are one block. -/
theorem place_1 : ∀ t : Fin grid0.N, win0_1.index t 0 = 0 ∧ win0_1.index t 1 = 0 := by decide +kernel
/-- The projection used is the stack's first. -/
theorem place_2 : ∀ t : Fin grid0.N, win0_2.index t 0 = 0 ∧ win0_2.index t 1 = 0 ∧ win0_2.index t 2 = 0 := by decide +kernel
/-- A point's block of attention's columns: its number. -/
theorem place_3 : ∀ t : Fin grid0.N, win0_3.index t 0 = t.val ∧ win0_3.index t 1 = 0 := by decide +kernel
/-- A point's block of the second branch's columns: its number. -/
theorem place_4 : ∀ t : Fin grid0.N, win0_4.index t 0 = t.val ∧ win0_4.index t 1 = 0 := by decide +kernel
/-- A point's block of the forget gates' columns: its number. -/
theorem place_5 : ∀ t : Fin grid0.N, win0_5.index t 0 = t.val ∧ win0_5.index t 1 = 0 := by decide +kernel

variable (m : (ℓ : Loc nD τ sig) → Buf (Elt Ideal) ℓ) (ρ : Dev nD → PrngReg) (c : Dev nD) (t : Fin cfg0.N)

/-- The activations. -/
abbrev aX : Vec Ideal S16384x1024 .f32 := m ((c : Thread nD τ).loc main_arg0)
/-- The norm's weights. -/
abbrev aG : Vec Ideal S1024 .f32 := m ((c : Thread nD τ).loc main_arg1)
/-- The stack of projections. -/
abbrev aW : Vec Ideal S2x1024x3848 .f32 := m ((c : Thread nD τ).loc main_arg2)

/-- A point's number is below 32. -/
theorem t_lt : t.val < 32 := Nat.lt_of_lt_of_eq t.isLt N_0

/-- Row `r` of a point's block, in the array. -/
def rowOf (r : Fin 512) : Fin 16384 := ⟨512 * t.val + r.val, by have := t_lt t; omega⟩

/-! ## What the host prepares -/

/-- The projection's columns in the call's order, columns of zeros behind them. -/
def wide (W : Vec Ideal S2x1024x3848 .f32) : Vec Ideal S2x1024x3968 .f32 :=
  concatenate S2x1024x3968 2 [⟨S2x1024x2048, extractStridedSlice S2x1024x2048 ![0, 0, 0] W slices_S2x1024x3848_S2x1024x2048_0_0_0⟩,
    ⟨S2x1024x1792, extractStridedSlice S2x1024x1792 ![0, 0, 2056] W slices_S2x1024x3848_S2x1024x1792_0_0_2056⟩,
    ⟨S2x1024x8, extractStridedSlice S2x1024x8 ![0, 0, 2048] W slices_S2x1024x3848_S2x1024x8_0_0_2048⟩,
    ⟨S2x1024x120, broadcastInDim S2x1024x120 ![] bcast_S_S2x1024x120 (constant (F := Ideal) S_ .f32 0x00000000#32 : Vec Ideal S_ .f32)⟩] concatenates_S2x1024x2048_S2x1024x1792_S2x1024x8_S2x1024x120_S2x1024x3968_d2

/-- The narrowed weights the call reads. -/
theorem V_w : (V m c main_v5 : Vec Ideal S2x1024x3968 .bf16) = wide (aW m c) := by
  show StableHlo.after hostOps0 (fun b => m (c, b)) main_v5 = _
  simp only [hostOps0]
  after_results_simp
  rfl

/-- A column of the call's order in attention's columns. -/
theorem wide_fox (W : Vec Ideal S2x1024x3848 .f32) (l : Fin 1024) (e : Fin 2048) :
    wide W (ix3 0 l ⟨e.val, by omega⟩) = W (ix3 0 l ⟨e.val, by omega⟩) := by
  unfold wide
  pointwise

/-- A column of the call's order in the second branch's columns. -/
theorem wide_rwkv (W : Vec Ideal S2x1024x3848 .f32) (l : Fin 1024) (e : Fin 1792) :
    wide W (ix3 0 l ⟨2048 + e.val, by omega⟩) = W (ix3 0 l ⟨2056 + e.val, by omega⟩) := by
  unfold wide
  pointwise

/-- A column of the call's order in the forget gates' columns. -/
theorem wide_forget (W : Vec Ideal S2x1024x3848 .f32) (l : Fin 1024) (e : Fin 8) :
    wide W (ix3 0 l ⟨3840 + e.val, by omega⟩) = W (ix3 0 l ⟨2048 + e.val, by omega⟩) := by
  unfold wide
  pointwise
  rw [dif_neg (by omega), dif_neg (by omega), dif_pos (by omega)]
  exact congrArg (fun k => W (ix3 0 l k)) (Fin.ext (by show 2048 + (3840 + e.val - 2048 - 1792) = 2048 + e.val; omega))

/-- A column behind the projection's is zeros. -/
theorem wide_zero (W : Vec Ideal S2x1024x3848 .f32) (l : Fin 1024) (e : Fin 128) (h : ¬ e.val < 8) : wide W (ix3 0 l ⟨3840 + e.val, by omega⟩) = 0 := by
  unfold wide
  pointwise
  rw [dif_neg (by omega), dif_neg (by omega), dif_neg (by omega)]

/-! ## What a point reads -/

/-- An entry of the activations a point reads. -/
theorem ld_0 (r : Fin 512) (l : Fin 1024) : View.ld (iblk m c 0 t : Vec Ideal S512x1024 .f32) r0_0 (ix2 r l) = aX m c (ix2 (rowOf t r) l) := by
  have hp := place_0 t
  unfold iblk
  show (V m c main_arg0 : Vec Ideal S16384x1024 .f32) _ = aX m c _
  rw [V_main_arg0]
  congr 1
  funext ax
  apply Fin.ext
  match ax with
  | ⟨0, _⟩ => show win0_0.index t 0 * 512 + 1 * (0 + 1 * r.val) = 512 * t.val + r.val; rw [hp.1]; omega
  | ⟨1, _⟩ => show win0_0.index t 1 * 1024 + 1 * (0 + 1 * l.val) = l.val; rw [hp.2]; omega

/-- The norm's weights as one row. -/
theorem V_g : (V m c main_v6 : Vec Ideal S1x1024 .f32) = shapeCast S1x1024 (aG m c) shapeCasts_S1024_S1x1024 := by
  show StableHlo.after hostOps0 (fun b => m (c, b)) main_v6 = _
  simp only [hostOps0]
  after_results_simp
  rfl

/-- A weight of the norm that a point reads. -/
theorem ld_1 (l : Fin 1024) : View.ld (iblk m c 1 t : Vec Ideal S1x1024 .f32) r0_1 (ix2 0 l) = aG m c (ix1 l) := by
  have hp := place_1 t
  unfold iblk
  have e : shapeCast S1x1024 (aG m c) shapeCasts_S1024_S1x1024 (ix2 0 l) = aG m c (ix1 l) := by pointwise
  rw [← e, ← V_g]
  show (V m c main_v6 : Vec Ideal S1x1024 .f32) _ = V m c main_v6 _
  congr 1
  funext ax
  apply Fin.ext
  match ax with
  | ⟨0, _⟩ => show win0_1.index t 0 * 1 + 1 * (0 + 1 * 0) = 0; rw [hp.1]
  | ⟨1, _⟩ => show win0_1.index t 1 * 1024 + 1 * (0 + 1 * l.val) = l.val; rw [hp.2]; omega

/-- A weight that a point reads for attention's columns. -/
theorem ld_fox (l : Fin 1024) (e : Fin 2048) : View.ld (iblk m c 2 t : Vec Ideal S1x1024x3968 .bf16) r0_2 (ix3 0 l e) = wide (aW m c) (ix3 0 l ⟨e.val, by omega⟩) := by
  have hp := place_2 t
  unfold iblk
  rw [← V_w]
  show (V m c main_v5 : Vec Ideal S2x1024x3968 .bf16) _ = V m c main_v5 _
  congr 1
  funext ax
  apply Fin.ext
  match ax with
  | ⟨0, _⟩ => show win0_2.index t 0 * 1 + 1 * (0 + 1 * 0) = 0; rw [hp.1]
  | ⟨1, _⟩ => show win0_2.index t 1 * 1024 + 1 * (0 + 1 * l.val) = l.val; rw [hp.2.1]; omega
  | ⟨2, _⟩ => show win0_2.index t 2 * 3968 + 1 * (0 + 1 * e.val) = e.val; rw [hp.2.2]; omega

/-- A weight that a point reads for the second branch's columns. -/
theorem ld_rwkv (l : Fin 1024) (e : Fin 1792) : View.ld (iblk m c 2 t : Vec Ideal S1x1024x3968 .bf16) r0_4 (ix3 0 l e) = wide (aW m c) (ix3 0 l ⟨2048 + e.val, by omega⟩) := by
  have hp := place_2 t
  unfold iblk
  rw [← V_w]
  show (V m c main_v5 : Vec Ideal S2x1024x3968 .bf16) _ = V m c main_v5 _
  congr 1
  funext ax
  apply Fin.ext
  match ax with
  | ⟨0, _⟩ => show win0_2.index t 0 * 1 + 1 * (0 + 1 * 0) = 0; rw [hp.1]
  | ⟨1, _⟩ => show win0_2.index t 1 * 1024 + 1 * (0 + 1 * l.val) = l.val; rw [hp.2.1]; omega
  | ⟨2, _⟩ => show win0_2.index t 2 * 3968 + 1 * (2048 + 1 * e.val) = 2048 + e.val; rw [hp.2.2]; omega

/-- A weight that a point reads for the forget gates' columns. -/
theorem ld_forget (l : Fin 1024) (e : Fin 128) : View.ld (iblk m c 2 t : Vec Ideal S1x1024x3968 .bf16) r0_6 (ix3 0 l e) = wide (aW m c) (ix3 0 l ⟨3840 + e.val, by omega⟩) := by
  have hp := place_2 t
  unfold iblk
  rw [← V_w]
  show (V m c main_v5 : Vec Ideal S2x1024x3968 .bf16) _ = V m c main_v5 _
  congr 1
  funext ax
  apply Fin.ext
  match ax with
  | ⟨0, _⟩ => show win0_2.index t 0 * 1 + 1 * (0 + 1 * 0) = 0; rw [hp.1]
  | ⟨1, _⟩ => show win0_2.index t 1 * 1024 + 1 * (0 + 1 * l.val) = l.val; rw [hp.2.1]; omega
  | ⟨2, _⟩ => show win0_2.index t 2 * 3968 + 1 * (3840 + 1 * e.val) = 3840 + e.val; rw [hp.2.2]; omega

/-! ## What a point writes -/

/-- A normed entry of a block. -/
theorem normed_at (x : Vec Ideal S512x1024 .f32) (g : Vec Ideal S1x1024 .f32) (r : Fin 512) (l : Fin 1024) :
    k0_pay1 x g (ix2 r l) = normed (fun k => x (ix2 r k)) (fun k => g (ix2 0 k)) l := by
  unfold k0_pay1 normed
  pointwise

/-- An entry of a block's normed rows against a part of the columns. -/
theorem pay_3_at (x : Vec Ideal S512x1024 .f32) (g : Vec Ideal S1x1024 .f32) (w : Vec Ideal S1x1024x2048 .bf16) (r : Fin 512) (e : Fin 2048) :
    k0_pay2 x g w (ix2 r e) = project (fun k => x (ix2 r k)) (fun k => g (ix2 0 k)) fun l => w (ix3 0 l e) := by
  unfold project
  have h : k0_pay2 x g w (ix2 r e) = ∑ l : Fin 1024, k0_pay1 x g (ix2 r l) * w (ix3 0 l e) := by
    unfold k0_pay2
    generalize k0_pay1 x g = n
    pointwise
  rw [h]
  exact Finset.sum_congr rfl fun l _ => by rw [normed_at]

/-- An entry of what a point writes, the weights in the call's order. -/
theorem raw_3_at (r : Fin 512) (e : Fin 2048) : out0_3 (iblk m c 0 t) (iblk m c 1 t) (iblk m c 2 t) (ix2 r e)
    = project (fun k => aX m c (ix2 (rowOf t r) k)) (fun k => aG m c (ix1 k)) fun l => wide (aW m c) (ix3 0 l ⟨e.val, by omega⟩) := by
  unfold out0_3
  rw [View.canon_cons_unit_lit inb_S512x2048_S512x2048_0_0 _ [] (by decide), pay_3_at]
  congr 1
  · exact funext fun k => ld_0 m c t r k
  · exact funext fun k => ld_1 m c t k
  · exact funext fun k => ld_fox m c t k e

/-- An entry of what a point writes. -/
theorem out_3_at (r : Fin 512) (e : Fin 2048) : out0_3 (iblk m c 0 t) (iblk m c 1 t) (iblk m c 2 t) (ix2 r e) = fox (aX m c) (aG m c) (aW m c) (ix2 (rowOf t r) e) := by
  refine (raw_3_at m c t r e).trans ?_
  show _ = foxEntry (aX m c) (aG m c) (aW m c) (rowOf t r) e
  unfold foxEntry column
  congr 1
  exact funext fun l => wide_fox (aW m c) l e

/-- An entry of a block's normed rows against a part of the columns. -/
theorem pay_4_at (x : Vec Ideal S512x1024 .f32) (g : Vec Ideal S1x1024 .f32) (w : Vec Ideal S1x1024x1792 .bf16) (r : Fin 512) (e : Fin 1792) :
    k0_pay3 x g w (ix2 r e) = project (fun k => x (ix2 r k)) (fun k => g (ix2 0 k)) fun l => w (ix3 0 l e) := by
  unfold project
  have h : k0_pay3 x g w (ix2 r e) = ∑ l : Fin 1024, k0_pay1 x g (ix2 r l) * w (ix3 0 l e) := by
    unfold k0_pay3
    generalize k0_pay1 x g = n
    pointwise
  rw [h]
  exact Finset.sum_congr rfl fun l _ => by rw [normed_at]

/-- An entry of what a point writes, the weights in the call's order. -/
theorem raw_4_at (r : Fin 512) (e : Fin 1792) : out0_4 (iblk m c 0 t) (iblk m c 1 t) (iblk m c 2 t) (ix2 r e)
    = project (fun k => aX m c (ix2 (rowOf t r) k)) (fun k => aG m c (ix1 k)) fun l => wide (aW m c) (ix3 0 l ⟨2048 + e.val, by omega⟩) := by
  unfold out0_4
  rw [View.canon_cons_unit_lit inb_S512x1792_S512x1792_0_0 _ [] (by decide), pay_4_at]
  congr 1
  · exact funext fun k => ld_0 m c t r k
  · exact funext fun k => ld_1 m c t k
  · exact funext fun k => ld_rwkv m c t k e

/-- An entry of what a point writes. -/
theorem out_4_at (r : Fin 512) (e : Fin 1792) : out0_4 (iblk m c 0 t) (iblk m c 1 t) (iblk m c 2 t) (ix2 r e) = rwkv (aX m c) (aG m c) (aW m c) (ix2 (rowOf t r) e) := by
  refine (raw_4_at m c t r e).trans ?_
  show _ = rwkvEntry (aX m c) (aG m c) (aW m c) (rowOf t r) e
  unfold rwkvEntry column
  congr 1
  exact funext fun l => wide_rwkv (aW m c) l e

/-- An entry of a block's normed rows against a part of the columns. -/
theorem pay_5_at (x : Vec Ideal S512x1024 .f32) (g : Vec Ideal S1x1024 .f32) (w : Vec Ideal S1x1024x128 .bf16) (r : Fin 512) (e : Fin 128) :
    k0_pay4 x g w (ix2 r e) = project (fun k => x (ix2 r k)) (fun k => g (ix2 0 k)) fun l => w (ix3 0 l e) := by
  unfold project
  have h : k0_pay4 x g w (ix2 r e) = ∑ l : Fin 1024, k0_pay1 x g (ix2 r l) * w (ix3 0 l e) := by
    unfold k0_pay4
    generalize k0_pay1 x g = n
    pointwise
  rw [h]
  exact Finset.sum_congr rfl fun l _ => by rw [normed_at]

/-- An entry of what a point writes, the weights in the call's order. -/
theorem raw_5_at (r : Fin 512) (e : Fin 128) : out0_5 (iblk m c 0 t) (iblk m c 1 t) (iblk m c 2 t) (ix2 r e)
    = project (fun k => aX m c (ix2 (rowOf t r) k)) (fun k => aG m c (ix1 k)) fun l => wide (aW m c) (ix3 0 l ⟨3840 + e.val, by omega⟩) := by
  unfold out0_5
  rw [View.canon_cons_unit_lit inb_S512x128_S512x128_0_0 _ [] (by decide), pay_5_at]
  congr 1
  · exact funext fun k => ld_0 m c t r k
  · exact funext fun k => ld_1 m c t k
  · exact funext fun k => ld_forget m c t k e

/-- An entry of what a point writes. -/
theorem out_5_at (r : Fin 512) (e : Fin 128) : out0_5 (iblk m c 0 t) (iblk m c 1 t) (iblk m c 2 t) (ix2 r e) = forget (aX m c) (aG m c) (aW m c) (ix2 (rowOf t r) e) := by
  refine (raw_5_at m c t r e).trans ?_
  show _ = forgetEntry (aX m c) (aG m c) (aW m c) (rowOf t r) e
  unfold forgetEntry column
  split
  · next h =>
    congr 1
    exact funext fun l => wide_forget (aW m c) l ⟨e.val, h⟩
  · next h =>
    unfold project
    exact Finset.sum_eq_zero fun l _ => by show _ * wide (aW m c) _ = 0; rw [wide_zero (aW m c) l e h, mul_zero]

/-- A point's write-back is its block of attention's columns. -/
theorem flushed_3 : (dats m 0 c).flushed 3 t = ((cfg0.win 3).blk t).view.read (Elt Ideal) (fox (aX m c) (aG m c) (aW m c)) := by
  show (cfg0.win 3).cut (grid0.coords t) ((dats m 0 c).after 3 t) = _
  rw [after0_3]
  have hp := place_3 t
  funext y
  change S512x2048.Idx at y
  idx_vars y
  refine (out_3_at m c t y0 y1).trans ?_
  show fox _ _ _ _ = fox _ _ _ _
  congr 1
  funext ax
  apply Fin.ext
  match ax with
  | ⟨0, _⟩ => show 512 * t.val + y0.val = win0_3.index t 0 * 512 + 1 * y0.val; rw [hp.1]; omega
  | ⟨1, _⟩ => show y1.val = win0_3.index t 1 * 2048 + 1 * y1.val; rw [hp.2]; omega

/-- The blocks cover attention's columns. -/
theorem cover_3 (y : S16384x2048.Idx) : ∃ t : Fin cfg0.N, (cfg0.win 3).flush t = true ∧ y ∈ ((cfg0.win 3).blk t).view.set := by
  have h0 : (y 0).val < 16384 := (y 0).isLt
  have h1 : (y 1).val < 2048 := (y 1).isLt
  let t : Fin grid0.N := ⟨(y 0).val / 512, Nat.lt_of_lt_of_eq (by omega) N_0.symm⟩
  have hp := place_3 t
  have ht : t.val = (y 0).val / 512 := rfl
  refine ⟨t, flush0_3 t, ?_⟩
  show y ∈ ((View.whole main_v7_0).slice (win0_3.rect t)).set
  rw [View.set_slice_whole, Rect.mem_set_unit]
  intro a
  match a with
  | ⟨0, _⟩ =>
    show win0_3.index t 0 * 512 ≤ (y 0).val ∧ (y 0).val < win0_3.index t 0 * 512 + 512
    rw [hp.1, ht]; omega
  | ⟨1, _⟩ =>
    show win0_3.index t 1 * 2048 ≤ (y 1).val ∧ (y 1).val < win0_3.index t 1 * 2048 + 2048
    rw [hp.2]; omega

/-- The result array is attention's columns. -/
theorem arr_3 : (dats m 0 c).arrAt 3 cfg0.N = fox (aX m c) (aG m c) (aW m c) :=
  (dats m 0 c).arrAt_eq_of_cover 3 (fox (aX m c) (aG m c) (aW m c)) (fun t _ => flushed_3 m c t) cover_3

/-- A point's write-back is its block of the second branch's columns. -/
theorem flushed_4 : (dats m 0 c).flushed 4 t = ((cfg0.win 4).blk t).view.read (Elt Ideal) (rwkv (aX m c) (aG m c) (aW m c)) := by
  show (cfg0.win 4).cut (grid0.coords t) ((dats m 0 c).after 4 t) = _
  rw [after0_4]
  have hp := place_4 t
  funext y
  change S512x1792.Idx at y
  idx_vars y
  refine (out_4_at m c t y0 y1).trans ?_
  show rwkv _ _ _ _ = rwkv _ _ _ _
  congr 1
  funext ax
  apply Fin.ext
  match ax with
  | ⟨0, _⟩ => show 512 * t.val + y0.val = win0_4.index t 0 * 512 + 1 * y0.val; rw [hp.1]; omega
  | ⟨1, _⟩ => show y1.val = win0_4.index t 1 * 1792 + 1 * y1.val; rw [hp.2]; omega

/-- The blocks cover the second branch's columns. -/
theorem cover_4 (y : S16384x1792.Idx) : ∃ t : Fin cfg0.N, (cfg0.win 4).flush t = true ∧ y ∈ ((cfg0.win 4).blk t).view.set := by
  have h0 : (y 0).val < 16384 := (y 0).isLt
  have h1 : (y 1).val < 1792 := (y 1).isLt
  let t : Fin grid0.N := ⟨(y 0).val / 512, Nat.lt_of_lt_of_eq (by omega) N_0.symm⟩
  have hp := place_4 t
  have ht : t.val = (y 0).val / 512 := rfl
  refine ⟨t, flush0_4 t, ?_⟩
  show y ∈ ((View.whole main_v7_1).slice (win0_4.rect t)).set
  rw [View.set_slice_whole, Rect.mem_set_unit]
  intro a
  match a with
  | ⟨0, _⟩ =>
    show win0_4.index t 0 * 512 ≤ (y 0).val ∧ (y 0).val < win0_4.index t 0 * 512 + 512
    rw [hp.1, ht]; omega
  | ⟨1, _⟩ =>
    show win0_4.index t 1 * 1792 ≤ (y 1).val ∧ (y 1).val < win0_4.index t 1 * 1792 + 1792
    rw [hp.2]; omega

/-- The result array is the second branch's columns. -/
theorem arr_4 : (dats m 0 c).arrAt 4 cfg0.N = rwkv (aX m c) (aG m c) (aW m c) :=
  (dats m 0 c).arrAt_eq_of_cover 4 (rwkv (aX m c) (aG m c) (aW m c)) (fun t _ => flushed_4 m c t) cover_4

/-- A point's write-back is its block of the forget gates' columns. -/
theorem flushed_5 : (dats m 0 c).flushed 5 t = ((cfg0.win 5).blk t).view.read (Elt Ideal) (forget (aX m c) (aG m c) (aW m c)) := by
  show (cfg0.win 5).cut (grid0.coords t) ((dats m 0 c).after 5 t) = _
  rw [after0_5]
  have hp := place_5 t
  funext y
  change S512x128.Idx at y
  idx_vars y
  refine (out_5_at m c t y0 y1).trans ?_
  show forget _ _ _ _ = forget _ _ _ _
  congr 1
  funext ax
  apply Fin.ext
  match ax with
  | ⟨0, _⟩ => show 512 * t.val + y0.val = win0_5.index t 0 * 512 + 1 * y0.val; rw [hp.1]; omega
  | ⟨1, _⟩ => show y1.val = win0_5.index t 1 * 128 + 1 * y1.val; rw [hp.2]; omega

/-- The blocks cover the forget gates' columns. -/
theorem cover_5 (y : S16384x128.Idx) : ∃ t : Fin cfg0.N, (cfg0.win 5).flush t = true ∧ y ∈ ((cfg0.win 5).blk t).view.set := by
  have h0 : (y 0).val < 16384 := (y 0).isLt
  have h1 : (y 1).val < 128 := (y 1).isLt
  let t : Fin grid0.N := ⟨(y 0).val / 512, Nat.lt_of_lt_of_eq (by omega) N_0.symm⟩
  have hp := place_5 t
  have ht : t.val = (y 0).val / 512 := rfl
  refine ⟨t, flush0_5 t, ?_⟩
  show y ∈ ((View.whole main_v7_2).slice (win0_5.rect t)).set
  rw [View.set_slice_whole, Rect.mem_set_unit]
  intro a
  match a with
  | ⟨0, _⟩ =>
    show win0_5.index t 0 * 512 ≤ (y 0).val ∧ (y 0).val < win0_5.index t 0 * 512 + 512
    rw [hp.1, ht]; omega
  | ⟨1, _⟩ =>
    show win0_5.index t 1 * 128 ≤ (y 1).val ∧ (y 1).val < win0_5.index t 1 * 128 + 128
    rw [hp.2]; omega

/-- The result array is the forget gates' columns. -/
theorem arr_5 : (dats m 0 c).arrAt 5 cfg0.N = forget (aX m c) (aG m c) (aW m c) :=
  (dats m 0 c).arrAt_eq_of_cover 5 (forget (aX m c) (aG m c) (aW m c)) (fun t _ => flushed_5 m c t) cover_5

/-- The run ends with the formula's arrays, its arguments as they were. -/
theorem run_results : θ_run defs (onTc (τ := τ) (main (F := Ideal))) ⟨m, fun _ => 0, ρ⟩ (fun r => ∀ c : Dev nD,
      r.2.mem ((c.tc : Thread nD τ).loc main_v7_0) = fox (aX m c) (aG m c) (aW m c)
      ∧ r.2.mem ((c.tc : Thread nD τ).loc main_v7_1) = rwkv (aX m c) (aG m c) (aW m c)
      ∧ r.2.mem ((c.tc : Thread nD τ).loc main_v7_2) = forget (aX m c) (aG m c) (aW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (arr_3 m c), (h c).2.1.trans (arr_4 m c), (h c).2.2.1.trans (arr_5 m c), (h c).2.2.2⟩) (Cert.EvenInIdeal.Value.run_blocks m ρ)

end Cert.EvenInIdeal.Proj

end
-- ==== Proof.Proj.EvenInRef.lean ====
module

public import proofs.«01_k».proof.Proof.Proj.EvenIn
public import proofs.«01_k».proof.Proof.Gen.EvenInRefIdeal.Run

/-!
# The reference of the even layers' input projection

The reference's composed terms, read at an index.
-/

@[expose] public section

set_option maxRecDepth 16384

noncomputable section

namespace Cert.EvenInRef

open Cert.EvenInRefIdeal Cert.EvenInRefIdeal.Gen Idealize.ShloMosaic Idealize.ShloMosaic.TcCoe Idealize.SL.Sem
open Cert.FfnMath

open Cert.EvenInIdeal.Proj

variable (X : Vec Ideal S16384x1024 .f32) (g : Vec Ideal S1024 .f32) (W : Vec Ideal S2x1024x3848 .f32)

/-- The normed activations. -/
def norms (X : Vec Ideal S16384x1024 .f32) (g : Vec Ideal S1024 .f32) : FVec Ideal S16384x1024 .f32 :=
  mulf (mulf X (broadcastInDim S16384x1024 ![0, 1] bcast_S16384x1_S16384x1024_0_1 (Host.rsqrt (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))

/-- The normed activations projected. -/
def columns (X : Vec Ideal S16384x1024 .f32) (g : Vec Ideal S1024 .f32) (W : Vec Ideal S2x1024x3848 .f32) : FVec Ideal S16384x3848 .f32 :=
  Host.dotGeneral (φ₂ := .f32) dot_S16384x1024_S1024x3848_S16384x3848_1_0_0_1_n_n none (norms X g) (shapeCast S1024x3848 (extractStridedSlice S1x1024x3848 ![0, 0, 0] W slices_S2x1024x3848_S1x1024x3848_0_0_0) shapeCasts_S1x1024x3848_S1024x3848)

/-- A normed entry. -/
theorem norms_at (a : Fin 16384) (l : Fin 1024) : norms X g (ix2 a l) = normed (fun k => X (ix2 a k)) (fun k => g (ix1 k)) l := by
  unfold norms normed
  pointwise

/-- A projected entry. -/
theorem columns_at (a : Fin 16384) (e : Fin 3848) : columns X g W (ix2 a e) = column X g W a e := by
  have h : columns X g W (ix2 a e) = ∑ l : Fin 1024, norms X g (ix2 a l) * W (ix3 0 l e) := by
    unfold columns
    generalize norms X g = n
    pointwise
  rw [h]
  unfold column project
  exact Finset.sum_congr rfl fun l _ => by rw [norms_at]

/-- The word zero as a number is zero. -/
theorem zero_word : (FloatOps.sitofp .f32 (0#32 : BitVec 32) : Ideal .f32) = 0 := by
  show ((((0#32 : BitVec 32).toInt : ℝ)) : EReal) = 0
  simp

/-- The reference's term for attention's columns. -/
def foxTerm (X : Vec Ideal S16384x1024 .f32) (g : Vec Ideal S1024 .f32) (W : Vec Ideal S2x1024x3848 .f32) : FVec Ideal S16384x2048 .f32 :=
  extractStridedSlice S16384x2048 ![0, 0] (columns X g W) slices_S16384x3848_S16384x2048_0_0

/-- The reference's term for attention's columns is the formula's. -/
theorem fox_eq : foxTerm X g W = fox X g W := by
  funext y
  change S16384x2048.Idx at y
  idx_vars y
  show _ = foxEntry X g W y0 y1
  unfold foxEntry
  rw [← columns_at]
  unfold foxTerm
  generalize columns X g W = p
  pointwise

/-- The reference's term for the second branch's columns. -/
def rwkvTerm (X : Vec Ideal S16384x1024 .f32) (g : Vec Ideal S1024 .f32) (W : Vec Ideal S2x1024x3848 .f32) : FVec Ideal S16384x1792 .f32 :=
  extractStridedSlice S16384x1792 ![0, 2056] (columns X g W) slices_S16384x3848_S16384x1792_0_2056

/-- The reference's term for the second branch's columns is the formula's. -/
theorem rwkv_eq : rwkvTerm X g W = rwkv X g W := by
  funext y
  change S16384x1792.Idx at y
  idx_vars y
  show _ = rwkvEntry X g W y0 y1
  unfold rwkvEntry
  rw [← columns_at]
  unfold rwkvTerm
  generalize columns X g W = p
  pointwise

/-- The reference's term for the forget gates' columns. -/
def forgetTerm (X : Vec Ideal S16384x1024 .f32) (g : Vec Ideal S1024 .f32) (W : Vec Ideal S2x1024x3848 .f32) : FVec Ideal S16384x128 .f32 :=
  pad S16384x128 ![0, 0] ![0, 120] ![0, 0] (extractStridedSlice S16384x8 ![0, 2048] (columns X g W) slices_S16384x3848_S16384x8_0_2048) (sitofp .f32 (constantI S_ 32 0#32)) pads_S16384x8_S16384x128_000_01200 h_S_

/-- The reference's term for the forget gates' columns is the formula's. -/
theorem forget_eq : forgetTerm X g W = forget X g W := by
  funext y
  change S16384x128.Idx at y
  idx_vars y
  show _ = forgetEntry X g W y0 y1
  unfold forgetEntry
  have h : forgetTerm X g W (ix2 y0 y1) = if h : y1.val < 8 then columns X g W (ix2 y0 ⟨2048 + y1.val, by omega⟩) else 0 := by
    unfold forgetTerm
    generalize columns X g W = p
    pointwise
    rw [zero_word]
  rw [h]
  split
  · rw [columns_at]
  · rfl

end Cert.EvenInRef

end
-- ==== Proof.Proj.OddIn.lean ====
module

public import proofs.«01_k».proof.Proof.Gen.OddInIdeal.Value
public import proofs.«01_k».proof.Proof.Ffn.Meaning
public import Idealize.ShloMosaic.Lib.IdealHost
public import Idealize.ShloMosaic.Lib.Pointwise
public import Idealize.ShloMosaic.Lib.Pipeline.ValueKit.Basic

/-!
# The input projection of the odd layers

Each row of the activations is normed and projected. The call reads the projection with columns of zeros behind its own, and
writes three parts; what a point writes is its block of each part, and the blocks cover the results.
-/

@[expose] public section

set_option maxRecDepth 16384

noncomputable section

namespace Cert.OddInIdeal.Proj

open Cert.OddInIdeal Cert.OddInIdeal.Gen Idealize.ShloMosaic Idealize.ShloMosaic.TcCoe Idealize.SL.Sem
open Idealize.ShloMosaic.Pipeline (Dat)
open Cert.FfnMath

/-! ## The formula -/

/-- Row `a` normed, against column `e` of the projection. -/
def column (X : Vec Ideal S16384x1024 .f32) (g : Vec Ideal S1024 .f32) (W : Vec Ideal S2x1024x4112 .f32) (a : Fin 16384) (e : Fin 4112) : EReal :=
  project (fun k => X (ix2 a k)) (fun k => g (ix1 k)) fun l => W (ix3 0 l e)

/-- An entry of the queries', keys' and values' columns. -/
def qkvEntry (X : Vec Ideal S16384x1024 .f32) (g : Vec Ideal S1024 .f32) (W : Vec Ideal S2x1024x4112 .f32) (a : Fin 16384) (e : Fin 3072) : EReal :=
  column X g W a ⟨e.val, by omega⟩

/-- The queries', keys' and values' columns. -/
def qkv (X : Vec Ideal S16384x1024 .f32) (g : Vec Ideal S1024 .f32) (W : Vec Ideal S2x1024x4112 .f32) : Vec Ideal S16384x3072 .f32 := fun y =>
  qkvEntry X g W (y 0) (y 1)

/-- An entry of the output gates' columns. -/
def outerEntry (X : Vec Ideal S16384x1024 .f32) (g : Vec Ideal S1024 .f32) (W : Vec Ideal S2x1024x4112 .f32) (a : Fin 16384) (e : Fin 1024) : EReal :=
  column X g W a ⟨3072 + e.val, by omega⟩

/-- The output gates' columns. -/
def outer (X : Vec Ideal S16384x1024 .f32) (g : Vec Ideal S1024 .f32) (W : Vec Ideal S2x1024x4112 .f32) : Vec Ideal S16384x1024 .f32 := fun y =>
  outerEntry X g W (y 0) (y 1)

/-- An entry of the decays' and strengths' columns. -/
def smallEntry (X : Vec Ideal S16384x1024 .f32) (g : Vec Ideal S1024 .f32) (W : Vec Ideal S2x1024x4112 .f32) (a : Fin 16384) (e : Fin 128) : EReal :=
  if h : e.val < 16 then column X g W a ⟨4096 + e.val, by omega⟩ else 0

/-- The decays' and strengths' columns. -/
def small (X : Vec Ideal S16384x1024 .f32) (g : Vec Ideal S1024 .f32) (W : Vec Ideal S2x1024x4112 .f32) : Vec Ideal S16384x128 .f32 := fun y =>
  smallEntry X g W (y 0) (y 1)

/-! ## The windows' places -/

/-- The block of activations of a point: its number. -/
theorem place_0 : ∀ t : Fin grid0.N, win0_0.index t 0 = t.val ∧ win0_0.index t 1 = 0 := by decide +kernel
/-- The norm's weights are one block. -/
theorem place_1 : ∀ t : Fin grid0.N, win0_1.index t 0 = 0 ∧ win0_1.index t 1 = 0 := by decide +kernel
/-- The projection used is the stack's first. -/
theorem place_2 : ∀ t : Fin grid0.N, win0_2.index t 0 = 0 ∧ win0_2.index t 1 = 0 ∧ win0_2.index t 2 = 0 := by decide +kernel
/-- A point's block of the queries', keys' and values' columns: its number. -/
theorem place_3 : ∀ t : Fin grid0.N, win0_3.index t 0 = t.val ∧ win0_3.index t 1 = 0 := by decide +kernel
/-- A point's block of the output gates' columns: its number. -/
theorem place_4 : ∀ t : Fin grid0.N, win0_4.index t 0 = t.val ∧ win0_4.index t 1 = 0 := by decide +kernel
/-- A point's block of the decays' and strengths' columns: its number. -/
theorem place_5 : ∀ t : Fin grid0.N, win0_5.index t 0 = t.val ∧ win0_5.index t 1 = 0 := by decide +kernel

variable (m : (ℓ : Loc nD τ sig) → Buf (Elt Ideal) ℓ) (ρ : Dev nD → PrngReg) (c : Dev nD) (t : Fin cfg0.N)

/-- The activations. -/
abbrev aX : Vec Ideal S16384x1024 .f32 := m ((c : Thread nD τ).loc main_arg0)
/-- The norm's weights. -/
abbrev aG : Vec Ideal S1024 .f32 := m ((c : Thread nD τ).loc main_arg1)
/-- The stack of projections. -/
abbrev aW : Vec Ideal S2x1024x4112 .f32 := m ((c : Thread nD τ).loc main_arg2)

/-- A point's number is below 32. -/
theorem t_lt : t.val < 32 := Nat.lt_of_lt_of_eq t.isLt N_0

/-- Row `r` of a point's block, in the array. -/
def rowOf (r : Fin 512) : Fin 16384 := ⟨512 * t.val + r.val, by have := t_lt t; omega⟩

/-! ## What the host prepares -/

/-- The projection's columns in the call's order, columns of zeros behind them. -/
def wide (W : Vec Ideal S2x1024x4112 .f32) : Vec Ideal S2x1024x4224 .f32 :=
  concatenate S2x1024x4224 2 [⟨S2x1024x4112, W⟩,
    ⟨S2x1024x112, broadcastInDim S2x1024x112 ![] bcast_S_S2x1024x112 (constant (F := Ideal) S_ .f32 0x00000000#32 : Vec Ideal S_ .f32)⟩] concatenates_S2x1024x4112_S2x1024x112_S2x1024x4224_d2

/-- The narrowed weights the call reads. -/
theorem V_w : (V m c main_v2 : Vec Ideal S2x1024x4224 .bf16) = wide (aW m c) := by
  show StableHlo.after hostOps0 (fun b => m (c, b)) main_v2 = _
  simp only [hostOps0]
  after_results_simp
  rfl

/-- A column of the call's order in the queries', keys' and values' columns. -/
theorem wide_qkv (W : Vec Ideal S2x1024x4112 .f32) (l : Fin 1024) (e : Fin 3072) :
    wide W (ix3 0 l ⟨e.val, by omega⟩) = W (ix3 0 l ⟨e.val, by omega⟩) := by
  unfold wide
  pointwise
  rw [dif_pos (by omega)]

/-- A column of the call's order in the output gates' columns. -/
theorem wide_outer (W : Vec Ideal S2x1024x4112 .f32) (l : Fin 1024) (e : Fin 1024) :
    wide W (ix3 0 l ⟨3072 + e.val, by omega⟩) = W (ix3 0 l ⟨3072 + e.val, by omega⟩) := by
  unfold wide
  pointwise
  rw [dif_pos (by omega)]

/-- A column of the call's order in the decays' and strengths' columns. -/
theorem wide_small (W : Vec Ideal S2x1024x4112 .f32) (l : Fin 1024) (e : Fin 16) :
    wide W (ix3 0 l ⟨4096 + e.val, by omega⟩) = W (ix3 0 l ⟨4096 + e.val, by omega⟩) := by
  unfold wide
  pointwise
  rw [dif_pos (by omega)]

/-- A column behind the projection's is zeros. -/
theorem wide_zero (W : Vec Ideal S2x1024x4112 .f32) (l : Fin 1024) (e : Fin 128) (h : ¬ e.val < 16) : wide W (ix3 0 l ⟨4096 + e.val, by omega⟩) = 0 := by
  unfold wide
  pointwise
  rw [dif_neg (by omega)]

/-! ## What a point reads -/

/-- An entry of the activations a point reads. -/
theorem ld_0 (r : Fin 512) (l : Fin 1024) : View.ld (iblk m c 0 t : Vec Ideal S512x1024 .f32) r0_0 (ix2 r l) = aX m c (ix2 (rowOf t r) l) := by
  have hp := place_0 t
  unfold iblk
  show (V m c main_arg0 : Vec Ideal S16384x1024 .f32) _ = aX m c _
  rw [V_main_arg0]
  congr 1
  funext ax
  apply Fin.ext
  match ax with
  | ⟨0, _⟩ => show win0_0.index t 0 * 512 + 1 * (0 + 1 * r.val) = 512 * t.val + r.val; rw [hp.1]; omega
  | ⟨1, _⟩ => show win0_0.index t 1 * 1024 + 1 * (0 + 1 * l.val) = l.val; rw [hp.2]; omega

/-- The norm's weights as one row. -/
theorem V_g : (V m c main_v3 : Vec Ideal S1x1024 .f32) = shapeCast S1x1024 (aG m c) shapeCasts_S1024_S1x1024 := by
  show StableHlo.after hostOps0 (fun b => m (c, b)) main_v3 = _
  simp only [hostOps0]
  after_results_simp
  rfl

/-- A weight of the norm that a point reads. -/
theorem ld_1 (l : Fin 1024) : View.ld (iblk m c 1 t : Vec Ideal S1x1024 .f32) r0_1 (ix2 0 l) = aG m c (ix1 l) := by
  have hp := place_1 t
  unfold iblk
  have e : shapeCast S1x1024 (aG m c) shapeCasts_S1024_S1x1024 (ix2 0 l) = aG m c (ix1 l) := by pointwise
  rw [← e, ← V_g]
  show (V m c main_v3 : Vec Ideal S1x1024 .f32) _ = V m c main_v3 _
  congr 1
  funext ax
  apply Fin.ext
  match ax with
  | ⟨0, _⟩ => show win0_1.index t 0 * 1 + 1 * (0 + 1 * 0) = 0; rw [hp.1]
  | ⟨1, _⟩ => show win0_1.index t 1 * 1024 + 1 * (0 + 1 * l.val) = l.val; rw [hp.2]; omega

/-- A weight that a point reads for the queries', keys' and values' columns. -/
theorem ld_qkv (l : Fin 1024) (e : Fin 3072) : View.ld (iblk m c 2 t : Vec Ideal S1x1024x4224 .bf16) r0_2 (ix3 0 l e) = wide (aW m c) (ix3 0 l ⟨e.val, by omega⟩) := by
  have hp := place_2 t
  unfold iblk
  rw [← V_w]
  show (V m c main_v2 : Vec Ideal S2x1024x4224 .bf16) _ = V m c main_v2 _
  congr 1
  funext ax
  apply Fin.ext
  match ax with
  | ⟨0, _⟩ => show win0_2.index t 0 * 1 + 1 * (0 + 1 * 0) = 0; rw [hp.1]
  | ⟨1, _⟩ => show win0_2.index t 1 * 1024 + 1 * (0 + 1 * l.val) = l.val; rw [hp.2.1]; omega
  | ⟨2, _⟩ => show win0_2.index t 2 * 4224 + 1 * (0 + 1 * e.val) = e.val; rw [hp.2.2]; omega

/-- A weight that a point reads for the output gates' columns. -/
theorem ld_outer (l : Fin 1024) (e : Fin 1024) : View.ld (iblk m c 2 t : Vec Ideal S1x1024x4224 .bf16) r0_4 (ix3 0 l e) = wide (aW m c) (ix3 0 l ⟨3072 + e.val, by omega⟩) := by
  have hp := place_2 t
  unfold iblk
  rw [← V_w]
  show (V m c main_v2 : Vec Ideal S2x1024x4224 .bf16) _ = V m c main_v2 _
  congr 1
  funext ax
  apply Fin.ext
  match ax with
  | ⟨0, _⟩ => show win0_2.index t 0 * 1 + 1 * (0 + 1 * 0) = 0; rw [hp.1]
  | ⟨1, _⟩ => show win0_2.index t 1 * 1024 + 1 * (0 + 1 * l.val) = l.val; rw [hp.2.1]; omega
  | ⟨2, _⟩ => show win0_2.index t 2 * 4224 + 1 * (3072 + 1 * e.val) = 3072 + e.val; rw [hp.2.2]; omega

/-- A weight that a point reads for the decays' and strengths' columns. -/
theorem ld_small (l : Fin 1024) (e : Fin 128) : View.ld (iblk m c 2 t : Vec Ideal S1x1024x4224 .bf16) r0_5 (ix3 0 l e) = wide (aW m c) (ix3 0 l ⟨4096 + e.val, by omega⟩) := by
  have hp := place_2 t
  unfold iblk
  rw [← V_w]
  show (V m c main_v2 : Vec Ideal S2x1024x4224 .bf16) _ = V m c main_v2 _
  congr 1
  funext ax
  apply Fin.ext
  match ax with
  | ⟨0, _⟩ => show win0_2.index t 0 * 1 + 1 * (0 + 1 * 0) = 0; rw [hp.1]
  | ⟨1, _⟩ => show win0_2.index t 1 * 1024 + 1 * (0 + 1 * l.val) = l.val; rw [hp.2.1]; omega
  | ⟨2, _⟩ => show win0_2.index t 2 * 4224 + 1 * (4096 + 1 * e.val) = 4096 + e.val; rw [hp.2.2]; omega

/-! ## What a point writes -/

/-- A normed entry of a block. -/
theorem normed_at (x : Vec Ideal S512x1024 .f32) (g : Vec Ideal S1x1024 .f32) (r : Fin 512) (l : Fin 1024) :
    k0_pay1 x g (ix2 r l) = normed (fun k => x (ix2 r k)) (fun k => g (ix2 0 k)) l := by
  unfold k0_pay1 normed
  pointwise

/-- An entry of a block's normed rows against a part of the columns. -/
theorem pay_3_at (x : Vec Ideal S512x1024 .f32) (g : Vec Ideal S1x1024 .f32) (w : Vec Ideal S1x1024x3072 .bf16) (r : Fin 512) (e : Fin 3072) :
    k0_pay2 x g w (ix2 r e) = project (fun k => x (ix2 r k)) (fun k => g (ix2 0 k)) fun l => w (ix3 0 l e) := by
  unfold project
  have h : k0_pay2 x g w (ix2 r e) = ∑ l : Fin 1024, k0_pay1 x g (ix2 r l) * w (ix3 0 l e) := by
    unfold k0_pay2
    generalize k0_pay1 x g = n
    pointwise
  rw [h]
  exact Finset.sum_congr rfl fun l _ => by rw [normed_at]

/-- An entry of what a point writes, the weights in the call's order. -/
theorem raw_3_at (r : Fin 512) (e : Fin 3072) : out0_3 (iblk m c 0 t) (iblk m c 1 t) (iblk m c 2 t) (ix2 r e)
    = project (fun k => aX m c (ix2 (rowOf t r) k)) (fun k => aG m c (ix1 k)) fun l => wide (aW m c) (ix3 0 l ⟨e.val, by omega⟩) := by
  unfold out0_3
  rw [View.canon_cons_unit_lit inb_S512x3072_S512x3072_0_0 _ [] (by decide), pay_3_at]
  congr 1
  · exact funext fun k => ld_0 m c t r k
  · exact funext fun k => ld_1 m c t k
  · exact funext fun k => ld_qkv m c t k e

/-- An entry of what a point writes. -/
theorem out_3_at (r : Fin 512) (e : Fin 3072) : out0_3 (iblk m c 0 t) (iblk m c 1 t) (iblk m c 2 t) (ix2 r e) = qkv (aX m c) (aG m c) (aW m c) (ix2 (rowOf t r) e) := by
  refine (raw_3_at m c t r e).trans ?_
  show _ = qkvEntry (aX m c) (aG m c) (aW m c) (rowOf t r) e
  unfold qkvEntry column
  congr 1
  exact funext fun l => wide_qkv (aW m c) l e

/-- An entry of a block's normed rows against a part of the columns. -/
theorem pay_4_at (x : Vec Ideal S512x1024 .f32) (g : Vec Ideal S1x1024 .f32) (w : Vec Ideal S1x1024x1024 .bf16) (r : Fin 512) (e : Fin 1024) :
    k0_pay3 x g w (ix2 r e) = project (fun k => x (ix2 r k)) (fun k => g (ix2 0 k)) fun l => w (ix3 0 l e) := by
  unfold project
  have h : k0_pay3 x g w (ix2 r e) = ∑ l : Fin 1024, k0_pay1 x g (ix2 r l) * w (ix3 0 l e) := by
    unfold k0_pay3
    generalize k0_pay1 x g = n
    pointwise
  rw [h]
  exact Finset.sum_congr rfl fun l _ => by rw [normed_at]

/-- An entry of what a point writes, the weights in the call's order. -/
theorem raw_4_at (r : Fin 512) (e : Fin 1024) : out0_4 (iblk m c 0 t) (iblk m c 1 t) (iblk m c 2 t) (ix2 r e)
    = project (fun k => aX m c (ix2 (rowOf t r) k)) (fun k => aG m c (ix1 k)) fun l => wide (aW m c) (ix3 0 l ⟨3072 + e.val, by omega⟩) := by
  unfold out0_4
  rw [View.canon_cons_unit_lit inb_S512x1024_S512x1024_0_0 _ [] (by decide), pay_4_at]
  congr 1
  · exact funext fun k => ld_0 m c t r k
  · exact funext fun k => ld_1 m c t k
  · exact funext fun k => ld_outer m c t k e

/-- An entry of what a point writes. -/
theorem out_4_at (r : Fin 512) (e : Fin 1024) : out0_4 (iblk m c 0 t) (iblk m c 1 t) (iblk m c 2 t) (ix2 r e) = outer (aX m c) (aG m c) (aW m c) (ix2 (rowOf t r) e) := by
  refine (raw_4_at m c t r e).trans ?_
  show _ = outerEntry (aX m c) (aG m c) (aW m c) (rowOf t r) e
  unfold outerEntry column
  congr 1
  exact funext fun l => wide_outer (aW m c) l e

/-- An entry of a block's normed rows against a part of the columns. -/
theorem pay_5_at (x : Vec Ideal S512x1024 .f32) (g : Vec Ideal S1x1024 .f32) (w : Vec Ideal S1x1024x128 .bf16) (r : Fin 512) (e : Fin 128) :
    k0_pay4 x g w (ix2 r e) = project (fun k => x (ix2 r k)) (fun k => g (ix2 0 k)) fun l => w (ix3 0 l e) := by
  unfold project
  have h : k0_pay4 x g w (ix2 r e) = ∑ l : Fin 1024, k0_pay1 x g (ix2 r l) * w (ix3 0 l e) := by
    unfold k0_pay4
    generalize k0_pay1 x g = n
    pointwise
  rw [h]
  exact Finset.sum_congr rfl fun l _ => by rw [normed_at]

/-- An entry of what a point writes, the weights in the call's order. -/
theorem raw_5_at (r : Fin 512) (e : Fin 128) : out0_5 (iblk m c 0 t) (iblk m c 1 t) (iblk m c 2 t) (ix2 r e)
    = project (fun k => aX m c (ix2 (rowOf t r) k)) (fun k => aG m c (ix1 k)) fun l => wide (aW m c) (ix3 0 l ⟨4096 + e.val, by omega⟩) := by
  unfold out0_5
  rw [View.canon_cons_unit_lit inb_S512x128_S512x128_0_0 _ [] (by decide), pay_5_at]
  congr 1
  · exact funext fun k => ld_0 m c t r k
  · exact funext fun k => ld_1 m c t k
  · exact funext fun k => ld_small m c t k e

/-- An entry of what a point writes. -/
theorem out_5_at (r : Fin 512) (e : Fin 128) : out0_5 (iblk m c 0 t) (iblk m c 1 t) (iblk m c 2 t) (ix2 r e) = small (aX m c) (aG m c) (aW m c) (ix2 (rowOf t r) e) := by
  refine (raw_5_at m c t r e).trans ?_
  show _ = smallEntry (aX m c) (aG m c) (aW m c) (rowOf t r) e
  unfold smallEntry column
  split
  · next h =>
    congr 1
    exact funext fun l => wide_small (aW m c) l ⟨e.val, h⟩
  · next h =>
    unfold project
    exact Finset.sum_eq_zero fun l _ => by show _ * wide (aW m c) _ = 0; rw [wide_zero (aW m c) l e h, mul_zero]

/-- A point's write-back is its block of the queries', keys' and values' columns. -/
theorem flushed_3 : (dats m 0 c).flushed 3 t = ((cfg0.win 3).blk t).view.read (Elt Ideal) (qkv (aX m c) (aG m c) (aW m c)) := by
  show (cfg0.win 3).cut (grid0.coords t) ((dats m 0 c).after 3 t) = _
  rw [after0_3]
  have hp := place_3 t
  funext y
  change S512x3072.Idx at y
  idx_vars y
  refine (out_3_at m c t y0 y1).trans ?_
  show qkv _ _ _ _ = qkv _ _ _ _
  congr 1
  funext ax
  apply Fin.ext
  match ax with
  | ⟨0, _⟩ => show 512 * t.val + y0.val = win0_3.index t 0 * 512 + 1 * y0.val; rw [hp.1]; omega
  | ⟨1, _⟩ => show y1.val = win0_3.index t 1 * 3072 + 1 * y1.val; rw [hp.2]; omega

/-- The blocks cover the queries', keys' and values' columns. -/
theorem cover_3 (y : S16384x3072.Idx) : ∃ t : Fin cfg0.N, (cfg0.win 3).flush t = true ∧ y ∈ ((cfg0.win 3).blk t).view.set := by
  have h0 : (y 0).val < 16384 := (y 0).isLt
  have h1 : (y 1).val < 3072 := (y 1).isLt
  let t : Fin grid0.N := ⟨(y 0).val / 512, Nat.lt_of_lt_of_eq (by omega) N_0.symm⟩
  have hp := place_3 t
  have ht : t.val = (y 0).val / 512 := rfl
  refine ⟨t, flush0_3 t, ?_⟩
  show y ∈ ((View.whole main_v4_0).slice (win0_3.rect t)).set
  rw [View.set_slice_whole, Rect.mem_set_unit]
  intro a
  match a with
  | ⟨0, _⟩ =>
    show win0_3.index t 0 * 512 ≤ (y 0).val ∧ (y 0).val < win0_3.index t 0 * 512 + 512
    rw [hp.1, ht]; omega
  | ⟨1, _⟩ =>
    show win0_3.index t 1 * 3072 ≤ (y 1).val ∧ (y 1).val < win0_3.index t 1 * 3072 + 3072
    rw [hp.2]; omega

/-- The result array is the queries', keys' and values' columns. -/
theorem arr_3 : (dats m 0 c).arrAt 3 cfg0.N = qkv (aX m c) (aG m c) (aW m c) :=
  (dats m 0 c).arrAt_eq_of_cover 3 (qkv (aX m c) (aG m c) (aW m c)) (fun t _ => flushed_3 m c t) cover_3

/-- A point's write-back is its block of the output gates' columns. -/
theorem flushed_4 : (dats m 0 c).flushed 4 t = ((cfg0.win 4).blk t).view.read (Elt Ideal) (outer (aX m c) (aG m c) (aW m c)) := by
  show (cfg0.win 4).cut (grid0.coords t) ((dats m 0 c).after 4 t) = _
  rw [after0_4]
  have hp := place_4 t
  funext y
  change S512x1024.Idx at y
  idx_vars y
  refine (out_4_at m c t y0 y1).trans ?_
  show outer _ _ _ _ = outer _ _ _ _
  congr 1
  funext ax
  apply Fin.ext
  match ax with
  | ⟨0, _⟩ => show 512 * t.val + y0.val = win0_4.index t 0 * 512 + 1 * y0.val; rw [hp.1]; omega
  | ⟨1, _⟩ => show y1.val = win0_4.index t 1 * 1024 + 1 * y1.val; rw [hp.2]; omega

/-- The blocks cover the output gates' columns. -/
theorem cover_4 (y : S16384x1024.Idx) : ∃ t : Fin cfg0.N, (cfg0.win 4).flush t = true ∧ y ∈ ((cfg0.win 4).blk t).view.set := by
  have h0 : (y 0).val < 16384 := (y 0).isLt
  have h1 : (y 1).val < 1024 := (y 1).isLt
  let t : Fin grid0.N := ⟨(y 0).val / 512, Nat.lt_of_lt_of_eq (by omega) N_0.symm⟩
  have hp := place_4 t
  have ht : t.val = (y 0).val / 512 := rfl
  refine ⟨t, flush0_4 t, ?_⟩
  show y ∈ ((View.whole main_v4_1).slice (win0_4.rect t)).set
  rw [View.set_slice_whole, Rect.mem_set_unit]
  intro a
  match a with
  | ⟨0, _⟩ =>
    show win0_4.index t 0 * 512 ≤ (y 0).val ∧ (y 0).val < win0_4.index t 0 * 512 + 512
    rw [hp.1, ht]; omega
  | ⟨1, _⟩ =>
    show win0_4.index t 1 * 1024 ≤ (y 1).val ∧ (y 1).val < win0_4.index t 1 * 1024 + 1024
    rw [hp.2]; omega

/-- The result array is the output gates' columns. -/
theorem arr_4 : (dats m 0 c).arrAt 4 cfg0.N = outer (aX m c) (aG m c) (aW m c) :=
  (dats m 0 c).arrAt_eq_of_cover 4 (outer (aX m c) (aG m c) (aW m c)) (fun t _ => flushed_4 m c t) cover_4

/-- A point's write-back is its block of the decays' and strengths' columns. -/
theorem flushed_5 : (dats m 0 c).flushed 5 t = ((cfg0.win 5).blk t).view.read (Elt Ideal) (small (aX m c) (aG m c) (aW m c)) := by
  show (cfg0.win 5).cut (grid0.coords t) ((dats m 0 c).after 5 t) = _
  rw [after0_5]
  have hp := place_5 t
  funext y
  change S512x128.Idx at y
  idx_vars y
  refine (out_5_at m c t y0 y1).trans ?_
  show small _ _ _ _ = small _ _ _ _
  congr 1
  funext ax
  apply Fin.ext
  match ax with
  | ⟨0, _⟩ => show 512 * t.val + y0.val = win0_5.index t 0 * 512 + 1 * y0.val; rw [hp.1]; omega
  | ⟨1, _⟩ => show y1.val = win0_5.index t 1 * 128 + 1 * y1.val; rw [hp.2]; omega

/-- The blocks cover the decays' and strengths' columns. -/
theorem cover_5 (y : S16384x128.Idx) : ∃ t : Fin cfg0.N, (cfg0.win 5).flush t = true ∧ y ∈ ((cfg0.win 5).blk t).view.set := by
  have h0 : (y 0).val < 16384 := (y 0).isLt
  have h1 : (y 1).val < 128 := (y 1).isLt
  let t : Fin grid0.N := ⟨(y 0).val / 512, Nat.lt_of_lt_of_eq (by omega) N_0.symm⟩
  have hp := place_5 t
  have ht : t.val = (y 0).val / 512 := rfl
  refine ⟨t, flush0_5 t, ?_⟩
  show y ∈ ((View.whole main_v4_2).slice (win0_5.rect t)).set
  rw [View.set_slice_whole, Rect.mem_set_unit]
  intro a
  match a with
  | ⟨0, _⟩ =>
    show win0_5.index t 0 * 512 ≤ (y 0).val ∧ (y 0).val < win0_5.index t 0 * 512 + 512
    rw [hp.1, ht]; omega
  | ⟨1, _⟩ =>
    show win0_5.index t 1 * 128 ≤ (y 1).val ∧ (y 1).val < win0_5.index t 1 * 128 + 128
    rw [hp.2]; omega

/-- The result array is the decays' and strengths' columns. -/
theorem arr_5 : (dats m 0 c).arrAt 5 cfg0.N = small (aX m c) (aG m c) (aW m c) :=
  (dats m 0 c).arrAt_eq_of_cover 5 (small (aX m c) (aG m c) (aW m c)) (fun t _ => flushed_5 m c t) cover_5

/-- The run ends with the formula's arrays, its arguments as they were. -/
theorem run_results : θ_run defs (onTc (τ := τ) (main (F := Ideal))) ⟨m, fun _ => 0, ρ⟩ (fun r => ∀ c : Dev nD,
      r.2.mem ((c.tc : Thread nD τ).loc main_v4_0) = qkv (aX m c) (aG m c) (aW m c)
      ∧ r.2.mem ((c.tc : Thread nD τ).loc main_v4_1) = outer (aX m c) (aG m c) (aW m c)
      ∧ r.2.mem ((c.tc : Thread nD τ).loc main_v4_2) = small (aX m c) (aG m c) (aW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (arr_3 m c), (h c).2.1.trans (arr_4 m c), (h c).2.2.1.trans (arr_5 m c), (h c).2.2.2⟩) (Cert.OddInIdeal.Value.run_blocks m ρ)

end Cert.OddInIdeal.Proj

end
-- ==== Proof.Proj.OddInRef.lean ====
module

public import proofs.«01_k».proof.Proof.Proj.OddIn
public import proofs.«01_k».proof.Proof.Gen.OddInRefIdeal.Run

/-!
# The reference of the odd layers' input projection

The reference's composed terms, read at an index.
-/

@[expose] public section

set_option maxRecDepth 16384

noncomputable section

namespace Cert.OddInRef

open Cert.OddInRefIdeal Cert.OddInRefIdeal.Gen Idealize.ShloMosaic Idealize.ShloMosaic.TcCoe Idealize.SL.Sem
open Cert.FfnMath

open Cert.OddInIdeal.Proj

variable (X : Vec Ideal S16384x1024 .f32) (g : Vec Ideal S1024 .f32) (W : Vec Ideal S2x1024x4112 .f32)

/-- The normed activations. -/
def norms (X : Vec Ideal S16384x1024 .f32) (g : Vec Ideal S1024 .f32) : FVec Ideal S16384x1024 .f32 :=
  mulf (mulf X (broadcastInDim S16384x1024 ![0, 1] bcast_S16384x1_S16384x1024_0_1 (Host.rsqrt (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))

/-- The normed activations projected. -/
def columns (X : Vec Ideal S16384x1024 .f32) (g : Vec Ideal S1024 .f32) (W : Vec Ideal S2x1024x4112 .f32) : FVec Ideal S16384x4112 .f32 :=
  Host.dotGeneral (φ₂ := .f32) dot_S16384x1024_S1024x4112_S16384x4112_1_0_0_1_n_n none (norms X g) (shapeCast S1024x4112 (extractStridedSlice S1x1024x4112 ![0, 0, 0] W slices_S2x1024x4112_S1x1024x4112_0_0_0) shapeCasts_S1x1024x4112_S1024x4112)

/-- A normed entry. -/
theorem norms_at (a : Fin 16384) (l : Fin 1024) : norms X g (ix2 a l) = normed (fun k => X (ix2 a k)) (fun k => g (ix1 k)) l := by
  unfold norms normed
  pointwise

/-- A projected entry. -/
theorem columns_at (a : Fin 16384) (e : Fin 4112) : columns X g W (ix2 a e) = column X g W a e := by
  have h : columns X g W (ix2 a e) = ∑ l : Fin 1024, norms X g (ix2 a l) * W (ix3 0 l e) := by
    unfold columns
    generalize norms X g = n
    pointwise
  rw [h]
  unfold column project
  exact Finset.sum_congr rfl fun l _ => by rw [norms_at]

/-- The word zero as a number is zero. -/
theorem zero_word : (FloatOps.sitofp .f32 (0#32 : BitVec 32) : Ideal .f32) = 0 := by
  show ((((0#32 : BitVec 32).toInt : ℝ)) : EReal) = 0
  simp

/-- The reference's term for the queries', keys' and values' columns. -/
def qkvTerm (X : Vec Ideal S16384x1024 .f32) (g : Vec Ideal S1024 .f32) (W : Vec Ideal S2x1024x4112 .f32) : FVec Ideal S16384x3072 .f32 :=
  extractStridedSlice S16384x3072 ![0, 0] (columns X g W) slices_S16384x4112_S16384x3072_0_0

/-- The reference's term for the queries', keys' and values' columns is the formula's. -/
theorem qkv_eq : qkvTerm X g W = qkv X g W := by
  funext y
  change S16384x3072.Idx at y
  idx_vars y
  show _ = qkvEntry X g W y0 y1
  unfold qkvEntry
  rw [← columns_at]
  unfold qkvTerm
  generalize columns X g W = p
  pointwise

/-- The reference's term for the output gates' columns. -/
def outerTerm (X : Vec Ideal S16384x1024 .f32) (g : Vec Ideal S1024 .f32) (W : Vec Ideal S2x1024x4112 .f32) : FVec Ideal S16384x1024 .f32 :=
  extractStridedSlice S16384x1024 ![0, 3072] (columns X g W) slices_S16384x4112_S16384x1024_0_3072

/-- The reference's term for the output gates' columns is the formula's. -/
theorem outer_eq : outerTerm X g W = outer X g W := by
  funext y
  change S16384x1024.Idx at y
  idx_vars y
  show _ = outerEntry X g W y0 y1
  unfold outerEntry
  rw [← columns_at]
  unfold outerTerm
  generalize columns X g W = p
  pointwise

/-- The reference's term for the decays' and strengths' columns. -/
def smallTerm (X : Vec Ideal S16384x1024 .f32) (g : Vec Ideal S1024 .f32) (W : Vec Ideal S2x1024x4112 .f32) : FVec Ideal S16384x128 .f32 :=
  pad S16384x128 ![0, 0] ![0, 112] ![0, 0] (extractStridedSlice S16384x16 ![0, 4096] (columns X g W) slices_S16384x4112_S16384x16_0_4096) (sitofp .f32 (constantI S_ 32 0#32)) pads_S16384x16_S16384x128_000_01120 h_S_

/-- The reference's term for the decays' and strengths' columns is the formula's. -/
theorem small_eq : smallTerm X g W = small X g W := by
  funext y
  change S16384x128.Idx at y
  idx_vars y
  show _ = smallEntry X g W y0 y1
  unfold smallEntry
  have h : smallTerm X g W (ix2 y0 y1) = if h : y1.val < 16 then columns X g W (ix2 y0 ⟨4096 + y1.val, by omega⟩) else 0 := by
    unfold smallTerm
    generalize columns X g W = p
    pointwise
    rw [zero_word]
  rw [h]
  split
  · rw [columns_at]
  · rfl

end Cert.OddInRef

end
-- ==== Proof.Proj.EvenOut.lean ====
module

public import proofs.«01_k».proof.Proof.Gen.EvenOutIdeal.Value
public import proofs.«01_k».proof.Proof.Ffn.Meaning
public import Idealize.ShloMosaic.Lib.IdealHost
public import Idealize.ShloMosaic.Lib.Pointwise
public import Idealize.ShloMosaic.Lib.Pipeline.ValueKit.Basic

/-!
# The output projection of the even layers

Attention's values through the sigmoid gate, beside the second branch's values, against the projection, added to the activations.
The call adds the two halves of the projection one after the other; what a point writes is its block of this, and the blocks cover
the result.
-/

@[expose] public section

set_option maxRecDepth 16384

noncomputable section

namespace Cert.EvenOutIdeal.Proj

open Cert.EvenOutIdeal Cert.EvenOutIdeal.Gen Idealize.ShloMosaic Idealize.ShloMosaic.TcCoe Idealize.SL.Sem
open Idealize.ShloMosaic.Pipeline (Dat)
open Cert.FfnMath

/-! ## The formula -/

/-- One over one plus the exponential of the negation. -/
def sigm (x : EReal) : EReal := Ideal.div 1 (1 + Ideal.exp (-x))

/-- An entry of the result: the activations, the gated values' part and the second branch's part. -/
def entry (O : Vec Ideal S16384x512 .f32) (Q : Vec Ideal S16384x2048 .f32) (B : Vec Ideal S16384x512 .f32)
    (W : Vec Ideal S2x1024x1024 .f32) (X : Vec Ideal S16384x1024 .f32) (a : Fin 16384) (e : Fin 1024) : EReal :=
  X (ix2 a e) + ∑ l : Fin 512, O (ix2 a l) * sigm (Q (ix2 a ⟨1536 + l.val, by omega⟩)) * W (ix3 0 ⟨l.val, by omega⟩ e)
    + ∑ l : Fin 512, B (ix2 a l) * W (ix3 0 ⟨512 + l.val, by omega⟩ e)

/-- The activations with the projected values added. -/
def output (O : Vec Ideal S16384x512 .f32) (Q : Vec Ideal S16384x2048 .f32) (B : Vec Ideal S16384x512 .f32)
    (W : Vec Ideal S2x1024x1024 .f32) (X : Vec Ideal S16384x1024 .f32) : Vec Ideal S16384x1024 .f32 := fun y => entry O Q B W X (y 0) (y 1)

/-- An entry of the activations with the projected values added. -/
theorem output_at (O : Vec Ideal S16384x512 .f32) (Q : Vec Ideal S16384x2048 .f32) (B : Vec Ideal S16384x512 .f32)
    (W : Vec Ideal S2x1024x1024 .f32) (X : Vec Ideal S16384x1024 .f32) (a : Fin 16384) (e : Fin 1024) :
    output O Q B W X (ix2 a e) = entry O Q B W X a e := rfl

/-! ## The windows' places -/

/-- The block of attention's values of a point: its number. -/
theorem place_0 : ∀ t : Fin grid0.N, win0_0.index t 0 = t.val ∧ win0_0.index t 1 = 0 := by decide +kernel
/-- The gates are the fourth block of columns. -/
theorem place_1 : ∀ t : Fin grid0.N, win0_1.index t 0 = t.val ∧ win0_1.index t 1 = 3 := by decide +kernel
/-- The block of the second branch of a point: its number. -/
theorem place_2 : ∀ t : Fin grid0.N, win0_2.index t 0 = t.val ∧ win0_2.index t 1 = 0 := by decide +kernel
/-- The projection used is the stack's first. -/
theorem place_3 : ∀ t : Fin grid0.N, win0_3.index t 0 = 0 ∧ win0_3.index t 1 = 0 ∧ win0_3.index t 2 = 0 := by decide +kernel
/-- The block of activations of a point: its number. -/
theorem place_4 : ∀ t : Fin grid0.N, win0_4.index t 0 = t.val ∧ win0_4.index t 1 = 0 := by decide +kernel
/-- The result's block of a point: its number. -/
theorem place_5 : ∀ t : Fin grid0.N, win0_5.index t 0 = t.val ∧ win0_5.index t 1 = 0 := by decide +kernel

variable (m : (ℓ : Loc nD τ sig) → Buf (Elt Ideal) ℓ) (ρ : Dev nD → PrngReg) (c : Dev nD) (t : Fin cfg0.N)

/-- Attention's values. -/
abbrev aO : Vec Ideal S16384x512 .f32 := m ((c : Thread nD τ).loc main_arg0)
/-- The projected columns whose last quarter is the gates. -/
abbrev aQ : Vec Ideal S16384x2048 .f32 := m ((c : Thread nD τ).loc main_arg1)
/-- The second branch's values. -/
abbrev aB : Vec Ideal S16384x512 .f32 := m ((c : Thread nD τ).loc main_arg2)
/-- The stack of projections. -/
abbrev aW : Vec Ideal S2x1024x1024 .f32 := m ((c : Thread nD τ).loc main_arg3)
/-- The activations. -/
abbrev aX : Vec Ideal S16384x1024 .f32 := m ((c : Thread nD τ).loc main_arg4)

/-- A point's number is below 32. -/
theorem t_lt : t.val < 32 := Nat.lt_of_lt_of_eq t.isLt N_0

/-- Row `r` of a point's block, in the array. -/
def rowOf (r : Fin 512) : Fin 16384 := ⟨512 * t.val + r.val, by have := t_lt t; omega⟩

/-! ## What a point reads -/

/-- An entry of the attention's values a point reads. -/
theorem ld_0 (r : Fin 512) (l : Fin 512) : View.ld (iblk m c 0 t : Vec Ideal S512x512 .f32) r0_0 (ix2 r l) = aO m c (ix2 (rowOf t r) l) := by
  have hp := place_0 t
  unfold iblk
  show (V m c main_arg0 : Vec Ideal S16384x512 .f32) _ = aO m c _
  rw [V_main_arg0]
  congr 1
  funext ax
  apply Fin.ext
  match ax with
  | ⟨0, _⟩ => show win0_0.index t 0 * 512 + 1 * (0 + 1 * r.val) = 512 * t.val + r.val; rw [hp.1]; omega
  | ⟨1, _⟩ => show win0_0.index t 1 * 512 + 1 * (0 + 1 * l.val) = l.val; rw [hp.2]; omega

/-- An entry of the gates a point reads. -/
theorem ld_1 (r : Fin 512) (l : Fin 512) : View.ld (iblk m c 1 t : Vec Ideal S512x512 .f32) r0_0 (ix2 r l) = aQ m c (ix2 (rowOf t r) ⟨1536 + l.val, by omega⟩) := by
  have hp := place_1 t
  unfold iblk
  show (V m c main_arg1 : Vec Ideal S16384x2048 .f32) _ = aQ m c _
  rw [V_main_arg1]
  congr 1
  funext ax
  apply Fin.ext
  match ax with
  | ⟨0, _⟩ => show win0_1.index t 0 * 512 + 1 * (0 + 1 * r.val) = 512 * t.val + r.val; rw [hp.1]; omega
  | ⟨1, _⟩ => show win0_1.index t 1 * 512 + 1 * (0 + 1 * l.val) = 1536 + l.val; rw [hp.2]; omega

/-- An entry of the second branch a point reads. -/
theorem ld_2 (r : Fin 512) (l : Fin 512) : View.ld (iblk m c 2 t : Vec Ideal S512x512 .f32) r0_0 (ix2 r l) = aB m c (ix2 (rowOf t r) l) := by
  have hp := place_2 t
  unfold iblk
  show (V m c main_arg2 : Vec Ideal S16384x512 .f32) _ = aB m c _
  rw [V_main_arg2]
  congr 1
  funext ax
  apply Fin.ext
  match ax with
  | ⟨0, _⟩ => show win0_2.index t 0 * 512 + 1 * (0 + 1 * r.val) = 512 * t.val + r.val; rw [hp.1]; omega
  | ⟨1, _⟩ => show win0_2.index t 1 * 512 + 1 * (0 + 1 * l.val) = l.val; rw [hp.2]; omega

/-- An entry of the activations a point reads. -/
theorem ld_4 (r : Fin 512) (l : Fin 1024) : View.ld (iblk m c 4 t : Vec Ideal S512x1024 .f32) r0_1 (ix2 r l) = aX m c (ix2 (rowOf t r) l) := by
  have hp := place_4 t
  unfold iblk
  show (V m c main_arg4 : Vec Ideal S16384x1024 .f32) _ = aX m c _
  rw [V_main_arg4]
  congr 1
  funext ax
  apply Fin.ext
  match ax with
  | ⟨0, _⟩ => show win0_4.index t 0 * 512 + 1 * (0 + 1 * r.val) = 512 * t.val + r.val; rw [hp.1]; omega
  | ⟨1, _⟩ => show win0_4.index t 1 * 1024 + 1 * (0 + 1 * l.val) = l.val; rw [hp.2]; omega

/-- The narrowed weights are the weights. -/
theorem V_w : (V m c main_v0 : Vec Ideal S2x1024x1024 .bf16) = aW m c := by
  show StableHlo.after hostOps0 (fun b => m (c, b)) main_v0 = _
  simp only [hostOps0]
  after_results_simp
  rfl

/-- A weight of the projection's first half that a point reads. -/
theorem ld_lo (l : Fin 512) (e : Fin 1024) : View.ld (iblk m c 3 t : Vec Ideal S1x1024x1024 .bf16) r0_2 (ix3 0 l e) = aW m c (ix3 0 ⟨l.val, by omega⟩ e) := by
  have hp := place_3 t
  unfold iblk
  rw [← V_w]
  show (V m c main_v0 : Vec Ideal S2x1024x1024 .bf16) _ = V m c main_v0 _
  congr 1
  funext ax
  apply Fin.ext
  match ax with
  | ⟨0, _⟩ => show win0_3.index t 0 * 1 + 1 * (0 + 1 * 0) = 0; rw [hp.1]
  | ⟨1, _⟩ => show win0_3.index t 1 * 1024 + 1 * (0 + 1 * l.val) = l.val; rw [hp.2.1]; omega
  | ⟨2, _⟩ => show win0_3.index t 2 * 1024 + 1 * (0 + 1 * e.val) = e.val; rw [hp.2.2]; omega

/-- A weight of the projection's second half that a point reads. -/
theorem ld_hi (l : Fin 512) (e : Fin 1024) : View.ld (iblk m c 3 t : Vec Ideal S1x1024x1024 .bf16) r0_3 (ix3 0 l e) = aW m c (ix3 0 ⟨512 + l.val, by omega⟩ e) := by
  have hp := place_3 t
  unfold iblk
  rw [← V_w]
  show (V m c main_v0 : Vec Ideal S2x1024x1024 .bf16) _ = V m c main_v0 _
  congr 1
  funext ax
  apply Fin.ext
  match ax with
  | ⟨0, _⟩ => show win0_3.index t 0 * 1 + 1 * (0 + 1 * 0) = 0; rw [hp.1]
  | ⟨1, _⟩ => show win0_3.index t 1 * 1024 + 1 * (512 + 1 * l.val) = 512 + l.val; rw [hp.2.1]; omega
  | ⟨2, _⟩ => show win0_3.index t 2 * 1024 + 1 * (0 + 1 * e.val) = e.val; rw [hp.2.2]; omega

/-! ## What a point writes -/

/-- An entry of a block's values gated, projected and added. -/
theorem added_at (o q b : Vec Ideal S512x512 .f32) (x : Vec Ideal S512x1024 .f32) (w w' : Vec Ideal S1x512x1024 .bf16) (r : Fin 512) (e : Fin 1024) :
    k0_pay1 o q b x w w' (ix2 r e) = x (ix2 r e) + ∑ l : Fin 512, o (ix2 r l) * sigm (q (ix2 r l)) * w (ix3 0 l e)
      + ∑ l : Fin 512, b (ix2 r l) * w' (ix3 0 l e) := by
  unfold k0_pay1 sigm
  pointwise
  simp only [zero_sub]

/-- An entry of what a point writes. -/
theorem out_5_at (r : Fin 512) (e : Fin 1024) : out0_5 (iblk m c 0 t) (iblk m c 1 t) (iblk m c 2 t) (iblk m c 3 t) (iblk m c 4 t) (ix2 r e)
    = output (aO m c) (aQ m c) (aB m c) (aW m c) (aX m c) (ix2 (rowOf t r) e) := by
  unfold out0_5
  rw [View.canon_cons_unit_lit inb_S512x1024_S512x1024_0_0 _ [] (by decide), added_at, output_at]
  unfold entry
  congr 1
  · congr 1
    · exact ld_4 m c t r e
    · refine Finset.sum_congr rfl fun l _ => ?_
      rw [ld_0, ld_1, ld_lo]
  · refine Finset.sum_congr rfl fun l _ => ?_
    rw [ld_2, ld_hi]

/-- A point's write-back is its block of the activations with the projected values added. -/
theorem flushed_5 : (dats m 0 c).flushed 5 t = ((cfg0.win 5).blk t).view.read (Elt Ideal) (output (aO m c) (aQ m c) (aB m c) (aW m c) (aX m c)) := by
  show (cfg0.win 5).cut (grid0.coords t) ((dats m 0 c).after 5 t) = _
  rw [after0_5]
  have hp := place_5 t
  funext y
  change S512x1024.Idx at y
  idx_vars y
  refine (out_5_at m c t y0 y1).trans ?_
  show output _ _ _ _ _ _ = output _ _ _ _ _ _
  congr 1
  funext ax
  apply Fin.ext
  match ax with
  | ⟨0, _⟩ => show 512 * t.val + y0.val = win0_5.index t 0 * 512 + 1 * y0.val; rw [hp.1]; omega
  | ⟨1, _⟩ => show y1.val = win0_5.index t 1 * 1024 + 1 * y1.val; rw [hp.2]; omega

/-- The blocks cover the activations with the projected values added. -/
theorem cover_5 (y : S16384x1024.Idx) : ∃ t : Fin cfg0.N, (cfg0.win 5).flush t = true ∧ y ∈ ((cfg0.win 5).blk t).view.set := by
  have h0 : (y 0).val < 16384 := (y 0).isLt
  have h1 : (y 1).val < 1024 := (y 1).isLt
  let t : Fin grid0.N := ⟨(y 0).val / 512, Nat.lt_of_lt_of_eq (by omega) N_0.symm⟩
  have hp := place_5 t
  have ht : t.val = (y 0).val / 512 := rfl
  refine ⟨t, flush0_5 t, ?_⟩
  show y ∈ ((View.whole main_v1).slice (win0_5.rect t)).set
  rw [View.set_slice_whole, Rect.mem_set_unit]
  intro a
  match a with
  | ⟨0, _⟩ =>
    show win0_5.index t 0 * 512 ≤ (y 0).val ∧ (y 0).val < win0_5.index t 0 * 512 + 512
    rw [hp.1, ht]; omega
  | ⟨1, _⟩ =>
    show win0_5.index t 1 * 1024 ≤ (y 1).val ∧ (y 1).val < win0_5.index t 1 * 1024 + 1024
    rw [hp.2]; omega

/-- The result array is the activations with the projected values added. -/
theorem arr_5 : (dats m 0 c).arrAt 5 cfg0.N = output (aO m c) (aQ m c) (aB m c) (aW m c) (aX m c) :=
  (dats m 0 c).arrAt_eq_of_cover 5 (output (aO m c) (aQ m c) (aB m c) (aW m c) (aX m c)) (fun t _ => flushed_5 m c t) cover_5

/-- The run ends with the formula's arrays, its arguments as they were. -/
theorem run_results : θ_run defs (onTc (τ := τ) (main (F := Ideal))) ⟨m, fun _ => 0, ρ⟩ (fun r => ∀ c : Dev nD,
      r.2.mem ((c.tc : Thread nD τ).loc main_v1) = output (aO m c) (aQ m c) (aB m c) (aW m c) (aX m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (arr_5 m c), (h c).2⟩) (Cert.EvenOutIdeal.Value.run_blocks m ρ)

end Cert.EvenOutIdeal.Proj

end
-- ==== Proof.Proj.EvenOutRef.lean ====
module

public import proofs.«01_k».proof.Proof.Proj.EvenOut
public import proofs.«01_k».proof.Proof.Gen.EvenOutRefIdeal.Run

/-!
# The reference of the even layers' output projection

The reference's composed term, read at an index; its sum over the projection's rows is the sum over the first half and the sum over
the second.
-/

@[expose] public section

set_option maxRecDepth 16384

noncomputable section

namespace Cert.EvenOutRef

open Cert.EvenOutRefIdeal Cert.EvenOutRefIdeal.Gen Idealize.ShloMosaic Idealize.ShloMosaic.TcCoe Idealize.SL.Sem
open Cert.FfnMath

open Cert.EvenOutIdeal.Proj (sigm entry output output_at)

variable (O : Vec Ideal S16384x512 .f32) (Q : Vec Ideal S16384x2048 .f32) (B : Vec Ideal S16384x512 .f32)
  (W : Vec Ideal S2x1024x1024 .f32) (X : Vec Ideal S16384x1024 .f32)

/-- The gated values beside the second branch's. -/
def mixed : FVec Ideal S16384x1024 .f32 :=
  concatenate S16384x1024 1 [⟨S16384x512, (mulf O (Host.divf (broadcastInDim S16384x512 ![] bcast_S_S16384x512 (constant S_ .f32 0x3F800000#32)) (addf (broadcastInDim S16384x512 ![] bcast_S_S16384x512 (constant S_ .f32 0x3F800000#32)) (Host.exp (Host.negf (extractStridedSlice S16384x512 ![0, 1536] Q slices_S16384x2048_S16384x512_0_1536))))))⟩, ⟨S16384x512, B⟩] concatenates_S16384x512_S16384x512_S16384x1024_d1

/-- The reference's term. -/
def term : FVec Ideal S16384x1024 .f32 :=
  addf X (Host.dotGeneral (φ₂ := .f32) dot_S16384x1024_S1024x1024_S16384x1024_1_0_0_1_n_n none (mixed O Q B) (shapeCast S1024x1024 (extractStridedSlice S1x1024x1024 ![0, 0, 0] W slices_S2x1024x1024_S1x1024x1024_0_0_0) shapeCasts_S1x1024x1024_S1024x1024))

/-- The first half of the mixed columns: attention's values, gated. -/
theorem mixed_lo (a : Fin 16384) (l : Fin 512) : mixed O Q B (ix2 a ⟨l.val, by omega⟩) = O (ix2 a l) * sigm (Q (ix2 a ⟨1536 + l.val, by omega⟩)) := by
  unfold mixed sigm
  pointwise

/-- The second half of the mixed columns. -/
theorem mixed_hi (a : Fin 16384) (l : Fin 512) : mixed O Q B (ix2 a ⟨512 + l.val, by omega⟩) = B (ix2 a l) := by
  unfold mixed
  pointwise

/-- An entry of the reference's term. -/
theorem term_at (a : Fin 16384) (e : Fin 1024) : term O Q B W X (ix2 a e) = X (ix2 a e) + ∑ l : Fin 1024, mixed O Q B (ix2 a l) * W (ix3 0 l e) := by
  unfold term
  generalize mixed O Q B = n
  pointwise

/-- A sum over 1024 places is the sum over the first half and the sum over the second. -/
theorem sum_halves (f : Fin 1024 → EReal) : ∑ l : Fin 1024, f l = ∑ l : Fin 512, f ⟨l.val, by omega⟩ + ∑ l : Fin 512, f ⟨512 + l.val, by omega⟩ :=
  Fin.sum_univ_add (a := 512) (b := 512) f

/-- The reference's term is the activations with the projected values added. -/
theorem term_eq : term O Q B W X = output O Q B W X := by
  funext y
  change S16384x1024.Idx at y
  idx_vars y
  refine (term_at O Q B W X y0 y1).trans (Eq.trans ?_ (output_at O Q B W X y0 y1).symm)
  rw [sum_halves, ← add_assoc]
  unfold entry
  congr 1
  · congr 1
    refine Finset.sum_congr rfl fun l _ => ?_
    rw [mixed_lo]
  · refine Finset.sum_congr rfl fun l _ => ?_
    rw [mixed_hi]

end Cert.EvenOutRef

end
-- ==== Proof.Proj.OddOut.lean ====
module

public import proofs.«01_k».proof.Proof.Gen.OddOutIdeal.Value
public import proofs.«01_k».proof.Proof.Ffn.Meaning
public import Idealize.ShloMosaic.Lib.IdealHost
public import Idealize.ShloMosaic.Lib.Pointwise
public import Idealize.ShloMosaic.Lib.Pipeline.ValueKit.Basic

/-!
# The output projection of the odd layers

Each row of the mixed values against the projection, added to the activations: what a point writes is its block of this, and the
blocks cover the result.
-/

@[expose] public section

set_option maxRecDepth 16384

noncomputable section

namespace Cert.OddOutIdeal.Proj

open Cert.OddOutIdeal Cert.OddOutIdeal.Gen Idealize.ShloMosaic Idealize.ShloMosaic.TcCoe Idealize.SL.Sem
open Idealize.ShloMosaic.Pipeline (Dat)
open Cert.FfnMath

/-! ## The formula -/

/-- The activations with the projected values added. -/
def output (O : Vec Ideal S16384x1024 .f32) (W : Vec Ideal S2x1024x1024 .f32) (X : Vec Ideal S16384x1024 .f32) : Vec Ideal S16384x1024 .f32 := fun y =>
  X y + ∑ l : Fin 1024, O (ix2 (y 0) l) * W (ix3 0 l (y 1))

/-- An entry of the activations with the projected values added. -/
theorem output_at (O : Vec Ideal S16384x1024 .f32) (W : Vec Ideal S2x1024x1024 .f32) (X : Vec Ideal S16384x1024 .f32) (a : Fin 16384) (e : Fin 1024) :
    output O W X (ix2 a e) = X (ix2 a e) + ∑ l : Fin 1024, O (ix2 a l) * W (ix3 0 l e) := rfl

/-! ## The windows' places -/

/-- The block of mixed values of a point: its number. -/
theorem place_0 : ∀ t : Fin grid0.N, win0_0.index t 0 = t.val ∧ win0_0.index t 1 = 0 := by decide +kernel
/-- The projection used is the stack's first. -/
theorem place_1 : ∀ t : Fin grid0.N, win0_1.index t 0 = 0 ∧ win0_1.index t 1 = 0 ∧ win0_1.index t 2 = 0 := by decide +kernel
/-- The block of activations of a point: its number. -/
theorem place_2 : ∀ t : Fin grid0.N, win0_2.index t 0 = t.val ∧ win0_2.index t 1 = 0 := by decide +kernel
/-- The result's block of a point: its number. -/
theorem place_3 : ∀ t : Fin grid0.N, win0_3.index t 0 = t.val ∧ win0_3.index t 1 = 0 := by decide +kernel

variable (m : (ℓ : Loc nD τ sig) → Buf (Elt Ideal) ℓ) (ρ : Dev nD → PrngReg) (c : Dev nD) (t : Fin cfg0.N)

/-- The mixed values. -/
abbrev aO : Vec Ideal S16384x1024 .f32 := m ((c : Thread nD τ).loc main_arg0)
/-- The stack of projections. -/
abbrev aW : Vec Ideal S2x1024x1024 .f32 := m ((c : Thread nD τ).loc main_arg1)
/-- The activations. -/
abbrev aX : Vec Ideal S16384x1024 .f32 := m ((c : Thread nD τ).loc main_arg2)

/-- A point's number is below 32. -/
theorem t_lt : t.val < 32 := Nat.lt_of_lt_of_eq t.isLt N_0

/-- Row `r` of a point's block, in the array. -/
def rowOf (r : Fin 512) : Fin 16384 := ⟨512 * t.val + r.val, by have := t_lt t; omega⟩

/-! ## What a point reads -/

/-- An entry of the mixed values a point reads. -/
theorem ld_0 (r : Fin 512) (l : Fin 1024) : View.ld (iblk m c 0 t : Vec Ideal S512x1024 .f32) r0_0 (ix2 r l) = aO m c (ix2 (rowOf t r) l) := by
  have hp := place_0 t
  unfold iblk
  show (V m c main_arg0 : Vec Ideal S16384x1024 .f32) _ = aO m c _
  rw [V_main_arg0]
  congr 1
  funext ax
  apply Fin.ext
  match ax with
  | ⟨0, _⟩ => show win0_0.index t 0 * 512 + 1 * (0 + 1 * r.val) = 512 * t.val + r.val; rw [hp.1]; omega
  | ⟨1, _⟩ => show win0_0.index t 1 * 1024 + 1 * (0 + 1 * l.val) = l.val; rw [hp.2]; omega

/-- An entry of the activations a point reads. -/
theorem ld_2 (r : Fin 512) (l : Fin 1024) : View.ld (iblk m c 2 t : Vec Ideal S512x1024 .f32) r0_0 (ix2 r l) = aX m c (ix2 (rowOf t r) l) := by
  have hp := place_2 t
  unfold iblk
  show (V m c main_arg2 : Vec Ideal S16384x1024 .f32) _ = aX m c _
  rw [V_main_arg2]
  congr 1
  funext ax
  apply Fin.ext
  match ax with
  | ⟨0, _⟩ => show win0_2.index t 0 * 512 + 1 * (0 + 1 * r.val) = 512 * t.val + r.val; rw [hp.1]; omega
  | ⟨1, _⟩ => show win0_2.index t 1 * 1024 + 1 * (0 + 1 * l.val) = l.val; rw [hp.2]; omega

/-- The narrowed weights are the weights. -/
theorem V_w : (V m c main_v0 : Vec Ideal S2x1024x1024 .bf16) = aW m c := by
  show StableHlo.after hostOps0 (fun b => m (c, b)) main_v0 = _
  simp only [hostOps0]
  after_results_simp
  rfl

/-- A weight of the projection that a point reads. -/
theorem ld_1 (l : Fin 1024) (e : Fin 1024) : View.ld (iblk m c 1 t : Vec Ideal S1x1024x1024 .bf16) r0_1 (ix3 0 l e) = aW m c (ix3 0 l e) := by
  have hp := place_1 t
  unfold iblk
  rw [← V_w]
  show (V m c main_v0 : Vec Ideal S2x1024x1024 .bf16) _ = V m c main_v0 _
  congr 1
  funext ax
  apply Fin.ext
  match ax with
  | ⟨0, _⟩ => show win0_1.index t 0 * 1 + 1 * (0 + 1 * 0) = 0; rw [hp.1]
  | ⟨1, _⟩ => show win0_1.index t 1 * 1024 + 1 * (0 + 1 * l.val) = l.val; rw [hp.2.1]; omega
  | ⟨2, _⟩ => show win0_1.index t 2 * 1024 + 1 * (0 + 1 * e.val) = e.val; rw [hp.2.2]; omega

/-! ## What a point writes -/

/-- An entry of a block's values projected and added. -/
theorem added_at (x : Vec Ideal S512x1024 .f32) (o : Vec Ideal S512x1024 .f32) (w : Vec Ideal S1x1024x1024 .bf16) (r : Fin 512) (e : Fin 1024) :
    k0_pay1 x o w (ix2 r e) = x (ix2 r e) + ∑ l : Fin 1024, o (ix2 r l) * w (ix3 0 l e) := by
  unfold k0_pay1
  pointwise

/-- An entry of what a point writes. -/
theorem out_3_at (r : Fin 512) (e : Fin 1024) : out0_3 (iblk m c 0 t) (iblk m c 1 t) (iblk m c 2 t) (ix2 r e)
    = output (aO m c) (aW m c) (aX m c) (ix2 (rowOf t r) e) := by
  unfold out0_3
  rw [View.canon_cons_unit_lit inb_S512x1024_S512x1024_0_0 _ [] (by decide), added_at, output_at]
  congr 1
  · exact ld_2 m c t r e
  · refine Finset.sum_congr rfl fun l _ => ?_
    rw [ld_0, ld_1]

/-- A point's write-back is its block of the activations with the projected values added. -/
theorem flushed_3 : (dats m 0 c).flushed 3 t = ((cfg0.win 3).blk t).view.read (Elt Ideal) (output (aO m c) (aW m c) (aX m c)) := by
  show (cfg0.win 3).cut (grid0.coords t) ((dats m 0 c).after 3 t) = _
  rw [after0_3]
  have hp := place_3 t
  funext y
  change S512x1024.Idx at y
  idx_vars y
  refine (out_3_at m c t y0 y1).trans ?_
  show output _ _ _ _ = output _ _ _ _
  congr 1
  funext ax
  apply Fin.ext
  match ax with
  | ⟨0, _⟩ => show 512 * t.val + y0.val = win0_3.index t 0 * 512 + 1 * y0.val; rw [hp.1]; omega
  | ⟨1, _⟩ => show y1.val = win0_3.index t 1 * 1024 + 1 * y1.val; rw [hp.2]; omega

/-- The blocks cover the activations with the projected values added. -/
theorem cover_3 (y : S16384x1024.Idx) : ∃ t : Fin cfg0.N, (cfg0.win 3).flush t = true ∧ y ∈ ((cfg0.win 3).blk t).view.set := by
  have h0 : (y 0).val < 16384 := (y 0).isLt
  have h1 : (y 1).val < 1024 := (y 1).isLt
  let t : Fin grid0.N := ⟨(y 0).val / 512, Nat.lt_of_lt_of_eq (by omega) N_0.symm⟩
  have hp := place_3 t
  have ht : t.val = (y 0).val / 512 := rfl
  refine ⟨t, flush0_3 t, ?_⟩
  show y ∈ ((View.whole main_v1).slice (win0_3.rect t)).set
  rw [View.set_slice_whole, Rect.mem_set_unit]
  intro a
  match a with
  | ⟨0, _⟩ =>
    show win0_3.index t 0 * 512 ≤ (y 0).val ∧ (y 0).val < win0_3.index t 0 * 512 + 512
    rw [hp.1, ht]; omega
  | ⟨1, _⟩ =>
    show win0_3.index t 1 * 1024 ≤ (y 1).val ∧ (y 1).val < win0_3.index t 1 * 1024 + 1024
    rw [hp.2]; omega

/-- The result array is the activations with the projected values added. -/
theorem arr_3 : (dats m 0 c).arrAt 3 cfg0.N = output (aO m c) (aW m c) (aX m c) :=
  (dats m 0 c).arrAt_eq_of_cover 3 (output (aO m c) (aW m c) (aX m c)) (fun t _ => flushed_3 m c t) cover_3

/-- The run ends with the formula's arrays, its arguments as they were. -/
theorem run_results : θ_run defs (onTc (τ := τ) (main (F := Ideal))) ⟨m, fun _ => 0, ρ⟩ (fun r => ∀ c : Dev nD,
      r.2.mem ((c.tc : Thread nD τ).loc main_v1) = output (aO m c) (aW m c) (aX m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (arr_3 m c), (h c).2⟩) (Cert.OddOutIdeal.Value.run_blocks m ρ)

end Cert.OddOutIdeal.Proj

end
-- ==== Proof.Proj.OddOutRef.lean ====
module

public import proofs.«01_k».proof.Proof.Proj.OddOut
public import proofs.«01_k».proof.Proof.Gen.OddOutRefIdeal.Run

/-!
# The reference of the odd layers' output projection

The reference's composed term, read at an index.
-/

@[expose] public section

set_option maxRecDepth 16384

noncomputable section

namespace Cert.OddOutRef

open Cert.OddOutRefIdeal Cert.OddOutRefIdeal.Gen Idealize.ShloMosaic Idealize.ShloMosaic.TcCoe Idealize.SL.Sem
open Cert.FfnMath

variable (O : Vec Ideal S16384x1024 .f32) (W : Vec Ideal S2x1024x1024 .f32) (X : Vec Ideal S16384x1024 .f32)

/-- The reference's term. -/
def term : FVec Ideal S16384x1024 .f32 :=
  addf X (Host.dotGeneral (φ₁ := .f32) (φ₂ := .f32) dot_S16384x1024_S1024x1024_S16384x1024_1_0_0_1_n_n none O (shapeCast S1024x1024 (extractStridedSlice S1x1024x1024 ![0, 0, 0] W slices_S2x1024x1024_S1x1024x1024_0_0_0) shapeCasts_S1x1024x1024_S1024x1024))

/-- An entry of the reference's term. -/
theorem term_at (a : Fin 16384) (e : Fin 1024) : term O W X (ix2 a e) = X (ix2 a e) + ∑ l : Fin 1024, O (ix2 a l) * W (ix3 0 l e) := by
  unfold term
  pointwise

/-- The reference's term is the activations with the projected values added. -/
theorem term_eq : term O W X = Cert.OddOutIdeal.Proj.output O W X := by
  funext y
  change S16384x1024.Idx at y
  idx_vars y
  exact (term_at O W X y0 y1).trans (Cert.OddOutIdeal.Proj.output_at O W X y0 y1).symm

end Cert.OddOutRef

end
-- ==== Proof.Proj.FinalNorm.lean ====
module

public import proofs.«01_k».proof.Proof.Gen.FinalNormIdeal.Value
public import proofs.«01_k».proof.Proof.Ffn.Meaning
public import Idealize.ShloMosaic.Lib.IdealHost
public import Idealize.ShloMosaic.Lib.Pointwise
public import Idealize.ShloMosaic.Lib.Pipeline.ValueKit.Basic

/-!
# The last norm's call

Each row of the activations over the root of its mean square, times the weights: what a point writes is its block of this, and
the blocks cover the result.
-/

@[expose] public section

set_option maxRecDepth 16384

noncomputable section

namespace Cert.FinalNormIdeal.Proj

open Cert.FinalNormIdeal Cert.FinalNormIdeal.Gen Idealize.ShloMosaic Idealize.ShloMosaic.TcCoe Idealize.SL.Sem
open Idealize.ShloMosaic.Pipeline (Dat)
open Cert.FfnMath

/-! ## The formula -/

variable (X : Vec Ideal S16384x1024 .f32) (g : Vec Ideal S1024 .f32) in
/-- The normed activations. -/
def output : Vec Ideal S16384x1024 .f32 := fun y => normed (fun k => X (ix2 (y 0) k)) (fun k => g (ix1 k)) (y 1)

/-- An entry of the normed activations. -/
theorem output_at (X : Vec Ideal S16384x1024 .f32) (g : Vec Ideal S1024 .f32) (a : Fin 16384) (e : Fin 1024) :
    output X g (ix2 a e) = normed (fun k => X (ix2 a k)) (fun k => g (ix1 k)) e := rfl

/-! ## The windows' places -/

/-- The block of activations of a point: its number. -/
theorem place_0 : ∀ t : Fin grid0.N, win0_0.index t 0 = t.val ∧ win0_0.index t 1 = 0 := by decide +kernel
/-- The norm's weights are one block. -/
theorem place_1 : ∀ t : Fin grid0.N, win0_1.index t 0 = 0 ∧ win0_1.index t 1 = 0 := by decide +kernel
/-- The result's block of a point: its number. -/
theorem place_2 : ∀ t : Fin grid0.N, win0_2.index t 0 = t.val ∧ win0_2.index t 1 = 0 := by decide +kernel

variable (m : (ℓ : Loc nD τ sig) → Buf (Elt Ideal) ℓ) (ρ : Dev nD → PrngReg) (c : Dev nD) (t : Fin cfg0.N)

/-- The activations. -/
abbrev aX : Vec Ideal S16384x1024 .f32 := m ((c : Thread nD τ).loc main_arg0)
/-- The norm's weights. -/
abbrev aG : Vec Ideal S1024 .f32 := m ((c : Thread nD τ).loc main_arg1)

/-- A point's number is below 32. -/
theorem t_lt : t.val < 32 := Nat.lt_of_lt_of_eq t.isLt N_0

/-- Row `r` of a point's block, in the array. -/
def rowOf (r : Fin 512) : Fin 16384 := ⟨512 * t.val + r.val, by have := t_lt t; omega⟩

/-! ## What a point reads -/

/-- An entry of the activations a point reads. -/
theorem ld_0 (r : Fin 512) (l : Fin 1024) : View.ld (iblk m c 0 t : Vec Ideal S512x1024 .f32) r0_0 (ix2 r l) = aX m c (ix2 (rowOf t r) l) := by
  have hp := place_0 t
  unfold iblk
  show (V m c main_arg0 : Vec Ideal S16384x1024 .f32) _ = aX m c _
  rw [V_main_arg0]
  congr 1
  funext ax
  apply Fin.ext
  match ax with
  | ⟨0, _⟩ => show win0_0.index t 0 * 512 + 1 * (0 + 1 * r.val) = 512 * t.val + r.val; rw [hp.1]; omega
  | ⟨1, _⟩ => show win0_0.index t 1 * 1024 + 1 * (0 + 1 * l.val) = l.val; rw [hp.2]; omega

/-- The norm's weights as one row. -/
theorem V_g : (V m c main_v0 : Vec Ideal S1x1024 .f32) = shapeCast S1x1024 (aG m c) shapeCasts_S1024_S1x1024 := by
  show StableHlo.after hostOps0 (fun b => m (c, b)) main_v0 = _
  simp only [hostOps0]
  after_results_simp
  rfl

/-- A weight of the norm that a point reads. -/
theorem ld_1 (l : Fin 1024) : View.ld (iblk m c 1 t : Vec Ideal S1x1024 .f32) r0_1 (ix2 0 l) = aG m c (ix1 l) := by
  have hp := place_1 t
  unfold iblk
  have e : shapeCast S1x1024 (aG m c) shapeCasts_S1024_S1x1024 (ix2 0 l) = aG m c (ix1 l) := by pointwise
  rw [← e, ← V_g]
  show (V m c main_v0 : Vec Ideal S1x1024 .f32) _ = V m c main_v0 _
  congr 1
  funext ax
  apply Fin.ext
  match ax with
  | ⟨0, _⟩ => show win0_1.index t 0 * 1 + 1 * (0 + 1 * 0) = 0; rw [hp.1]
  | ⟨1, _⟩ => show win0_1.index t 1 * 1024 + 1 * (0 + 1 * l.val) = l.val; rw [hp.2]; omega

/-! ## What a point writes -/

/-- A normed entry of a block. -/
theorem normed_at (x : Vec Ideal S512x1024 .f32) (g : Vec Ideal S1x1024 .f32) (r : Fin 512) (l : Fin 1024) :
    k0_pay1 x g (ix2 r l) = normed (fun k => x (ix2 r k)) (fun k => g (ix2 0 k)) l := by
  unfold k0_pay1 normed
  pointwise

/-- An entry of what a point writes. -/
theorem out_2_at (r : Fin 512) (e : Fin 1024) : out0_2 (iblk m c 0 t) (iblk m c 1 t) (ix2 r e) = output (aX m c) (aG m c) (ix2 (rowOf t r) e) := by
  unfold out0_2
  rw [View.canon_cons_unit_lit inb_S512x1024_S512x1024_0_0 _ [] (by decide), normed_at, output_at]
  congr 1
  · exact funext fun k => ld_0 m c t r k
  · exact funext fun k => ld_1 m c t k

/-- A point's write-back is its block of the normed activations. -/
theorem flushed_2 : (dats m 0 c).flushed 2 t = ((cfg0.win 2).blk t).view.read (Elt Ideal) (output (aX m c) (aG m c)) := by
  show (cfg0.win 2).cut (grid0.coords t) ((dats m 0 c).after 2 t) = _
  rw [after0_2]
  have hp := place_2 t
  funext y
  change S512x1024.Idx at y
  idx_vars y
  refine (out_2_at m c t y0 y1).trans ?_
  show output _ _ _ = output _ _ _
  congr 1
  funext ax
  apply Fin.ext
  match ax with
  | ⟨0, _⟩ => show 512 * t.val + y0.val = win0_2.index t 0 * 512 + 1 * y0.val; rw [hp.1]; omega
  | ⟨1, _⟩ => show y1.val = win0_2.index t 1 * 1024 + 1 * y1.val; rw [hp.2]; omega

/-- The blocks cover the normed activations. -/
theorem cover_2 (y : S16384x1024.Idx) : ∃ t : Fin cfg0.N, (cfg0.win 2).flush t = true ∧ y ∈ ((cfg0.win 2).blk t).view.set := by
  have h0 : (y 0).val < 16384 := (y 0).isLt
  have h1 : (y 1).val < 1024 := (y 1).isLt
  let t : Fin grid0.N := ⟨(y 0).val / 512, Nat.lt_of_lt_of_eq (by omega) N_0.symm⟩
  have hp := place_2 t
  have ht : t.val = (y 0).val / 512 := rfl
  refine ⟨t, flush0_2 t, ?_⟩
  show y ∈ ((View.whole main_v1).slice (win0_2.rect t)).set
  rw [View.set_slice_whole, Rect.mem_set_unit]
  intro a
  match a with
  | ⟨0, _⟩ =>
    show win0_2.index t 0 * 512 ≤ (y 0).val ∧ (y 0).val < win0_2.index t 0 * 512 + 512
    rw [hp.1, ht]; omega
  | ⟨1, _⟩ =>
    show win0_2.index t 1 * 1024 ≤ (y 1).val ∧ (y 1).val < win0_2.index t 1 * 1024 + 1024
    rw [hp.2]; omega

/-- The result array is the normed activations. -/
theorem arr_2 : (dats m 0 c).arrAt 2 cfg0.N = output (aX m c) (aG m c) :=
  (dats m 0 c).arrAt_eq_of_cover 2 (output (aX m c) (aG m c)) (fun t _ => flushed_2 m c t) cover_2

/-- The run ends with the formula's arrays, its arguments as they were. -/
theorem run_results : θ_run defs (onTc (τ := τ) (main (F := Ideal))) ⟨m, fun _ => 0, ρ⟩ (fun r => ∀ c : Dev nD,
      r.2.mem ((c.tc : Thread nD τ).loc main_v1) = output (aX m c) (aG m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (arr_2 m c), (h c).2⟩) (Cert.FinalNormIdeal.Value.run_blocks m ρ)

end Cert.FinalNormIdeal.Proj

end
-- ==== Proof.Proj.FinalNormRef.lean ====
module

public import proofs.«01_k».proof.Proof.Proj.FinalNorm
public import proofs.«01_k».proof.Proof.Gen.FinalNormRefIdeal.Run

/-!
# The reference of the last norm

The reference's composed term, read at an index.
-/

@[expose] public section

set_option maxRecDepth 16384

noncomputable section

namespace Cert.FinalNormRef

open Cert.FinalNormRefIdeal Cert.FinalNormRefIdeal.Gen Idealize.ShloMosaic Idealize.ShloMosaic.TcCoe Idealize.SL.Sem
open Cert.FfnMath

variable (X : Vec Ideal S16384x1024 .f32) (g : Vec Ideal S1024 .f32)

/-- The reference's term. -/
def term : FVec Ideal S16384x1024 .f32 :=
  mulf (mulf X (broadcastInDim S16384x1024 ![0, 1] bcast_S16384x1_S16384x1024_0_1 (Host.rsqrt (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))

/-- An entry of the reference's term. -/
theorem term_at (a : Fin 16384) (e : Fin 1024) : term X g (ix2 a e) = normed (fun k => X (ix2 a k)) (fun k => g (ix1 k)) e := by
  unfold term normed
  pointwise

/-- The reference's term is the normed activations. -/
theorem term_eq : term X g = Cert.FinalNormIdeal.Proj.output X g := by
  funext y
  change S16384x1024.Idx at y
  idx_vars y
  exact (term_at X g y0 y1).trans (Cert.FinalNormIdeal.Proj.output_at X g y0 y1).symm

end Cert.FinalNormRef

end
-- ==== Proof.Attn.Online.lean ====
module

public import Idealize.ShloMosaic.PureOps.Ideal
public import Mathlib.Algebra.BigOperators.Fin
public import Mathlib.Data.EReal.Operations
public import Mathlib.Data.EReal.Inv
public import Mathlib.Algebra.BigOperators.Intervals

/-!
# One softmax, summed block after block

The running maximum and running sum of a query's scores, taken block by block, end at the maximum and the weighted sum of
all the scores taken at once; a masked score is `⊥`, whose exponential is zero. Their quotient is the softmax's average.
-/

@[expose] public section

noncomputable section

namespace Cert.Attn

open Idealize.ShloMosaic

/-- An exponential is not negative. -/
theorem exp_nonneg (x : EReal) : 0 ≤ Ideal.exp x := by
  induction x with
  | bot => simp
  | top => simp
  | coe r => rw [Ideal.exp_coe]; exact_mod_cast (Real.exp_pos r).le

/-- An exponential is infinite at infinity only. -/
theorem exp_ne_top {x : EReal} (h : x ≠ ⊤) : Ideal.exp x ≠ ⊤ := by
  induction x with
  | bot => simp
  | top => exact absurd rfl h
  | coe r => rw [Ideal.exp_coe]; exact EReal.coe_ne_top _

/-- Rescaling an exponential from one real maximum to another. -/
theorem exp_rescale {m m' s : EReal} (hm : m ≠ ⊤) (hm2 : m ≠ ⊥) (hm' : m' ≠ ⊤) (hm'2 : m' ≠ ⊥) (hs : s ≠ ⊤) :
    Ideal.exp (m - m') * Ideal.exp (s - m) = Ideal.exp (s - m') := by
  lift m to ℝ using ⟨hm, hm2⟩
  lift m' to ℝ using ⟨hm', hm'2⟩
  induction s with
  | top => exact absurd rfl hs
  | bot => simp
  | coe s =>
    rw [← EReal.coe_sub, ← EReal.coe_sub, ← EReal.coe_sub, Ideal.exp_coe, Ideal.exp_coe, Ideal.exp_coe, ← EReal.coe_mul,
      ← Real.exp_add]
    congr 2
    ring

/-- A factor neither negative nor infinite goes into a sum. -/
theorem mul_sum_of_nonneg {ι : Type} (t : Finset ι) {c : EReal} (h0 : 0 ≤ c) (h1 : c ≠ ⊤) (f : ι → EReal) :
    c * ∑ k ∈ t, f k = ∑ k ∈ t, c * f k := by
  classical
  induction t using Finset.induction_on with
  | empty => simp
  | insert a t ha ih => rw [Finset.sum_insert ha, Finset.sum_insert ha, EReal.left_distrib_of_nonneg_of_ne_top h0 h1, ih]

/-- A finite sum of reals, taken in the extended reals. -/
theorem coe_sum {ι : Type} (t : Finset ι) (f : ι → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- The running maximum after `n` blocks. -/
def cm {ι : Type} [Fintype ι] (s : ℕ → ι → EReal) : ℕ → EReal
  | 0 => ⊥
  | n + 1 => max (cm s n) (Finset.univ.fold max ⊥ (s n))

/-- The running sum after `n` blocks, of values `v`. -/
def ca {ι : Type} [Fintype ι] (s v : ℕ → ι → EReal) : ℕ → EReal
  | 0 => 0
  | n + 1 => Ideal.exp (cm s n - cm s (n + 1)) * ca s v n + ∑ k, v n k * Ideal.exp (s n k - cm s (n + 1))

section
variable {ι : Type} [Fintype ι] (s v : ℕ → ι → EReal)

/-- The running maximum is the least bound of the scores seen. -/
theorem cm_le_iff (n : ℕ) (x : EReal) : cm s n ≤ x ↔ ∀ j < n, ∀ k, s j k ≤ x := by
  induction n with
  | zero => simp [cm]
  | succ n ih =>
    rw [cm, max_le_iff, ih, Finset.fold_max_le]
    constructor
    · rintro ⟨h1, -, h2⟩ j hj k
      rcases Nat.lt_succ_iff_lt_or_eq.mp hj with h | rfl
      · exact h1 j h k
      · exact h2 k (Finset.mem_univ k)
    · intro h
      exact ⟨fun j hj k => h j (by omega) k, bot_le, fun k _ => h n (by omega) k⟩

/-- A score seen is at most the running maximum. -/
theorem le_cm {n j : ℕ} (hj : j < n) (k : ι) : s j k ≤ cm s n := (cm_le_iff s n _).mp le_rfl j hj k

/-- The running maximum is not `⊤`, no score being. -/
theorem cm_ne_top (ht : ∀ j k, s j k ≠ ⊤) (n : ℕ) : cm s n ≠ ⊤ := by
  have hf : ∀ j, Finset.univ.fold max ⊥ (s j) ≠ ⊤ := fun j => by
    refine ne_of_lt ?_
    rw [Finset.fold_max_lt]
    exact ⟨bot_lt_top, fun k _ => lt_top_iff_ne_top.mpr (ht j k)⟩
  induction n with
  | zero => simp [cm]
  | succ n ih => rw [cm]; exact ne_of_lt (max_lt (lt_top_iff_ne_top.mpr ih) (lt_top_iff_ne_top.mpr (hf n)))

/-- The running maximum is not `⊥` once a score has been seen. -/
theorem cm_ne_bot {n j : ℕ} (hj : j < n) {k : ι} (hb : s j k ≠ ⊥) : cm s n ≠ ⊥ := fun h =>
  hb (le_bot_iff.mp (h ▸ le_cm s hj k))

/-- The running sum is the sum over the scores seen, at the running maximum. -/
theorem ca_eq (ht : ∀ j k, s j k ≠ ⊤) {k0 : ι} {n : ℕ} (hb : ∀ j < n, s j k0 ≠ ⊥) :
    ca s v n = ∑ j ∈ Finset.range n, ∑ k, v j k * Ideal.exp (s j k - cm s n) := by
  induction n with
  | zero => simp [ca]
  | succ n ih =>
    rw [Finset.sum_range_succ, ca, ih fun j hj => hb j (by omega)]
    congr 1
    rcases Nat.eq_zero_or_pos n with rfl | hn
    · simp
    · have b0 := cm_ne_bot s (n := n) hn (hb 0 (by omega))
      have b1 := cm_ne_bot s (n := n + 1) (j := 0) (by omega) (hb 0 (by omega))
      have t0 := cm_ne_top s ht n
      have t1 := cm_ne_top s ht (n + 1)
      have hne : Ideal.exp (cm s n - cm s (n + 1)) ≠ ⊤ := by
        apply exp_ne_top
        generalize cm s n = a at *
        generalize cm s (n + 1) = b at *
        lift a to ℝ using ⟨t0, b0⟩
        lift b to ℝ using ⟨t1, b1⟩
        rw [← EReal.coe_sub]; exact EReal.coe_ne_top _
      rw [mul_sum_of_nonneg _ (exp_nonneg _) hne]
      refine Finset.sum_congr rfl fun j _ => ?_
      rw [mul_sum_of_nonneg _ (exp_nonneg _) hne]
      refine Finset.sum_congr rfl fun k _ => ?_
      rw [mul_left_comm, exp_rescale t0 b0 t1 b1 (ht j k)]

end

/-- A query's masked scores: a key after the query gets `⊥`. -/
def masked (q : ℕ) (s : ℕ → EReal) (key : ℕ) : EReal := if key ≤ q then s key else ⊥

/-- Keys in blocks of 512. -/
def blocked (f : ℕ → EReal) (j : ℕ) (k : Fin 512) : EReal := f (512 * j + k.val)

/-- The largest masked score over all keys. -/
def top (S : ℕ → EReal) : EReal := Finset.univ.fold max ⊥ fun k : Fin 8192 => S k.val

/-- A softmax over 8192 keys, averaging values `v`. -/
def average (S v : ℕ → EReal) : EReal :=
  ∑ k : Fin 8192, v k.val * Ideal.div (Ideal.exp (S k.val - top S)) (∑ k : Fin 8192, Ideal.exp (S k.val - top S))

/-- A sum over all keys whose terms vanish past the query's block is the sum over the blocks up to it. -/
theorem sum_blocks (f : ℕ → EReal) (J : ℕ) (hJ : J < 16) (h : ∀ k, 512 * (J + 1) ≤ k → f k = 0) :
    ∑ k : Fin 8192, f k.val = ∑ j ∈ Finset.range (J + 1), ∑ k : Fin 512, f (512 * j + k.val) := by
  have e : ∀ n : ℕ, ∑ k ∈ Finset.range (512 * n), f k = ∑ j ∈ Finset.range n, ∑ k : Fin 512, f (512 * j + k.val) := fun n => by
    induction n with
    | zero => simp
    | succ n ih =>
      rw [Finset.sum_range_succ, ← ih, show 512 * (n + 1) = 512 * n + 512 from rfl, Finset.sum_range_add]
      rw [Finset.sum_range fun x => f (512 * n + x)]
  rw [← e (J + 1), ← Finset.sum_range (n := 8192)]
  symm
  refine Finset.sum_subset (fun k hk => Finset.mem_range.mpr ?_) fun k _ hk => h k ?_
  · have := Finset.mem_range.mp hk; omega
  · have := Finset.mem_range.not.mp hk; omega

/-- The quotient of the running sums after the query's own block is the softmax's average over all keys. -/
theorem quotient_eq (q : ℕ) (hq : q < 8192) (s v : ℕ → EReal) (ht : ∀ k, s k ≠ ⊤) (hb : ∀ k, s k ≠ ⊥) :
    Ideal.div (ca (blocked (masked q s)) (blocked v) (q / 512 + 1))
      (ca (blocked (masked q s)) (fun _ _ => 1) (q / 512 + 1)) = average (masked q s) v := by
  set S := masked q s with hS
  have hSt : ∀ k, S k ≠ ⊤ := fun k => by rw [hS, masked]; split; exacts [ht k, bot_ne_top]
  have hbt : ∀ j k, blocked S j k ≠ ⊤ := fun j k => hSt _
  have hlt : q / 512 < 16 := by omega
  have hbb : ∀ j < q / 512 + 1, blocked S j 0 ≠ ⊥ := fun j hj => by
    show S (512 * j + 0) ≠ ⊥
    rw [hS, masked, if_pos (by omega)]; exact hb _
  have hout : ∀ k, 512 * (q / 512 + 1) ≤ k → S k = ⊥ := fun k hk => by
    rw [hS, masked, if_neg (by omega)]
  have hM : cm (blocked S) (q / 512 + 1) = top S := by
    apply le_antisymm
    · rw [cm_le_iff]
      intro j hj k
      have hk : 512 * j + k.val < 8192 := by have := k.isLt; omega
      rw [top, Finset.le_fold_max]
      exact .inr ⟨⟨_, hk⟩, Finset.mem_univ _, le_rfl⟩
    · rw [top, Finset.fold_max_le]
      refine ⟨bot_le, fun k _ => ?_⟩
      by_cases hk : 512 * (q / 512 + 1) ≤ k.val
      · rw [hout _ hk]; exact bot_le
      · have := le_cm (blocked S) (n := q / 512 + 1) (j := k.val / 512) (by omega) ⟨k.val % 512, Nat.mod_lt _ (by decide)⟩
        rwa [blocked, Nat.div_add_mod] at this
  have mt : top S ≠ ⊤ := hM ▸ cm_ne_top _ hbt _
  have mb : top S ≠ ⊥ := hM ▸ cm_ne_bot _ (Nat.succ_pos _) (hbb 0 (Nat.succ_pos _))
  rw [ca_eq _ _ hbt hbb, ca_eq _ _ hbt hbb, hM, average]
  generalize top S = M at mt mb
  lift M to ℝ using ⟨mt, mb⟩
  have hz : ∀ k, 512 * (q / 512 + 1) ≤ k → Ideal.exp (S k - M) = 0 := fun k hk => by rw [hout k hk]; simp
  have hr : ∀ k, ∃ r : ℝ, 0 ≤ r ∧ Ideal.exp (S k - M) = (r : EReal) := fun k => by
    have h := hSt k
    generalize S k = x at h
    induction x with
    | top => exact absurd rfl h
    | bot => exact ⟨0, le_rfl, by simp⟩
    | coe x => exact ⟨_, (Real.exp_pos _).le, by rw [← EReal.coe_sub, Ideal.exp_coe]⟩
  choose r hr0 hr using hr
  have hr1 : 0 < r 0 := by
    have h1 : S 0 ≠ ⊥ := hbb 0 (Nat.succ_pos _)
    have h2 := hSt 0
    have h3 := hr 0
    generalize S 0 = x at h1 h2 h3
    lift x to ℝ using ⟨h2, h1⟩
    rw [← EReal.coe_sub, Ideal.exp_coe] at h3
    have h4 : Real.exp (x - M) = r 0 := by exact_mod_cast h3
    rw [← h4]; exact Real.exp_pos _
  have hden : ∑ j ∈ Finset.range (q / 512 + 1), ∑ k : Fin 512, (1 : EReal) * Ideal.exp (blocked S j k - M)
      = ∑ k : Fin 8192, Ideal.exp (S k.val - M) := by
    rw [sum_blocks (fun k => Ideal.exp (S k - M)) _ hlt hz]
    refine Finset.sum_congr rfl fun j _ => Finset.sum_congr rfl fun k _ => ?_
    rw [one_mul]; rfl
  have hnum : ∑ j ∈ Finset.range (q / 512 + 1), ∑ k : Fin 512, blocked v j k * Ideal.exp (blocked S j k - M)
      = ∑ k : Fin 8192, v k.val * Ideal.exp (S k.val - M) :=
    (sum_blocks (fun k => v k * Ideal.exp (S k - M)) _ hlt (fun k hk => by rw [hz k hk, mul_zero])).symm
  rw [hden, hnum]
  have hL : ∑ k : Fin 8192, Ideal.exp (S k.val - M) = ((∑ k : Fin 8192, r k.val : ℝ) : EReal) := by
    rw [coe_sum]
    exact Finset.sum_congr rfl fun k _ => hr _
  have hpos : 0 < ∑ k : Fin 8192, r k.val :=
    Finset.sum_pos' (fun k _ => hr0 _) ⟨0, Finset.mem_univ _, hr1⟩
  rw [hL]
  generalize ∑ k : Fin 8192, r k.val = L at hpos
  rw [Ideal.div_coe hpos.ne', mul_comm, mul_sum_of_nonneg _ (EReal.coe_nonneg.mpr (one_div_pos.mpr hpos).le) (EReal.coe_ne_top _)]
  refine Finset.sum_congr rfl fun k _ => ?_
  rw [Ideal.div_coe hpos.ne', mul_comm, mul_assoc]

end Cert.Attn

end
-- ==== Proof.Attn.Chain.lean ====
module

public import proofs.«01_k».proof.Proof.Gen.KernelIdeal.Value
public import Idealize.ShloMosaic.Lib.WholeRead
public import Idealize.ShloMosaic.Lib.Pointwise

/-!
# One online-softmax chain of the attention kernel

A grid point runs eight chains side by side, one per query sub-block of 512 rows and head of the pair. A chain carries
the running maximum of its scores and the running weighted sum of the value rows; this module names one step of a
chain, the pieces of the staged blocks a step reads, and the chain itself.
-/

@[expose] public section

set_option maxRecDepth 16384

noncomputable section

namespace Cert.Attn

open Cert.KernelIdeal Cert.KernelIdeal.Gen Idealize.ShloMosaic Idealize.ShloMosaic.TcCoe Idealize.SL.Sem

variable {F : FTy → Type} [FloatOps F] [Named F]

/-- What a chain carries: the running maximum per query, and the running sums per value lane and query. -/
abbrev St (F : FTy → Type) [FloatOps F] : Type := FVec F S1x512 .f32 × FVec F S128x512 .f32

/-- A block of scores, key by query. -/
def score (k q : Vec F S512x128 .bf16) : FVec F S512x512 .f32 :=
  matmul dot_S512x128_S512x128_S512x512_1_1_0_0_n_n none k q (constant S512x512 .f32 0x00000000#32)

/-- The scores of a diagonal block: a key after its query gets the mask's value. -/
def causal (s : FVec F S512x512 .f32) : FVec F S512x512 .f32 :=
  select k0_pay55 s (broadcast S512x512 (Named.named κ "mask" 0xF149F2CA#32 : F .f32))

/-- The running maximum after a block of scores. -/
def newMax (s : FVec F S512x512 .f32) (m : FVec F S1x512 .f32) : FVec F S1x512 .f32 :=
  maximumf m (shapeCast S1x512 (multiReduction .maximumf [0] S512 s 0xFF800000#32 reduces_S512x512_S512 (.inl rfl) rfl)
    shapeCasts_S512_S1x512)

/-- The running sums after a block of scores and its values, `m'` the new maximum. -/
def newSum (s : FVec F S512x512 .f32) (v : FVec F S128x512 .bf16) (m m' : FVec F S1x512 .f32)
    (a : FVec F S128x512 .f32) : FVec F S128x512 .f32 :=
  addf (mulf (broadcastTo S128x512 (exp (subf m m')) broadcasts_S1x512_S128x512) a)
    (matmul dot_S128x512_S512x512_S128x512_1_0_0_1_n_n none v
      (truncf .bf16 (exp (subf s (broadcastTo S512x512 m' broadcasts_S1x512_S512x512))) bitsLt_bf16_f32)
      (constant S128x512 .f32 0x00000000#32))

/-- One step of a chain. -/
def upd (s : FVec F S512x512 .f32) (v : FVec F S128x512 .bf16) (st : St F) : St F :=
  (newMax s st.1, newSum s v st.1 (newMax s st.1) st.2)

/-- A chain before its first step. -/
def st0 : St F :=
  (broadcast S1x512 (Named.named κ "mask" 0xF149F2CA#32 : F .f32), broadcast S128x512 (Scalar.ofBits .f32 0x00000000#32 : F .f32))

/-- Query sub-block `sb` of head `hh` in the point's query block. -/
def qw (x0 : Vec F S2048x256 .bf16) (sb hh : ℕ) : Vec F S512x128 .bf16 := fun y =>
  x0 (ix2 ⟨(512 * sb + (y 0).val) % 2048, Nat.mod_lt _ (by decide)⟩ ⟨(128 * hh + (y 1).val) % 256, Nat.mod_lt _ (by decide)⟩)

/-- Key block `j` of head `hh`. -/
def kw (x1 : Vec F S8192x256 .bf16) (j hh : ℕ) : Vec F S512x128 .bf16 := fun y =>
  x1 (ix2 ⟨(512 * j + (y 0).val) % 8192, Nat.mod_lt _ (by decide)⟩ ⟨(128 * hh + (y 1).val) % 256, Nat.mod_lt _ (by decide)⟩)

/-- Value block `j` of head `hh`. -/
def vw (x2 : Vec F S1x2x16x128x512 .bf16) (j hh : ℕ) : FVec F S128x512 .bf16 := fun y =>
  x2 (ix5 (n0 := 1) (n1 := 2) (n2 := 16) (n3 := 128) (n4 := 512) 0 ⟨hh % 2, Nat.mod_lt _ (by decide)⟩ ⟨j % 16, Nat.mod_lt _ (by decide)⟩ (y 0) (y 1))

/-- The chain of sub-block `sb`, head `hh`, after the first `n` key blocks, none of them masked. -/
def run (x0 : Vec F S2048x256 .bf16) (x1 : Vec F S8192x256 .bf16) (x2 : Vec F S1x2x16x128x512 .bf16) (sb hh : ℕ) : ℕ → St F
  | 0 => st0
  | n + 1 => upd (score (kw x1 n hh) (qw x0 sb hh)) (vw x2 n hh) (run x0 x1 x2 sb hh n)

/-- The chain at its end at query tile `i`: `4 i + sb` whole blocks, then the diagonal block. -/
def fin (x0 : Vec F S2048x256 .bf16) (x1 : Vec F S8192x256 .bf16) (x2 : Vec F S1x2x16x128x512 .bf16) (i sb hh : ℕ) : St F :=
  upd (causal (score (kw x1 (4 * i + sb) hh) (qw x0 sb hh))) (vw x2 (4 * i + sb) hh) (run x0 x1 x2 sb hh (4 * i + sb))

/-- A load from the query block at a sub-block's place reads `qw`. -/
theorem read_q {arg3 : Memref sig .tc .vmem S2048x256 .bf16} (harg3 : arg3.IsWhole) (x0 : Vec F S2048x256 .bf16)
    (sb hh : ℕ) (hs : sb < 4) (hh2 : hh < 2) (off : Fin 2 → ℕ) (ho : off = ![512 * sb, 128 * hh]) (inb) :
    View.readAt (Elt F) arg3.view (Rect.unit (s := S2048x256) off S512x128.size inb).toLoadRect (harg3.unread x0) = qw x0 sb hh := by
  subst ho
  funext y
  rw [harg3.readAt_unread]
  unfold qw
  congr 1
  idx_vars y
  funext ax
  apply Fin.ext
  match ax with
  | ⟨0, _⟩ => show 512 * sb + 1 * y0.val = (512 * sb + y0.val) % 2048; have := y0.isLt; change y0.val < 512 at this; omega
  | ⟨1, _⟩ => show 128 * hh + 1 * y1.val = (128 * hh + y1.val) % 256; have := y1.isLt; change y1.val < 128 at this; omega

/-- A load from the key block at a place spelled by its offsets reads `kw`. -/
theorem read_k {arg4 : Memref sig .tc .vmem S8192x256 .bf16} (harg4 : arg4.IsWhole) (x1 : Vec F S8192x256 .bf16)
    (j hh : ℕ) (hj : j < 16) (hh2 : hh < 2) (off : Fin 2 → ℕ) (ho : off = ![512 * j, 128 * hh]) (inb) :
    View.readAt (Elt F) arg4.view (Rect.unit (s := S8192x256) off S512x128.size inb).toLoadRect (harg4.unread x1) = kw x1 j hh := by
  subst ho
  funext y
  rw [harg4.readAt_unread]
  unfold kw
  congr 1
  idx_vars y
  funext ax
  apply Fin.ext
  match ax with
  | ⟨0, _⟩ => show 512 * j + 1 * y0.val = (512 * j + y0.val) % 8192; have := y0.isLt; change y0.val < 512 at this; omega
  | ⟨1, _⟩ => show 128 * hh + 1 * y1.val = (128 * hh + y1.val) % 256; have := y1.isLt; change y1.val < 128 at this; omega

/-- Dropping a value block's three unit axes keeps its lane and key. -/
theorem drop_units (X : Vec F S1x1x1x128x512 .bf16) (a : Fin 128) (b : Fin 512) :
    shapeCast S128x512 X shapeCasts_S1x1x1x128x512_S128x512 (ix2 a b) = X (ix5 0 0 0 a b) := by
  pointwise

/-- A load from the value block at a place spelled by its offsets, its unit axes dropped, reads `vw`. -/
theorem read_v {arg5 : Memref sig .tc .vmem S1x2x16x128x512 .bf16} (harg5 : arg5.IsWhole) (x2 : Vec F S1x2x16x128x512 .bf16)
    (j hh : ℕ) (hj : j < 16) (hh2 : hh < 2) (off : Fin 5 → ℕ) (ho : off = ![0, hh, j, 0, 0]) (inb) :
    shapeCast S128x512 (View.readAt (Elt F) arg5.view (Rect.unit (s := S1x2x16x128x512) off S1x1x1x128x512.size inb).toLoadRect (harg5.unread x2) : Vec F S1x1x1x128x512 .bf16)
      shapeCasts_S1x1x1x128x512_S128x512 = vw x2 j hh := by
  subst ho
  funext y
  idx_vars y
  have e : View.readAt (Elt F) arg5.view (Rect.unit (s := S1x2x16x128x512) ![0, hh, j, 0, 0] S1x1x1x128x512.size inb).toLoadRect (harg5.unread x2)
      = fun y : S1x1x1x128x512.Idx => x2 ((Rect.unit (s := S1x2x16x128x512) ![0, hh, j, 0, 0] S1x1x1x128x512.size inb).toLoadRect.idx y) := by
    funext y; exact harg5.readAt_unread x2 _ y
  rw [e, drop_units]
  unfold vw
  congr 1
  funext ax
  apply Fin.ext
  match ax with
  | ⟨0, _⟩ => rfl
  | ⟨1, _⟩ => show hh + 1 * 0 = hh % 2; omega
  | ⟨2, _⟩ => show j + 1 * 0 = j % 16; omega
  | ⟨3, _⟩ => show 0 + 1 * y0.val = y0.val; omega
  | ⟨4, _⟩ => show 0 + 1 * y1.val = y1.val; omega

end Cert.Attn

end
-- ==== Proof.Attn.Column.lean ====
module

public import proofs.«01_k».proof.Proof.Attn.Chain
public import proofs.«01_k».proof.Proof.Attn.Online
public import Idealize.ShloMosaic.Lib.IdealHost

/-!
# A chain's column over the extended reals

One query's column of a chain, read at an index: the running maximum and the running sums of its scores, block by block.
-/

@[expose] public section

set_option maxRecDepth 16384

noncomputable section

namespace Cert.Attn

open Cert.KernelIdeal Cert.KernelIdeal.Gen Idealize.ShloMosaic Idealize.ShloMosaic.TcCoe Idealize.SL.Sem

/-- The mask's value is `⊥`. -/
theorem mask_eq : Named.named (F := Ideal) κ "mask" (φ := .f32) 0xF149F2CA#32 = (⊥ : EReal) :=
  IdealRules.named_const.ideal_named_scalar _ _ _ _ rfl

/-- The pattern of minus infinity is `⊥`. -/
theorem ninf_eq : Ideal.ofBits .f32 0xFF800000#32 = (⊥ : EReal) := by
  simp [Ideal.ofBits, Ideal.ieee]

/-- A score is the product of a key's row and a query's row. -/
theorem score_at (k q : Vec Ideal S512x128 .bf16) (a b : Fin 512) :
    score (F := Ideal) k q (ix2 a b) = ∑ l : Fin 128, k (ix2 a l) * q (ix2 b l) := by
  unfold score
  pointwise

/-- The new maximum at a query. -/
theorem newMax_at (s : FVec Ideal S512x512 .f32) (m : FVec Ideal S1x512 .f32) (r : Fin 512) :
    newMax (F := Ideal) s m (ix2 0 r) = max (m (ix2 0 r)) (Finset.univ.fold max ⊥ fun k : Fin 512 => s (ix2 k r)) := by
  unfold newMax
  pointwise
  rw [ninf_eq]

/-- The new sum at a value lane and a query. -/
theorem newSum_at (s : FVec Ideal S512x512 .f32) (v : FVec Ideal S128x512 .bf16) (m m' : FVec Ideal S1x512 .f32)
    (a : FVec Ideal S128x512 .f32) (d : Fin 128) (r : Fin 512) :
    newSum (F := Ideal) s v m m' a (ix2 d r) = Ideal.exp (m (ix2 0 r) - m' (ix2 0 r)) * a (ix2 d r)
      + ∑ k : Fin 512, v (ix2 d k) * Ideal.exp (s (ix2 k r) - m' (ix2 0 r)) := by
  unfold newSum
  pointwise

/-- The mask keeps a key up to the query. -/
theorem causal_at (s : FVec Ideal S512x512 .f32) (k r : Fin 512) :
    causal (F := Ideal) s (ix2 k r) = if k.val ≤ r.val then s (ix2 k r) else ⊥ := by
  unfold causal k0_pay55
  pointwise
  rw [mask_eq, WordCmp.cmpi_sle_ofNat (by have := k.isLt; omega) (by have := r.isLt; omega), WordCmp.select_ofBool]
  simp only [decide_eq_true_eq]

variable (x0 : Vec Ideal S2048x256 .bf16) (x1 : Vec Ideal S8192x256 .bf16) (x2 : Vec Ideal S1x2x16x128x512 .bf16)

/-- The scores of key `key` for query row `q` of a point's tile, head `hh` of the pair. -/
def ps (hh q : ℕ) (key : ℕ) : EReal :=
  ∑ l : Fin 128, kw x1 (key / 512) hh (ix2 ⟨key % 512, Nat.mod_lt _ (by decide)⟩ l)
    * qw x0 (q / 512) hh (ix2 ⟨q % 512, Nat.mod_lt _ (by decide)⟩ l)

/-- Value lane `d` of key `key`. -/
def pv (hh : ℕ) (d : Fin 128) (key : ℕ) : EReal :=
  vw x2 (key / 512) hh (ix2 d ⟨key % 512, Nat.mod_lt _ (by decide)⟩)

/-- The entry of a key's block and its place within. -/
theorem ps_at (hh sb j : ℕ) (k r : Fin 512) : ps x0 x1 hh (512 * sb + r.val) (512 * j + k.val)
    = score (F := Ideal) (kw x1 j hh) (qw x0 sb hh) (ix2 k r) := by
  have hk := k.isLt
  have hr := r.isLt
  rw [score_at, ps, show (512 * j + k.val) / 512 = j by omega, show (512 * sb + r.val) / 512 = sb by omega]
  refine Finset.sum_congr rfl fun l _ => ?_
  congr 3 <;> · apply Fin.ext; show (512 * _ + _) % 512 = _; omega

/-- The value at key `512 j + k`, channel `d`, is entry `(d, k)` of the value block `j`. -/
theorem pv_at (hh j : ℕ) (d : Fin 128) (k : Fin 512) : pv x2 hh d (512 * j + k.val) = vw x2 j hh (ix2 d k) := by
  have hk := k.isLt
  rw [pv, show (512 * j + k.val) / 512 = j by omega]
  congr 2
  apply Fin.ext; show (512 * j + k.val) % 512 = _; omega

/-- One step of a chain's column is one step of the running maximum and sum. -/
theorem upd_col (S V : ℕ → Fin 512 → EReal) (s : FVec Ideal S512x512 .f32) (v : FVec Ideal S128x512 .bf16) (st : St Ideal)
    (d : Fin 128) (r : Fin 512) (n : ℕ) (hs : ∀ k, s (ix2 k r) = S n k) (hv : ∀ k, v (ix2 d k) = V n k)
    (h1 : st.1 (ix2 0 r) = cm S n) (h2 : st.2 (ix2 d r) = ca S V n) :
    (upd s v st).1 (ix2 0 r) = cm S (n + 1) ∧ (upd s v st).2 (ix2 d r) = ca S V (n + 1) := by
  have e1 : newMax s st.1 (ix2 0 r) = cm S (n + 1) := by
    rw [newMax_at, h1, cm]
    simp only [hs]
  refine ⟨e1, ?_⟩
  show newSum s v st.1 (newMax s st.1) st.2 (ix2 d r) = _
  rw [newSum_at, e1, h1, h2, ca]
  simp only [hs, hv]

/-- The column of a chain over whole blocks, none past the query. -/
theorem run_col (T : ℕ) (hh sb : ℕ) (hT : T % 2048 = 0) (d : Fin 128) (r : Fin 512) (n : ℕ) (hn : 512 * n ≤ T + 512 * sb) :
    (run x0 x1 x2 sb hh n).1 (ix2 0 r) = cm (blocked (masked (T + 512 * sb + r.val) (ps x0 x1 hh (512 * sb + r.val)))) n
    ∧ (run x0 x1 x2 sb hh n).2 (ix2 d r)
      = ca (blocked (masked (T + 512 * sb + r.val) (ps x0 x1 hh (512 * sb + r.val)))) (blocked (pv x2 hh d)) n := by
  induction n with
  | zero =>
    refine ⟨?_, ?_⟩
    · show Named.named (F := Ideal) κ "mask" (φ := .f32) 0xF149F2CA#32 = _
      rw [mask_eq]; rfl
    · show (Scalar.ofBits .f32 0x00000000#32 : Ideal .f32) = 0
      exact Ideal.ofBits_zero .f32
  | succ n ih =>
    obtain ⟨h1, h2⟩ := ih (by omega)
    refine upd_col _ _ _ _ _ d r n (fun k => ?_) (fun k => (pv_at x2 hh n d k).symm) h1 h2
    rw [← ps_at]
    show _ = masked _ _ (512 * n + k.val)
    rw [masked, if_pos (by have := k.isLt; omega)]

/-- The column at the chain's end, its own block masked. -/
theorem fin_col (i hh sb : ℕ) (d : Fin 128) (r : Fin 512) :
    (fin x0 x1 x2 i sb hh).2 (ix2 d r)
      = ca (blocked (masked (2048 * i + 512 * sb + r.val) (ps x0 x1 hh (512 * sb + r.val)))) (blocked (pv x2 hh d)) (4 * i + sb + 1) := by
  obtain ⟨h1, h2⟩ := run_col x0 x1 x2 (2048 * i) hh sb (by omega) d r (4 * i + sb) (by omega)
  refine (upd_col _ _ _ _ _ d r (4 * i + sb) (fun k => ?_) (fun k => (pv_at x2 hh _ d k).symm) h1 h2).2
  rw [causal_at, ← ps_at]
  show _ = masked _ _ (512 * (4 * i + sb) + k.val)
  rw [masked]
  exact if_congr (by omega) rfl rfl

end Cert.Attn

end
-- ==== Proof.Attn.Ref.lean ====
module

public import proofs.«01_k».proof.Proof.Attn.Online
public import proofs.«01_k».proof.Proof.Attn.Column
public import proofs.«01_k».proof.Proof.Gen.ReferenceIdeal.Run
public import Idealize.ShloMosaic.Lib.IdealHost

/-!
# The reference, read at an index

The reference's composed term at a result row and column is the causal softmax's average of the value rows.
-/

@[expose] public section

set_option maxRecDepth 16384

noncomputable section

namespace Cert.AttnRef

open Cert.ReferenceIdeal Cert.ReferenceIdeal.Gen Idealize.ShloMosaic Idealize.ShloMosaic.TcCoe Idealize.SL.Sem

/-- The reference's masked scores. -/
def scores (Q K : Vec Ideal S16384x1024 .bf16) : FVec Ideal S2x8x8192x8192 .f32 :=
  select (broadcastInDim S2x8x8192x8192 ![2, 3] bcast_S8192x8192_S2x8x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))
    (Host.dotGeneral dot_S2x8192x8x128_S2x8192x8x128_S2x8x8192x8192_3_3_1_1_02_02 none (shapeCast S2x8192x8x128 (extf .f32 Q bitsLt_bf16_f32) shapeCasts_S16384x1024_S2x8192x8x128) (shapeCast S2x8192x8x128 (extf .f32 K bitsLt_bf16_f32) shapeCasts_S16384x1024_S2x8192x8x128))
    (broadcastInDim S2x8x8192x8192 ![] bcast_S_S2x8x8192x8192 (id (constant S_ .f32 0xFF800000#32)))

/-- Each row's maximum. -/
def rowMax (s : FVec Ideal S2x8x8192x8192 .f32) : FVec Ideal S2x8x8192 .f32 :=
  Host.reduce FloatOps.maximumf s (constant S_ .f32 0xFF800000#32) reducesTo_S2x8x8192x8192_S2x8x8192_d3 h_S_

/-- Exponentials of scores below their row's maximum. -/
def exps (s : FVec Ideal S2x8x8192x8192 .f32) (mx : FVec Ideal S2x8x8192 .f32) : FVec Ideal S2x8x8192x8192 .f32 :=
  Host.exp (subf s (broadcastInDim S2x8x8192x8192 ![0, 1, 2, 3] bcast_S2x8x8192x1_S2x8x8192x8192_0_1_2_3 (broadcastInDim S2x8x8192x1 ![0, 1, 2] bcast_S2x8x8192_S2x8x8192x1_0_1_2 (maximumf (broadcastInDim S2x8x8192 ![] bcast_S_S2x8x8192 (constant S_ .f32 0xFF800000#32)) mx))))

/-- A row's exponentials over their sum. -/
def weights (e : FVec Ideal S2x8x8192x8192 .f32) : FVec Ideal S2x8x8192x8192 .f32 :=
  Host.divf e (broadcastInDim S2x8x8192x8192 ![0, 1, 2, 3] bcast_S2x8x8192x1_S2x8x8192x8192_0_1_2_3 (broadcastInDim S2x8x8192x1 ![0, 1, 2] bcast_S2x8x8192_S2x8x8192x1_0_1_2 (Host.reduceAdd e (constant S_ .f32 0x00000000#32) reducesTo_S2x8x8192x8192_S2x8x8192_d3 h_S_)))

/-- The value rows, key by lane. -/
def values (V : Vec Ideal S2x8x16x128x512 .bf16) : FVec Ideal S2x8192x8x64 .f32 :=
  shapeCast S2x8192x8x64 (transpose S2x16x512x8x64 [0, 2, 4, 1, 3] (extractStridedSlice S2x8x16x64x512 ![0, 0, 0, 0, 0] (extf .f32 V bitsLt_bf16_f32) slices_S2x8x16x128x512_S2x8x16x64x512_0_0_0_0_0) transposes_S2x8x16x64x512_S2x16x512x8x64_0_2_4_1_3) shapeCasts_S2x16x512x8x64_S2x8192x8x64

/-- The averages, laid out as the result. -/
def averages (v : FVec Ideal S2x8192x8x64 .f32) (w : FVec Ideal S2x8x8192x8192 .f32) : FVec Ideal S16384x512 .f32 :=
  shapeCast S16384x512 (transpose S2x8192x8x64 [0, 3, 1, 2] (Host.dotGeneral dot_S2x8192x8x64_S2x8x8192x8192_S2x8x64x8192_1_3_3_2_02_01 none v w) transposes_S2x8x64x8192_S2x8192x8x64_0_3_1_2) shapeCasts_S2x8192x8x64_S16384x512

/-- The reference's term is these stages. -/
theorem res_eq (m : (ℓ : Loc nD τ sig) → Buf (Elt Ideal) ℓ) (c : Dev nD) :
    Cert.ReferenceIdeal.Value.res_main_v30 m c = averages (values (m ((c.tc : Thread nD τ).loc main_arg2)))
      (weights (exps (scores (m ((c.tc : Thread nD τ).loc main_arg0)) (m ((c.tc : Thread nD τ).loc main_arg1)))
        (rowMax (scores (m ((c.tc : Thread nD τ).loc main_arg0)) (m ((c.tc : Thread nD τ).loc main_arg1)))))) := rfl

/-- A masked score at its place. -/
theorem scores_at (Q K : Vec Ideal S16384x1024 .bf16) (b : Fin 2) (h : Fin 8) (q key : Fin 8192) :
    scores Q K (ix4 b h q key) = if key.val ≤ q.val then
      ∑ l : Fin 128, Q (ix2 ⟨8192 * b.val + q.val, by omega⟩ ⟨128 * h.val + l.val, by omega⟩) * K (ix2 ⟨8192 * b.val + key.val, by omega⟩ ⟨128 * h.val + l.val, by omega⟩)
      else ⊥ := by
  unfold scores
  pointwise
  rw [WordCmp.cmpi_sle_ofNat (by have := key.isLt; omega) (by have := q.isLt; omega), WordCmp.select_ofBool]
  simp only [decide_eq_true_eq]
  refine if_congr Iff.rfl ?_ Attn.ninf_eq
  simp only [Nat.mul_comm]

/-- The row maximum is the greatest of the row’s 8192 scores. -/
theorem rowMax_at (s : FVec Ideal S2x8x8192x8192 .f32) (b : Fin 2) (h : Fin 8) (q : Fin 8192) :
    rowMax s (ix3 b h q) = Finset.univ.fold max ⊥ fun k : Fin 8192 => s (ix4 b h q k) := by
  have red : S2x8x8192x8192.Reduces [3] S2x8x8192 := by decide
  unfold rowMax
  rw [Host.reduce_eq_fold_single FloatOps.maximumf s _ reducesTo_S2x8x8192x8192_S2x8x8192_d3 red h_S_]
  have e : (s ∘ red.lift (ix3 b h q)) = fun k : Fin 8192 => s (ix4 b h q k) := by
    funext k
    show s (red.lift (ix3 b h q) k) = _
    congr 1
    funext ax
    match ax with
    | ⟨0, _⟩ => rfl
    | ⟨1, _⟩ => rfl
    | ⟨2, _⟩ => rfl
    | ⟨3, _⟩ => rfl
  rw [e, show (constant S_ .f32 0xFF800000#32 : FVec Ideal S_ .f32) (Shape.Idx.first h_S_) = (⊥ : EReal) from Attn.ninf_eq]
  rfl

/-- The exponential of a score less its row’s maximum. -/
theorem exps_at (s : FVec Ideal S2x8x8192x8192 .f32) (mx : FVec Ideal S2x8x8192 .f32) (b : Fin 2) (h : Fin 8) (q key : Fin 8192) :
    exps s mx (ix4 b h q key) = Ideal.exp (s (ix4 b h q key) - mx (ix3 b h q)) := by
  unfold exps
  pointwise
  rw [Attn.ninf_eq, max_eq_right bot_le]

/-- A weight is an exponential over the sum of its row’s exponentials. -/
theorem weights_at (e : FVec Ideal S2x8x8192x8192 .f32) (b : Fin 2) (h : Fin 8) (q key : Fin 8192) :
    weights e (ix4 b h q key) = Ideal.div (e (ix4 b h q key)) (∑ k : Fin 8192, e (ix4 b h q k)) := by
  unfold weights
  pointwise

/-- The value of a key, taken out of its transposed tile. -/
theorem values_at (V : Vec Ideal S2x8x16x128x512 .bf16) (b : Fin 2) (h : Fin 8) (key : Fin 8192) (d : Fin 64) :
    values V (ix4 b key h d) = V (ix5 b h ⟨key.val / 512, by omega⟩ ⟨d.val, by omega⟩ ⟨key.val % 512, by omega⟩) := by
  unfold values
  pointwise

/-- An entry of the result: the values of a head, averaged with the weights of the row. -/
theorem averages_at (v : FVec Ideal S2x8192x8x64 .f32) (w : FVec Ideal S2x8x8192x8192 .f32) (a : Fin 16384) (e : Fin 512) :
    averages v w (ix2 a e) = ∑ k : Fin 8192, v (ix4 ⟨a.val / 8192, by omega⟩ k ⟨e.val / 64, by omega⟩ ⟨e.val % 64, by omega⟩)
      * w (ix4 ⟨a.val / 8192, by omega⟩ ⟨e.val / 64, by omega⟩ ⟨a.val % 8192, by omega⟩ k) := by
  unfold averages
  pointwise

end Cert.AttnRef

end
-- ==== Proof.Attn.Loop.lean ====
module

public import proofs.«01_k».proof.Proof.Attn.Chain

/-!
# The loop over whole key blocks

Trip `k` of the kernel's first loop takes one step of each of the eight chains at key block `k`; before trip `k` the
carried value is the eight chains after `k` blocks. The second loop has no trips.
-/

@[expose] public section

set_option maxRecDepth 16384

noncomputable section

namespace Cert.Attn

open Cert.KernelIdeal Cert.KernelIdeal.Gen Idealize.ShloMosaic Idealize.ShloMosaic.TcCoe Idealize.SL.Sem

variable {F : FTy → Type} [FloatOps F] [Named F]

/-- The eight chains' carried values as the loop carries them. -/
abbrev St8 (F : FTy → Type) [FloatOps F] : Type :=
  FVec F S1x512 .f32 × FVec F S128x512 .f32 × FVec F S1x512 .f32 × FVec F S128x512 .f32 × FVec F S1x512 .f32 × FVec F S128x512 .f32 × FVec F S1x512 .f32 × FVec F S128x512 .f32 × FVec F S1x512 .f32 × FVec F S128x512 .f32 × FVec F S1x512 .f32 × FVec F S128x512 .f32 × FVec F S1x512 .f32 × FVec F S128x512 .f32 × FVec F S1x512 .f32 × FVec F S128x512 .f32

/-- Eight chains, written as the loop carries them. -/
def pack (f : ℕ → ℕ → St F) : St8 F :=
  ((f 0 0).1, (f 0 0).2, (f 0 1).1, (f 0 1).2, (f 1 0).1, (f 1 0).2, (f 1 1).1, (f 1 1).2, (f 2 0).1, (f 2 0).2, (f 2 1).1, (f 2 1).2, (f 3 0).1, (f 3 0).2, (f 3 1).1, (f 3 1).2)

/-- One step of every chain, written as the loop carries them. -/
def upd8 (q : ℕ → ℕ → Vec F S512x128 .bf16) (k : ℕ → Vec F S512x128 .bf16) (v : ℕ → FVec F S128x512 .bf16) (a : St8 F) : St8 F :=
  pack fun sb hh => upd (score (k hh) (q sb hh)) (v hh) (match sb, hh with
    | 0, 0 => (a.1, a.2.1)
    | 0, _ => (a.2.2.1, a.2.2.2.1)
    | 1, 0 => (a.2.2.2.2.1, a.2.2.2.2.2.1)
    | 1, _ => (a.2.2.2.2.2.2.1, a.2.2.2.2.2.2.2.1)
    | 2, 0 => (a.2.2.2.2.2.2.2.2.1, a.2.2.2.2.2.2.2.2.2.1)
    | 2, _ => (a.2.2.2.2.2.2.2.2.2.2.1, a.2.2.2.2.2.2.2.2.2.2.2.1)
    | _, 0 => (a.2.2.2.2.2.2.2.2.2.2.2.2.1, a.2.2.2.2.2.2.2.2.2.2.2.2.2.1)
    | _, _ => (a.2.2.2.2.2.2.2.2.2.2.2.2.2.2.1, a.2.2.2.2.2.2.2.2.2.2.2.2.2.2.2))

/-- The first loop has `4 i` trips. -/
theorem trips1 : ∀ i : grid0.Coords, (k0_t1_loop i).trips = 4 * (i 2).val := by decide +kernel

/-- The second loop has none. -/
theorem trips2 (i : grid0.Coords) : (k0_t2_loop i).trips = 0 := Nat.le_zero.mp (k0_t2_abs i).2.1

/-- The queries' coordinate runs below 4. -/
theorem i2_lt (i : grid0.Coords) : (i 2).val < 4 := (i 2).isLt

set_option maxHeartbeats 1000000 in
/-- A trip's result, of what it loads. -/
theorem trip_loaded (c : Dev nD) (i : grid0.Coords) (arg3 : Memref sig .tc .vmem S2048x256 .bf16) (harg3 : arg3.IsWhole) (arg4 : Memref sig .tc .vmem S8192x256 .bf16) (harg4 : arg4.IsWhole) (arg5 : Memref sig .tc .vmem S1x2x16x128x512 .bf16) (harg5 : arg5.IsWhole) (arg6 : Memref sig .tc .vmem S2048x128 .f32) (harg6 : arg6.IsWhole) (arg2 : BitVec 32) (v3 : Vec F S512x128 .bf16) (v4 : Vec F S512x128 .bf16) (v5 : Vec F S512x128 .bf16) (v6 : Vec F S512x128 .bf16) (v7 : Vec F S512x128 .bf16) (v8 : Vec F S512x128 .bf16) (v9 : Vec F S512x128 .bf16) (v10 : Vec F S512x128 .bf16) (v11 : FVec F S1x512 .f32) (v12 : FVec F S128x512 .f32) (v13 : FVec F S1x512 .f32) (v14 : FVec F S128x512 .f32) (v15 : FVec F S1x512 .f32) (v16 : FVec F S128x512 .f32) (v17 : FVec F S1x512 .f32) (v18 : FVec F S128x512 .f32) (v19 : FVec F S1x512 .f32) (v20 : FVec F S128x512 .f32) (v21 : FVec F S1x512 .f32) (v22 : FVec F S128x512 .f32) (v23 : FVec F S1x512 .f32) (v24 : FVec F S128x512 .f32) (v25 : FVec F S1x512 .f32)
    (x1 : BufTy.Contents (Elt F) arg4.view.ty) (x2 : BufTy.Contents (Elt F) arg5.view.ty) (k : Fin (k0_t1_loop i).trips) (a : St8 F) :
    tripR_k0_t1 Variants.none c none i arg3 harg3 arg4 harg4 arg5 harg5 arg6 harg6 arg2 v3 v4 v5 v6 v7 v8 v9 v10 v11 v12 v13 v14 v15 v16 v17 v18 v19 v20 v21 v22 v23 v24 v25 x1 x2 k a
      = upd8 (fun sb hh => match sb, hh with | 0, 0 => v3 | 0, _ => v4 | 1, 0 => v5 | 1, _ => v6 | 2, 0 => v7 | 2, _ => v8 | _, 0 => v9 | _, _ => v10)
          (fun hh => match hh with
            | 0 => View.readAt (Elt F) arg4.view (Rect.unit (s := S8192x256) (k0_off1 i k) S512x128.size (k0_off1_inb i k)).toLoadRect x1
            | _ => View.readAt (Elt F) arg4.view (Rect.unit (s := S8192x256) (k0_off2 i k) S512x128.size (k0_off2_inb i k)).toLoadRect x1)
          (fun hh => match hh with
            | 0 => shapeCast S128x512 (View.readAt (Elt F) arg5.view (Rect.unit (s := S1x2x16x128x512) (k0_off3 i k) S1x1x1x128x512.size (k0_off3_inb i k)).toLoadRect x2 : Vec F S1x1x1x128x512 .bf16) shapeCasts_S1x1x1x128x512_S128x512
            | _ => shapeCast S128x512 (View.readAt (Elt F) arg5.view (Rect.unit (s := S1x2x16x128x512) (k0_off4 i k) S1x1x1x128x512.size (k0_off4_inb i k)).toLoadRect x2 : Vec F S1x1x1x128x512 .bf16) shapeCasts_S1x1x1x128x512_S128x512) a := by
  unfold tripR_k0_t1 trip_k0_t1
  rfl

/-- A trip at block `k` steps every chain at key block `k`. -/
theorem trip_upd (c : Dev nD) (i : grid0.Coords) (arg3 : Memref sig .tc .vmem S2048x256 .bf16) (harg3 : arg3.IsWhole) (arg4 : Memref sig .tc .vmem S8192x256 .bf16) (harg4 : arg4.IsWhole) (arg5 : Memref sig .tc .vmem S1x2x16x128x512 .bf16) (harg5 : arg5.IsWhole) (arg6 : Memref sig .tc .vmem S2048x128 .f32) (harg6 : arg6.IsWhole) (arg2 : BitVec 32) (v3 : Vec F S512x128 .bf16) (v4 : Vec F S512x128 .bf16) (v5 : Vec F S512x128 .bf16) (v6 : Vec F S512x128 .bf16) (v7 : Vec F S512x128 .bf16) (v8 : Vec F S512x128 .bf16) (v9 : Vec F S512x128 .bf16) (v10 : Vec F S512x128 .bf16) (v11 : FVec F S1x512 .f32) (v12 : FVec F S128x512 .f32) (v13 : FVec F S1x512 .f32) (v14 : FVec F S128x512 .f32) (v15 : FVec F S1x512 .f32) (v16 : FVec F S128x512 .f32) (v17 : FVec F S1x512 .f32) (v18 : FVec F S128x512 .f32) (v19 : FVec F S1x512 .f32) (v20 : FVec F S128x512 .f32) (v21 : FVec F S1x512 .f32) (v22 : FVec F S128x512 .f32) (v23 : FVec F S1x512 .f32) (v24 : FVec F S128x512 .f32) (v25 : FVec F S1x512 .f32)
    (x1 : Vec F S8192x256 .bf16) (x2 : Vec F S1x2x16x128x512 .bf16) (k : Fin (k0_t1_loop i).trips) (a : St8 F) :
    tripR_k0_t1 Variants.none c none i arg3 harg3 arg4 harg4 arg5 harg5 arg6 harg6 arg2 v3 v4 v5 v6 v7 v8 v9 v10 v11 v12 v13 v14 v15 v16 v17 v18 v19 v20 v21 v22 v23 v24 v25 (harg4.unread x1) (harg5.unread x2) k a
      = upd8 (fun sb hh => match sb, hh with | 0, 0 => v3 | 0, _ => v4 | 1, 0 => v5 | 1, _ => v6 | 2, 0 => v7 | 2, _ => v8 | _, 0 => v9 | _, _ => v10) (kw x1 k.val) (vw x2 k.val) a := by
  have hk : k.val < 16 := by have := k.isLt; have := trips1 i; have := i2_lt i; omega
  rw [trip_loaded]
  unfold upd8 pack
  rw [read_k harg4 x1 k.val 0 hk (by decide) _ (k0_off1_eq i k), read_k harg4 x1 k.val 1 hk (by decide) _ (k0_off2_eq i k),
    read_v harg5 x2 k.val 0 hk (by decide) _ (k0_off3_eq i k), read_v harg5 x2 k.val 1 hk (by decide) _ (k0_off4_eq i k)]
  rfl

/-- Before trip `k` the loop carries the eight chains after `k` blocks. -/
theorem st_run (c : Dev nD) (i : grid0.Coords) (arg3 : Memref sig .tc .vmem S2048x256 .bf16) (harg3 : arg3.IsWhole) (arg4 : Memref sig .tc .vmem S8192x256 .bf16) (harg4 : arg4.IsWhole) (arg5 : Memref sig .tc .vmem S1x2x16x128x512 .bf16) (harg5 : arg5.IsWhole) (arg6 : Memref sig .tc .vmem S2048x128 .f32) (harg6 : arg6.IsWhole) (arg2 : BitVec 32) (v11 : FVec F S1x512 .f32) (v12 : FVec F S128x512 .f32) (v13 : FVec F S1x512 .f32) (v14 : FVec F S128x512 .f32) (v15 : FVec F S1x512 .f32) (v16 : FVec F S128x512 .f32) (v17 : FVec F S1x512 .f32) (v18 : FVec F S128x512 .f32) (v19 : FVec F S1x512 .f32) (v20 : FVec F S128x512 .f32) (v21 : FVec F S1x512 .f32) (v22 : FVec F S128x512 .f32) (v23 : FVec F S1x512 .f32) (v24 : FVec F S128x512 .f32) (v25 : FVec F S1x512 .f32)
    (x0 : Vec F S2048x256 .bf16) (x1 : Vec F S8192x256 .bf16) (x2 : Vec F S1x2x16x128x512 .bf16) (k : ℕ) (hk : k ≤ (k0_t1_loop i).trips) :
    st_k0_t1 Variants.none c none i arg3 harg3 arg4 harg4 arg5 harg5 arg6 harg6 arg2 (qw x0 0 0) (qw x0 0 1) (qw x0 1 0) (qw x0 1 1) (qw x0 2 0) (qw x0 2 1) (qw x0 3 0) (qw x0 3 1) v11 v12 v13 v14 v15 v16 v17 v18 v19 v20 v21 v22 v23 v24 v25 (harg4.unread x1) (harg5.unread x2)
        (pack fun _ _ => st0) k
      = pack fun sb hh => run x0 x1 x2 sb hh k := by
  induction k with
  | zero => rfl
  | succ k ih =>
    have e := st_k0_t1_succ Variants.none c none i arg3 harg3 arg4 harg4 arg5 harg5 arg6 harg6 arg2 (qw x0 0 0) (qw x0 0 1) (qw x0 1 0) (qw x0 1 1) (qw x0 2 0) (qw x0 2 1) (qw x0 3 0) (qw x0 3 1) v11 v12 v13 v14 v15 v16 v17 v18 v19 v20 v21 v22 v23 v24 v25 (harg4.unread x1) (harg5.unread x2)
      (pack fun _ _ => st0 (F := F)) ⟨k, hk⟩
    rw [show k + 1 = (⟨k, hk⟩ : Fin (k0_t1_loop i).trips).val + 1 from rfl, e, ih (Nat.le_of_lt hk), trip_upd]
    rfl

end Cert.Attn

end
-- ==== Proof.Attn.AfterLoop.lean ====
module

public import proofs.«01_k».proof.Proof.Attn.Loop

/-!
# The values the loops leave

What each chain carries when the loops over whole blocks end: the chain after `4 i` blocks, `i` the query tile.
-/

@[expose] public section

set_option maxRecDepth 16384

noncomputable section

namespace Cert.Attn

open Cert.KernelIdeal Cert.KernelIdeal.Gen Idealize.ShloMosaic Idealize.ShloMosaic.TcCoe Idealize.SL.Sem

variable {F : FTy → Type} [FloatOps F] [Named F]
variable (c : Dev nD) (i : grid0.Coords) (arg3 : Memref sig .tc .vmem S2048x256 .bf16) (harg3 : arg3.IsWhole) (arg4 : Memref sig .tc .vmem S8192x256 .bf16) (harg4 : arg4.IsWhole) (arg5 : Memref sig .tc .vmem S1x2x16x128x512 .bf16) (harg5 : arg5.IsWhole) (arg6 : Memref sig .tc .vmem S2048x128 .f32) (harg6 : arg6.IsWhole)
variable (x0 : Vec F S2048x256 .bf16) (x1 : Vec F S8192x256 .bf16) (x2 : Vec F S1x2x16x128x512 .bf16)

/-- The running maximum of chain 0 after the loops. -/
theorem w8 : kernelRun0_A.sl.r_8 c i arg3 harg3 arg4 harg4 arg5 harg5 arg6 harg6 x0 x1 x2 = (run x0 x1 x2 0 0 (4 * (i 2).val)).1 := by
  unfold kernelRun0_A.sl.r_8
  rw [show Scf.trips (k0_t2_loop i).lb (k0_t2_loop i).ub (k0_t2_loop i).st = 0 from trips2 i, st_k0_t2_zero,
    show Scf.trips (k0_t1_loop i).lb (k0_t1_loop i).ub (k0_t1_loop i).st = 4 * (i 2).val from trips1 i]
  unfold kernelRun0_A.sl.r kernelRun0_A.sl.r_1 kernelRun0_A.sl.r_2 kernelRun0_A.sl.r_3 kernelRun0_A.sl.r_4 kernelRun0_A.sl.r_5 kernelRun0_A.sl.r_6 kernelRun0_A.sl.r_7
  rw [read_q harg3 x0 0 0 (by decide) (by decide) ![0, 0] (by decide), read_q harg3 x0 0 1 (by decide) (by decide) ![0, 128] (by decide), read_q harg3 x0 1 0 (by decide) (by decide) ![512, 0] (by decide), read_q harg3 x0 1 1 (by decide) (by decide) ![512, 128] (by decide), read_q harg3 x0 2 0 (by decide) (by decide) ![1024, 0] (by decide), read_q harg3 x0 2 1 (by decide) (by decide) ![1024, 128] (by decide), read_q harg3 x0 3 0 (by decide) (by decide) ![1536, 0] (by decide), read_q harg3 x0 3 1 (by decide) (by decide) ![1536, 128] (by decide)]
  exact congrArg (fun a : St8 F => a.1) (st_run c i arg3 harg3 arg4 harg4 arg5 harg5 arg6 harg6 _ _ _ _ _ _ _ _ _ _ _ _ _ _ _ _ x0 x1 x2 _ (trips1 i).ge)

/-- The running sums of chain 0 after the loops. -/
theorem w9 : kernelRun0_A.sl.r_9 c i arg3 harg3 arg4 harg4 arg5 harg5 arg6 harg6 x0 x1 x2 = (run x0 x1 x2 0 0 (4 * (i 2).val)).2 := by
  unfold kernelRun0_A.sl.r_9
  rw [show Scf.trips (k0_t2_loop i).lb (k0_t2_loop i).ub (k0_t2_loop i).st = 0 from trips2 i, st_k0_t2_zero,
    show Scf.trips (k0_t1_loop i).lb (k0_t1_loop i).ub (k0_t1_loop i).st = 4 * (i 2).val from trips1 i]
  unfold kernelRun0_A.sl.r kernelRun0_A.sl.r_1 kernelRun0_A.sl.r_2 kernelRun0_A.sl.r_3 kernelRun0_A.sl.r_4 kernelRun0_A.sl.r_5 kernelRun0_A.sl.r_6 kernelRun0_A.sl.r_7
  rw [read_q harg3 x0 0 0 (by decide) (by decide) ![0, 0] (by decide), read_q harg3 x0 0 1 (by decide) (by decide) ![0, 128] (by decide), read_q harg3 x0 1 0 (by decide) (by decide) ![512, 0] (by decide), read_q harg3 x0 1 1 (by decide) (by decide) ![512, 128] (by decide), read_q harg3 x0 2 0 (by decide) (by decide) ![1024, 0] (by decide), read_q harg3 x0 2 1 (by decide) (by decide) ![1024, 128] (by decide), read_q harg3 x0 3 0 (by decide) (by decide) ![1536, 0] (by decide), read_q harg3 x0 3 1 (by decide) (by decide) ![1536, 128] (by decide)]
  exact congrArg (fun a : St8 F => a.2.1) (st_run c i arg3 harg3 arg4 harg4 arg5 harg5 arg6 harg6 _ _ _ _ _ _ _ _ _ _ _ _ _ _ _ _ x0 x1 x2 _ (trips1 i).ge)

/-- The running maximum of chain 1 after the loops. -/
theorem w10 : kernelRun0_A.sl.r_10 c i arg3 harg3 arg4 harg4 arg5 harg5 arg6 harg6 x0 x1 x2 = (run x0 x1 x2 0 1 (4 * (i 2).val)).1 := by
  unfold kernelRun0_A.sl.r_10
  rw [show Scf.trips (k0_t2_loop i).lb (k0_t2_loop i).ub (k0_t2_loop i).st = 0 from trips2 i, st_k0_t2_zero,
    show Scf.trips (k0_t1_loop i).lb (k0_t1_loop i).ub (k0_t1_loop i).st = 4 * (i 2).val from trips1 i]
  unfold kernelRun0_A.sl.r kernelRun0_A.sl.r_1 kernelRun0_A.sl.r_2 kernelRun0_A.sl.r_3 kernelRun0_A.sl.r_4 kernelRun0_A.sl.r_5 kernelRun0_A.sl.r_6 kernelRun0_A.sl.r_7
  rw [read_q harg3 x0 0 0 (by decide) (by decide) ![0, 0] (by decide), read_q harg3 x0 0 1 (by decide) (by decide) ![0, 128] (by decide), read_q harg3 x0 1 0 (by decide) (by decide) ![512, 0] (by decide), read_q harg3 x0 1 1 (by decide) (by decide) ![512, 128] (by decide), read_q harg3 x0 2 0 (by decide) (by decide) ![1024, 0] (by decide), read_q harg3 x0 2 1 (by decide) (by decide) ![1024, 128] (by decide), read_q harg3 x0 3 0 (by decide) (by decide) ![1536, 0] (by decide), read_q harg3 x0 3 1 (by decide) (by decide) ![1536, 128] (by decide)]
  exact congrArg (fun a : St8 F => a.2.2.1) (st_run c i arg3 harg3 arg4 harg4 arg5 harg5 arg6 harg6 _ _ _ _ _ _ _ _ _ _ _ _ _ _ _ _ x0 x1 x2 _ (trips1 i).ge)

/-- The running sums of chain 1 after the loops. -/
theorem w11 : kernelRun0_A.sl.r_11 c i arg3 harg3 arg4 harg4 arg5 harg5 arg6 harg6 x0 x1 x2 = (run x0 x1 x2 0 1 (4 * (i 2).val)).2 := by
  unfold kernelRun0_A.sl.r_11
  rw [show Scf.trips (k0_t2_loop i).lb (k0_t2_loop i).ub (k0_t2_loop i).st = 0 from trips2 i, st_k0_t2_zero,
    show Scf.trips (k0_t1_loop i).lb (k0_t1_loop i).ub (k0_t1_loop i).st = 4 * (i 2).val from trips1 i]
  unfold kernelRun0_A.sl.r kernelRun0_A.sl.r_1 kernelRun0_A.sl.r_2 kernelRun0_A.sl.r_3 kernelRun0_A.sl.r_4 kernelRun0_A.sl.r_5 kernelRun0_A.sl.r_6 kernelRun0_A.sl.r_7
  rw [read_q harg3 x0 0 0 (by decide) (by decide) ![0, 0] (by decide), read_q harg3 x0 0 1 (by decide) (by decide) ![0, 128] (by decide), read_q harg3 x0 1 0 (by decide) (by decide) ![512, 0] (by decide), read_q harg3 x0 1 1 (by decide) (by decide) ![512, 128] (by decide), read_q harg3 x0 2 0 (by decide) (by decide) ![1024, 0] (by decide), read_q harg3 x0 2 1 (by decide) (by decide) ![1024, 128] (by decide), read_q harg3 x0 3 0 (by decide) (by decide) ![1536, 0] (by decide), read_q harg3 x0 3 1 (by decide) (by decide) ![1536, 128] (by decide)]
  exact congrArg (fun a : St8 F => a.2.2.2.1) (st_run c i arg3 harg3 arg4 harg4 arg5 harg5 arg6 harg6 _ _ _ _ _ _ _ _ _ _ _ _ _ _ _ _ x0 x1 x2 _ (trips1 i).ge)

/-- The running maximum of chain 2 after the loops. -/
theorem w12 : kernelRun0_A.sl.r_12 c i arg3 harg3 arg4 harg4 arg5 harg5 arg6 harg6 x0 x1 x2 = (run x0 x1 x2 1 0 (4 * (i 2).val)).1 := by
  unfold kernelRun0_A.sl.r_12
  rw [show Scf.trips (k0_t2_loop i).lb (k0_t2_loop i).ub (k0_t2_loop i).st = 0 from trips2 i, st_k0_t2_zero,
    show Scf.trips (k0_t1_loop i).lb (k0_t1_loop i).ub (k0_t1_loop i).st = 4 * (i 2).val from trips1 i]
  unfold kernelRun0_A.sl.r kernelRun0_A.sl.r_1 kernelRun0_A.sl.r_2 kernelRun0_A.sl.r_3 kernelRun0_A.sl.r_4 kernelRun0_A.sl.r_5 kernelRun0_A.sl.r_6 kernelRun0_A.sl.r_7
  rw [read_q harg3 x0 0 0 (by decide) (by decide) ![0, 0] (by decide), read_q harg3 x0 0 1 (by decide) (by decide) ![0, 128] (by decide), read_q harg3 x0 1 0 (by decide) (by decide) ![512, 0] (by decide), read_q harg3 x0 1 1 (by decide) (by decide) ![512, 128] (by decide), read_q harg3 x0 2 0 (by decide) (by decide) ![1024, 0] (by decide), read_q harg3 x0 2 1 (by decide) (by decide) ![1024, 128] (by decide), read_q harg3 x0 3 0 (by decide) (by decide) ![1536, 0] (by decide), read_q harg3 x0 3 1 (by decide) (by decide) ![1536, 128] (by decide)]
  exact congrArg (fun a : St8 F => a.2.2.2.2.1) (st_run c i arg3 harg3 arg4 harg4 arg5 harg5 arg6 harg6 _ _ _ _ _ _ _ _ _ _ _ _ _ _ _ _ x0 x1 x2 _ (trips1 i).ge)

/-- The running sums of chain 2 after the loops. -/
theorem w13 : kernelRun0_A.sl.r_13 c i arg3 harg3 arg4 harg4 arg5 harg5 arg6 harg6 x0 x1 x2 = (run x0 x1 x2 1 0 (4 * (i 2).val)).2 := by
  unfold kernelRun0_A.sl.r_13
  rw [show Scf.trips (k0_t2_loop i).lb (k0_t2_loop i).ub (k0_t2_loop i).st = 0 from trips2 i, st_k0_t2_zero,
    show Scf.trips (k0_t1_loop i).lb (k0_t1_loop i).ub (k0_t1_loop i).st = 4 * (i 2).val from trips1 i]
  unfold kernelRun0_A.sl.r kernelRun0_A.sl.r_1 kernelRun0_A.sl.r_2 kernelRun0_A.sl.r_3 kernelRun0_A.sl.r_4 kernelRun0_A.sl.r_5 kernelRun0_A.sl.r_6 kernelRun0_A.sl.r_7
  rw [read_q harg3 x0 0 0 (by decide) (by decide) ![0, 0] (by decide), read_q harg3 x0 0 1 (by decide) (by decide) ![0, 128] (by decide), read_q harg3 x0 1 0 (by decide) (by decide) ![512, 0] (by decide), read_q harg3 x0 1 1 (by decide) (by decide) ![512, 128] (by decide), read_q harg3 x0 2 0 (by decide) (by decide) ![1024, 0] (by decide), read_q harg3 x0 2 1 (by decide) (by decide) ![1024, 128] (by decide), read_q harg3 x0 3 0 (by decide) (by decide) ![1536, 0] (by decide), read_q harg3 x0 3 1 (by decide) (by decide) ![1536, 128] (by decide)]
  exact congrArg (fun a : St8 F => a.2.2.2.2.2.1) (st_run c i arg3 harg3 arg4 harg4 arg5 harg5 arg6 harg6 _ _ _ _ _ _ _ _ _ _ _ _ _ _ _ _ x0 x1 x2 _ (trips1 i).ge)

/-- The running maximum of chain 3 after the loops. -/
theorem w14 : kernelRun0_A.sl.r_14 c i arg3 harg3 arg4 harg4 arg5 harg5 arg6 harg6 x0 x1 x2 = (run x0 x1 x2 1 1 (4 * (i 2).val)).1 := by
  unfold kernelRun0_A.sl.r_14
  rw [show Scf.trips (k0_t2_loop i).lb (k0_t2_loop i).ub (k0_t2_loop i).st = 0 from trips2 i, st_k0_t2_zero,
    show Scf.trips (k0_t1_loop i).lb (k0_t1_loop i).ub (k0_t1_loop i).st = 4 * (i 2).val from trips1 i]
  unfold kernelRun0_A.sl.r kernelRun0_A.sl.r_1 kernelRun0_A.sl.r_2 kernelRun0_A.sl.r_3 kernelRun0_A.sl.r_4 kernelRun0_A.sl.r_5 kernelRun0_A.sl.r_6 kernelRun0_A.sl.r_7
  rw [read_q harg3 x0 0 0 (by decide) (by decide) ![0, 0] (by decide), read_q harg3 x0 0 1 (by decide) (by decide) ![0, 128] (by decide), read_q harg3 x0 1 0 (by decide) (by decide) ![512, 0] (by decide), read_q harg3 x0 1 1 (by decide) (by decide) ![512, 128] (by decide), read_q harg3 x0 2 0 (by decide) (by decide) ![1024, 0] (by decide), read_q harg3 x0 2 1 (by decide) (by decide) ![1024, 128] (by decide), read_q harg3 x0 3 0 (by decide) (by decide) ![1536, 0] (by decide), read_q harg3 x0 3 1 (by decide) (by decide) ![1536, 128] (by decide)]
  exact congrArg (fun a : St8 F => a.2.2.2.2.2.2.1) (st_run c i arg3 harg3 arg4 harg4 arg5 harg5 arg6 harg6 _ _ _ _ _ _ _ _ _ _ _ _ _ _ _ _ x0 x1 x2 _ (trips1 i).ge)

/-- The running sums of chain 3 after the loops. -/
theorem w15 : kernelRun0_A.sl.r_15 c i arg3 harg3 arg4 harg4 arg5 harg5 arg6 harg6 x0 x1 x2 = (run x0 x1 x2 1 1 (4 * (i 2).val)).2 := by
  unfold kernelRun0_A.sl.r_15
  rw [show Scf.trips (k0_t2_loop i).lb (k0_t2_loop i).ub (k0_t2_loop i).st = 0 from trips2 i, st_k0_t2_zero,
    show Scf.trips (k0_t1_loop i).lb (k0_t1_loop i).ub (k0_t1_loop i).st = 4 * (i 2).val from trips1 i]
  unfold kernelRun0_A.sl.r kernelRun0_A.sl.r_1 kernelRun0_A.sl.r_2 kernelRun0_A.sl.r_3 kernelRun0_A.sl.r_4 kernelRun0_A.sl.r_5 kernelRun0_A.sl.r_6 kernelRun0_A.sl.r_7
  rw [read_q harg3 x0 0 0 (by decide) (by decide) ![0, 0] (by decide), read_q harg3 x0 0 1 (by decide) (by decide) ![0, 128] (by decide), read_q harg3 x0 1 0 (by decide) (by decide) ![512, 0] (by decide), read_q harg3 x0 1 1 (by decide) (by decide) ![512, 128] (by decide), read_q harg3 x0 2 0 (by decide) (by decide) ![1024, 0] (by decide), read_q harg3 x0 2 1 (by decide) (by decide) ![1024, 128] (by decide), read_q harg3 x0 3 0 (by decide) (by decide) ![1536, 0] (by decide), read_q harg3 x0 3 1 (by decide) (by decide) ![1536, 128] (by decide)]
  exact congrArg (fun a : St8 F => a.2.2.2.2.2.2.2.1) (st_run c i arg3 harg3 arg4 harg4 arg5 harg5 arg6 harg6 _ _ _ _ _ _ _ _ _ _ _ _ _ _ _ _ x0 x1 x2 _ (trips1 i).ge)

/-- The running maximum of chain 4 after the loops. -/
theorem w16 : kernelRun0_A.sl.r_16 c i arg3 harg3 arg4 harg4 arg5 harg5 arg6 harg6 x0 x1 x2 = (run x0 x1 x2 2 0 (4 * (i 2).val)).1 := by
  unfold kernelRun0_A.sl.r_16
  rw [show Scf.trips (k0_t2_loop i).lb (k0_t2_loop i).ub (k0_t2_loop i).st = 0 from trips2 i, st_k0_t2_zero,
    show Scf.trips (k0_t1_loop i).lb (k0_t1_loop i).ub (k0_t1_loop i).st = 4 * (i 2).val from trips1 i]
  unfold kernelRun0_A.sl.r kernelRun0_A.sl.r_1 kernelRun0_A.sl.r_2 kernelRun0_A.sl.r_3 kernelRun0_A.sl.r_4 kernelRun0_A.sl.r_5 kernelRun0_A.sl.r_6 kernelRun0_A.sl.r_7
  rw [read_q harg3 x0 0 0 (by decide) (by decide) ![0, 0] (by decide), read_q harg3 x0 0 1 (by decide) (by decide) ![0, 128] (by decide), read_q harg3 x0 1 0 (by decide) (by decide) ![512, 0] (by decide), read_q harg3 x0 1 1 (by decide) (by decide) ![512, 128] (by decide), read_q harg3 x0 2 0 (by decide) (by decide) ![1024, 0] (by decide), read_q harg3 x0 2 1 (by decide) (by decide) ![1024, 128] (by decide), read_q harg3 x0 3 0 (by decide) (by decide) ![1536, 0] (by decide), read_q harg3 x0 3 1 (by decide) (by decide) ![1536, 128] (by decide)]
  exact congrArg (fun a : St8 F => a.2.2.2.2.2.2.2.2.1) (st_run c i arg3 harg3 arg4 harg4 arg5 harg5 arg6 harg6 _ _ _ _ _ _ _ _ _ _ _ _ _ _ _ _ x0 x1 x2 _ (trips1 i).ge)

/-- The running sums of chain 4 after the loops. -/
theorem w17 : kernelRun0_A.sl.r_17 c i arg3 harg3 arg4 harg4 arg5 harg5 arg6 harg6 x0 x1 x2 = (run x0 x1 x2 2 0 (4 * (i 2).val)).2 := by
  unfold kernelRun0_A.sl.r_17
  rw [show Scf.trips (k0_t2_loop i).lb (k0_t2_loop i).ub (k0_t2_loop i).st = 0 from trips2 i, st_k0_t2_zero,
    show Scf.trips (k0_t1_loop i).lb (k0_t1_loop i).ub (k0_t1_loop i).st = 4 * (i 2).val from trips1 i]
  unfold kernelRun0_A.sl.r kernelRun0_A.sl.r_1 kernelRun0_A.sl.r_2 kernelRun0_A.sl.r_3 kernelRun0_A.sl.r_4 kernelRun0_A.sl.r_5 kernelRun0_A.sl.r_6 kernelRun0_A.sl.r_7
  rw [read_q harg3 x0 0 0 (by decide) (by decide) ![0, 0] (by decide), read_q harg3 x0 0 1 (by decide) (by decide) ![0, 128] (by decide), read_q harg3 x0 1 0 (by decide) (by decide) ![512, 0] (by decide), read_q harg3 x0 1 1 (by decide) (by decide) ![512, 128] (by decide), read_q harg3 x0 2 0 (by decide) (by decide) ![1024, 0] (by decide), read_q harg3 x0 2 1 (by decide) (by decide) ![1024, 128] (by decide), read_q harg3 x0 3 0 (by decide) (by decide) ![1536, 0] (by decide), read_q harg3 x0 3 1 (by decide) (by decide) ![1536, 128] (by decide)]
  exact congrArg (fun a : St8 F => a.2.2.2.2.2.2.2.2.2.1) (st_run c i arg3 harg3 arg4 harg4 arg5 harg5 arg6 harg6 _ _ _ _ _ _ _ _ _ _ _ _ _ _ _ _ x0 x1 x2 _ (trips1 i).ge)

/-- The running maximum of chain 5 after the loops. -/
theorem w18 : kernelRun0_A.sl.r_18 c i arg3 harg3 arg4 harg4 arg5 harg5 arg6 harg6 x0 x1 x2 = (run x0 x1 x2 2 1 (4 * (i 2).val)).1 := by
  unfold kernelRun0_A.sl.r_18
  rw [show Scf.trips (k0_t2_loop i).lb (k0_t2_loop i).ub (k0_t2_loop i).st = 0 from trips2 i, st_k0_t2_zero,
    show Scf.trips (k0_t1_loop i).lb (k0_t1_loop i).ub (k0_t1_loop i).st = 4 * (i 2).val from trips1 i]
  unfold kernelRun0_A.sl.r kernelRun0_A.sl.r_1 kernelRun0_A.sl.r_2 kernelRun0_A.sl.r_3 kernelRun0_A.sl.r_4 kernelRun0_A.sl.r_5 kernelRun0_A.sl.r_6 kernelRun0_A.sl.r_7
  rw [read_q harg3 x0 0 0 (by decide) (by decide) ![0, 0] (by decide), read_q harg3 x0 0 1 (by decide) (by decide) ![0, 128] (by decide), read_q harg3 x0 1 0 (by decide) (by decide) ![512, 0] (by decide), read_q harg3 x0 1 1 (by decide) (by decide) ![512, 128] (by decide), read_q harg3 x0 2 0 (by decide) (by decide) ![1024, 0] (by decide), read_q harg3 x0 2 1 (by decide) (by decide) ![1024, 128] (by decide), read_q harg3 x0 3 0 (by decide) (by decide) ![1536, 0] (by decide), read_q harg3 x0 3 1 (by decide) (by decide) ![1536, 128] (by decide)]
  exact congrArg (fun a : St8 F => a.2.2.2.2.2.2.2.2.2.2.1) (st_run c i arg3 harg3 arg4 harg4 arg5 harg5 arg6 harg6 _ _ _ _ _ _ _ _ _ _ _ _ _ _ _ _ x0 x1 x2 _ (trips1 i).ge)

/-- The running sums of chain 5 after the loops. -/
theorem w19 : kernelRun0_A.sl.r_19 c i arg3 harg3 arg4 harg4 arg5 harg5 arg6 harg6 x0 x1 x2 = (run x0 x1 x2 2 1 (4 * (i 2).val)).2 := by
  unfold kernelRun0_A.sl.r_19
  rw [show Scf.trips (k0_t2_loop i).lb (k0_t2_loop i).ub (k0_t2_loop i).st = 0 from trips2 i, st_k0_t2_zero,
    show Scf.trips (k0_t1_loop i).lb (k0_t1_loop i).ub (k0_t1_loop i).st = 4 * (i 2).val from trips1 i]
  unfold kernelRun0_A.sl.r kernelRun0_A.sl.r_1 kernelRun0_A.sl.r_2 kernelRun0_A.sl.r_3 kernelRun0_A.sl.r_4 kernelRun0_A.sl.r_5 kernelRun0_A.sl.r_6 kernelRun0_A.sl.r_7
  rw [read_q harg3 x0 0 0 (by decide) (by decide) ![0, 0] (by decide), read_q harg3 x0 0 1 (by decide) (by decide) ![0, 128] (by decide), read_q harg3 x0 1 0 (by decide) (by decide) ![512, 0] (by decide), read_q harg3 x0 1 1 (by decide) (by decide) ![512, 128] (by decide), read_q harg3 x0 2 0 (by decide) (by decide) ![1024, 0] (by decide), read_q harg3 x0 2 1 (by decide) (by decide) ![1024, 128] (by decide), read_q harg3 x0 3 0 (by decide) (by decide) ![1536, 0] (by decide), read_q harg3 x0 3 1 (by decide) (by decide) ![1536, 128] (by decide)]
  exact congrArg (fun a : St8 F => a.2.2.2.2.2.2.2.2.2.2.2.1) (st_run c i arg3 harg3 arg4 harg4 arg5 harg5 arg6 harg6 _ _ _ _ _ _ _ _ _ _ _ _ _ _ _ _ x0 x1 x2 _ (trips1 i).ge)

/-- The running maximum of chain 6 after the loops. -/
theorem w20 : kernelRun0_A.sl.r_20 c i arg3 harg3 arg4 harg4 arg5 harg5 arg6 harg6 x0 x1 x2 = (run x0 x1 x2 3 0 (4 * (i 2).val)).1 := by
  unfold kernelRun0_A.sl.r_20
  rw [show Scf.trips (k0_t2_loop i).lb (k0_t2_loop i).ub (k0_t2_loop i).st = 0 from trips2 i, st_k0_t2_zero,
    show Scf.trips (k0_t1_loop i).lb (k0_t1_loop i).ub (k0_t1_loop i).st = 4 * (i 2).val from trips1 i]
  unfold kernelRun0_A.sl.r kernelRun0_A.sl.r_1 kernelRun0_A.sl.r_2 kernelRun0_A.sl.r_3 kernelRun0_A.sl.r_4 kernelRun0_A.sl.r_5 kernelRun0_A.sl.r_6 kernelRun0_A.sl.r_7
  rw [read_q harg3 x0 0 0 (by decide) (by decide) ![0, 0] (by decide), read_q harg3 x0 0 1 (by decide) (by decide) ![0, 128] (by decide), read_q harg3 x0 1 0 (by decide) (by decide) ![512, 0] (by decide), read_q harg3 x0 1 1 (by decide) (by decide) ![512, 128] (by decide), read_q harg3 x0 2 0 (by decide) (by decide) ![1024, 0] (by decide), read_q harg3 x0 2 1 (by decide) (by decide) ![1024, 128] (by decide), read_q harg3 x0 3 0 (by decide) (by decide) ![1536, 0] (by decide), read_q harg3 x0 3 1 (by decide) (by decide) ![1536, 128] (by decide)]
  exact congrArg (fun a : St8 F => a.2.2.2.2.2.2.2.2.2.2.2.2.1) (st_run c i arg3 harg3 arg4 harg4 arg5 harg5 arg6 harg6 _ _ _ _ _ _ _ _ _ _ _ _ _ _ _ _ x0 x1 x2 _ (trips1 i).ge)

/-- The running sums of chain 6 after the loops. -/
theorem w21 : kernelRun0_A.sl.r_21 c i arg3 harg3 arg4 harg4 arg5 harg5 arg6 harg6 x0 x1 x2 = (run x0 x1 x2 3 0 (4 * (i 2).val)).2 := by
  unfold kernelRun0_A.sl.r_21
  rw [show Scf.trips (k0_t2_loop i).lb (k0_t2_loop i).ub (k0_t2_loop i).st = 0 from trips2 i, st_k0_t2_zero,
    show Scf.trips (k0_t1_loop i).lb (k0_t1_loop i).ub (k0_t1_loop i).st = 4 * (i 2).val from trips1 i]
  unfold kernelRun0_A.sl.r kernelRun0_A.sl.r_1 kernelRun0_A.sl.r_2 kernelRun0_A.sl.r_3 kernelRun0_A.sl.r_4 kernelRun0_A.sl.r_5 kernelRun0_A.sl.r_6 kernelRun0_A.sl.r_7
  rw [read_q harg3 x0 0 0 (by decide) (by decide) ![0, 0] (by decide), read_q harg3 x0 0 1 (by decide) (by decide) ![0, 128] (by decide), read_q harg3 x0 1 0 (by decide) (by decide) ![512, 0] (by decide), read_q harg3 x0 1 1 (by decide) (by decide) ![512, 128] (by decide), read_q harg3 x0 2 0 (by decide) (by decide) ![1024, 0] (by decide), read_q harg3 x0 2 1 (by decide) (by decide) ![1024, 128] (by decide), read_q harg3 x0 3 0 (by decide) (by decide) ![1536, 0] (by decide), read_q harg3 x0 3 1 (by decide) (by decide) ![1536, 128] (by decide)]
  exact congrArg (fun a : St8 F => a.2.2.2.2.2.2.2.2.2.2.2.2.2.1) (st_run c i arg3 harg3 arg4 harg4 arg5 harg5 arg6 harg6 _ _ _ _ _ _ _ _ _ _ _ _ _ _ _ _ x0 x1 x2 _ (trips1 i).ge)

/-- The running maximum of chain 7 after the loops. -/
theorem w22 : kernelRun0_A.sl.r_22 c i arg3 harg3 arg4 harg4 arg5 harg5 arg6 harg6 x0 x1 x2 = (run x0 x1 x2 3 1 (4 * (i 2).val)).1 := by
  unfold kernelRun0_A.sl.r_22
  rw [show Scf.trips (k0_t2_loop i).lb (k0_t2_loop i).ub (k0_t2_loop i).st = 0 from trips2 i, st_k0_t2_zero,
    show Scf.trips (k0_t1_loop i).lb (k0_t1_loop i).ub (k0_t1_loop i).st = 4 * (i 2).val from trips1 i]
  unfold kernelRun0_A.sl.r kernelRun0_A.sl.r_1 kernelRun0_A.sl.r_2 kernelRun0_A.sl.r_3 kernelRun0_A.sl.r_4 kernelRun0_A.sl.r_5 kernelRun0_A.sl.r_6 kernelRun0_A.sl.r_7
  rw [read_q harg3 x0 0 0 (by decide) (by decide) ![0, 0] (by decide), read_q harg3 x0 0 1 (by decide) (by decide) ![0, 128] (by decide), read_q harg3 x0 1 0 (by decide) (by decide) ![512, 0] (by decide), read_q harg3 x0 1 1 (by decide) (by decide) ![512, 128] (by decide), read_q harg3 x0 2 0 (by decide) (by decide) ![1024, 0] (by decide), read_q harg3 x0 2 1 (by decide) (by decide) ![1024, 128] (by decide), read_q harg3 x0 3 0 (by decide) (by decide) ![1536, 0] (by decide), read_q harg3 x0 3 1 (by decide) (by decide) ![1536, 128] (by decide)]
  exact congrArg (fun a : St8 F => a.2.2.2.2.2.2.2.2.2.2.2.2.2.2.1) (st_run c i arg3 harg3 arg4 harg4 arg5 harg5 arg6 harg6 _ _ _ _ _ _ _ _ _ _ _ _ _ _ _ _ x0 x1 x2 _ (trips1 i).ge)

/-- The running sums of chain 7 after the loops. -/
theorem w23 : kernelRun0_A.sl.r_23 c i arg3 harg3 arg4 harg4 arg5 harg5 arg6 harg6 x0 x1 x2 = (run x0 x1 x2 3 1 (4 * (i 2).val)).2 := by
  unfold kernelRun0_A.sl.r_23
  rw [show Scf.trips (k0_t2_loop i).lb (k0_t2_loop i).ub (k0_t2_loop i).st = 0 from trips2 i, st_k0_t2_zero,
    show Scf.trips (k0_t1_loop i).lb (k0_t1_loop i).ub (k0_t1_loop i).st = 4 * (i 2).val from trips1 i]
  unfold kernelRun0_A.sl.r kernelRun0_A.sl.r_1 kernelRun0_A.sl.r_2 kernelRun0_A.sl.r_3 kernelRun0_A.sl.r_4 kernelRun0_A.sl.r_5 kernelRun0_A.sl.r_6 kernelRun0_A.sl.r_7
  rw [read_q harg3 x0 0 0 (by decide) (by decide) ![0, 0] (by decide), read_q harg3 x0 0 1 (by decide) (by decide) ![0, 128] (by decide), read_q harg3 x0 1 0 (by decide) (by decide) ![512, 0] (by decide), read_q harg3 x0 1 1 (by decide) (by decide) ![512, 128] (by decide), read_q harg3 x0 2 0 (by decide) (by decide) ![1024, 0] (by decide), read_q harg3 x0 2 1 (by decide) (by decide) ![1024, 128] (by decide), read_q harg3 x0 3 0 (by decide) (by decide) ![1536, 0] (by decide), read_q harg3 x0 3 1 (by decide) (by decide) ![1536, 128] (by decide)]
  exact congrArg (fun a : St8 F => a.2.2.2.2.2.2.2.2.2.2.2.2.2.2.2) (st_run c i arg3 harg3 arg4 harg4 arg5 harg5 arg6 harg6 _ _ _ _ _ _ _ _ _ _ _ _ _ _ _ _ x0 x1 x2 _ (trips1 i).ge)

end Cert.Attn

end
-- ==== Proof.Attn.Diagonal.lean ====
module

public import proofs.«01_k».proof.Proof.Attn.AfterLoop

/-!
# The diagonal steps

Each of the kernel's named values over the four blocks of the query tile is a chain's value: after another whole block where
the block lies before the chain's own, at the chain's end on its own block.
-/

@[expose] public section

set_option maxRecDepth 16384

noncomputable section

namespace Cert.Attn

open Cert.KernelIdeal Cert.KernelIdeal.Gen Idealize.ShloMosaic Idealize.ShloMosaic.TcCoe Idealize.SL.Sem

variable {F : FTy → Type} [FloatOps F] [Named F]
variable (c : Dev nD) (i : grid0.Coords) (arg3 : Memref sig .tc .vmem S2048x256 .bf16) (harg3 : arg3.IsWhole) (arg4 : Memref sig .tc .vmem S8192x256 .bf16) (harg4 : arg4.IsWhole) (arg5 : Memref sig .tc .vmem S1x2x16x128x512 .bf16) (harg5 : arg5.IsWhole) (arg6 : Memref sig .tc .vmem S2048x128 .f32) (harg6 : arg6.IsWhole)
variable (x0 : Vec F S2048x256 .bf16) (x1 : Vec F S8192x256 .bf16) (x2 : Vec F S1x2x16x128x512 .bf16)

/-- The running maximum of chain 0 after block 0 of the tile. -/
theorem w34 : kernelRun0_A.sl.r_34 c i arg3 harg3 arg4 harg4 arg5 harg5 arg6 harg6 x0 x1 x2 = (fin x0 x1 x2 (i 2).val 0 0).1 := by
  show _ = (upd (causal (score (kw x1 (4 * (i 2).val + 0) 0) (qw x0 0 0))) (vw x2 (4 * (i 2).val + 0) 0) (run x0 x1 x2 0 0 (4 * (i 2).val + 0))).1
  unfold kernelRun0_A.sl.r_34 kernelRun0_A.sl.r_26 kernelRun0_A.sl.r
  rw [w8, read_q harg3 x0 0 0 (by decide) (by decide) ![0, 0] (by decide), read_k harg4 x1 (4 * (i 2).val + 0) 0 (by have := i2_lt i; omega) (by decide) (k0_off9 i 0#32) ((k0_off9_eq i 0).trans (by simp only [Fin.isValue]; congr 1; omega))]
  rfl

/-- The running maximum of chain 1 after block 0 of the tile. -/
theorem w35 : kernelRun0_A.sl.r_35 c i arg3 harg3 arg4 harg4 arg5 harg5 arg6 harg6 x0 x1 x2 = (fin x0 x1 x2 (i 2).val 0 1).1 := by
  show _ = (upd (causal (score (kw x1 (4 * (i 2).val + 0) 1) (qw x0 0 1))) (vw x2 (4 * (i 2).val + 0) 1) (run x0 x1 x2 0 1 (4 * (i 2).val + 0))).1
  unfold kernelRun0_A.sl.r_35 kernelRun0_A.sl.r_27 kernelRun0_A.sl.r_1
  rw [w10, read_q harg3 x0 0 1 (by decide) (by decide) ![0, 128] (by decide), read_k harg4 x1 (4 * (i 2).val + 0) 1 (by have := i2_lt i; omega) (by decide) (k0_off10 i 0#32) ((k0_off10_eq i 0).trans (by simp only [Fin.isValue]; congr 1; omega))]
  rfl

/-- The running maximum of chain 2 after block 0 of the tile. -/
theorem w36 : kernelRun0_A.sl.r_36 c i arg3 harg3 arg4 harg4 arg5 harg5 arg6 harg6 x0 x1 x2 = (run x0 x1 x2 1 0 (4 * (i 2).val + 1)).1 := by
  show _ = (upd (score (kw x1 (4 * (i 2).val + 0) 0) (qw x0 1 0)) (vw x2 (4 * (i 2).val + 0) 0) (run x0 x1 x2 1 0 (4 * (i 2).val + 0))).1
  unfold kernelRun0_A.sl.r_36 kernelRun0_A.sl.r_28 kernelRun0_A.sl.r_2
  rw [w12, read_q harg3 x0 1 0 (by decide) (by decide) ![512, 0] (by decide), read_k harg4 x1 (4 * (i 2).val + 0) 0 (by have := i2_lt i; omega) (by decide) (k0_off9 i 0#32) ((k0_off9_eq i 0).trans (by simp only [Fin.isValue]; congr 1; omega))]
  rfl

/-- The running maximum of chain 3 after block 0 of the tile. -/
theorem w37 : kernelRun0_A.sl.r_37 c i arg3 harg3 arg4 harg4 arg5 harg5 arg6 harg6 x0 x1 x2 = (run x0 x1 x2 1 1 (4 * (i 2).val + 1)).1 := by
  show _ = (upd (score (kw x1 (4 * (i 2).val + 0) 1) (qw x0 1 1)) (vw x2 (4 * (i 2).val + 0) 1) (run x0 x1 x2 1 1 (4 * (i 2).val + 0))).1
  unfold kernelRun0_A.sl.r_37 kernelRun0_A.sl.r_29 kernelRun0_A.sl.r_3
  rw [w14, read_q harg3 x0 1 1 (by decide) (by decide) ![512, 128] (by decide), read_k harg4 x1 (4 * (i 2).val + 0) 1 (by have := i2_lt i; omega) (by decide) (k0_off10 i 0#32) ((k0_off10_eq i 0).trans (by simp only [Fin.isValue]; congr 1; omega))]
  rfl

/-- The running maximum of chain 4 after block 0 of the tile. -/
theorem w38 : kernelRun0_A.sl.r_38 c i arg3 harg3 arg4 harg4 arg5 harg5 arg6 harg6 x0 x1 x2 = (run x0 x1 x2 2 0 (4 * (i 2).val + 1)).1 := by
  show _ = (upd (score (kw x1 (4 * (i 2).val + 0) 0) (qw x0 2 0)) (vw x2 (4 * (i 2).val + 0) 0) (run x0 x1 x2 2 0 (4 * (i 2).val + 0))).1
  unfold kernelRun0_A.sl.r_38 kernelRun0_A.sl.r_30 kernelRun0_A.sl.r_4
  rw [w16, read_q harg3 x0 2 0 (by decide) (by decide) ![1024, 0] (by decide), read_k harg4 x1 (4 * (i 2).val + 0) 0 (by have := i2_lt i; omega) (by decide) (k0_off9 i 0#32) ((k0_off9_eq i 0).trans (by simp only [Fin.isValue]; congr 1; omega))]
  rfl

/-- The running maximum of chain 5 after block 0 of the tile. -/
theorem w39 : kernelRun0_A.sl.r_39 c i arg3 harg3 arg4 harg4 arg5 harg5 arg6 harg6 x0 x1 x2 = (run x0 x1 x2 2 1 (4 * (i 2).val + 1)).1 := by
  show _ = (upd (score (kw x1 (4 * (i 2).val + 0) 1) (qw x0 2 1)) (vw x2 (4 * (i 2).val + 0) 1) (run x0 x1 x2 2 1 (4 * (i 2).val + 0))).1
  unfold kernelRun0_A.sl.r_39 kernelRun0_A.sl.r_31 kernelRun0_A.sl.r_5
  rw [w18, read_q harg3 x0 2 1 (by decide) (by decide) ![1024, 128] (by decide), read_k harg4 x1 (4 * (i 2).val + 0) 1 (by have := i2_lt i; omega) (by decide) (k0_off10 i 0#32) ((k0_off10_eq i 0).trans (by simp only [Fin.isValue]; congr 1; omega))]
  rfl

/-- The running maximum of chain 6 after block 0 of the tile. -/
theorem w40 : kernelRun0_A.sl.r_40 c i arg3 harg3 arg4 harg4 arg5 harg5 arg6 harg6 x0 x1 x2 = (run x0 x1 x2 3 0 (4 * (i 2).val + 1)).1 := by
  show _ = (upd (score (kw x1 (4 * (i 2).val + 0) 0) (qw x0 3 0)) (vw x2 (4 * (i 2).val + 0) 0) (run x0 x1 x2 3 0 (4 * (i 2).val + 0))).1
  unfold kernelRun0_A.sl.r_40 kernelRun0_A.sl.r_32 kernelRun0_A.sl.r_6
  rw [w20, read_q harg3 x0 3 0 (by decide) (by decide) ![1536, 0] (by decide), read_k harg4 x1 (4 * (i 2).val + 0) 0 (by have := i2_lt i; omega) (by decide) (k0_off9 i 0#32) ((k0_off9_eq i 0).trans (by simp only [Fin.isValue]; congr 1; omega))]
  rfl

/-- The running maximum of chain 7 after block 0 of the tile. -/
theorem w41 : kernelRun0_A.sl.r_41 c i arg3 harg3 arg4 harg4 arg5 harg5 arg6 harg6 x0 x1 x2 = (run x0 x1 x2 3 1 (4 * (i 2).val + 1)).1 := by
  show _ = (upd (score (kw x1 (4 * (i 2).val + 0) 1) (qw x0 3 1)) (vw x2 (4 * (i 2).val + 0) 1) (run x0 x1 x2 3 1 (4 * (i 2).val + 0))).1
  unfold kernelRun0_A.sl.r_41 kernelRun0_A.sl.r_33 kernelRun0_A.sl.r_7
  rw [w22, read_q harg3 x0 3 1 (by decide) (by decide) ![1536, 128] (by decide), read_k harg4 x1 (4 * (i 2).val + 0) 1 (by have := i2_lt i; omega) (by decide) (k0_off10 i 0#32) ((k0_off10_eq i 0).trans (by simp only [Fin.isValue]; congr 1; omega))]
  rfl

/-- The running sums of chain 0 after block 0 of the tile. -/
theorem w49 : kernelRun0_A.sl.r_49 c i arg3 harg3 arg4 harg4 arg5 harg5 arg6 harg6 x0 x1 x2 = (fin x0 x1 x2 (i 2).val 0 0).2 := by
  show _ = (upd (causal (score (kw x1 (4 * (i 2).val + 0) 0) (qw x0 0 0))) (vw x2 (4 * (i 2).val + 0) 0) (run x0 x1 x2 0 0 (4 * (i 2).val + 0))).2
  unfold kernelRun0_A.sl.r_49 kernelRun0_A.sl.r_42 kernelRun0_A.sl.r_26 kernelRun0_A.sl.r_24 kernelRun0_A.sl.r
  rw [w8, w9, w34, read_q harg3 x0 0 0 (by decide) (by decide) ![0, 0] (by decide), read_k harg4 x1 (4 * (i 2).val + 0) 0 (by have := i2_lt i; omega) (by decide) (k0_off9 i 0#32) ((k0_off9_eq i 0).trans (by simp only [Fin.isValue]; congr 1; omega)), ← read_v harg5 x2 (4 * (i 2).val + 0) 0 (by have := i2_lt i; omega) (by decide) _ (k0_off11_eq i 0) (k0_off11_inb i 0)]
  rfl

/-- The running sums of chain 1 after block 0 of the tile. -/
theorem w50 : kernelRun0_A.sl.r_50 c i arg3 harg3 arg4 harg4 arg5 harg5 arg6 harg6 x0 x1 x2 = (fin x0 x1 x2 (i 2).val 0 1).2 := by
  show _ = (upd (causal (score (kw x1 (4 * (i 2).val + 0) 1) (qw x0 0 1))) (vw x2 (4 * (i 2).val + 0) 1) (run x0 x1 x2 0 1 (4 * (i 2).val + 0))).2
  unfold kernelRun0_A.sl.r_50 kernelRun0_A.sl.r_43 kernelRun0_A.sl.r_27 kernelRun0_A.sl.r_25 kernelRun0_A.sl.r_1
  rw [w10, w11, w35, read_q harg3 x0 0 1 (by decide) (by decide) ![0, 128] (by decide), read_k harg4 x1 (4 * (i 2).val + 0) 1 (by have := i2_lt i; omega) (by decide) (k0_off10 i 0#32) ((k0_off10_eq i 0).trans (by simp only [Fin.isValue]; congr 1; omega)), ← read_v harg5 x2 (4 * (i 2).val + 0) 1 (by have := i2_lt i; omega) (by decide) _ (k0_off12_eq i 0) (k0_off12_inb i 0)]
  rfl

/-- The running sums of chain 2 after block 0 of the tile. -/
theorem w51 : kernelRun0_A.sl.r_51 c i arg3 harg3 arg4 harg4 arg5 harg5 arg6 harg6 x0 x1 x2 = (run x0 x1 x2 1 0 (4 * (i 2).val + 1)).2 := by
  show _ = (upd (score (kw x1 (4 * (i 2).val + 0) 0) (qw x0 1 0)) (vw x2 (4 * (i 2).val + 0) 0) (run x0 x1 x2 1 0 (4 * (i 2).val + 0))).2
  unfold kernelRun0_A.sl.r_51 kernelRun0_A.sl.r_44 kernelRun0_A.sl.r_28 kernelRun0_A.sl.r_24 kernelRun0_A.sl.r_2
  rw [w12, w13, w36, read_q harg3 x0 1 0 (by decide) (by decide) ![512, 0] (by decide), read_k harg4 x1 (4 * (i 2).val + 0) 0 (by have := i2_lt i; omega) (by decide) (k0_off9 i 0#32) ((k0_off9_eq i 0).trans (by simp only [Fin.isValue]; congr 1; omega)), ← read_v harg5 x2 (4 * (i 2).val + 0) 0 (by have := i2_lt i; omega) (by decide) _ (k0_off11_eq i 0) (k0_off11_inb i 0)]
  rfl

/-- The running sums of chain 3 after block 0 of the tile. -/
theorem w52 : kernelRun0_A.sl.r_52 c i arg3 harg3 arg4 harg4 arg5 harg5 arg6 harg6 x0 x1 x2 = (run x0 x1 x2 1 1 (4 * (i 2).val + 1)).2 := by
  show _ = (upd (score (kw x1 (4 * (i 2).val + 0) 1) (qw x0 1 1)) (vw x2 (4 * (i 2).val + 0) 1) (run x0 x1 x2 1 1 (4 * (i 2).val + 0))).2
  unfold kernelRun0_A.sl.r_52 kernelRun0_A.sl.r_45 kernelRun0_A.sl.r_29 kernelRun0_A.sl.r_25 kernelRun0_A.sl.r_3
  rw [w14, w15, w37, read_q harg3 x0 1 1 (by decide) (by decide) ![512, 128] (by decide), read_k harg4 x1 (4 * (i 2).val + 0) 1 (by have := i2_lt i; omega) (by decide) (k0_off10 i 0#32) ((k0_off10_eq i 0).trans (by simp only [Fin.isValue]; congr 1; omega)), ← read_v harg5 x2 (4 * (i 2).val + 0) 1 (by have := i2_lt i; omega) (by decide) _ (k0_off12_eq i 0) (k0_off12_inb i 0)]
  rfl

/-- The running sums of chain 4 after block 0 of the tile. -/
theorem w53 : kernelRun0_A.sl.r_53 c i arg3 harg3 arg4 harg4 arg5 harg5 arg6 harg6 x0 x1 x2 = (run x0 x1 x2 2 0 (4 * (i 2).val + 1)).2 := by
  show _ = (upd (score (kw x1 (4 * (i 2).val + 0) 0) (qw x0 2 0)) (vw x2 (4 * (i 2).val + 0) 0) (run x0 x1 x2 2 0 (4 * (i 2).val + 0))).2
  unfold kernelRun0_A.sl.r_53 kernelRun0_A.sl.r_46 kernelRun0_A.sl.r_30 kernelRun0_A.sl.r_24 kernelRun0_A.sl.r_4
  rw [w16, w17, w38, read_q harg3 x0 2 0 (by decide) (by decide) ![1024, 0] (by decide), read_k harg4 x1 (4 * (i 2).val + 0) 0 (by have := i2_lt i; omega) (by decide) (k0_off9 i 0#32) ((k0_off9_eq i 0).trans (by simp only [Fin.isValue]; congr 1; omega)), ← read_v harg5 x2 (4 * (i 2).val + 0) 0 (by have := i2_lt i; omega) (by decide) _ (k0_off11_eq i 0) (k0_off11_inb i 0)]
  rfl

/-- The running sums of chain 5 after block 0 of the tile. -/
theorem w54 : kernelRun0_A.sl.r_54 c i arg3 harg3 arg4 harg4 arg5 harg5 arg6 harg6 x0 x1 x2 = (run x0 x1 x2 2 1 (4 * (i 2).val + 1)).2 := by
  show _ = (upd (score (kw x1 (4 * (i 2).val + 0) 1) (qw x0 2 1)) (vw x2 (4 * (i 2).val + 0) 1) (run x0 x1 x2 2 1 (4 * (i 2).val + 0))).2
  unfold kernelRun0_A.sl.r_54 kernelRun0_A.sl.r_47 kernelRun0_A.sl.r_31 kernelRun0_A.sl.r_25 kernelRun0_A.sl.r_5
  rw [w18, w19, w39, read_q harg3 x0 2 1 (by decide) (by decide) ![1024, 128] (by decide), read_k harg4 x1 (4 * (i 2).val + 0) 1 (by have := i2_lt i; omega) (by decide) (k0_off10 i 0#32) ((k0_off10_eq i 0).trans (by simp only [Fin.isValue]; congr 1; omega)), ← read_v harg5 x2 (4 * (i 2).val + 0) 1 (by have := i2_lt i; omega) (by decide) _ (k0_off12_eq i 0) (k0_off12_inb i 0)]
  rfl

/-- The running sums of chain 6 after block 0 of the tile. -/
theorem w55 : kernelRun0_A.sl.r_55 c i arg3 harg3 arg4 harg4 arg5 harg5 arg6 harg6 x0 x1 x2 = (run x0 x1 x2 3 0 (4 * (i 2).val + 1)).2 := by
  show _ = (upd (score (kw x1 (4 * (i 2).val + 0) 0) (qw x0 3 0)) (vw x2 (4 * (i 2).val + 0) 0) (run x0 x1 x2 3 0 (4 * (i 2).val + 0))).2
  unfold kernelRun0_A.sl.r_55 kernelRun0_A.sl.r_32 kernelRun0_A.sl.r_24 kernelRun0_A.sl.r_6
  rw [w20, w21, w40, read_q harg3 x0 3 0 (by decide) (by decide) ![1536, 0] (by decide), read_k harg4 x1 (4 * (i 2).val + 0) 0 (by have := i2_lt i; omega) (by decide) (k0_off9 i 0#32) ((k0_off9_eq i 0).trans (by simp only [Fin.isValue]; congr 1; omega)), ← read_v harg5 x2 (4 * (i 2).val + 0) 0 (by have := i2_lt i; omega) (by decide) _ (k0_off11_eq i 0) (k0_off11_inb i 0)]
  rfl

/-- The running sums of chain 7 after block 0 of the tile. -/
theorem w57 : kernelRun0_A.sl.r_57 c i arg3 harg3 arg4 harg4 arg5 harg5 arg6 harg6 x0 x1 x2 = (run x0 x1 x2 3 1 (4 * (i 2).val + 1)).2 := by
  show _ = (upd (score (kw x1 (4 * (i 2).val + 0) 1) (qw x0 3 1)) (vw x2 (4 * (i 2).val + 0) 1) (run x0 x1 x2 3 1 (4 * (i 2).val + 0))).2
  unfold kernelRun0_A.sl.r_57 kernelRun0_A.sl.r_56 kernelRun0_A.sl.r_48 kernelRun0_A.sl.r_33 kernelRun0_A.sl.r_25 kernelRun0_A.sl.r_7
  rw [w23, w22, w41, read_q harg3 x0 3 1 (by decide) (by decide) ![1536, 128] (by decide), read_k harg4 x1 (4 * (i 2).val + 0) 1 (by have := i2_lt i; omega) (by decide) (k0_off10 i 0#32) ((k0_off10_eq i 0).trans (by simp only [Fin.isValue]; congr 1; omega)), ← read_v harg5 x2 (4 * (i 2).val + 0) 1 (by have := i2_lt i; omega) (by decide) _ (k0_off12_eq i 0) (k0_off12_inb i 0)]
  rfl

/-- The running maximum of chain 2 after block 1 of the tile. -/
theorem w66 : kernelRun0_A.sl.r_66 c i arg3 harg3 arg4 harg4 arg5 harg5 arg6 harg6 x0 x1 x2 = (fin x0 x1 x2 (i 2).val 1 0).1 := by
  show _ = (upd (causal (score (kw x1 (4 * (i 2).val + 1) 0) (qw x0 1 0))) (vw x2 (4 * (i 2).val + 1) 0) (run x0 x1 x2 1 0 (4 * (i 2).val + 1))).1
  unfold kernelRun0_A.sl.r_66 kernelRun0_A.sl.r_2
  rw [w36, read_q harg3 x0 1 0 (by decide) (by decide) ![512, 0] (by decide), read_k harg4 x1 (4 * (i 2).val + 1) 0 (by have := i2_lt i; omega) (by decide) (k0_off9 i 1#32) ((k0_off9_eq i 1).trans (by simp only [Fin.isValue]; congr 1; omega))]
  rfl

/-- The running maximum of chain 3 after block 1 of the tile. -/
theorem w67 : kernelRun0_A.sl.r_67 c i arg3 harg3 arg4 harg4 arg5 harg5 arg6 harg6 x0 x1 x2 = (fin x0 x1 x2 (i 2).val 1 1).1 := by
  show _ = (upd (causal (score (kw x1 (4 * (i 2).val + 1) 1) (qw x0 1 1))) (vw x2 (4 * (i 2).val + 1) 1) (run x0 x1 x2 1 1 (4 * (i 2).val + 1))).1
  unfold kernelRun0_A.sl.r_67 kernelRun0_A.sl.r_3
  rw [w37, read_q harg3 x0 1 1 (by decide) (by decide) ![512, 128] (by decide), read_k harg4 x1 (4 * (i 2).val + 1) 1 (by have := i2_lt i; omega) (by decide) (k0_off10 i 1#32) ((k0_off10_eq i 1).trans (by simp only [Fin.isValue]; congr 1; omega))]
  rfl

/-- The running maximum of chain 4 after block 1 of the tile. -/
theorem w69 : kernelRun0_A.sl.r_69 c i arg3 harg3 arg4 harg4 arg5 harg5 arg6 harg6 x0 x1 x2 = (run x0 x1 x2 2 0 (4 * (i 2).val + 2)).1 := by
  show _ = (upd (score (kw x1 (4 * (i 2).val + 1) 0) (qw x0 2 0)) (vw x2 (4 * (i 2).val + 1) 0) (run x0 x1 x2 2 0 (4 * (i 2).val + 1))).1
  unfold kernelRun0_A.sl.r_69 kernelRun0_A.sl.r_68 kernelRun0_A.sl.r_4
  rw [w38, read_q harg3 x0 2 0 (by decide) (by decide) ![1024, 0] (by decide), read_k harg4 x1 (4 * (i 2).val + 1) 0 (by have := i2_lt i; omega) (by decide) (k0_off9 i 1#32) ((k0_off9_eq i 1).trans (by simp only [Fin.isValue]; congr 1; omega))]
  rfl

/-- The running maximum of chain 5 after block 1 of the tile. -/
theorem w70 : kernelRun0_A.sl.r_70 c i arg3 harg3 arg4 harg4 arg5 harg5 arg6 harg6 x0 x1 x2 = (run x0 x1 x2 2 1 (4 * (i 2).val + 2)).1 := by
  show _ = (upd (score (kw x1 (4 * (i 2).val + 1) 1) (qw x0 2 1)) (vw x2 (4 * (i 2).val + 1) 1) (run x0 x1 x2 2 1 (4 * (i 2).val + 1))).1
  unfold kernelRun0_A.sl.r_70 kernelRun0_A.sl.r_61 kernelRun0_A.sl.r_5
  rw [w39, read_q harg3 x0 2 1 (by decide) (by decide) ![1024, 128] (by decide), read_k harg4 x1 (4 * (i 2).val + 1) 1 (by have := i2_lt i; omega) (by decide) (k0_off10 i 1#32) ((k0_off10_eq i 1).trans (by simp only [Fin.isValue]; congr 1; omega))]
  rfl

/-- The running maximum of chain 6 after block 1 of the tile. -/
theorem w71 : kernelRun0_A.sl.r_71 c i arg3 harg3 arg4 harg4 arg5 harg5 arg6 harg6 x0 x1 x2 = (run x0 x1 x2 3 0 (4 * (i 2).val + 2)).1 := by
  show _ = (upd (score (kw x1 (4 * (i 2).val + 1) 0) (qw x0 3 0)) (vw x2 (4 * (i 2).val + 1) 0) (run x0 x1 x2 3 0 (4 * (i 2).val + 1))).1
  unfold kernelRun0_A.sl.r_71 kernelRun0_A.sl.r_62 kernelRun0_A.sl.r_6
  rw [w40, read_q harg3 x0 3 0 (by decide) (by decide) ![1536, 0] (by decide), read_k harg4 x1 (4 * (i 2).val + 1) 0 (by have := i2_lt i; omega) (by decide) (k0_off9 i 1#32) ((k0_off9_eq i 1).trans (by simp only [Fin.isValue]; congr 1; omega))]
  rfl

/-- The running maximum of chain 7 after block 1 of the tile. -/
theorem w72 : kernelRun0_A.sl.r_72 c i arg3 harg3 arg4 harg4 arg5 harg5 arg6 harg6 x0 x1 x2 = (run x0 x1 x2 3 1 (4 * (i 2).val + 2)).1 := by
  show _ = (upd (score (kw x1 (4 * (i 2).val + 1) 1) (qw x0 3 1)) (vw x2 (4 * (i 2).val + 1) 1) (run x0 x1 x2 3 1 (4 * (i 2).val + 1))).1
  unfold kernelRun0_A.sl.r_72 kernelRun0_A.sl.r_63 kernelRun0_A.sl.r_7
  rw [w41, read_q harg3 x0 3 1 (by decide) (by decide) ![1536, 128] (by decide), read_k harg4 x1 (4 * (i 2).val + 1) 1 (by have := i2_lt i; omega) (by decide) (k0_off10 i 1#32) ((k0_off10_eq i 1).trans (by simp only [Fin.isValue]; congr 1; omega))]
  rfl

/-- The running sums of chain 2 after block 1 of the tile. -/
theorem w76 : kernelRun0_A.sl.r_76 c i arg3 harg3 arg4 harg4 arg5 harg5 arg6 harg6 x0 x1 x2 = (fin x0 x1 x2 (i 2).val 1 0).2 := by
  show _ = (upd (causal (score (kw x1 (4 * (i 2).val + 1) 0) (qw x0 1 0))) (vw x2 (4 * (i 2).val + 1) 0) (run x0 x1 x2 1 0 (4 * (i 2).val + 1))).2
  unfold kernelRun0_A.sl.r_76 kernelRun0_A.sl.r_64 kernelRun0_A.sl.r_58 kernelRun0_A.sl.r_2
  rw [w36, w51, w66, read_q harg3 x0 1 0 (by decide) (by decide) ![512, 0] (by decide), read_k harg4 x1 (4 * (i 2).val + 1) 0 (by have := i2_lt i; omega) (by decide) (k0_off9 i 1#32) ((k0_off9_eq i 1).trans (by simp only [Fin.isValue]; congr 1; omega)), ← read_v harg5 x2 (4 * (i 2).val + 1) 0 (by have := i2_lt i; omega) (by decide) _ (k0_off11_eq i 1) (k0_off11_inb i 1)]
  rfl

/-- The running sums of chain 3 after block 1 of the tile. -/
theorem w77 : kernelRun0_A.sl.r_77 c i arg3 harg3 arg4 harg4 arg5 harg5 arg6 harg6 x0 x1 x2 = (fin x0 x1 x2 (i 2).val 1 1).2 := by
  show _ = (upd (causal (score (kw x1 (4 * (i 2).val + 1) 1) (qw x0 1 1))) (vw x2 (4 * (i 2).val + 1) 1) (run x0 x1 x2 1 1 (4 * (i 2).val + 1))).2
  unfold kernelRun0_A.sl.r_77 kernelRun0_A.sl.r_65 kernelRun0_A.sl.r_59 kernelRun0_A.sl.r_3
  rw [w37, w52, w67, read_q harg3 x0 1 1 (by decide) (by decide) ![512, 128] (by decide), read_k harg4 x1 (4 * (i 2).val + 1) 1 (by have := i2_lt i; omega) (by decide) (k0_off10 i 1#32) ((k0_off10_eq i 1).trans (by simp only [Fin.isValue]; congr 1; omega)), ← read_v harg5 x2 (4 * (i 2).val + 1) 1 (by have := i2_lt i; omega) (by decide) _ (k0_off12_eq i 1) (k0_off12_inb i 1)]
  rfl

/-- The running sums of chain 4 after block 1 of the tile. -/
theorem w78 : kernelRun0_A.sl.r_78 c i arg3 harg3 arg4 harg4 arg5 harg5 arg6 harg6 x0 x1 x2 = (run x0 x1 x2 2 0 (4 * (i 2).val + 2)).2 := by
  show _ = (upd (score (kw x1 (4 * (i 2).val + 1) 0) (qw x0 2 0)) (vw x2 (4 * (i 2).val + 1) 0) (run x0 x1 x2 2 0 (4 * (i 2).val + 1))).2
  unfold kernelRun0_A.sl.r_78 kernelRun0_A.sl.r_68 kernelRun0_A.sl.r_60 kernelRun0_A.sl.r_58 kernelRun0_A.sl.r_4
  rw [w38, w53, read_q harg3 x0 2 0 (by decide) (by decide) ![1024, 0] (by decide), read_k harg4 x1 (4 * (i 2).val + 1) 0 (by have := i2_lt i; omega) (by decide) (k0_off9 i 1#32) ((k0_off9_eq i 1).trans (by simp only [Fin.isValue]; congr 1; omega)), ← read_v harg5 x2 (4 * (i 2).val + 1) 0 (by have := i2_lt i; omega) (by decide) _ (k0_off11_eq i 1) (k0_off11_inb i 1)]
  rfl

/-- The running sums of chain 5 after block 1 of the tile. -/
theorem w80 : kernelRun0_A.sl.r_80 c i arg3 harg3 arg4 harg4 arg5 harg5 arg6 harg6 x0 x1 x2 = (run x0 x1 x2 2 1 (4 * (i 2).val + 2)).2 := by
  show _ = (upd (score (kw x1 (4 * (i 2).val + 1) 1) (qw x0 2 1)) (vw x2 (4 * (i 2).val + 1) 1) (run x0 x1 x2 2 1 (4 * (i 2).val + 1))).2
  unfold kernelRun0_A.sl.r_80 kernelRun0_A.sl.r_79 kernelRun0_A.sl.r_73 kernelRun0_A.sl.r_61 kernelRun0_A.sl.r_59 kernelRun0_A.sl.r_5
  rw [w54, w39, read_q harg3 x0 2 1 (by decide) (by decide) ![1024, 128] (by decide), read_k harg4 x1 (4 * (i 2).val + 1) 1 (by have := i2_lt i; omega) (by decide) (k0_off10 i 1#32) ((k0_off10_eq i 1).trans (by simp only [Fin.isValue]; congr 1; omega)), ← read_v harg5 x2 (4 * (i 2).val + 1) 1 (by have := i2_lt i; omega) (by decide) _ (k0_off12_eq i 1) (k0_off12_inb i 1)]
  rfl

/-- The running sums of chain 6 after block 1 of the tile. -/
theorem w81 : kernelRun0_A.sl.r_81 c i arg3 harg3 arg4 harg4 arg5 harg5 arg6 harg6 x0 x1 x2 = (run x0 x1 x2 3 0 (4 * (i 2).val + 2)).2 := by
  show _ = (upd (score (kw x1 (4 * (i 2).val + 1) 0) (qw x0 3 0)) (vw x2 (4 * (i 2).val + 1) 0) (run x0 x1 x2 3 0 (4 * (i 2).val + 1))).2
  unfold kernelRun0_A.sl.r_81 kernelRun0_A.sl.r_74 kernelRun0_A.sl.r_62 kernelRun0_A.sl.r_58 kernelRun0_A.sl.r_6
  rw [w40, w55, w71, read_q harg3 x0 3 0 (by decide) (by decide) ![1536, 0] (by decide), read_k harg4 x1 (4 * (i 2).val + 1) 0 (by have := i2_lt i; omega) (by decide) (k0_off9 i 1#32) ((k0_off9_eq i 1).trans (by simp only [Fin.isValue]; congr 1; omega)), ← read_v harg5 x2 (4 * (i 2).val + 1) 0 (by have := i2_lt i; omega) (by decide) _ (k0_off11_eq i 1) (k0_off11_inb i 1)]
  rfl

/-- The running sums of chain 7 after block 1 of the tile. -/
theorem w82 : kernelRun0_A.sl.r_82 c i arg3 harg3 arg4 harg4 arg5 harg5 arg6 harg6 x0 x1 x2 = (run x0 x1 x2 3 1 (4 * (i 2).val + 2)).2 := by
  show _ = (upd (score (kw x1 (4 * (i 2).val + 1) 1) (qw x0 3 1)) (vw x2 (4 * (i 2).val + 1) 1) (run x0 x1 x2 3 1 (4 * (i 2).val + 1))).2
  unfold kernelRun0_A.sl.r_82 kernelRun0_A.sl.r_75 kernelRun0_A.sl.r_63 kernelRun0_A.sl.r_59 kernelRun0_A.sl.r_7
  rw [w41, w57, w72, read_q harg3 x0 3 1 (by decide) (by decide) ![1536, 128] (by decide), read_k harg4 x1 (4 * (i 2).val + 1) 1 (by have := i2_lt i; omega) (by decide) (k0_off10 i 1#32) ((k0_off10_eq i 1).trans (by simp only [Fin.isValue]; congr 1; omega)), ← read_v harg5 x2 (4 * (i 2).val + 1) 1 (by have := i2_lt i; omega) (by decide) _ (k0_off12_eq i 1) (k0_off12_inb i 1)]
  rfl

/-- The running maximum of chain 6 after block 2 of the tile. -/
theorem w89 : kernelRun0_A.sl.r_89 c i arg3 harg3 arg4 harg4 arg5 harg5 arg6 harg6 x0 x1 x2 = (run x0 x1 x2 3 0 (4 * (i 2).val + 3)).1 := by
  show _ = (upd (score (kw x1 (4 * (i 2).val + 2) 0) (qw x0 3 0)) (vw x2 (4 * (i 2).val + 2) 0) (run x0 x1 x2 3 0 (4 * (i 2).val + 2))).1
  unfold kernelRun0_A.sl.r_89 kernelRun0_A.sl.r_85 kernelRun0_A.sl.r_6
  rw [w71, read_q harg3 x0 3 0 (by decide) (by decide) ![1536, 0] (by decide), read_k harg4 x1 (4 * (i 2).val + 2) 0 (by have := i2_lt i; omega) (by decide) (k0_off9 i 2#32) ((k0_off9_eq i 2).trans (by simp only [Fin.isValue]; congr 1; omega))]
  rfl

/-- The running maximum of chain 7 after block 2 of the tile. -/
theorem w90 : kernelRun0_A.sl.r_90 c i arg3 harg3 arg4 harg4 arg5 harg5 arg6 harg6 x0 x1 x2 = (run x0 x1 x2 3 1 (4 * (i 2).val + 3)).1 := by
  show _ = (upd (score (kw x1 (4 * (i 2).val + 2) 1) (qw x0 3 1)) (vw x2 (4 * (i 2).val + 2) 1) (run x0 x1 x2 3 1 (4 * (i 2).val + 2))).1
  unfold kernelRun0_A.sl.r_90 kernelRun0_A.sl.r_86 kernelRun0_A.sl.r_7
  rw [w72, read_q harg3 x0 3 1 (by decide) (by decide) ![1536, 128] (by decide), read_k harg4 x1 (4 * (i 2).val + 2) 1 (by have := i2_lt i; omega) (by decide) (k0_off10 i 2#32) ((k0_off10_eq i 2).trans (by simp only [Fin.isValue]; congr 1; omega))]
  rfl

/-- The running sums of chain 4 after block 2 of the tile. -/
theorem w91 : kernelRun0_A.sl.r_91 c i arg3 harg3 arg4 harg4 arg5 harg5 arg6 harg6 x0 x1 x2 = (fin x0 x1 x2 (i 2).val 2 0).2 := by
  show _ = (upd (causal (score (kw x1 (4 * (i 2).val + 2) 0) (qw x0 2 0))) (vw x2 (4 * (i 2).val + 2) 0) (run x0 x1 x2 2 0 (4 * (i 2).val + 2))).2
  unfold kernelRun0_A.sl.r_91 kernelRun0_A.sl.r_87 kernelRun0_A.sl.r_83 kernelRun0_A.sl.r_4
  rw [w69, w78, read_q harg3 x0 2 0 (by decide) (by decide) ![1024, 0] (by decide), read_k harg4 x1 (4 * (i 2).val + 2) 0 (by have := i2_lt i; omega) (by decide) (k0_off9 i 2#32) ((k0_off9_eq i 2).trans (by simp only [Fin.isValue]; congr 1; omega)), ← read_v harg5 x2 (4 * (i 2).val + 2) 0 (by have := i2_lt i; omega) (by decide) _ (k0_off11_eq i 2) (k0_off11_inb i 2)]
  rfl

/-- The running sums of chain 5 after block 2 of the tile. -/
theorem w92 : kernelRun0_A.sl.r_92 c i arg3 harg3 arg4 harg4 arg5 harg5 arg6 harg6 x0 x1 x2 = (fin x0 x1 x2 (i 2).val 2 1).2 := by
  show _ = (upd (causal (score (kw x1 (4 * (i 2).val + 2) 1) (qw x0 2 1))) (vw x2 (4 * (i 2).val + 2) 1) (run x0 x1 x2 2 1 (4 * (i 2).val + 2))).2
  unfold kernelRun0_A.sl.r_92 kernelRun0_A.sl.r_88 kernelRun0_A.sl.r_84 kernelRun0_A.sl.r_5
  rw [w70, w80, read_q harg3 x0 2 1 (by decide) (by decide) ![1024, 128] (by decide), read_k harg4 x1 (4 * (i 2).val + 2) 1 (by have := i2_lt i; omega) (by decide) (k0_off10 i 2#32) ((k0_off10_eq i 2).trans (by simp only [Fin.isValue]; congr 1; omega)), ← read_v harg5 x2 (4 * (i 2).val + 2) 1 (by have := i2_lt i; omega) (by decide) _ (k0_off12_eq i 2) (k0_off12_inb i 2)]
  rfl

/-- The running sums of chain 6 after block 2 of the tile. -/
theorem w93 : kernelRun0_A.sl.r_93 c i arg3 harg3 arg4 harg4 arg5 harg5 arg6 harg6 x0 x1 x2 = (run x0 x1 x2 3 0 (4 * (i 2).val + 3)).2 := by
  show _ = (upd (score (kw x1 (4 * (i 2).val + 2) 0) (qw x0 3 0)) (vw x2 (4 * (i 2).val + 2) 0) (run x0 x1 x2 3 0 (4 * (i 2).val + 2))).2
  unfold kernelRun0_A.sl.r_93 kernelRun0_A.sl.r_85 kernelRun0_A.sl.r_83 kernelRun0_A.sl.r_6
  rw [w71, w81, read_q harg3 x0 3 0 (by decide) (by decide) ![1536, 0] (by decide), read_k harg4 x1 (4 * (i 2).val + 2) 0 (by have := i2_lt i; omega) (by decide) (k0_off9 i 2#32) ((k0_off9_eq i 2).trans (by simp only [Fin.isValue]; congr 1; omega)), ← read_v harg5 x2 (4 * (i 2).val + 2) 0 (by have := i2_lt i; omega) (by decide) _ (k0_off11_eq i 2) (k0_off11_inb i 2)]
  rfl

/-- The running sums of chain 7 after block 2 of the tile. -/
theorem w94 : kernelRun0_A.sl.r_94 c i arg3 harg3 arg4 harg4 arg5 harg5 arg6 harg6 x0 x1 x2 = (run x0 x1 x2 3 1 (4 * (i 2).val + 3)).2 := by
  show _ = (upd (score (kw x1 (4 * (i 2).val + 2) 1) (qw x0 3 1)) (vw x2 (4 * (i 2).val + 2) 1) (run x0 x1 x2 3 1 (4 * (i 2).val + 2))).2
  unfold kernelRun0_A.sl.r_94 kernelRun0_A.sl.r_86 kernelRun0_A.sl.r_84 kernelRun0_A.sl.r_7
  rw [w72, w82, read_q harg3 x0 3 1 (by decide) (by decide) ![1536, 128] (by decide), read_k harg4 x1 (4 * (i 2).val + 2) 1 (by have := i2_lt i; omega) (by decide) (k0_off10 i 2#32) ((k0_off10_eq i 2).trans (by simp only [Fin.isValue]; congr 1; omega)), ← read_v harg5 x2 (4 * (i 2).val + 2) 1 (by have := i2_lt i; omega) (by decide) _ (k0_off12_eq i 2) (k0_off12_inb i 2)]
  rfl

/-- The running sums of chain 6 after block 3 of the tile. -/
theorem w98 : kernelRun0_A.sl.r_98 c i arg3 harg3 arg4 harg4 arg5 harg5 arg6 harg6 x0 x1 x2 = (fin x0 x1 x2 (i 2).val 3 0).2 := by
  show _ = (upd (causal (score (kw x1 (4 * (i 2).val + 3) 0) (qw x0 3 0))) (vw x2 (4 * (i 2).val + 3) 0) (run x0 x1 x2 3 0 (4 * (i 2).val + 3))).2
  unfold kernelRun0_A.sl.r_98 kernelRun0_A.sl.r_6
  rw [w89, w93, read_q harg3 x0 3 0 (by decide) (by decide) ![1536, 0] (by decide), read_k harg4 x1 (4 * (i 2).val + 3) 0 (by have := i2_lt i; omega) (by decide) (k0_off9 i 3#32) ((k0_off9_eq i 3).trans (by simp only [Fin.isValue]; congr 1; omega)), ← read_v harg5 x2 (4 * (i 2).val + 3) 0 (by have := i2_lt i; omega) (by decide) _ (k0_off11_eq i 3) (k0_off11_inb i 3)]
  rfl

end Cert.Attn

end
-- ==== Proof.Attn.Output.lean ====
module

public import proofs.«01_k».proof.Proof.Attn.Diagonal
public import Idealize.ShloMosaic.Lib.WritesUnit

/-!
# A point's output block

The four stores of a point, read at an index: each sub-block's rows hold, head beside head, the sums divided by lane 64's sum.
-/

@[expose] public section

set_option maxRecDepth 16384

noncomputable section

namespace Cert.Attn

open Cert.KernelIdeal Cert.KernelIdeal.Gen Idealize.ShloMosaic Idealize.ShloMosaic.TcCoe Idealize.SL.Sem

variable {F : FTy → Type} [FloatOps F] [Named F]
variable (c : Dev nD) (i : grid0.Coords) (arg3 : Memref sig .tc .vmem S2048x256 .bf16) (harg3 : arg3.IsWhole) (arg4 : Memref sig .tc .vmem S8192x256 .bf16) (harg4 : arg4.IsWhole) (arg5 : Memref sig .tc .vmem S1x2x16x128x512 .bf16) (harg5 : arg5.IsWhole) (arg6 : Memref sig .tc .vmem S2048x128 .f32) (harg6 : arg6.IsWhole)
variable (x0 : Vec F S2048x256 .bf16) (x1 : Vec F S8192x256 .bf16) (x2 : Vec F S1x2x16x128x512 .bf16)

/-- What a sub-block stores: its two heads' quotients side by side, query by lane. -/
def outBlk (a0 a1 : FVec F S128x512 .f32) : FVec F S512x128 .f32 := k0_pay163 a0 a1

/-- What sub-block 3 stores is its two chains' quotients. -/
theorem w99 : kernelRun0_A.sl.r_99 c i arg3 harg3 arg4 harg4 arg5 harg5 arg6 harg6 x0 x1 x2 = outBlk (fin x0 x1 x2 (i 2).val 3 0).2 (fin x0 x1 x2 (i 2).val 3 1).2 := by
  show _ = outBlk _ (upd (causal (score (kw x1 (4 * (i 2).val + 3) 1) (qw x0 3 1))) (vw x2 (4 * (i 2).val + 3) 1) (run x0 x1 x2 3 1 (4 * (i 2).val + 3))).2
  unfold kernelRun0_A.sl.r_99 kernelRun0_A.sl.r_97 kernelRun0_A.sl.r_96 kernelRun0_A.sl.r_95 kernelRun0_A.sl.r_7
  rw [w90, w94, w98, read_q harg3 x0 3 1 (by decide) (by decide) ![1536, 128] (by decide), read_k harg4 x1 (4 * (i 2).val + 3) 1 (by have := i2_lt i; omega) (by decide) (k0_off10 i 3#32) ((k0_off10_eq i 3).trans (by simp only [Fin.isValue]; congr 1; omega)), ← read_v harg5 x2 (4 * (i 2).val + 3) 1 (by have := i2_lt i; omega) (by decide) _ (k0_off12_eq i 3) (k0_off12_inb i 3)]
  rfl

/-- What a sub-block leaves. -/
def outOf (x0 : Vec F S2048x256 .bf16) (x1 : Vec F S8192x256 .bf16) (x2 : Vec F S1x2x16x128x512 .bf16) (i sb : ℕ) : FVec F S512x128 .f32 :=
  outBlk (fin x0 x1 x2 i sb 0).2 (fin x0 x1 x2 i sb 1).2

/-- The point's output block, row by row: row `512 sb + r` is row `r` of sub-block `sb`. -/
theorem out_at (sb : Fin 4) (r : Fin 512) (e : Fin 128) :
    out0_A_3 c i arg3 harg3 arg4 harg4 arg5 harg5 arg6 harg6 x0 x1 x2 (ix2 ⟨512 * sb.val + r.val, by have := sb.isLt; have := r.isLt; omega⟩ e) = outOf x0 x1 x2 (i 2).val sb.val (ix2 r e) := by
  have h0 : k0_pay163 (kernelRun0_A.sl.r_49 c i arg3 harg3 arg4 harg4 arg5 harg5 arg6 harg6 x0 x1 x2) (kernelRun0_A.sl.r_50 c i arg3 harg3 arg4 harg4 arg5 harg5 arg6 harg6 x0 x1 x2) = outOf x0 x1 x2 (i 2).val 0 := by
    rw [w49, w50]; rfl
  have h1 : k0_pay164 (kernelRun0_A.sl.r_76 c i arg3 harg3 arg4 harg4 arg5 harg5 arg6 harg6 x0 x1 x2) (kernelRun0_A.sl.r_77 c i arg3 harg3 arg4 harg4 arg5 harg5 arg6 harg6 x0 x1 x2) = outOf x0 x1 x2 (i 2).val 1 := by
    rw [w76, w77]; rfl
  have h2 : k0_pay165 (kernelRun0_A.sl.r_91 c i arg3 harg3 arg4 harg4 arg5 harg5 arg6 harg6 x0 x1 x2) (kernelRun0_A.sl.r_92 c i arg3 harg3 arg4 harg4 arg5 harg5 arg6 harg6 x0 x1 x2) = outOf x0 x1 x2 (i 2).val 2 := by
    rw [w91, w92]; rfl
  have h3 : kernelRun0_A.sl.r_99 c i arg3 harg3 arg4 harg4 arg5 harg5 arg6 harg6 x0 x1 x2 = outOf x0 x1 x2 (i 2).val 3 := w99 c i arg3 harg3 arg4 harg4 arg5 harg5 arg6 harg6 x0 x1 x2
  unfold out0_A_3 kernelRun0_A
  dsimp only
  rw [h0, h1, h2, h3]
  have hr := r.isLt
  match sb with
  | ⟨0, _⟩ =>
    rw [View.read_writes_cons_rows_of_not_mem _ _ _ _ _ _ rfl rfl (.inl (by show 512 * 0 + r.val < 1536; omega)),
      View.read_writes_cons_rows_of_not_mem _ _ _ _ _ _ rfl rfl (.inl (by show 512 * 0 + r.val < 1024; omega)),
      View.read_writes_cons_rows_of_not_mem _ _ _ _ _ _ rfl rfl (.inl (by show 512 * 0 + r.val < 512; omega))]
    exact View.read_writes_cons_rows_of_mem (size := ![512, 128]) (o := 0) _ _ _ _ _ _ (ix2 r e) rfl (by show 512 * 0 + r.val = 0 + r.val; omega) rfl
  | ⟨1, _⟩ =>
    rw [View.read_writes_cons_rows_of_not_mem _ _ _ _ _ _ rfl rfl (.inl (by show 512 * 1 + r.val < 1536; omega)),
      View.read_writes_cons_rows_of_not_mem _ _ _ _ _ _ rfl rfl (.inl (by show 512 * 1 + r.val < 1024; omega))]
    exact View.read_writes_cons_rows_of_mem (size := ![512, 128]) (o := 512) _ _ _ _ _ _ (ix2 r e) rfl (by show 512 * 1 + r.val = 512 + r.val; omega) rfl
  | ⟨2, _⟩ =>
    rw [View.read_writes_cons_rows_of_not_mem _ _ _ _ _ _ rfl rfl (.inl (by show 512 * 2 + r.val < 1536; omega))]
    exact View.read_writes_cons_rows_of_mem (size := ![512, 128]) (o := 1024) _ _ _ _ _ _ (ix2 r e) rfl (by show 512 * 2 + r.val = 1024 + r.val; omega) rfl
  | ⟨3, _⟩ =>
    exact View.read_writes_cons_rows_of_mem (size := ![512, 128]) (o := 1536) _ _ _ _ _ _ (ix2 r e) rfl (by show 512 * 3 + r.val = 1536 + r.val; omega) rfl

end Cert.Attn

end
-- ==== Proof.Attn.Tile.lean ====
module

public import proofs.«01_k».proof.Proof.Attn.Column
public import proofs.«01_k».proof.Proof.Attn.Output
public import proofs.«01_k».proof.Proof.Gen.KernelIdeal.Value

/-!
# The result array, tile by tile

What a grid point writes is its block of the causal softmax attention of the whole arrays; the blocks cover the result.
-/

@[expose] public section

set_option maxRecDepth 16384

noncomputable section

namespace Cert.Attn

open Cert.KernelIdeal Cert.KernelIdeal.Gen Idealize.ShloMosaic Idealize.ShloMosaic.TcCoe Idealize.SL.Sem
open Idealize.ShloMosaic.Pipeline (Dat)

/-- The first head's lanes of a stored block: the sums over lane 64's sum. -/
theorem outBlk_lo (a0 a1 : FVec Ideal S128x512 .f32) (r : Fin 512) (d : Fin 64) :
    outBlk (F := Ideal) a0 a1 (ix2 r ⟨d.val, by omega⟩) = Ideal.div (a0 (ix2 ⟨d.val, by omega⟩ r)) (a0 (ix2 64 r)) := by
  unfold outBlk k0_pay163
  pointwise

/-- The second head's lanes. -/
theorem outBlk_hi (a0 a1 : FVec Ideal S128x512 .f32) (r : Fin 512) (d : Fin 64) :
    outBlk (F := Ideal) a0 a1 (ix2 r ⟨64 + d.val, by omega⟩) = Ideal.div (a1 (ix2 ⟨d.val, by omega⟩ r)) (a1 (ix2 64 r)) := by
  unfold outBlk k0_pay163
  pointwise

/-- A sum of products of reals is real. -/
theorem real_sum {ι : Type} (t : Finset ι) (f g : ι → EReal) (hf : ∀ l, f l ≠ ⊤ ∧ f l ≠ ⊥) (hg : ∀ l, g l ≠ ⊤ ∧ g l ≠ ⊥) :
    (∑ l ∈ t, f l * g l) ≠ ⊤ ∧ (∑ l ∈ t, f l * g l) ≠ ⊥ := by
  have e : ∑ l ∈ t, f l * g l = ((∑ l ∈ t, (f l).toReal * (g l).toReal : ℝ) : EReal) := by
    rw [coe_sum]
    refine Finset.sum_congr rfl fun l _ => ?_
    rw [EReal.coe_mul, EReal.coe_toReal (hf l).1 (hf l).2, EReal.coe_toReal (hg l).1 (hg l).2]
  rw [e]
  exact ⟨EReal.coe_ne_top _, EReal.coe_ne_bot _⟩

/-- A sub-block's stored value is the causal softmax's average. -/
theorem outOf_at (x0 : Vec Ideal S2048x256 .bf16) (x1 : Vec Ideal S8192x256 .bf16) (x2 : Vec Ideal S1x2x16x128x512 .bf16)
    (h0 : ∀ y, x0 y ≠ ⊤ ∧ x0 y ≠ ⊥) (h1 : ∀ y, x1 y ≠ ⊤ ∧ x1 y ≠ ⊥) (h2 : ∀ hh key, pv x2 hh 64 key = 1)
    (i sb : ℕ) (hi : i < 4) (hsb : sb < 4) (hh : Fin 2) (r : Fin 512) (d : Fin 64) :
    outOf x0 x1 x2 i sb (ix2 r ⟨64 * hh.val + d.val, by omega⟩)
      = average (masked (2048 * i + 512 * sb + r.val) (ps x0 x1 hh.val (512 * sb + r.val))) (pv x2 hh.val ⟨d.val, by omega⟩) := by
  have hr := r.isLt
  have hone : ∀ hh, blocked (pv x2 hh 64) = fun _ _ => (1 : EReal) := fun hh => by
    funext j k; exact h2 _ _
  have key : ∀ hh : ℕ, Ideal.div ((fin x0 x1 x2 i sb hh).2 (ix2 ⟨d.val, by omega⟩ r)) ((fin x0 x1 x2 i sb hh).2 (ix2 64 r))
      = average (masked (2048 * i + 512 * sb + r.val) (ps x0 x1 hh (512 * sb + r.val))) (pv x2 hh ⟨d.val, by omega⟩) := fun hh => by
    have hs : ∀ k, ps x0 x1 hh (512 * sb + r.val) k ≠ ⊤ ∧ ps x0 x1 hh (512 * sb + r.val) k ≠ ⊥ := fun k =>
      real_sum _ _ _ (fun l => h1 _) fun l => h0 _
    rw [fin_col, fin_col, hone, ← quotient_eq _ (by omega) _ _ (fun k => (hs k).1) (fun k => (hs k).2),
      show (2048 * i + 512 * sb + r.val) / 512 = 4 * i + sb by omega]
  unfold outOf
  match hh with
  | ⟨0, _⟩ =>
    refine Eq.trans ?_ (key 0)
    rw [← outBlk_lo _ (fin x0 x1 x2 i sb 1).2]
    congr 2
    apply Fin.ext; show 64 * 0 + d.val = d.val; omega
  | ⟨1, _⟩ =>
    refine Eq.trans ?_ (key 1)
    rw [← outBlk_hi (fin x0 x1 x2 i sb 0).2]
    congr 2

/-! ## The whole arrays -/

/-- The score of key `key` for query `q`, head `h` of batch element `b`. -/
def gs (Q K : Vec Ideal S16384x1024 .bf16) (b h q key : ℕ) : EReal :=
  ∑ l : Fin 128, K (ix2 ⟨(8192 * b + key % 8192) % 16384, Nat.mod_lt _ (by decide)⟩ ⟨(128 * h + l.val) % 1024, Nat.mod_lt _ (by decide)⟩)
    * Q (ix2 ⟨(8192 * b + q) % 16384, Nat.mod_lt _ (by decide)⟩ ⟨(128 * h + l.val) % 1024, Nat.mod_lt _ (by decide)⟩)

/-- Value lane `d` of key `key`, head `h` of batch element `b`. -/
def gv (V : Vec Ideal S2x8x16x128x512 .bf16) (b h : ℕ) (d : Fin 128) (key : ℕ) : EReal :=
  V (ix5 (n0 := 2) (n1 := 8) (n2 := 16) (n3 := 128) (n4 := 512) ⟨b % 2, Nat.mod_lt _ (by decide)⟩ ⟨h % 8, Nat.mod_lt _ (by decide)⟩
    ⟨key / 512 % 16, Nat.mod_lt _ (by decide)⟩ d ⟨key % 512, Nat.mod_lt _ (by decide)⟩)

/-- Causal softmax attention of the whole arrays at a result row and column. -/
def attention (Q K : Vec Ideal S16384x1024 .bf16) (V : Vec Ideal S2x8x16x128x512 .bf16) : Vec Ideal S16384x512 .f32 := fun y =>
  average (masked ((y 0).val % 8192) (gs Q K ((y 0).val / 8192) ((y 1).val / 64) ((y 0).val % 8192)))
    (gv V ((y 0).val / 8192) ((y 1).val / 64) ⟨(y 1).val % 64, by have := Nat.mod_lt (y 1).val (show 64 > 0 by decide); omega⟩)

/-! ## The windows' places -/

/-- The query block of a grid point: its batch and its quarter of the sequence, and its pair of heads. -/
theorem place_q : ∀ t : Fin grid0.N, win0_0.index t 0 = 4 * (grid0.coords t 0).val + (grid0.coords t 2).val
    ∧ win0_0.index t 1 = (grid0.coords t 1).val := by decide +kernel
/-- The key block of a grid point: its batch and its pair of heads. -/
theorem place_k : ∀ t : Fin grid0.N, win0_1.index t 0 = (grid0.coords t 0).val
    ∧ win0_1.index t 1 = (grid0.coords t 1).val := by decide +kernel
/-- The value block of a grid point: its batch and its pair of heads. -/
theorem place_v : ∀ t : Fin grid0.N, win0_2.index t 0 = (grid0.coords t 0).val
    ∧ win0_2.index t 1 = (grid0.coords t 1).val ∧ win0_2.index t 2 = 0 ∧ win0_2.index t 3 = 0 ∧ win0_2.index t 4 = 0 := by decide +kernel
/-- The result block of a grid point is placed as the query block. -/
theorem place_o : ∀ t : Fin grid0.N, win0_3.index t 0 = 4 * (grid0.coords t 0).val + (grid0.coords t 2).val
    ∧ win0_3.index t 1 = (grid0.coords t 1).val := by decide +kernel
/-- The grid’s coordinates: two batches, four pairs of heads, four quarters of the sequence. -/
theorem coord_lt : ∀ t : Fin grid0.N, (grid0.coords t 0).val < 2 ∧ (grid0.coords t 1).val < 4 ∧ (grid0.coords t 2).val < 4 := by decide +kernel

variable (m : (ℓ : Loc nD τ sig) → Buf (Elt Ideal) ℓ) (c : Dev nD) (t : Fin cfg0.N)

/-- The three argument arrays. -/
abbrev aq : Vec Ideal S16384x1024 .bf16 := m ((c : Thread nD τ).loc main_arg0)
/-- The key array. -/
abbrev ak : Vec Ideal S16384x1024 .bf16 := m ((c : Thread nD τ).loc main_arg1)
/-- The value array. -/
abbrev av : Vec Ideal S2x8x16x128x512 .bf16 := m ((c : Thread nD τ).loc main_arg2)

/-- A point's query block. -/
theorem blk_q (a : Fin 2048) (e : Fin 256) : (iblk m c 0 t : Vec Ideal S2048x256 .bf16) (ix2 a e)
    = aq m c (ix2 ⟨(8192 * (grid0.coords t 0).val + (2048 * (grid0.coords t 2).val + a.val)) % 16384, Nat.mod_lt _ (by decide)⟩
      ⟨(256 * (grid0.coords t 1).val + e.val) % 1024, Nat.mod_lt _ (by decide)⟩) := by
  have hp := place_q t
  have hc := coord_lt t
  have ha := a.isLt
  have he := e.isLt
  unfold iblk
  show aq m c _ = aq m c _
  congr 1
  funext ax
  apply Fin.ext
  match ax with
  | ⟨0, _⟩ => show win0_0.index t 0 * 2048 + 1 * a.val = (8192 * (grid0.coords t 0).val + (2048 * (grid0.coords t 2).val + a.val)) % 16384; rw [hp.1]; omega
  | ⟨1, _⟩ => show win0_0.index t 1 * 256 + 1 * e.val = (256 * (grid0.coords t 1).val + e.val) % 1024; rw [hp.2]; omega

/-- A point's keys. -/
theorem blk_k (a : Fin 8192) (e : Fin 256) : (iblk m c 1 t : Vec Ideal S8192x256 .bf16) (ix2 a e)
    = ak m c (ix2 ⟨(8192 * (grid0.coords t 0).val + a.val) % 16384, Nat.mod_lt _ (by decide)⟩
      ⟨(256 * (grid0.coords t 1).val + e.val) % 1024, Nat.mod_lt _ (by decide)⟩) := by
  have hp := place_k t
  have hc := coord_lt t
  have ha := a.isLt
  have he := e.isLt
  unfold iblk
  show ak m c _ = ak m c _
  congr 1
  funext ax
  apply Fin.ext
  match ax with
  | ⟨0, _⟩ => show win0_1.index t 0 * 8192 + 1 * a.val = (8192 * (grid0.coords t 0).val + a.val) % 16384; rw [hp.1]; omega
  | ⟨1, _⟩ => show win0_1.index t 1 * 256 + 1 * e.val = (256 * (grid0.coords t 1).val + e.val) % 1024; rw [hp.2]; omega

/-- A point's values. -/
theorem blk_v (h : Fin 2) (j : Fin 16) (d : Fin 128) (k : Fin 512) :
    (iblk m c 2 t : Vec Ideal S1x2x16x128x512 .bf16) (ix5 (n0 := 1) (n1 := 2) (n2 := 16) (n3 := 128) (n4 := 512) 0 h j d k)
    = av m c (ix5 (n0 := 2) (n1 := 8) (n2 := 16) (n3 := 128) (n4 := 512) ⟨(grid0.coords t 0).val % 2, Nat.mod_lt _ (by decide)⟩
      ⟨(2 * (grid0.coords t 1).val + h.val) % 8, Nat.mod_lt _ (by decide)⟩ j d k) := by
  have hp := place_v t
  have hc := coord_lt t
  have hh := h.isLt
  unfold iblk
  show av m c _ = av m c _
  congr 1
  funext ax
  apply Fin.ext
  match ax with
  | ⟨0, _⟩ => show win0_2.index t 0 * 1 + 1 * 0 = (grid0.coords t 0).val % 2; rw [hp.1]; omega
  | ⟨1, _⟩ => show win0_2.index t 1 * 2 + 1 * h.val = (2 * (grid0.coords t 1).val + h.val) % 8; rw [hp.2.1]; omega
  | ⟨2, _⟩ => show win0_2.index t 2 * 16 + 1 * j.val = j.val; rw [hp.2.2.1]; omega
  | ⟨3, _⟩ => show win0_2.index t 3 * 128 + 1 * d.val = d.val; rw [hp.2.2.2.1]; omega
  | ⟨4, _⟩ => show win0_2.index t 4 * 512 + 1 * k.val = k.val; rw [hp.2.2.2.2]; omega

/-- A point's scores are the whole arrays'. -/
theorem ps_eq (hh q key : ℕ) (h2 : hh < 2) (hq : q < 2048) :
    ps (iblk m c 0 t : Vec Ideal S2048x256 .bf16) (iblk m c 1 t : Vec Ideal S8192x256 .bf16) hh q key
      = gs (aq m c) (ak m c) (grid0.coords t 0).val (2 * (grid0.coords t 1).val + hh) (2048 * (grid0.coords t 2).val + q) key := by
  unfold ps gs
  have hc := coord_lt t
  refine Finset.sum_congr rfl fun l _ => ?_
  have hl := l.isLt
  unfold kw qw
  rw [blk_q, blk_k]
  congr 3 <;> apply Fin.ext
  · show (8192 * (grid0.coords t 0).val + (512 * (key / 512) + key % 512) % 8192) % 16384 = (8192 * (grid0.coords t 0).val + key % 8192) % 16384
    omega
  · show (256 * (grid0.coords t 1).val + (128 * hh + l.val) % 256) % 1024 = (128 * (2 * (grid0.coords t 1).val + hh) + l.val) % 1024
    omega
  · show (8192 * (grid0.coords t 0).val + (2048 * (grid0.coords t 2).val + (512 * (q / 512) + q % 512) % 2048)) % 16384
      = (8192 * (grid0.coords t 0).val + (2048 * (grid0.coords t 2).val + q)) % 16384
    omega
  · show (256 * (grid0.coords t 1).val + (128 * hh + l.val) % 256) % 1024 = (128 * (2 * (grid0.coords t 1).val + hh) + l.val) % 1024
    omega

/-- A point's values are the whole array's. -/
theorem pv_eq (hh key : ℕ) (h2 : hh < 2) (d : Fin 128) :
    pv (iblk m c 2 t : Vec Ideal S1x2x16x128x512 .bf16) hh d key
      = gv (av m c) (grid0.coords t 0).val (2 * (grid0.coords t 1).val + hh) d key := by
  unfold pv gv vw
  refine (blk_v m c t _ _ _ _).trans ?_
  congr 2
  apply Fin.ext
  show (2 * (grid0.coords t 1).val + hh % 2) % 8 = (2 * (grid0.coords t 1).val + hh) % 8
  omega

/-- The arguments as the claim restricts them: queries and keys real, value lane 64 one. -/
def Good : Prop := (∀ y, aq m c y ≠ ⊤ ∧ aq m c y ≠ ⊥) ∧ (∀ y, ak m c y ≠ ⊤ ∧ ak m c y ≠ ⊥) ∧ ∀ b h key, gv (av m c) b h 64 key = 1

/-- What a point writes at an index of its block. -/
theorem tile_at (hg : Good m c) (a : Fin 2048) (e : Fin 128) :
    out0_A_3 c (grid0.coords t) (ms0_0 t) (hs0_0 t) (ms0_1 t) (hs0_1 t) (ms0_2 t) (hs0_2 t) (ms0_3 t) (hs0_3 t) (iblk m c 0 t) (iblk m c 1 t) (iblk m c 2 t) (ix2 a e)
      = attention (aq m c) (ak m c) (av m c) (ix2 ⟨(8192 * (grid0.coords t 0).val + 2048 * (grid0.coords t 2).val + a.val) % 16384, Nat.mod_lt _ (by decide)⟩
        ⟨(128 * (grid0.coords t 1).val + e.val) % 512, Nat.mod_lt _ (by decide)⟩) := by
  obtain ⟨g0, g1, g2⟩ := hg
  have hc := coord_lt t
  obtain ⟨sb, r, rfl⟩ : ∃ (sb : Fin 4) (r : Fin 512), a = ⟨512 * sb.val + r.val, by omega⟩ :=
    ⟨⟨a.val / 512, by omega⟩, ⟨a.val % 512, by omega⟩, by apply Fin.ext; show a.val = 512 * (a.val / 512) + a.val % 512; omega⟩
  obtain ⟨hh, d, rfl⟩ : ∃ (hh : Fin 2) (d : Fin 64), e = ⟨64 * hh.val + d.val, by omega⟩ :=
    ⟨⟨e.val / 64, by omega⟩, ⟨e.val % 64, by omega⟩, by apply Fin.ext; show e.val = 64 * (e.val / 64) + e.val % 64; omega⟩
  have hr := r.isLt
  have hsb := sb.isLt
  have hd := d.isLt
  have hhh := hh.isLt
  rw [out_at, outOf_at _ _ _ (fun y => by idx_vars y; rw [blk_q]; exact g0 _) (fun y => by idx_vars y; rw [blk_k]; exact g1 _)
    (fun hh key => by
      unfold pv vw
      exact (blk_v m c t _ _ _ _).trans (g2 _ _ _)) _ _ hc.2.2 hsb]
  unfold attention
  have e0 : (8192 * (grid0.coords t 0).val + 2048 * (grid0.coords t 2).val + (512 * sb.val + r.val)) % 16384 / 8192 = (grid0.coords t 0).val := by omega
  have e1 : (8192 * (grid0.coords t 0).val + 2048 * (grid0.coords t 2).val + (512 * sb.val + r.val)) % 16384 % 8192
      = 2048 * (grid0.coords t 2).val + (512 * sb.val + r.val) := by omega
  have e2 : (128 * (grid0.coords t 1).val + (64 * hh.val + d.val)) % 512 / 64 = 2 * (grid0.coords t 1).val + hh.val := by omega
  have e3 : (128 * (grid0.coords t 1).val + (64 * hh.val + d.val)) % 512 % 64 = d.val := by omega
  show _ = average (masked ((8192 * (grid0.coords t 0).val + 2048 * (grid0.coords t 2).val + (512 * sb.val + r.val)) % 16384 % 8192)
    (gs (aq m c) (ak m c) ((8192 * (grid0.coords t 0).val + 2048 * (grid0.coords t 2).val + (512 * sb.val + r.val)) % 16384 / 8192)
      ((128 * (grid0.coords t 1).val + (64 * hh.val + d.val)) % 512 / 64)
      ((8192 * (grid0.coords t 0).val + 2048 * (grid0.coords t 2).val + (512 * sb.val + r.val)) % 16384 % 8192)))
    (gv (av m c) ((8192 * (grid0.coords t 0).val + 2048 * (grid0.coords t 2).val + (512 * sb.val + r.val)) % 16384 / 8192)
      ((128 * (grid0.coords t 1).val + (64 * hh.val + d.val)) % 512 / 64)
      ⟨(128 * (grid0.coords t 1).val + (64 * hh.val + d.val)) % 512 % 64, _⟩)
  simp only [e0, e1, e2, e3]
  rw [← Nat.add_assoc]
  congr 1
  · congr 1
    funext key
    rw [ps_eq m c t _ _ _ hhh (by omega), Nat.add_assoc]
  · funext key
    exact pv_eq m c t _ _ hhh _

/-- A point's write-back is its block of the attention of the whole arrays. -/
theorem flushed_eq (hg : Good m c) :
    (Cert.KernelIdeal.Gen.dats m 0 c).flushed 3 t = ((cfg0.win 3).blk t).view.read (Elt Ideal) (attention (aq m c) (ak m c) (av m c)) := by
  rw [Cert.KernelIdeal.Value.flushed3_A]
  have hp := place_o t
  have hc := coord_lt t
  funext y
  change S2048x128.Idx at y
  idx_vars y
  have h0 : y0.val < 2048 := y0.isLt
  have h1 : y1.val < 128 := y1.isLt
  refine (tile_at m c t hg y0 y1).trans ?_
  show attention _ _ _ _ = attention _ _ _ _
  congr 1
  funext ax
  apply Fin.ext
  match ax with
  | ⟨0, _⟩ =>
    show (8192 * (grid0.coords t 0).val + 2048 * (grid0.coords t 2).val + y0.val) % 16384 = win0_3.index t 0 * 2048 + 1 * y0.val
    rw [hp.1]; omega
  | ⟨1, _⟩ =>
    show (128 * (grid0.coords t 1).val + y1.val) % 512 = win0_3.index t 1 * 128 + 1 * y1.val
    rw [hp.2]; omega

/-- The grid point whose block holds a result row and column. -/
theorem point_at : ∀ (b : Fin 2) (hp : Fin 4) (i : Fin 4), ∃ t : Fin grid0.N, (grid0.coords t 0).val = b.val
    ∧ (grid0.coords t 1).val = hp.val ∧ (grid0.coords t 2).val = i.val := by decide +kernel

/-- The blocks cover the result. -/
theorem cover (y : S16384x512.Idx) : ∃ t : Fin cfg0.N, (cfg0.win 3).flush t = true ∧ y ∈ ((cfg0.win 3).blk t).view.set := by
  have h0 : (y 0).val < 16384 := (y 0).isLt
  have h1 : (y 1).val < 512 := (y 1).isLt
  obtain ⟨t, e0, e1, e2⟩ := point_at ⟨(y 0).val / 8192, by omega⟩ ⟨(y 1).val / 128, by omega⟩ ⟨(y 0).val % 8192 / 2048, by omega⟩
  have hp := place_o t
  refine ⟨t, flush0_3 t, ?_⟩
  show y ∈ ((View.whole main_v0).slice (win0_3.rect t)).set
  rw [View.set_slice_whole, Rect.mem_set_unit]
  intro a
  match a with
  | ⟨0, _⟩ =>
    show win0_3.index t 0 * 2048 ≤ (y 0).val ∧ (y 0).val < win0_3.index t 0 * 2048 + 2048
    rw [hp.1, e0, e2]; dsimp only; omega
  | ⟨1, _⟩ =>
    show win0_3.index t 1 * 128 ≤ (y 1).val ∧ (y 1).val < win0_3.index t 1 * 128 + 128
    rw [hp.2, e1]; dsimp only; omega

/-- The result array is the attention of the argument arrays. -/
theorem result_eq (hg : Good m c) :
    (Cert.KernelIdeal.Gen.dats m 0 c).arrAt 3 cfg0.N = attention (aq m c) (ak m c) (av m c) :=
  (Cert.KernelIdeal.Gen.dats m 0 c).arrAt_eq_of_cover 3 (attention (aq m c) (ak m c) (av m c)) (fun t _ => flushed_eq m c t hg) cover

end Cert.Attn

end
-- ==== Proof.Attn.Equation.lean ====
module

public import proofs.«01_k».proof.Proof.Attn.Ref
public import proofs.«01_k».proof.Proof.Attn.Tile
public import proofs.«01_k».proof.Proof.Gen.Pre_finite_scores_unit_lane
public import Idealize.ShloMosaic.Lib.ReduceAll

/-!
# The reference is the attention, and what the precondition says

The reference's term is the whole arrays' attention, the function the kernel's result was shown to be; the precondition
gives real queries and keys and a value lane 64 of ones.
-/

@[expose] public section

set_option maxRecDepth 16384

noncomputable section

namespace Cert.AttnRef

open Cert.ReferenceIdeal Cert.ReferenceIdeal.Gen Idealize.ShloMosaic Idealize.ShloMosaic.TcCoe Idealize.SL.Sem

/-- The reference's stages are the attention of the whole arrays. -/
theorem stages_eq (Q K : Vec Ideal S16384x1024 .bf16) (V : Vec Ideal S2x8x16x128x512 .bf16) :
    averages (values V) (weights (exps (scores Q K) (rowMax (scores Q K)))) = Attn.attention Q K V := by
  funext y
  idx_vars y
  have h0 : y0.val < 16384 := y0.isLt
  have h1 : y1.val < 512 := y1.isLt
  rw [averages_at]
  have hs : ∀ k : Fin 8192, scores Q K (ix4 ⟨y0.val / 8192, by omega⟩ ⟨y1.val / 64, by omega⟩ ⟨y0.val % 8192, by omega⟩ k)
      = Attn.masked (y0.val % 8192) (Attn.gs Q K (y0.val / 8192) (y1.val / 64) (y0.val % 8192)) k.val := fun k => by
    have hk := k.isLt
    rw [scores_at, Attn.masked]
    refine if_congr Iff.rfl ?_ rfl
    unfold Attn.gs
    refine Finset.sum_congr rfl fun l _ => ?_
    have hl := l.isLt
    rw [mul_comm]
    congr 3 <;> apply Fin.ext
    · show 8192 * (y0.val / 8192) + k.val = (8192 * (y0.val / 8192) + k.val % 8192) % 16384; omega
    · show 128 * (y1.val / 64) + l.val = (128 * (y1.val / 64) + l.val) % 1024; omega
    · show 8192 * (y0.val / 8192) + y0.val % 8192 = (8192 * (y0.val / 8192) + y0.val % 8192) % 16384; omega
    · show 128 * (y1.val / 64) + l.val = (128 * (y1.val / 64) + l.val) % 1024; omega
  show _ = Attn.average (Attn.masked (y0.val % 8192) (Attn.gs Q K (y0.val / 8192) (y1.val / 64) (y0.val % 8192)))
    (Attn.gv V (y0.val / 8192) (y1.val / 64) ⟨y1.val % 64, _⟩)
  generalize Attn.masked (y0.val % 8192) (Attn.gs Q K (y0.val / 8192) (y1.val / 64) (y0.val % 8192)) = S at hs
  have he : ∀ k : Fin 8192, exps (scores Q K) (rowMax (scores Q K)) (ix4 ⟨y0.val / 8192, by omega⟩ ⟨y1.val / 64, by omega⟩ ⟨y0.val % 8192, by omega⟩ k)
      = Ideal.exp (S k.val - Attn.top S) := fun k => by
    rw [exps_at, rowMax_at, hs]
    simp only [hs]
    rfl
  unfold Attn.average
  refine Finset.sum_congr rfl fun k _ => ?_
  have hk := k.isLt
  rw [weights_at, he, values_at]
  simp only [he]
  congr 1
  unfold Attn.gv
  congr 2
  · apply Fin.ext; show y0.val / 8192 = y0.val / 8192 % 2; omega
  · apply Fin.ext; show y1.val / 64 = y1.val / 64 % 8; omega
  · apply Fin.ext; show k.val / 512 = k.val / 512 % 16; omega

/-- The reference's result is the attention of its arguments. -/
theorem result_eq (m : (ℓ : Loc nD τ sig) → Buf (Elt Ideal) ℓ) (c : Dev nD) :
    Cert.ReferenceIdeal.Value.res_main_v30 m c = Attn.attention (m ((c.tc : Thread nD τ).loc main_arg0))
      (m ((c.tc : Thread nD τ).loc main_arg1)) (m ((c.tc : Thread nD τ).loc main_arg2)) :=
  (res_eq m c).trans (stages_eq _ _ _)

end Cert.AttnRef

namespace Cert.AttnPre

open Cert.Pre_finite_scores_unit_lane Cert.Pre_finite_scores_unit_lane.Gen Idealize.ShloMosaic

/-- An extended real whose absolute value is below infinity is real. -/
theorem real_of_abs {x : EReal} (h : Ideal.cmp .olt (max x (-x)) (Ideal.ofBits .f32 0x7F800000#32) = 1#1) : x ≠ ⊤ ∧ x ≠ ⊥ := by
  rw [show Ideal.ofBits .f32 0x7F800000#32 = ⊤ by simp [Ideal.ofBits, Ideal.ieee]] at h
  induction x with
  | coe x => exact ⟨EReal.coe_ne_top _, EReal.coe_ne_bot _⟩
  | top => simp [Ideal.cmp] at h
  | bot => simp [Ideal.cmp] at h

/-- A scalar array has one index. -/
instance : Subsingleton S_.Idx := ⟨fun a b => funext fun i => i.elim0⟩

/-- Two bits whose conjunction is one are one. -/
theorem and_one {x y : BitVec 1} (h : IntOp.andi x y = 1#1) : x = 1#1 ∧ y = 1#1 := by
  revert h x y; decide

/-- What the precondition says of the arrays. -/
theorem read (Q K : FVec Ideal S16384x1024 .bf16) (V : FVec Ideal S2x8x16x128x512 .bf16)
    (h : fn (F := Ideal) Q K V ix0 = 1#1) :
    (∀ y, Q y ≠ ⊤ ∧ Q y ≠ ⊥) ∧ (∀ y, K y ≠ ⊤ ∧ K y ≠ ⊥)
    ∧ ∀ (b : Fin 2) (n : Fin 8) (j : Fin 16) (k : Fin 512), V (ix5 b n j 64 k) = 1 := by
  dsimp only [fn] at h
  obtain ⟨h1, hV⟩ := and_one h
  obtain ⟨hQ, hK⟩ := and_one h1
  refine ⟨fun y => ?_, fun y => ?_, fun b n j k => ?_⟩
  · exact real_of_abs (Host.reduce_andi_all _ _ _ _ _ hQ y)
  · exact real_of_abs (Host.reduce_andi_all _ _ _ _ _ hK y)
  · have e := Host.reduce_andi_all _ _ _ _ _ hV (ix4 b n j k)
    have e2 : Ideal.cmp .oeq (V (ix5 b n j 64 k)) (Ideal.ofBits .f32 0x3F800000#32) = 1#1 := by
      refine Eq.trans ?_ e
      symm
      pointwise
    rw [show Ideal.ofBits .f32 0x3F800000#32 = 1 by simp [Ideal.ofBits, Ideal.ieee, -EReal.coe_mul]; norm_num] at e2
    by_contra hne
    simp [Ideal.cmp, hne] at e2

end Cert.AttnPre

end
-- ==== Proof.Ffn.Values.lean ====
module

public import proofs.«01_k».proof.Proof.Gen.FeedForwardIdeal.Skeleton
public import Idealize.ShloMosaic.Lib.Pipeline.FrameBody
public import Idealize.ShloMosaic.Lib.Ring
public import Idealize.ShloMosaic.Lib.WholeRead
public import Idealize.ShloMosaic.Lib.WritesUnit
public import Idealize.ShloMosaic.Lib.Tactic
public import Idealize.ShloMosaic.Lib.WordCmp

/-! The values one grid point of the feed-forward kernel computes

Each is a function of the blocks the point reads and of the two rows carried from the point before. The columns come in two
halves of 2816: the first half is the branch that multiplies, the second the branch that goes through the gate. -/

@[expose] public section

set_option maxRecDepth 16384

noncomputable section

namespace Cert.FeedForwardIdeal.Ffn

open Cert.FeedForwardIdeal Cert.FeedForwardIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A block of activations, all of it. -/
def xAll (x : Vec F S512x1024 .f32) : Vec F S512x1024 .f32 :=
  fun y => x ((Rect.unit (s := S512x1024) ![0, 0] S512x1024.size inb_S512x1024_S512x1024_0_0).idx y)

/-- The norm's weights, all of them. -/
def gAll (x : Vec F S1x1024 .f32) : Vec F S1x1024 .f32 :=
  fun y => x ((Rect.unit (s := S1x1024) ![0, 0] S1x1024.size inb_S1x1024_S1x1024_0_0).idx y)

/-- The first half of the up projection's columns. -/
def upLo (x : Vec F S1x1024x5632 .bf16) : Vec F S1x1024x2816 .bf16 :=
  fun y => x ((Rect.unit (s := S1x1024x5632) ![0, 0, 0] S1x1024x2816.size inb_S1x1024x5632_S1x1024x2816_0_0_0).idx y)

/-- The second half of the up projection's columns. -/
def upHi (x : Vec F S1x1024x5632 .bf16) : Vec F S1x1024x2816 .bf16 :=
  fun y => x ((Rect.unit (s := S1x1024x5632) ![0, 0, 2816] S1x1024x2816.size inb_S1x1024x5632_S1x1024x2816_0_0_2816).idx y)

/-- The down projection, all of it. -/
def downAll (x : Vec F S1x2816x1024 .bf16) : Vec F S1x2816x1024 .bf16 :=
  fun y => x ((Rect.unit (s := S1x2816x1024) ![0, 0, 0] S1x2816x1024.size inb_S1x2816x1024_S1x2816x1024_0_0_0).idx y)

/-- The two rows before a sequence, all columns. -/
def prevAll (x : Vec F S1x2x5632 .f32) : Vec F S1x2x5632 .f32 :=
  fun y => x ((Rect.unit (s := S1x2x5632) ![0, 0, 0] S1x2x5632.size inb_S1x2x5632_S1x2x5632_0_0_0).idx y)

/-- The convolution's first tap, first half of the columns. -/
def tapLo0 (x : Vec F S3x5632 .f32) : Vec F S1x2816 .f32 :=
  fun y => x ((Rect.unit (s := S3x5632) ![0, 0] S1x2816.size inb_S3x5632_S1x2816_0_0).idx y)

/-- The convolution's second tap, first half of the columns. -/
def tapLo1 (x : Vec F S3x5632 .f32) : Vec F S1x2816 .f32 :=
  fun y => x ((Rect.unit (s := S3x5632) ![1, 0] S1x2816.size inb_S3x5632_S1x2816_1_0).idx y)

/-- The convolution's third tap, first half of the columns. -/
def tapLo2 (x : Vec F S3x5632 .f32) : Vec F S1x2816 .f32 :=
  fun y => x ((Rect.unit (s := S3x5632) ![2, 0] S1x2816.size inb_S3x5632_S1x2816_2_0).idx y)

/-- The convolution's first tap, second half of the columns. -/
def tapHi0 (x : Vec F S3x5632 .f32) : Vec F S1x2816 .f32 :=
  fun y => x ((Rect.unit (s := S3x5632) ![0, 2816] S1x2816.size inb_S3x5632_S1x2816_0_2816).idx y)

/-- The convolution's second tap, second half of the columns. -/
def tapHi1 (x : Vec F S3x5632 .f32) : Vec F S1x2816 .f32 :=
  fun y => x ((Rect.unit (s := S3x5632) ![1, 2816] S1x2816.size inb_S3x5632_S1x2816_1_2816).idx y)

/-- The convolution's third tap, second half of the columns. -/
def tapHi2 (x : Vec F S3x5632 .f32) : Vec F S1x2816 .f32 :=
  fun y => x ((Rect.unit (s := S3x5632) ![2, 2816] S1x2816.size inb_S3x5632_S1x2816_2_2816).idx y)

/-- The convolution's bias, first half of the columns. -/
def biasLo (x : Vec F S1x5632 .f32) : Vec F S1x2816 .f32 :=
  fun y => x ((Rect.unit (s := S1x5632) ![0, 0] S1x2816.size inb_S1x5632_S1x2816_0_0).idx y)

/-- The convolution's bias, second half of the columns. -/
def biasHi (x : Vec F S1x5632 .f32) : Vec F S1x2816 .f32 :=
  fun y => x ((Rect.unit (s := S1x5632) ![0, 2816] S1x2816.size inb_S1x5632_S1x2816_0_2816).idx y)

/-- The two carried rows, first half of the columns. -/
def carryLo (x : Vec F S8x5632 .f32) : Vec F S2x2816 .f32 :=
  fun y => x ((Rect.unit (s := S8x5632) ![0, 0] S2x2816.size inb_S8x5632_S2x2816_0_0).idx y)

/-- The two carried rows, second half of the columns. -/
def carryHi (x : Vec F S8x5632 .f32) : Vec F S2x2816 .f32 :=
  fun y => x ((Rect.unit (s := S8x5632) ![0, 2816] S2x2816.size inb_S8x5632_S2x2816_0_2816).idx y)

/-- The rows before a sequence, first half of the columns, as the kernel copies them to the carried rows. -/
def prevLo (x8 : Vec F S1x2x5632 .f32) : Vec F S2x2816 .f32 :=
  fun y => k0_pay4 (prevAll x8) ((Rect.unit (s := S2x5632) ![0, 0] S2x2816.size (by decide)).idx y)

/-- The rows before a sequence, second half of the columns, as the kernel copies them to the carried rows. -/
def prevHi (x8 : Vec F S1x2x5632 .f32) : Vec F S2x2816 .f32 :=
  fun y => k0_pay4 (prevAll x8) ((Rect.unit (s := S2x5632) ![0, 2816] S2x2816.size (by decide)).idx y)

/-- The normed block times the first half of the up projection. -/
def hLo (x2 : Vec F S512x1024 .f32) (x3 : Vec F S1x1024 .f32) (x4 : Vec F S1x1024x5632 .bf16) : Vec F S512x2816 .f32 :=
  k0_pay6 (xAll x2) (gAll x3) (upLo x4)

/-- The normed block times the second half of the up projection. -/
def hHi (x2 : Vec F S512x1024 .f32) (x3 : Vec F S1x1024 .f32) (x4 : Vec F S1x1024x5632 .bf16) : Vec F S512x2816 .f32 :=
  k0_pay14 (k0_pay5 (xAll x2) (gAll x3)) (upHi x4)

/-- The convolution of the first half of the columns, over the carried rows `p`. -/
def convLo (x2 : Vec F S512x1024 .f32) (x3 : Vec F S1x1024 .f32) (x4 : Vec F S1x1024x5632 .bf16) (x5 : Vec F S3x5632 .f32)
    (x6 : Vec F S1x5632 .f32) (p : Vec F S2x2816 .f32) : Vec F S512x2816 .f32 :=
  k0_pay11 (hLo x2 x3 x4) p (k0_pay7 (xAll x2) (gAll x3) (upLo x4) p) (k0_pay8 (xAll x2) (gAll x3) (upLo x4))
    (iota .tc S8x2816 32 [0] iota_S8x2816_d0_w32) (k0_pay9 (xAll x2) (gAll x3) (upLo x4)) k0_pay10
    (tapLo0 x5) (tapLo1 x5) (tapLo2 x5) (biasLo x6)

/-- The convolution of the second half of the columns, over the carried rows `p`. -/
def convHi (x2 : Vec F S512x1024 .f32) (x3 : Vec F S1x1024 .f32) (x4 : Vec F S1x1024x5632 .bf16) (x5 : Vec F S3x5632 .f32)
    (x6 : Vec F S1x5632 .f32) (p : Vec F S2x2816 .f32) : Vec F S512x2816 .f32 :=
  k0_pay15 (hHi x2 x3 x4) p (tapHi0 x5) (tapHi1 x5) (tapHi2 x5) (biasHi x6)

/-- The block of the output a point writes, over the carried rows `p` and `q`. -/
def outOf (x2 : Vec F S512x1024 .f32) (x3 : Vec F S1x1024 .f32) (x4 : Vec F S1x1024x5632 .bf16) (x5 : Vec F S3x5632 .f32)
    (x6 : Vec F S1x5632 .f32) (x7 : Vec F S1x2816x1024 .bf16) (p q : Vec F S2x2816 .f32) : Vec F S512x1024 .f32 :=
  k0_pay3 (xAll x2) (convLo x2 x3 x4 x5 x6 p) (convHi x2 x3 x4 x5 x6 q) (downAll x7)

/-- The last two rows of the projected block, first half of the columns: what the next point finds carried. -/
def lastLo (x2 : Vec F S512x1024 .f32) (x3 : Vec F S1x1024 .f32) (x4 : Vec F S1x1024x5632 .bf16) : Vec F S2x2816 .f32 :=
  k0_pay12 (hLo x2 x3 x4)

/-- The last two rows of the projected block, second half of the columns. -/
def lastHi (x2 : Vec F S512x1024 .f32) (x3 : Vec F S1x1024 .f32) (x4 : Vec F S1x1024x5632 .bf16) : Vec F S2x2816 .f32 :=
  k0_pay1 (k0_pay16 (hHi x2 x3 x4))

/-- The two stores that make the block of the state a point writes, the later first. -/
def statePieces (x2 : Vec F S512x1024 .f32) (x3 : Vec F S1x1024 .f32) (x4 : Vec F S1x1024x5632 .bf16) :
    List (View.Piece (Elt F) S1x2x5632 .f32) :=
  [⟨Rect.unit (s := S1x2x5632) ![0, 0, 2816] S1x2x2816.size inb_S1x2x5632_S1x2x2816_0_0_2816, k0_pay2 (hHi x2 x3 x4)⟩,
   ⟨Rect.unit (s := S1x2x5632) ![0, 0, 0] S1x2x2816.size inb_S1x2x5632_S1x2x2816_0_0_0, k0_pay13 (hLo x2 x3 x4)⟩]

/-- The block of the state a point writes: the last two rows of the projected block. -/
def stateOf (x2 : Vec F S512x1024 .f32) (x3 : Vec F S1x1024 .f32) (x4 : Vec F S1x1024x5632 .bf16) : Vec F S1x2x5632 .f32 :=
  View.canon (statePieces x2 x3 x4)

end Cert.FeedForwardIdeal.Ffn

end
-- ==== Proof.Ffn.Block.lean ====
module

public import proofs.«01_k».proof.Proof.Ffn.Values
public import proofs.«01_k».proof.Proof.Ffn.Meaning
public import Idealize.ShloMosaic.Lib.Pointwise
public import Idealize.ShloMosaic.Lib.IdealHost

/-!
# One grid point's values, in formulas

What a point computes from its blocks and the two rows before them, read at an index.
-/

@[expose] public section

set_option maxRecDepth 16384

noncomputable section

namespace Cert.FeedForwardIdeal.Ffn

open Cert.FeedForwardIdeal Cert.FeedForwardIdeal.Gen Idealize.ShloMosaic
open Cert.FfnMath

/-! ## The windows' reads -/

/-- An entry of the block of activations. -/
theorem xAll_at (x : Vec Ideal S512x1024 .f32) (r : Fin 512) (l : Fin 1024) : xAll (F := Ideal) x (ix2 r l) = x (ix2 r l) := by
  unfold xAll
  congr 1
  funext ax
  apply Fin.ext
  match ax with
  | ⟨0, _⟩ => show 0 + 1 * (r).val = (r).val; omega
  | ⟨1, _⟩ => show 0 + 1 * (l).val = (l).val; omega

/-- A weight of the norm. -/
theorem gAll_at (x : Vec Ideal S1x1024 .f32) (l : Fin 1024) : gAll (F := Ideal) x (ix2 ((0 : Fin 1)) l) = x (ix2 ((0 : Fin 1)) l) := by
  unfold gAll
  congr 1
  funext ax
  apply Fin.ext
  match ax with
  | ⟨0, _⟩ => show 0 + 1 * ((0 : Fin 1)).val = ((0 : Fin 1)).val; omega
  | ⟨1, _⟩ => show 0 + 1 * (l).val = (l).val; omega

/-- An entry of the down projection. -/
theorem downAll_at (x : Vec Ideal S1x2816x1024 .bf16) (k : Fin 2816) (d : Fin 1024) : downAll (F := Ideal) x (ix3 ((0 : Fin 1)) k d) = x (ix3 ((0 : Fin 1)) k d) := by
  unfold downAll
  congr 1
  funext ax
  apply Fin.ext
  match ax with
  | ⟨0, _⟩ => show 0 + 1 * ((0 : Fin 1)).val = ((0 : Fin 1)).val; omega
  | ⟨1, _⟩ => show 0 + 1 * (k).val = (k).val; omega
  | ⟨2, _⟩ => show 0 + 1 * (d).val = (d).val; omega

/-- An entry of the rows before a sequence. -/
theorem prevAll_at (x : Vec Ideal S1x2x5632 .f32) (j : Fin 2) (e : Fin 5632) : prevAll (F := Ideal) x (ix3 ((0 : Fin 1)) j e) = x (ix3 ((0 : Fin 1)) j e) := by
  unfold prevAll
  congr 1
  funext ax
  apply Fin.ext
  match ax with
  | ⟨0, _⟩ => show 0 + 1 * ((0 : Fin 1)).val = ((0 : Fin 1)).val; omega
  | ⟨1, _⟩ => show 0 + 1 * (j).val = (j).val; omega
  | ⟨2, _⟩ => show 0 + 1 * (e).val = (e).val; omega

/-- An entry of the up projection, first half. -/
theorem upLo_at (x : Vec Ideal S1x1024x5632 .bf16) (l : Fin 1024) (k : Fin 2816) : upLo (F := Ideal) x (ix3 ((0 : Fin 1)) l k) = x (ix3 ((0 : Fin 1)) l ((⟨k.val, by omega⟩ : Fin 5632))) := by
  unfold upLo
  congr 1
  funext ax
  apply Fin.ext
  match ax with
  | ⟨0, _⟩ => show 0 + 1 * ((0 : Fin 1)).val = ((0 : Fin 1)).val; omega
  | ⟨1, _⟩ => show 0 + 1 * (l).val = (l).val; omega
  | ⟨2, _⟩ => show 0 + 1 * (k).val = k.val; omega

/-- A coefficient of tap 0, first half. -/
theorem tapLo0_at (x : Vec Ideal S3x5632 .f32) (k : Fin 2816) : tapLo0 (F := Ideal) x (ix2 ((0 : Fin 1)) k) = x (ix2 ((0 : Fin 3)) ((⟨k.val, by omega⟩ : Fin 5632))) := by
  unfold tapLo0
  congr 1
  funext ax
  apply Fin.ext
  match ax with
  | ⟨0, _⟩ => show 0 + 1 * ((0 : Fin 1)).val = ((0 : Fin 3)).val; omega
  | ⟨1, _⟩ => show 0 + 1 * (k).val = k.val; omega

/-- A coefficient of tap 1, first half. -/
theorem tapLo1_at (x : Vec Ideal S3x5632 .f32) (k : Fin 2816) : tapLo1 (F := Ideal) x (ix2 ((0 : Fin 1)) k) = x (ix2 ((1 : Fin 3)) ((⟨k.val, by omega⟩ : Fin 5632))) := by
  unfold tapLo1
  congr 1
  funext ax
  apply Fin.ext
  match ax with
  | ⟨0, _⟩ => show 1 + 1 * ((0 : Fin 1)).val = ((1 : Fin 3)).val; omega
  | ⟨1, _⟩ => show 0 + 1 * (k).val = k.val; omega

/-- A coefficient of tap 2, first half. -/
theorem tapLo2_at (x : Vec Ideal S3x5632 .f32) (k : Fin 2816) : tapLo2 (F := Ideal) x (ix2 ((0 : Fin 1)) k) = x (ix2 ((2 : Fin 3)) ((⟨k.val, by omega⟩ : Fin 5632))) := by
  unfold tapLo2
  congr 1
  funext ax
  apply Fin.ext
  match ax with
  | ⟨0, _⟩ => show 2 + 1 * ((0 : Fin 1)).val = ((2 : Fin 3)).val; omega
  | ⟨1, _⟩ => show 0 + 1 * (k).val = k.val; omega

/-- A bias of the convolution, first half. -/
theorem biasLo_at (x : Vec Ideal S1x5632 .f32) (k : Fin 2816) : biasLo (F := Ideal) x (ix2 ((0 : Fin 1)) k) = x (ix2 ((0 : Fin 1)) ((⟨k.val, by omega⟩ : Fin 5632))) := by
  unfold biasLo
  congr 1
  funext ax
  apply Fin.ext
  match ax with
  | ⟨0, _⟩ => show 0 + 1 * ((0 : Fin 1)).val = ((0 : Fin 1)).val; omega
  | ⟨1, _⟩ => show 0 + 1 * (k).val = k.val; omega

/-- An entry of the up projection, second half. -/
theorem upHi_at (x : Vec Ideal S1x1024x5632 .bf16) (l : Fin 1024) (k : Fin 2816) : upHi (F := Ideal) x (ix3 ((0 : Fin 1)) l k) = x (ix3 ((0 : Fin 1)) l ((⟨2816 + k.val, by omega⟩ : Fin 5632))) := by
  unfold upHi
  congr 1
  funext ax
  apply Fin.ext
  match ax with
  | ⟨0, _⟩ => show 0 + 1 * ((0 : Fin 1)).val = ((0 : Fin 1)).val; omega
  | ⟨1, _⟩ => show 0 + 1 * (l).val = (l).val; omega
  | ⟨2, _⟩ => show 2816 + 1 * (k).val = 2816 + k.val; omega

/-- A coefficient of tap 0, second half. -/
theorem tapHi0_at (x : Vec Ideal S3x5632 .f32) (k : Fin 2816) : tapHi0 (F := Ideal) x (ix2 ((0 : Fin 1)) k) = x (ix2 ((0 : Fin 3)) ((⟨2816 + k.val, by omega⟩ : Fin 5632))) := by
  unfold tapHi0
  congr 1
  funext ax
  apply Fin.ext
  match ax with
  | ⟨0, _⟩ => show 0 + 1 * ((0 : Fin 1)).val = ((0 : Fin 3)).val; omega
  | ⟨1, _⟩ => show 2816 + 1 * (k).val = 2816 + k.val; omega

/-- A coefficient of tap 1, second half. -/
theorem tapHi1_at (x : Vec Ideal S3x5632 .f32) (k : Fin 2816) : tapHi1 (F := Ideal) x (ix2 ((0 : Fin 1)) k) = x (ix2 ((1 : Fin 3)) ((⟨2816 + k.val, by omega⟩ : Fin 5632))) := by
  unfold tapHi1
  congr 1
  funext ax
  apply Fin.ext
  match ax with
  | ⟨0, _⟩ => show 1 + 1 * ((0 : Fin 1)).val = ((1 : Fin 3)).val; omega
  | ⟨1, _⟩ => show 2816 + 1 * (k).val = 2816 + k.val; omega

/-- A coefficient of tap 2, second half. -/
theorem tapHi2_at (x : Vec Ideal S3x5632 .f32) (k : Fin 2816) : tapHi2 (F := Ideal) x (ix2 ((0 : Fin 1)) k) = x (ix2 ((2 : Fin 3)) ((⟨2816 + k.val, by omega⟩ : Fin 5632))) := by
  unfold tapHi2
  congr 1
  funext ax
  apply Fin.ext
  match ax with
  | ⟨0, _⟩ => show 2 + 1 * ((0 : Fin 1)).val = ((2 : Fin 3)).val; omega
  | ⟨1, _⟩ => show 2816 + 1 * (k).val = 2816 + k.val; omega

/-- A bias of the convolution, second half. -/
theorem biasHi_at (x : Vec Ideal S1x5632 .f32) (k : Fin 2816) : biasHi (F := Ideal) x (ix2 ((0 : Fin 1)) k) = x (ix2 ((0 : Fin 1)) ((⟨2816 + k.val, by omega⟩ : Fin 5632))) := by
  unfold biasHi
  congr 1
  funext ax
  apply Fin.ext
  match ax with
  | ⟨0, _⟩ => show 0 + 1 * ((0 : Fin 1)).val = ((0 : Fin 1)).val; omega
  | ⟨1, _⟩ => show 2816 + 1 * (k).val = 2816 + k.val; omega

/-- An entry of the rows before a sequence, as carried, first half. -/
theorem prevLo_at (x : Vec Ideal S1x2x5632 .f32) (j : Fin 2) (k : Fin 2816) :
    prevLo (F := Ideal) x (ix2 j k) = x (ix3 0 j ⟨k.val, by omega⟩) := by
  rw [← prevAll_at x]
  unfold prevLo k0_pay4
  refine Eq.trans (congrArg _ (?_ : _ = (ix2 j ⟨k.val, by omega⟩ : S2x5632.Idx))) ?_
  · funext ax
    apply Fin.ext
    match ax with
    | ⟨0, _⟩ => show 0 + 1 * j.val = j.val; omega
    | ⟨1, _⟩ => show 0 + 1 * k.val = k.val; omega
  · pointwise

/-- An entry of the rows before a sequence, as carried, second half. -/
theorem prevHi_at (x : Vec Ideal S1x2x5632 .f32) (j : Fin 2) (k : Fin 2816) :
    prevHi (F := Ideal) x (ix2 j k) = x (ix3 0 j ⟨2816 + k.val, by omega⟩) := by
  rw [← prevAll_at x]
  unfold prevHi k0_pay4
  refine Eq.trans (congrArg _ (?_ : _ = (ix2 j ⟨2816 + k.val, by omega⟩ : S2x5632.Idx))) ?_
  · funext ax
    apply Fin.ext
    match ax with
    | ⟨0, _⟩ => show 0 + 1 * j.val = j.val; omega
    | ⟨1, _⟩ => show 2816 + 1 * k.val = 2816 + k.val; omega
  · pointwise

/-! ## The projected rows -/

variable (x2 : Vec Ideal S512x1024 .f32) (x3 : Vec Ideal S1x1024 .f32) (x4 : Vec Ideal S1x1024x5632 .bf16) (x5 : Vec Ideal S3x5632 .f32)
  (x6 : Vec Ideal S1x5632 .f32) (x7 : Vec Ideal S1x2816x1024 .bf16) (p q : Vec Ideal S2x2816 .f32)

/-- A normed entry of the block. -/
theorem pay5_at (v : Vec Ideal S512x1024 .f32) (w : Vec Ideal S1x1024 .f32) (r : Fin 512) (l : Fin 1024) :
    k0_pay5 (F := Ideal) v w (ix2 r l) = normed (fun k => v (ix2 r k)) (fun k => w (ix2 0 k)) l := by
  unfold k0_pay5 normed
  pointwise

/-- A projected entry of the block, first half. -/
theorem hLo_at (r : Fin 512) (k : Fin 2816) : hLo (F := Ideal) x2 x3 x4 (ix2 r k)
    = project (fun l => x2 (ix2 r l)) (fun l => x3 (ix2 0 l)) fun l => x4 (ix3 0 l ⟨k.val, by omega⟩) := by
  unfold hLo k0_pay6 project
  pointwise
  simp only [pay5_at, xAll_at, gAll_at, upLo_at]

/-- A projected entry of the block, second half. -/
theorem hHi_at (r : Fin 512) (k : Fin 2816) : hHi (F := Ideal) x2 x3 x4 (ix2 r k)
    = project (fun l => x2 (ix2 r l)) (fun l => x3 (ix2 0 l)) fun l => x4 (ix3 0 l ⟨2816 + k.val, by omega⟩) := by
  unfold hHi k0_pay14 project
  pointwise
  simp only [pay5_at, xAll_at, gAll_at, upHi_at]

/-- The carried rows of the next point, first half. -/
theorem lastLo_at (j : Fin 2) (k : Fin 2816) : lastLo (F := Ideal) x2 x3 x4 (ix2 j k) = hLo (F := Ideal) x2 x3 x4 (ix2 ⟨510 + j.val, by omega⟩ k) := by
  unfold lastLo k0_pay12
  pointwise

/-- The carried rows of the next point, second half. -/
theorem lastHi_at (j : Fin 2) (k : Fin 2816) : lastHi (F := Ideal) x2 x3 x4 (ix2 j k) = hHi (F := Ideal) x2 x3 x4 (ix2 ⟨510 + j.val, by omega⟩ k) := by
  unfold lastHi k0_pay1 k0_pay16
  pointwise

/-! ## The convolution -/

/-- The row one before row `r` of a block `h`, the carried rows before it. -/
def back1 (h : Vec Ideal S512x2816 .f32) (p : Vec Ideal S2x2816 .f32) (r : Fin 512) (k : Fin 2816) : EReal :=
  if r.val = 0 then p (ix2 1 k) else h (ix2 ⟨r.val - 1, by omega⟩ k)

/-- The row two before row `r`. -/
def back2 (h : Vec Ideal S512x2816 .f32) (p : Vec Ideal S2x2816 .f32) (r : Fin 512) (k : Fin 2816) : EReal :=
  if r.val = 0 then p (ix2 0 k) else if r.val = 1 then p (ix2 1 k) else h (ix2 ⟨r.val - 2, by omega⟩ k)

/-- A row of eight tested for being the first. -/
theorem first_row (r : Fin 512) : IntOp.cmpi CmpIPredicate.eq (BitVec.ofNat 32 r.val) 0#32 = BitVec.ofBool (decide (r.val = 0)) := by
  rw [show (0#32 : BitVec 32) = BitVec.ofNat 32 0 from rfl, WordCmp.cmpi_eq_ofNat (by have := r.isLt; omega) (by omega)]

/-- A row of eight tested for being the second. -/
theorem second_row (r : Fin 512) : IntOp.cmpi CmpIPredicate.eq (BitVec.ofNat 32 r.val) 1#32 = BitVec.ofBool (decide (r.val = 1)) := by
  rw [show (1#32 : BitVec 32) = BitVec.ofNat 32 1 from rfl, WordCmp.cmpi_eq_ofNat (by have := r.isLt; omega) (by omega)]

/-- The rows rotated by one, the first of them replaced, are the rows one before. -/
theorem rotate1 (h : Vec Ideal S512x2816 .f32) (p : Vec Ideal S2x2816 .f32) (r : Fin 512) (k : Fin 2816) :
    (if h_1 : r.val < 8 then
        Scalar.select (IntOp.cmpi CmpIPredicate.eq (BitVec.ofNat 32 r.val) 0#32) (p (ix2 1 k))
          (h (ix2 ⟨(r.val + 512 - 1) % 512, Nat.mod_lt _ (by decide)⟩ k))
      else h (ix2 ⟨(8 + (r.val - 8) + 512 - 1) % 512, Nat.mod_lt _ (by decide)⟩ k)) = back1 h p r k := by
  have hr := r.isLt
  unfold back1
  rw [first_row, WordCmp.select_ofBool]
  simp only [decide_eq_true_eq]
  split_ifs with h1 h2 h3
  · rfl
  · congr 2; apply Fin.ext; show (r.val + 512 - 1) % 512 = r.val - 1; omega
  · omega
  · congr 2; apply Fin.ext; show (8 + (r.val - 8) + 512 - 1) % 512 = r.val - 1; omega

/-- The rows rotated by two, the first two of them replaced, are the rows two before. -/
theorem rotate2 (h : Vec Ideal S512x2816 .f32) (p : Vec Ideal S2x2816 .f32) (r : Fin 512) (k : Fin 2816) :
    (if h_1 : r.val < 8 then
        Scalar.select (IntOp.cmpi CmpIPredicate.eq (BitVec.ofNat 32 r.val) 1#32) (p (ix2 1 k))
          (Scalar.select (IntOp.cmpi CmpIPredicate.eq (BitVec.ofNat 32 r.val) 0#32) (p (ix2 0 k))
            (h (ix2 ⟨(r.val + 512 - 2) % 512, Nat.mod_lt _ (by decide)⟩ k)))
      else h (ix2 ⟨(8 + (r.val - 8) + 512 - 2) % 512, Nat.mod_lt _ (by decide)⟩ k)) = back2 h p r k := by
  have hr := r.isLt
  unfold back2
  rw [first_row, second_row, WordCmp.select_ofBool, WordCmp.select_ofBool]
  simp only [decide_eq_true_eq]
  split_ifs <;> first | rfl | omega | skip
  · congr 2; apply Fin.ext; show (r.val + 512 - 2) % 512 = r.val - 2; omega
  · congr 2; apply Fin.ext; show (8 + (r.val - 8) + 512 - 2) % 512 = r.val - 2; omega

/-- The second half's convolution. -/
theorem pay15_at (h : Vec Ideal S512x2816 .f32) (c0 c1 c2 b : Vec Ideal S1x2816 .f32) (r : Fin 512) (k : Fin 2816) :
    k0_pay15 (F := Ideal) h q c0 c1 c2 b (ix2 r k)
      = taps (back2 h q r k) (back1 h q r k) (h (ix2 r k)) (c0 (ix2 0 k)) (c1 (ix2 0 k)) (c2 (ix2 0 k)) (b (ix2 0 k)) := by
  rw [← rotate1, ← rotate2]
  unfold k0_pay15 taps
  pointwise

/-- An entry of the convolution, second half. -/
theorem convHi_at (r : Fin 512) (k : Fin 2816) : convHi (F := Ideal) x2 x3 x4 x5 x6 q (ix2 r k)
    = taps (back2 (hHi x2 x3 x4) q r k) (back1 (hHi x2 x3 x4) q r k) (hHi x2 x3 x4 (ix2 r k))
      (x5 (ix2 0 ⟨2816 + k.val, by omega⟩)) (x5 (ix2 1 ⟨2816 + k.val, by omega⟩)) (x5 (ix2 2 ⟨2816 + k.val, by omega⟩))
      (x6 (ix2 0 ⟨2816 + k.val, by omega⟩)) := by
  unfold convHi
  rw [pay15_at, tapHi0_at, tapHi1_at, tapHi2_at, biasHi_at]

/-- An entry of the convolution, first half. -/
theorem convLo_at (r : Fin 512) (k : Fin 2816) : convLo (F := Ideal) x2 x3 x4 x5 x6 p (ix2 r k)
    = taps (back2 (hLo x2 x3 x4) p r k) (back1 (hLo x2 x3 x4) p r k) (hLo x2 x3 x4 (ix2 r k))
      (x5 (ix2 0 ⟨k.val, by omega⟩)) (x5 (ix2 1 ⟨k.val, by omega⟩)) (x5 (ix2 2 ⟨k.val, by omega⟩))
      (x6 (ix2 0 ⟨k.val, by omega⟩)) := by
  rw [← rotate1, ← rotate2, ← tapLo0_at x5 k, ← tapLo1_at x5 k, ← tapLo2_at x5 k, ← biasLo_at x6 k]
  unfold convLo hLo k0_pay11 k0_pay9 k0_pay10 k0_pay8 k0_pay7 taps
  generalize k0_pay6 (F := Ideal) (xAll x2) (gAll x3) (upLo x4) = h
  pointwise

/-! ## What the point writes -/

/-- An entry of the block of the output. -/
theorem outOf_at (r : Fin 512) (d : Fin 1024) : outOf (F := Ideal) x2 x3 x4 x5 x6 x7 p q (ix2 r d)
    = x2 (ix2 r d) + ∑ k : Fin 2816, silu (convHi (F := Ideal) x2 x3 x4 x5 x6 q (ix2 r k)) * convLo (F := Ideal) x2 x3 x4 x5 x6 p (ix2 r k)
      * x7 (ix3 0 k d) := by
  unfold outOf k0_pay3 silu
  pointwise
  simp only [xAll_at, downAll_at, zero_sub]

end Cert.FeedForwardIdeal.Ffn

end
-- ==== Proof.Ffn.RunA.lean ====
module

public import proofs.«01_k».proof.Proof.Gen.FeedForwardIdeal.Frame
public import proofs.«01_k».proof.Proof.Ffn.Values
public import proofs.«01_k».proof.Proof.Gen.FeedForwardIdeal.Skeleton
public import proofs.«01_k».proof.Proof.Gen.FeedForwardIdeal.Points
public import Idealize.ShloMosaic.Lib.Pipeline.FrameBody
public import Idealize.ShloMosaic.Lib.Ring
public import Idealize.ShloMosaic.Lib.WholeRead
public import Idealize.ShloMosaic.Lib.WritesUnit
public import Idealize.ShloMosaic.Lib.Tactic
public import Idealize.ShloMosaic.Lib.WordCmp

/-! The feed-forward kernel's body run at the start of a sequence -/

@[expose] public section

set_option maxRecDepth 16384

noncomputable section

namespace Cert.FeedForwardIdeal.Ffn

open Cert.FeedForwardIdeal Cert.FeedForwardIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The kernel's test for the first block of rows of a sequence. -/
abbrev first (i : grid0.Coords) : Prop := (Scalar.cmpi .ne (Scalar.extui (Scalar.cmpi .eq (BitVec.ofNat 32 (i 1).val) 0#32)) 0#32) = 1#1

set_option maxHeartbeats 4000000 in
/-- What the body stores at the start of a sequence, with the proof that the body run from the inputs at `x2` … `x8` and the carried rows
    at `x11` leaves those stores in the output, the state and the carried rows, and the inputs as they were. -/
noncomputable def runA (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S1x2816x1024 .bf16) (harg7 : arg7.IsWhole) (arg8 : Memref sig .tc .vmem S1x2x5632 .f32) (harg8 : arg8.IsWhole) (arg9 : Memref sig .tc .vmem S512x1024 .f32) (harg9 : arg9.IsWhole) (arg10 : Memref sig .tc .vmem S1x2x5632 .f32) (harg10 : arg10.IsWhole) (arg11 : Memref sig .tc .vmem S8x5632 .f32) (harg11 : arg11.IsWhole)
    (hc0 : first i) (x2 : Vec F S512x1024 .f32) (x3 : Vec F S1x1024 .f32) (x4 : Vec F S1x1024x5632 .bf16) (x5 : Vec F S3x5632 .f32) (x6 : Vec F S1x5632 .f32) (x7 : Vec F S1x2816x1024 .bf16) (x8 : Vec F S1x2x5632 .f32) (x11 : Vec F S8x5632 .f32) :
    { L : List (View.Piece (Elt F) S512x1024 .f32) × List (View.Piece (Elt F) S1x2x5632 .f32) × List (View.Piece (Elt F) S8x5632 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ owns (c : Thread nD τ) arg11 fullShare x11
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L.1)
              ∗ (∃ f, arg10.view.loc (c : Thread nD τ) ↦[arg10.view.set]{fullShare} arg10.view.writes (Elt F) f L.2.1)
              ∗ (arg11.view.loc (c : Thread nD τ) ↦[arg11.view.set]{fullShare} arg11.view.writes (Elt F) (harg11.unread x11) L.2.2)) -∗ K ⟨⟩))
          ⊢ wp frame (wpE (defs₀ (F := F)) Variants.none c none) E (cc0_ffn_seq i arg2 harg2 arg3 harg3 arg4 harg4 arg5 harg5 arg6 harg6 arg7 harg7 arg8 harg8 arg9 harg9 arg10 harg10 arg11 harg11) K } := by
  refine ⟨(?_, ?_, ?_), fun E K => ?run⟩
  case run =>
    simp only [cc0_ffn_seq_eq_skeleton]; unfold cc0_ffn_seq_skel
    simp only [k0_part1_eq_skeleton, k0_part2_eq_skeleton, k0_part3_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg11.eq_unread hf11
    sl_exec (disch := first | sl_exact hc0)
    sl_step

    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    isplitl [H10]
    · iexists _; iexact H10
    iexact H11

end Cert.FeedForwardIdeal.Ffn

end
-- ==== Proof.Ffn.PiecesA.lean ====
module

public import proofs.«01_k».proof.Proof.Ffn.RunA
public import proofs.«01_k».proof.Proof.Ffn.Values
public import proofs.«01_k».proof.Proof.Gen.FeedForwardIdeal.Skeleton
public import proofs.«01_k».proof.Proof.Gen.FeedForwardIdeal.Points
public import Idealize.ShloMosaic.Lib.Pipeline.FrameBody
public import Idealize.ShloMosaic.Lib.Ring
public import Idealize.ShloMosaic.Lib.WholeRead
public import Idealize.ShloMosaic.Lib.WritesUnit
public import Idealize.ShloMosaic.Lib.Tactic
public import Idealize.ShloMosaic.Lib.WordCmp

/-! One run of the feed-forward kernel's body. -/

@[expose] public section

set_option maxRecDepth 16384

noncomputable section

namespace Cert.FeedForwardIdeal.Ffn

open Cert.FeedForwardIdeal Cert.FeedForwardIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body stores at the start of a sequence: the carried rows are the ones given before it. -/
theorem piecesA (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S1x2816x1024 .bf16) (harg7 : arg7.IsWhole) (arg8 : Memref sig .tc .vmem S1x2x5632 .f32) (harg8 : arg8.IsWhole) (arg9 : Memref sig .tc .vmem S512x1024 .f32) (harg9 : arg9.IsWhole) (arg10 : Memref sig .tc .vmem S1x2x5632 .f32) (harg10 : arg10.IsWhole) (arg11 : Memref sig .tc .vmem S8x5632 .f32) (harg11 : arg11.IsWhole)
    (hc0 : first i) (x2 : Vec F S512x1024 .f32) (x3 : Vec F S1x1024 .f32) (x4 : Vec F S1x1024x5632 .bf16) (x5 : Vec F S3x5632 .f32) (x6 : Vec F S1x5632 .f32) (x7 : Vec F S1x2816x1024 .bf16) (x8 : Vec F S1x2x5632 .f32) (x11 : Vec F S8x5632 .f32) :
    (runA c i arg2 harg2 arg3 harg3 arg4 harg4 arg5 harg5 arg6 harg6 arg7 harg7 arg8 harg8 arg9 harg9 arg10 harg10 arg11 harg11 hc0 x2 x3 x4 x5 x6 x7 x8 x11).1 = ([⟨Rect.unit (s := S512x1024) ![0, 0] S512x1024.size inb_S512x1024_S512x1024_0_0, outOf x2 x3 x4 x5 x6 x7 (prevLo x8) (prevHi x8)⟩], statePieces x2 x3 x4,
    [⟨Rect.unit (s := S8x5632) ![0, 2816] S2x2816.size inb_S8x5632_S2x2816_0_2816, lastHi x2 x3 x4⟩,
     ⟨Rect.unit (s := S8x5632) ![0, 0] S2x2816.size inb_S8x5632_S2x2816_0_0, lastLo x2 x3 x4⟩,
     ⟨Rect.unit (s := S8x5632) ![0, 0] S2x5632.size inb_S8x5632_S2x5632_0_0, k0_pay4 (prevAll x8)⟩]) := by
  have exAll : xAll x2 = View.readAt (Elt F) arg2.view (Rect.unit (s := S512x1024) ![0, 0] S512x1024.size inb_S512x1024_S512x1024_0_0).toLoadRect (harg2.unread x2) :=
    (funext fun y => harg2.readAt_unread x2 (Rect.unit (s := S512x1024) ![0, 0] S512x1024.size inb_S512x1024_S512x1024_0_0).toLoadRect y).symm
  have egAll : gAll x3 = View.readAt (Elt F) arg3.view (Rect.unit (s := S1x1024) ![0, 0] S1x1024.size inb_S1x1024_S1x1024_0_0).toLoadRect (harg3.unread x3) :=
    (funext fun y => harg3.readAt_unread x3 (Rect.unit (s := S1x1024) ![0, 0] S1x1024.size inb_S1x1024_S1x1024_0_0).toLoadRect y).symm
  have eupLo : upLo x4 = View.readAt (Elt F) arg4.view (Rect.unit (s := S1x1024x5632) ![0, 0, 0] S1x1024x2816.size inb_S1x1024x5632_S1x1024x2816_0_0_0).toLoadRect (harg4.unread x4) :=
    (funext fun y => harg4.readAt_unread x4 (Rect.unit (s := S1x1024x5632) ![0, 0, 0] S1x1024x2816.size inb_S1x1024x5632_S1x1024x2816_0_0_0).toLoadRect y).symm
  have eupHi : upHi x4 = View.readAt (Elt F) arg4.view (Rect.unit (s := S1x1024x5632) ![0, 0, 2816] S1x1024x2816.size inb_S1x1024x5632_S1x1024x2816_0_0_2816).toLoadRect (harg4.unread x4) :=
    (funext fun y => harg4.readAt_unread x4 (Rect.unit (s := S1x1024x5632) ![0, 0, 2816] S1x1024x2816.size inb_S1x1024x5632_S1x1024x2816_0_0_2816).toLoadRect y).symm
  have etapLo0 : tapLo0 x5 = View.readAt (Elt F) arg5.view (Rect.unit (s := S3x5632) ![0, 0] S1x2816.size inb_S3x5632_S1x2816_0_0).toLoadRect (harg5.unread x5) :=
    (funext fun y => harg5.readAt_unread x5 (Rect.unit (s := S3x5632) ![0, 0] S1x2816.size inb_S3x5632_S1x2816_0_0).toLoadRect y).symm
  have etapLo1 : tapLo1 x5 = View.readAt (Elt F) arg5.view (Rect.unit (s := S3x5632) ![1, 0] S1x2816.size inb_S3x5632_S1x2816_1_0).toLoadRect (harg5.unread x5) :=
    (funext fun y => harg5.readAt_unread x5 (Rect.unit (s := S3x5632) ![1, 0] S1x2816.size inb_S3x5632_S1x2816_1_0).toLoadRect y).symm
  have etapLo2 : tapLo2 x5 = View.readAt (Elt F) arg5.view (Rect.unit (s := S3x5632) ![2, 0] S1x2816.size inb_S3x5632_S1x2816_2_0).toLoadRect (harg5.unread x5) :=
    (funext fun y => harg5.readAt_unread x5 (Rect.unit (s := S3x5632) ![2, 0] S1x2816.size inb_S3x5632_S1x2816_2_0).toLoadRect y).symm
  have etapHi0 : tapHi0 x5 = View.readAt (Elt F) arg5.view (Rect.unit (s := S3x5632) ![0, 2816] S1x2816.size inb_S3x5632_S1x2816_0_2816).toLoadRect (harg5.unread x5) :=
    (funext fun y => harg5.readAt_unread x5 (Rect.unit (s := S3x5632) ![0, 2816] S1x2816.size inb_S3x5632_S1x2816_0_2816).toLoadRect y).symm
  have etapHi1 : tapHi1 x5 = View.readAt (Elt F) arg5.view (Rect.unit (s := S3x5632) ![1, 2816] S1x2816.size inb_S3x5632_S1x2816_1_2816).toLoadRect (harg5.unread x5) :=
    (funext fun y => harg5.readAt_unread x5 (Rect.unit (s := S3x5632) ![1, 2816] S1x2816.size inb_S3x5632_S1x2816_1_2816).toLoadRect y).symm
  have etapHi2 : tapHi2 x5 = View.readAt (Elt F) arg5.view (Rect.unit (s := S3x5632) ![2, 2816] S1x2816.size inb_S3x5632_S1x2816_2_2816).toLoadRect (harg5.unread x5) :=
    (funext fun y => harg5.readAt_unread x5 (Rect.unit (s := S3x5632) ![2, 2816] S1x2816.size inb_S3x5632_S1x2816_2_2816).toLoadRect y).symm
  have ebiasLo : biasLo x6 = View.readAt (Elt F) arg6.view (Rect.unit (s := S1x5632) ![0, 0] S1x2816.size inb_S1x5632_S1x2816_0_0).toLoadRect (harg6.unread x6) :=
    (funext fun y => harg6.readAt_unread x6 (Rect.unit (s := S1x5632) ![0, 0] S1x2816.size inb_S1x5632_S1x2816_0_0).toLoadRect y).symm
  have ebiasHi : biasHi x6 = View.readAt (Elt F) arg6.view (Rect.unit (s := S1x5632) ![0, 2816] S1x2816.size inb_S1x5632_S1x2816_0_2816).toLoadRect (harg6.unread x6) :=
    (funext fun y => harg6.readAt_unread x6 (Rect.unit (s := S1x5632) ![0, 2816] S1x2816.size inb_S1x5632_S1x2816_0_2816).toLoadRect y).symm
  have edownAll : downAll x7 = View.readAt (Elt F) arg7.view (Rect.unit (s := S1x2816x1024) ![0, 0, 0] S1x2816x1024.size inb_S1x2816x1024_S1x2816x1024_0_0_0).toLoadRect (harg7.unread x7) :=
    (funext fun y => harg7.readAt_unread x7 (Rect.unit (s := S1x2816x1024) ![0, 0, 0] S1x2816x1024.size inb_S1x2816x1024_S1x2816x1024_0_0_0).toLoadRect y).symm
  have eprevAll : prevAll x8 = View.readAt (Elt F) arg8.view (Rect.unit (s := S1x2x5632) ![0, 0, 0] S1x2x5632.size inb_S1x2x5632_S1x2x5632_0_0_0).toLoadRect (harg8.unread x8) :=
    (funext fun y => harg8.readAt_unread x8 (Rect.unit (s := S1x2x5632) ![0, 0, 0] S1x2x5632.size inb_S1x2x5632_S1x2x5632_0_0_0).toLoadRect y).symm
  have pLo : prevLo x8 = View.readCov arg11.view [⟨Rect.unit (s := S8x5632) ![0, 0] S2x5632.size inb_S8x5632_S2x5632_0_0, k0_pay4 (prevAll x8)⟩] (Rect.unit (s := S8x5632) ![0, 0] S2x2816.size inb_S8x5632_S2x2816_0_0).toLoadRect := by
    funext y
    refine (View.read_writes_cons_unit_of_mem (Val := Elt F) (e := .f32) arg11.view _ inb_S8x5632_S2x5632_0_0 (k0_pay4 (prevAll x8)) [] _ ((Rect.unit (s := S2x5632) ![0, 0] S2x2816.size (by decide)).idx y) rfl ?_).symm
    intro a; fin_cases a
    · show 0 + 1 * (y 0).val = 0 + (0 + 1 * (y 0).val); omega
    · show 0 + 1 * (y 1).val = 0 + (0 + 1 * (y 1).val); omega
  have pHi : prevHi x8 = View.readCov arg11.view [⟨Rect.unit (s := S8x5632) ![0, 0] S2x2816.size inb_S8x5632_S2x2816_0_0, lastLo x2 x3 x4⟩, ⟨Rect.unit (s := S8x5632) ![0, 0] S2x5632.size inb_S8x5632_S2x5632_0_0, k0_pay4 (prevAll x8)⟩] (Rect.unit (s := S8x5632) ![0, 2816] S2x2816.size inb_S8x5632_S2x2816_0_2816).toLoadRect := by
    funext y
    refine ((View.read_writes_cons_unit_of_not_mem (Val := Elt F) (e := .f32) arg11.view _ inb_S8x5632_S2x2816_0_0 (lastLo x2 x3 x4) _ _ rfl 1 (.inr ?_)).trans
      (View.read_writes_cons_unit_of_mem (Val := Elt F) (e := .f32) arg11.view _ inb_S8x5632_S2x5632_0_0 (k0_pay4 (prevAll x8)) [] _ ((Rect.unit (s := S2x5632) ![0, 2816] S2x2816.size (by decide)).idx y) rfl ?_)).symm
    · show 0 + 2816 ≤ 2816 + 1 * (y 1).val; omega
    · intro a; fin_cases a
      · show 0 + 1 * (y 0).val = 0 + (0 + 1 * (y 0).val); omega
      · show 2816 + 1 * (y 1).val = 0 + (2816 + 1 * (y 1).val); omega
  unfold outOf statePieces lastLo lastHi convLo convHi hLo hHi
  rw [pLo, pHi]
  unfold lastLo hLo
  rw [exAll, egAll, eupLo, eupHi, etapLo0, etapLo1, etapLo2, etapHi0, etapHi1, etapHi2, ebiasLo, ebiasHi, edownAll, eprevAll]
  rfl

end Cert.FeedForwardIdeal.Ffn

end
-- ==== Proof.Ffn.RunB.lean ====
module

public import proofs.«01_k».proof.Proof.Gen.FeedForwardIdeal.Frame
public import proofs.«01_k».proof.Proof.Ffn.RunA
public import proofs.«01_k».proof.Proof.Ffn.Values
public import proofs.«01_k».proof.Proof.Gen.FeedForwardIdeal.Skeleton
public import proofs.«01_k».proof.Proof.Gen.FeedForwardIdeal.Points
public import Idealize.ShloMosaic.Lib.Pipeline.FrameBody
public import Idealize.ShloMosaic.Lib.Ring
public import Idealize.ShloMosaic.Lib.WholeRead
public import Idealize.ShloMosaic.Lib.WritesUnit
public import Idealize.ShloMosaic.Lib.Tactic
public import Idealize.ShloMosaic.Lib.WordCmp

/-! The feed-forward kernel's body run away from the start of a sequence -/

@[expose] public section

set_option maxRecDepth 16384

noncomputable section

namespace Cert.FeedForwardIdeal.Ffn

open Cert.FeedForwardIdeal Cert.FeedForwardIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body stores away from the start of a sequence, with the proof that the body run from the inputs at `x2` … `x8` and the carried rows
    at `x11` leaves those stores in the output, the state and the carried rows, and the inputs as they were. -/
noncomputable def runB (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S1x2816x1024 .bf16) (harg7 : arg7.IsWhole) (arg8 : Memref sig .tc .vmem S1x2x5632 .f32) (harg8 : arg8.IsWhole) (arg9 : Memref sig .tc .vmem S512x1024 .f32) (harg9 : arg9.IsWhole) (arg10 : Memref sig .tc .vmem S1x2x5632 .f32) (harg10 : arg10.IsWhole) (arg11 : Memref sig .tc .vmem S8x5632 .f32) (harg11 : arg11.IsWhole)
    (hc0 : ¬first i) (x2 : Vec F S512x1024 .f32) (x3 : Vec F S1x1024 .f32) (x4 : Vec F S1x1024x5632 .bf16) (x5 : Vec F S3x5632 .f32) (x6 : Vec F S1x5632 .f32) (x7 : Vec F S1x2816x1024 .bf16) (x8 : Vec F S1x2x5632 .f32) (x11 : Vec F S8x5632 .f32) :
    { L : List (View.Piece (Elt F) S512x1024 .f32) × List (View.Piece (Elt F) S1x2x5632 .f32) × List (View.Piece (Elt F) S8x5632 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ owns (c : Thread nD τ) arg11 fullShare x11
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L.1)
              ∗ (∃ f, arg10.view.loc (c : Thread nD τ) ↦[arg10.view.set]{fullShare} arg10.view.writes (Elt F) f L.2.1)
              ∗ (arg11.view.loc (c : Thread nD τ) ↦[arg11.view.set]{fullShare} arg11.view.writes (Elt F) (harg11.unread x11) L.2.2)) -∗ K ⟨⟩))
          ⊢ wp frame (wpE (defs₀ (F := F)) Variants.none c none) E (cc0_ffn_seq i arg2 harg2 arg3 harg3 arg4 harg4 arg5 harg5 arg6 harg6 arg7 harg7 arg8 harg8 arg9 harg9 arg10 harg10 arg11 harg11) K } := by
  refine ⟨(?_, ?_, ?_), fun E K => ?run⟩
  case run =>
    simp only [cc0_ffn_seq_eq_skeleton]; unfold cc0_ffn_seq_skel
    simp only [k0_part1_eq_skeleton, k0_part2_eq_skeleton, k0_part3_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg11.eq_unread hf11
    sl_exec (disch := first | sl_exact hc0)
    sl_step

    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    isplitl [H10]
    · iexists _; iexact H10
    iexact H11

end Cert.FeedForwardIdeal.Ffn

end
-- ==== Proof.Ffn.PiecesB.lean ====
module

public import proofs.«01_k».proof.Proof.Ffn.RunB
public import proofs.«01_k».proof.Proof.Ffn.Values
public import proofs.«01_k».proof.Proof.Gen.FeedForwardIdeal.Skeleton
public import proofs.«01_k».proof.Proof.Gen.FeedForwardIdeal.Points
public import Idealize.ShloMosaic.Lib.Pipeline.FrameBody
public import Idealize.ShloMosaic.Lib.Ring
public import Idealize.ShloMosaic.Lib.WholeRead
public import Idealize.ShloMosaic.Lib.WritesUnit
public import Idealize.ShloMosaic.Lib.Tactic
public import Idealize.ShloMosaic.Lib.WordCmp

/-! One run of the feed-forward kernel's body. -/

@[expose] public section

set_option maxRecDepth 16384

noncomputable section

namespace Cert.FeedForwardIdeal.Ffn

open Cert.FeedForwardIdeal Cert.FeedForwardIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body stores away from the start of a sequence: the carried rows are the ones found. -/
theorem piecesB (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S1x2816x1024 .bf16) (harg7 : arg7.IsWhole) (arg8 : Memref sig .tc .vmem S1x2x5632 .f32) (harg8 : arg8.IsWhole) (arg9 : Memref sig .tc .vmem S512x1024 .f32) (harg9 : arg9.IsWhole) (arg10 : Memref sig .tc .vmem S1x2x5632 .f32) (harg10 : arg10.IsWhole) (arg11 : Memref sig .tc .vmem S8x5632 .f32) (harg11 : arg11.IsWhole)
    (hc0 : ¬first i) (x2 : Vec F S512x1024 .f32) (x3 : Vec F S1x1024 .f32) (x4 : Vec F S1x1024x5632 .bf16) (x5 : Vec F S3x5632 .f32) (x6 : Vec F S1x5632 .f32) (x7 : Vec F S1x2816x1024 .bf16) (x8 : Vec F S1x2x5632 .f32) (x11 : Vec F S8x5632 .f32) :
    (runB c i arg2 harg2 arg3 harg3 arg4 harg4 arg5 harg5 arg6 harg6 arg7 harg7 arg8 harg8 arg9 harg9 arg10 harg10 arg11 harg11 hc0 x2 x3 x4 x5 x6 x7 x8 x11).1 = ([⟨Rect.unit (s := S512x1024) ![0, 0] S512x1024.size inb_S512x1024_S512x1024_0_0, outOf x2 x3 x4 x5 x6 x7 (carryLo x11) (carryHi x11)⟩], statePieces x2 x3 x4,
    [⟨Rect.unit (s := S8x5632) ![0, 2816] S2x2816.size inb_S8x5632_S2x2816_0_2816, lastHi x2 x3 x4⟩,
     ⟨Rect.unit (s := S8x5632) ![0, 0] S2x2816.size inb_S8x5632_S2x2816_0_0, lastLo x2 x3 x4⟩]) := by
  have exAll : xAll x2 = View.readAt (Elt F) arg2.view (Rect.unit (s := S512x1024) ![0, 0] S512x1024.size inb_S512x1024_S512x1024_0_0).toLoadRect (harg2.unread x2) :=
    (funext fun y => harg2.readAt_unread x2 (Rect.unit (s := S512x1024) ![0, 0] S512x1024.size inb_S512x1024_S512x1024_0_0).toLoadRect y).symm
  have egAll : gAll x3 = View.readAt (Elt F) arg3.view (Rect.unit (s := S1x1024) ![0, 0] S1x1024.size inb_S1x1024_S1x1024_0_0).toLoadRect (harg3.unread x3) :=
    (funext fun y => harg3.readAt_unread x3 (Rect.unit (s := S1x1024) ![0, 0] S1x1024.size inb_S1x1024_S1x1024_0_0).toLoadRect y).symm
  have eupLo : upLo x4 = View.readAt (Elt F) arg4.view (Rect.unit (s := S1x1024x5632) ![0, 0, 0] S1x1024x2816.size inb_S1x1024x5632_S1x1024x2816_0_0_0).toLoadRect (harg4.unread x4) :=
    (funext fun y => harg4.readAt_unread x4 (Rect.unit (s := S1x1024x5632) ![0, 0, 0] S1x1024x2816.size inb_S1x1024x5632_S1x1024x2816_0_0_0).toLoadRect y).symm
  have eupHi : upHi x4 = View.readAt (Elt F) arg4.view (Rect.unit (s := S1x1024x5632) ![0, 0, 2816] S1x1024x2816.size inb_S1x1024x5632_S1x1024x2816_0_0_2816).toLoadRect (harg4.unread x4) :=
    (funext fun y => harg4.readAt_unread x4 (Rect.unit (s := S1x1024x5632) ![0, 0, 2816] S1x1024x2816.size inb_S1x1024x5632_S1x1024x2816_0_0_2816).toLoadRect y).symm
  have etapLo0 : tapLo0 x5 = View.readAt (Elt F) arg5.view (Rect.unit (s := S3x5632) ![0, 0] S1x2816.size inb_S3x5632_S1x2816_0_0).toLoadRect (harg5.unread x5) :=
    (funext fun y => harg5.readAt_unread x5 (Rect.unit (s := S3x5632) ![0, 0] S1x2816.size inb_S3x5632_S1x2816_0_0).toLoadRect y).symm
  have etapLo1 : tapLo1 x5 = View.readAt (Elt F) arg5.view (Rect.unit (s := S3x5632) ![1, 0] S1x2816.size inb_S3x5632_S1x2816_1_0).toLoadRect (harg5.unread x5) :=
    (funext fun y => harg5.readAt_unread x5 (Rect.unit (s := S3x5632) ![1, 0] S1x2816.size inb_S3x5632_S1x2816_1_0).toLoadRect y).symm
  have etapLo2 : tapLo2 x5 = View.readAt (Elt F) arg5.view (Rect.unit (s := S3x5632) ![2, 0] S1x2816.size inb_S3x5632_S1x2816_2_0).toLoadRect (harg5.unread x5) :=
    (funext fun y => harg5.readAt_unread x5 (Rect.unit (s := S3x5632) ![2, 0] S1x2816.size inb_S3x5632_S1x2816_2_0).toLoadRect y).symm
  have etapHi0 : tapHi0 x5 = View.readAt (Elt F) arg5.view (Rect.unit (s := S3x5632) ![0, 2816] S1x2816.size inb_S3x5632_S1x2816_0_2816).toLoadRect (harg5.unread x5) :=
    (funext fun y => harg5.readAt_unread x5 (Rect.unit (s := S3x5632) ![0, 2816] S1x2816.size inb_S3x5632_S1x2816_0_2816).toLoadRect y).symm
  have etapHi1 : tapHi1 x5 = View.readAt (Elt F) arg5.view (Rect.unit (s := S3x5632) ![1, 2816] S1x2816.size inb_S3x5632_S1x2816_1_2816).toLoadRect (harg5.unread x5) :=
    (funext fun y => harg5.readAt_unread x5 (Rect.unit (s := S3x5632) ![1, 2816] S1x2816.size inb_S3x5632_S1x2816_1_2816).toLoadRect y).symm
  have etapHi2 : tapHi2 x5 = View.readAt (Elt F) arg5.view (Rect.unit (s := S3x5632) ![2, 2816] S1x2816.size inb_S3x5632_S1x2816_2_2816).toLoadRect (harg5.unread x5) :=
    (funext fun y => harg5.readAt_unread x5 (Rect.unit (s := S3x5632) ![2, 2816] S1x2816.size inb_S3x5632_S1x2816_2_2816).toLoadRect y).symm
  have ebiasLo : biasLo x6 = View.readAt (Elt F) arg6.view (Rect.unit (s := S1x5632) ![0, 0] S1x2816.size inb_S1x5632_S1x2816_0_0).toLoadRect (harg6.unread x6) :=
    (funext fun y => harg6.readAt_unread x6 (Rect.unit (s := S1x5632) ![0, 0] S1x2816.size inb_S1x5632_S1x2816_0_0).toLoadRect y).symm
  have ebiasHi : biasHi x6 = View.readAt (Elt F) arg6.view (Rect.unit (s := S1x5632) ![0, 2816] S1x2816.size inb_S1x5632_S1x2816_0_2816).toLoadRect (harg6.unread x6) :=
    (funext fun y => harg6.readAt_unread x6 (Rect.unit (s := S1x5632) ![0, 2816] S1x2816.size inb_S1x5632_S1x2816_0_2816).toLoadRect y).symm
  have edownAll : downAll x7 = View.readAt (Elt F) arg7.view (Rect.unit (s := S1x2816x1024) ![0, 0, 0] S1x2816x1024.size inb_S1x2816x1024_S1x2816x1024_0_0_0).toLoadRect (harg7.unread x7) :=
    (funext fun y => harg7.readAt_unread x7 (Rect.unit (s := S1x2816x1024) ![0, 0, 0] S1x2816x1024.size inb_S1x2816x1024_S1x2816x1024_0_0_0).toLoadRect y).symm
  have ecarryLo : carryLo x11 = View.readAt (Elt F) arg11.view (Rect.unit (s := S8x5632) ![0, 0] S2x2816.size inb_S8x5632_S2x2816_0_0).toLoadRect (harg11.unread x11) :=
    (funext fun y => harg11.readAt_unread x11 (Rect.unit (s := S8x5632) ![0, 0] S2x2816.size inb_S8x5632_S2x2816_0_0).toLoadRect y).symm
  have ecarryHi : carryHi x11 = View.readAt (Elt F) arg11.view (Rect.unit (s := S8x5632) ![0, 2816] S2x2816.size inb_S8x5632_S2x2816_0_2816).toLoadRect (harg11.unread x11) :=
    (funext fun y => harg11.readAt_unread x11 (Rect.unit (s := S8x5632) ![0, 2816] S2x2816.size inb_S8x5632_S2x2816_0_2816).toLoadRect y).symm
  unfold outOf statePieces lastLo lastHi convLo convHi hLo hHi
  rw [exAll, egAll, eupLo, eupHi, etapLo0, etapLo1, etapLo2, etapHi0, etapHi1, etapHi2, ebiasLo, ebiasHi, edownAll, ecarryLo, ecarryHi]
  rfl

end Cert.FeedForwardIdeal.Ffn

end
-- ==== Proof.Ffn.Body.lean ====
module

public import proofs.«01_k».proof.Proof.Ffn.PiecesA
public import proofs.«01_k».proof.Proof.Ffn.PiecesB
public import proofs.«01_k».proof.Proof.Ffn.Values
public import proofs.«01_k».proof.Proof.Gen.FeedForwardIdeal.Skeleton
public import proofs.«01_k».proof.Proof.Gen.FeedForwardIdeal.Points
public import Idealize.ShloMosaic.Lib.Pipeline.FrameBody
public import Idealize.ShloMosaic.Lib.Ring
public import Idealize.ShloMosaic.Lib.WholeRead
public import Idealize.ShloMosaic.Lib.WritesUnit
public import Idealize.ShloMosaic.Lib.Tactic
public import Idealize.ShloMosaic.Lib.WordCmp

/-! The feed-forward kernel's body at one grid point

From its input blocks and the carried rows the body leaves the block of the output, the block of the state, and the
projected block's last two rows as the carried rows of the next point. The two ways through the body, at the start of a
sequence and away from it, give one statement. -/

@[expose] public section

set_option maxRecDepth 16384

noncomputable section

namespace Cert.FeedForwardIdeal.Ffn

open Cert.FeedForwardIdeal Cert.FeedForwardIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one store to the output block fills it. -/
theorem outWhole (v : View sig .tc .vmem S512x1024 .f32) (f : v.ty.Contents (Elt F)) (w : Vec F S512x1024 .f32) :
    v.read (Elt F) (v.writes (Elt F) f [⟨Rect.unit (s := S512x1024) ![0, 0] S512x1024.size inb_S512x1024_S512x1024_0_0, w⟩]) = w := by
  funext y
  refine View.read_writes_cons_unit_of_mem (Val := Elt F) (e := .f32) v f inb_S512x1024_S512x1024_0_0 w [] y y rfl ?_
  intro a; fin_cases a
  · show (y 0).val = 0 + (y 0).val; omega
  · show (y 1).val = 0 + (y 1).val; omega

/-- The two stores to the state block fill it. -/
theorem stateWhole (v : View sig .tc .vmem S1x2x5632 .f32) (f : v.ty.Contents (Elt F)) (x2 : Vec F S512x1024 .f32)
    (x3 : Vec F S1x1024 .f32) (x4 : Vec F S1x1024x5632 .bf16) :
    v.read (Elt F) (v.writes (Elt F) f (statePieces x2 x3 x4)) = stateOf x2 x3 x4 :=
  View.read_writes_eq_canon v f (statePieces x2 x3 x4) fun y =>
    View.cover_of_tiledL (statePieces x2 x3 x4) S1x2x2816.size (by sl_kernel_rfl) y

/-- The carried rows' first half of the columns holds the next to last store. -/
theorem carriedLo (v : View sig .tc .vmem S8x5632 .f32) (f : v.ty.Contents (Elt F)) (a b : Vec F S2x2816 .f32)
    (T : List (View.Piece (Elt F) S8x5632 .f32)) :
    carryLo (v.read (Elt F) (v.writes (Elt F) f (⟨Rect.unit (s := S8x5632) ![0, 2816] S2x2816.size inb_S8x5632_S2x2816_0_2816, b⟩
      :: ⟨Rect.unit (s := S8x5632) ![0, 0] S2x2816.size inb_S8x5632_S2x2816_0_0, a⟩ :: T))) = a := by
  funext y
  refine (View.read_writes_cons_unit_of_not_mem (Val := Elt F) (e := .f32) v f inb_S8x5632_S2x2816_0_2816 b _ _ rfl 1 (.inl ?_)).trans
    (View.read_writes_cons_unit_of_mem (Val := Elt F) (e := .f32) v f inb_S8x5632_S2x2816_0_0 a T _ y rfl ?_)
  · show 0 + 1 * (y 1).val < 2816
    have : (y 1).val < 2816 := (y 1).isLt
    omega
  · intro d; fin_cases d
    · show 0 + 1 * (y 0).val = 0 + (y 0).val; omega
    · show 0 + 1 * (y 1).val = 0 + (y 1).val; omega

/-- The carried rows' second half of the columns holds the last store. -/
theorem carriedHi (v : View sig .tc .vmem S8x5632 .f32) (f : v.ty.Contents (Elt F)) (b : Vec F S2x2816 .f32)
    (T : List (View.Piece (Elt F) S8x5632 .f32)) :
    carryHi (v.read (Elt F) (v.writes (Elt F) f (⟨Rect.unit (s := S8x5632) ![0, 2816] S2x2816.size inb_S8x5632_S2x2816_0_2816, b⟩
      :: T))) = b := by
  funext y
  refine View.read_writes_cons_unit_of_mem (Val := Elt F) (e := .f32) v f inb_S8x5632_S2x2816_0_2816 b T _ y rfl ?_
  intro d; fin_cases d
  · show 0 + 1 * (y 0).val = 0 + (y 0).val; omega
  · show 2816 + 1 * (y 1).val = 2816 + (y 1).val; omega

set_option maxHeartbeats 4000000 in
/-- The body on whole staging buffers: the inputs are left as they were, the output and state blocks hold their values over
    the carried rows `p` and `q` — those given before the sequence at its start, those found otherwise — and the projected
    block's last two rows are left carried. -/
theorem body (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S1x2816x1024 .bf16) (harg7 : arg7.IsWhole) (arg8 : Memref sig .tc .vmem S1x2x5632 .f32) (harg8 : arg8.IsWhole) (arg9 : Memref sig .tc .vmem S512x1024 .f32) (harg9 : arg9.IsWhole) (arg10 : Memref sig .tc .vmem S1x2x5632 .f32) (harg10 : arg10.IsWhole) (arg11 : Memref sig .tc .vmem S8x5632 .f32) (harg11 : arg11.IsWhole)
    (x2 : Vec F S512x1024 .f32) (x3 : Vec F S1x1024 .f32) (x4 : Vec F S1x1024x5632 .bf16) (x5 : Vec F S3x5632 .f32) (x6 : Vec F S1x5632 .f32) (x7 : Vec F S1x2816x1024 .bf16) (x8 : Vec F S1x2x5632 .f32) (x11 : Vec F S8x5632 .f32) (p q : Vec F S2x2816 .f32)
    (hA : first i → prevLo x8 = p ∧ prevHi x8 = q) (hB : ¬first i → carryLo x11 = p ∧ carryHi x11 = q)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ owns (c : Thread nD τ) arg11 fullShare x11
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (outOf x2 x3 x4 x5 x6 x7 p q)
            ∗ owns (c : Thread nD τ) arg10 fullShare (stateOf x2 x3 x4)
            ∗ (∃ d, ⌜carryLo d = lastLo x2 x3 x4 ∧ carryHi d = lastHi x2 x3 x4⌝ ∗ owns (c : Thread nD τ) arg11 fullShare d)) -∗ K ⟨⟩))
      ⊢ wp frame (wpE (defs₀ (F := F)) Variants.none c none) E (cc0_ffn_seq i arg2 harg2 arg3 harg3 arg4 harg4 arg5 harg5 arg6 harg6 arg7 harg7 arg8 harg8 arg9 harg9 arg10 harg10 arg11 harg11) K := by
  by_cases hc : first i
  · obtain ⟨rfl, rfl⟩ := hA hc
    iintro ⟨H2, H3, H4, H5, H6, H7, H8, H9, H10, H11, Hk⟩
    iapply ((runA c i arg2 harg2 arg3 harg3 arg4 harg4 arg5 harg5 arg6 harg6 arg7 harg7 arg8 harg8 arg9 harg9 arg10 harg10 arg11 harg11 hc x2 x3 x4 x5 x6 x7 x8 x11).2 E K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    rw [piecesA c i arg2 harg2 arg3 harg3 arg4 harg4 arg5 harg5 arg6 harg6 arg7 harg7 arg8 harg8 arg9 harg9 arg10 harg10 arg11 harg11 hc x2 x3 x4 x5 x6 x7 x8 x11]
    iintro ⟨H2, H3, H4, H5, H6, H7, H8, ⟨%f9, H9⟩, ⟨%f10, H10⟩, H11⟩
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact outWhole _ _ _
    isplitl [H10]
    · unfold owns; iexists _; isplitr
      swap; · iexact H10
      ipureintro; exact stateWhole _ _ _ _ _
    iexists _; isplitr
    swap
    · unfold owns; iexists _; isplitr
      swap; · iexact H11
      ipureintro; rfl
    ipureintro
    exact ⟨carriedLo _ _ _ _ _, carriedHi _ _ _ _⟩
  · obtain ⟨rfl, rfl⟩ := hB hc
    iintro ⟨H2, H3, H4, H5, H6, H7, H8, H9, H10, H11, Hk⟩
    iapply ((runB c i arg2 harg2 arg3 harg3 arg4 harg4 arg5 harg5 arg6 harg6 arg7 harg7 arg8 harg8 arg9 harg9 arg10 harg10 arg11 harg11 hc x2 x3 x4 x5 x6 x7 x8 x11).2 E K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    rw [piecesB c i arg2 harg2 arg3 harg3 arg4 harg4 arg5 harg5 arg6 harg6 arg7 harg7 arg8 harg8 arg9 harg9 arg10 harg10 arg11 harg11 hc x2 x3 x4 x5 x6 x7 x8 x11]
    iintro ⟨H2, H3, H4, H5, H6, H7, H8, ⟨%f9, H9⟩, ⟨%f10, H10⟩, H11⟩
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact outWhole _ _ _
    isplitl [H10]
    · unfold owns; iexists _; isplitr
      swap; · iexact H10
      ipureintro; exact stateWhole _ _ _ _ _
    iexists _; isplitr
    swap
    · unfold owns; iexists _; isplitr
      swap; · iexact H11
      ipureintro; rfl
    ipureintro
    exact ⟨carriedLo _ _ _ _ _, carriedHi _ _ _ _⟩

end Cert.FeedForwardIdeal.Ffn

end
-- ==== Proof.Ffn.Frame.lean ====
module

public import proofs.«01_k».proof.Proof.Gen.FeedForwardIdeal.Frame
public import proofs.«01_k».proof.Proof.Gen.FeedForwardIdeal.Launch
public import proofs.«01_k».proof.Proof.Ffn.Body
public import Idealize.ShloMosaic.Lib.Claim
public import proofs.«01_k».proof.Proof.Ffn.Values
public import proofs.«01_k».proof.Proof.Gen.FeedForwardIdeal.Skeleton
public import proofs.«01_k».proof.Proof.Gen.FeedForwardIdeal.Points
public import Idealize.ShloMosaic.Lib.Pipeline.FrameBody
public import Idealize.ShloMosaic.Lib.Ring
public import Idealize.ShloMosaic.Lib.WholeRead
public import Idealize.ShloMosaic.Lib.WritesUnit
public import Idealize.ShloMosaic.Lib.Tactic
public import Idealize.ShloMosaic.Lib.WordCmp

/-! The feed-forward call's run

The 32 grid points go through two sequences of 16 blocks of rows each. Before a point that does not start a sequence the
carried rows are the last two rows of the point before's projected block. With this as the invariant the whole call runs to
an end, leaves its arguments as they were and its counters at zero, and leaves each result at the blocks written to it. -/

@[expose] public section

set_option maxRecDepth 16384

noncomputable section

namespace Cert.FeedForwardIdeal.Ffn

open Cert.FeedForwardIdeal Cert.FeedForwardIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel's test holds at the points that start a sequence. -/
theorem first_iff : ∀ t : Fin cfg0.N, first (grid0.coords t) ↔ t.val % 16 = 0 :=
  (fun t => by
    have ht : t.val < 32 := Nat.lt_of_lt_of_eq t.isLt N_0
    have e1 : (grid0.coords t 1).val = t.val / 1 % 16 := Pipeline.Grid.coords_val t 1 (by decide) rfl
    simp only [first, e1]
    word_cmp
   : ∀ t : Fin grid0.N, first (grid0.coords t) ↔ t.val % 16 = 0)

/-- The carried rows, whole. -/
abbrev carried : Memref sig .tc .vmem S8x5632 .f32 := Memref.whole cc0_scratch0

/-- The point before. -/
def pointBefore (t : Fin cfg0.N) : Fin cfg0.N := ⟨t.val - 1, Nat.lt_of_le_of_lt (Nat.sub_le _ _) t.isLt⟩

/-- The two rows before a point's block, first half of the columns. -/
def rowsLo (c : Dev nD) (t : Fin cfg0.N) : Vec F S2x2816 .f32 :=
  if t.val % 16 = 0 then prevLo (iblk m c 6 t) else lastLo (iblk m c 0 (pointBefore t)) (iblk m c 1 (pointBefore t)) (iblk m c 2 (pointBefore t))

/-- The two rows before a point's block, second half of the columns. -/
def rowsHi (c : Dev nD) (t : Fin cfg0.N) : Vec F S2x2816 .f32 :=
  if t.val % 16 = 0 then prevHi (iblk m c 6 t) else lastHi (iblk m c 0 (pointBefore t)) (iblk m c 1 (pointBefore t)) (iblk m c 2 (pointBefore t))

/-- The carried rows hold what they should before position `n`: nothing is asked at the start of a sequence. -/
def CarriedOk (c : Dev nD) (n : ℕ) (d : Vec F S8x5632 .f32) : Prop :=
  ∀ t : Fin cfg0.N, t.val = n → ¬t.val % 16 = 0 → carryLo d = rowsLo m c t ∧ carryHi d = rowsHi m c t

/-- The invariant before position `n`: the carried rows are as they should be, the generator's register at some state. -/
def inv (c : Dev nD) (n : ℕ) : sProp 𝕄 :=
  iprop((∃ d, ⌜CarriedOk m c n d⌝ ∗ owns (c : Thread nD τ) carried fullShare d) ∗ (∃ r, prngReg c r))

/-- The block of the output written at a point. -/
def outAt (c : Dev nD) (t : Fin cfg0.N) : Vec F S512x1024 .f32 :=
  outOf (iblk m c 0 t) (iblk m c 1 t) (iblk m c 2 t) (iblk m c 3 t) (iblk m c 4 t) (iblk m c 5 t) (rowsLo m c t) (rowsHi m c t)

/-- The block of the state written at a point. -/
def stateAt (c : Dev nD) (t : Fin cfg0.N) : Vec F S1x2x5632 .f32 :=
  stateOf (iblk m c 0 t) (iblk m c 1 t) (iblk m c 2 t)

/-- What the launch hands over: the carried rows at anything and the generator's register. -/
theorem start_eq (c : Dev nD) :
    (Pipeline.ΦA spec0 c : sProp 𝕄)
      = iprop(iprop((∃ d, owns (c : Thread nD τ) carried fullShare d)) ∗ (∃ r, prngReg c r)) := by
  unfold Pipeline.ΦA; rw [scopedRest0_eq]; simp only [carried, owns_whole]; try rfl

/-- What each window's buffer holds after each point: an input its block, the results the point's blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
    | ⟨8, _⟩ => stateAt m c t
  Φ t := inv m c t.val
  q _ := fullShare
  owed _ := 0

/-- The arrays are those the call finds. -/
theorem A_eq (c : Dev nD) (w : Fin cfg0.W) : (dats m 0 c).A w = V m c (Pipeline.arrRef spec0 w) := by
  dsimp only [dats]

/-- The body leaves the block of the activations as it was. -/
theorem after0 (c : Dev nD) (t : Fin cfg0.N) : (dats m 0 c).after 0 t = iblk m c 0 t := by dsimp only [dats]
/-- The body leaves the block of the norm weights as it was. -/
theorem after1 (c : Dev nD) (t : Fin cfg0.N) : (dats m 0 c).after 1 t = iblk m c 1 t := by dsimp only [dats]
/-- The body leaves the block of the up projection as it was. -/
theorem after2 (c : Dev nD) (t : Fin cfg0.N) : (dats m 0 c).after 2 t = iblk m c 2 t := by dsimp only [dats]
/-- The body leaves the block of the taps as it was. -/
theorem after3 (c : Dev nD) (t : Fin cfg0.N) : (dats m 0 c).after 3 t = iblk m c 3 t := by dsimp only [dats]
/-- The body leaves the block of the biases as it was. -/
theorem after4 (c : Dev nD) (t : Fin cfg0.N) : (dats m 0 c).after 4 t = iblk m c 4 t := by dsimp only [dats]
/-- The body leaves the block of the down projection as it was. -/
theorem after5 (c : Dev nD) (t : Fin cfg0.N) : (dats m 0 c).after 5 t = iblk m c 5 t := by dsimp only [dats]
/-- The body leaves the block of the rows before the sequence as it was. -/
theorem after6 (c : Dev nD) (t : Fin cfg0.N) : (dats m 0 c).after 6 t = iblk m c 6 t := by dsimp only [dats]
/-- The body leaves the block of the output. -/
theorem after7 (c : Dev nD) (t : Fin cfg0.N) : (dats m 0 c).after 7 t = outAt m c t := by dsimp only [dats]
/-- The body leaves the block of the state. -/
theorem after8 (c : Dev nD) (t : Fin cfg0.N) : (dats m 0 c).after 8 t = stateAt m c t := by dsimp only [dats]
/-- The body finds the block of the activations. -/
theorem before0 (c : Dev nD) (t : Fin cfg0.N) (d) : (dats m 0 c).before 0 t d = iblk m c 0 t :=
  before0_0_of m (dats m 0 c) (A_eq m c 0) (after0 m c) t d
/-- The body finds the block of the norm weights. -/
theorem before1 (c : Dev nD) (t : Fin cfg0.N) (d) : (dats m 0 c).before 1 t d = iblk m c 1 t :=
  before0_1_of m (dats m 0 c) (A_eq m c 1) (after1 m c) t d
/-- The body finds the block of the up projection. -/
theorem before2 (c : Dev nD) (t : Fin cfg0.N) (d) : (dats m 0 c).before 2 t d = iblk m c 2 t :=
  before0_2_of m (dats m 0 c) (A_eq m c 2) (after2 m c) t d
/-- The body finds the block of the taps. -/
theorem before3 (c : Dev nD) (t : Fin cfg0.N) (d) : (dats m 0 c).before 3 t d = iblk m c 3 t :=
  before0_3_of m (dats m 0 c) (A_eq m c 3) (after3 m c) t d
/-- The body finds the block of the biases. -/
theorem before4 (c : Dev nD) (t : Fin cfg0.N) (d) : (dats m 0 c).before 4 t d = iblk m c 4 t :=
  before0_4_of m (dats m 0 c) (A_eq m c 4) (after4 m c) t d
/-- The body finds the block of the down projection. -/
theorem before5 (c : Dev nD) (t : Fin cfg0.N) (d) : (dats m 0 c).before 5 t d = iblk m c 5 t :=
  before0_5_of m (dats m 0 c) (A_eq m c 5) (after5 m c) t d
/-- The body finds the block of the rows before the sequence. -/
theorem before6 (c : Dev nD) (t : Fin cfg0.N) (d) : (dats m 0 c).before 6 t d = iblk m c 6 t :=
  before0_6_of m (dats m 0 c) (A_eq m c 6) (after6 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What the body returns at a point. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- What the body leaves carried is what the next point should find. -/
theorem carried_next (c : Dev nD) (t : Fin cfg0.N) (d : Vec F S8x5632 .f32)
    (h : carryLo d = lastLo (iblk m c 0 t) (iblk m c 1 t) (iblk m c 2 t) ∧ carryHi d = lastHi (iblk m c 0 t) (iblk m c 1 t) (iblk m c 2 t)) :
    CarriedOk m c (t.val + 1) d := by
  intro t' ht' hn
  have e : pointBefore t' = t := Fin.ext (by show t'.val - 1 = t.val; omega)
  unfold rowsLo rowsHi
  rw [if_neg hn, if_neg hn, e]
  exact h

set_option maxHeartbeats 3200000 in
/-- The body at any point keeps the invariant. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl,
    after0, after1, after2, after3, after4, after5, after6, after7, after8]
  rw [show (dats m 0 c).Φ t.succ = inv m c (t.val + 1) from rfl, show (dats m 0 c).Φ t.castSucc = inv m c t.val from rfl]
  unfold inv
  iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) carried (Memref.isWhole_whole _)
    (iblk m c 0 t) (iblk m c 1 t) (iblk m c 2 t) (iblk m c 3 t) (iblk m c 4 t) (iblk m c 5 t) (iblk m c 6 t) d (rowsLo m c t) (rowsHi m c t)
    (fun h => by
      have h0 := (first_iff t).mp h
      unfold rowsLo rowsHi
      rw [if_pos h0, if_pos h0]; exact ⟨rfl, rfl⟩)
    (fun h => hd t rfl fun h0 => h ((first_iff t).mpr h0)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS]; · iexact HS
  iintro ⟨H0, H1, H2, H3, H4, H5, H6, H7, H8, ⟨%d', %hd', HS⟩⟩
  isplitl [HS Hg]
  · isplitl [HS]
    · iexists _; isplitr
      swap; · iexact HS
      ipureintro; exact carried_next m c t d' hd'
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body the call's table holds is the one above. -/
theorem table_row (t : Fin cfg0.N) :
    defs₀ (F := F) .tc cfg0.body (cfg0.bodyArgs t (cfg0.slots t)) = bodyAt0 t := by
  unfold defs₀; rw [Defs.onTc_tc]

/-- Every point's body keeps the invariant, as the launch asks it. -/
theorem body_obligation (c : Dev nD) : BodyObligation (dats (F := F) m 0 c) (defs₀ (F := F)) Variants.none () Set.univ := fun t => by
  rw [bigSep_W0, bigSep_W0, table_row]
  exact triple_restated (sound_body m c t) rfl .rfl fun _ => .rfl

/-- Before the first point nothing is asked of the carried rows. -/
theorem inv_start (c : Dev nD) : Pipeline.ΦA spec0 c ⊢ (dats m 0 c).Φ 0 := by
  rw [show (dats m 0 c).Φ 0 = inv m c 0 from rfl, start_eq]
  unfold inv
  iintro ⟨⟨%d, HS⟩, Hg⟩
  isplitl [HS]
  · iexists d; isplitr
    swap; · iexact HS
    ipureintro; intro t ht hn; exact absurd (by rw [ht]) hn
  iexact Hg

/-- After the last point what the carried rows hold is forgotten. -/
theorem inv_end (c : Dev nD) : (dats m 0 c).Φ (Fin.last cfg0.N) ⊢ Pipeline.ΦA spec0 c := by
  rw [show (dats m 0 c).Φ (Fin.last cfg0.N) = inv m c (Fin.last cfg0.N).val from rfl, start_eq]
  unfold inv
  iintro ⟨⟨%d, -, HS⟩, Hg⟩
  isplitl [HS]
  · iexists d; iexact HS
  iexact Hg

set_option backward.isDefEq.respectTransparency.types false in
/-- The call runs to an end with every array at what the points left in it and every counter at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_start m) (hout := inv_end m)

/-- The call leaves its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.FeedForwardIdeal.Ffn

end
-- ==== Proof.Ffn.Whole.lean ====
module

public import proofs.«01_k».proof.Proof.Ffn.Block
public import proofs.«01_k».proof.Proof.Ffn.Frame
public import Idealize.ShloMosaic.Lib.Pipeline.Value

/-!
# The call's results are the layer's formulas

What a grid point writes is its block of the layer's output, and the blocks cover it; the points that end a sequence write the
last projected rows.
-/

@[expose] public section

set_option maxRecDepth 16384

noncomputable section

namespace Cert.FeedForwardIdeal.Ffn

open Cert.FeedForwardIdeal Cert.FeedForwardIdeal.Gen Idealize.ShloMosaic Idealize.ShloMosaic.TcCoe Idealize.SL.Sem
open Idealize.ShloMosaic.Pipeline (Dat)
open Cert.FfnMath

/-! ## The windows' places -/

/-- The block of activations of a point: its number. -/
theorem place_x : ∀ t : Fin grid0.N, win0_0.index t 0 = t.val ∧ win0_0.index t 1 = 0 := by decide +kernel
/-- The norm's weights are one block. -/
theorem place_g : ∀ t : Fin grid0.N, win0_1.index t 0 = 0 ∧ win0_1.index t 1 = 0 := by decide +kernel
/-- The up projection used is the stack's first. -/
theorem place_up : ∀ t : Fin grid0.N, win0_2.index t 0 = 0 ∧ win0_2.index t 1 = 0 ∧ win0_2.index t 2 = 0 := by decide +kernel
/-- The taps are one block. -/
theorem place_tap : ∀ t : Fin grid0.N, win0_3.index t 0 = 0 ∧ win0_3.index t 1 = 0 := by decide +kernel
/-- The biases are one block. -/
theorem place_bias : ∀ t : Fin grid0.N, win0_4.index t 0 = 0 ∧ win0_4.index t 1 = 0 := by decide +kernel
/-- The down projection used is the stack's first. -/
theorem place_down : ∀ t : Fin grid0.N, win0_5.index t 0 = 0 ∧ win0_5.index t 1 = 0 ∧ win0_5.index t 2 = 0 := by decide +kernel
/-- The rows before a point's sequence: sixteen points a sequence. -/
theorem place_prev : ∀ t : Fin grid0.N, win0_6.index t 0 = t.val / 16 ∧ win0_6.index t 1 = 0 ∧ win0_6.index t 2 = 0 := by decide +kernel
/-- The output's block of a point: its number. -/
theorem place_out : ∀ t : Fin grid0.N, win0_7.index t 0 = t.val ∧ win0_7.index t 1 = 0 := by decide +kernel
/-- The state's block of a point: its sequence. -/
theorem place_state : ∀ t : Fin grid0.N, win0_8.index t 0 = t.val / 16 ∧ win0_8.index t 1 = 0 ∧ win0_8.index t 2 = 0 := by decide +kernel

variable (m : (ℓ : Loc nD τ sig) → Buf (Elt Ideal) ℓ) (c : Dev nD) (t : Fin cfg0.N)

/-- The activations. -/
abbrev aX : Vec Ideal S16384x1024 .f32 := m ((c : Thread nD τ).loc main_arg0)
/-- The norm's weights. -/
abbrev aG : Vec Ideal S1024 .f32 := m ((c : Thread nD τ).loc main_arg1)
/-- The stack of up projections. -/
abbrev aW : Vec Ideal S4x1024x5632 .f32 := m ((c : Thread nD τ).loc main_arg2)
/-- The convolution's taps. -/
abbrev aC : Vec Ideal S3x5632 .f32 := m ((c : Thread nD τ).loc main_arg3)
/-- The convolution's biases. -/
abbrev aB : Vec Ideal S5632 .f32 := m ((c : Thread nD τ).loc main_arg4)
/-- The stack of down projections. -/
abbrev aD : Vec Ideal S4x2816x1024 .f32 := m ((c : Thread nD τ).loc main_arg5)
/-- The rows before each sequence. -/
abbrev aP : Vec Ideal S2x2x5632 .f32 := m ((c : Thread nD τ).loc main_arg6)

/-! ## What the host prepares -/

/-- The narrowed up projections are the up projections. -/
theorem V_up : (V m c main_v0 : Vec Ideal S4x1024x5632 .bf16) = aW m c := by
  show StableHlo.after hostOps0 (fun b => m (c, b)) main_v0 = _
  simp only [hostOps0]
  after_results_simp
  rfl

/-- The narrowed down projections are the down projections. -/
theorem V_down : (V m c main_v1 : Vec Ideal S4x2816x1024 .bf16) = aD m c := by
  show StableHlo.after hostOps0 (fun b => m (c, b)) main_v1 = _
  simp only [hostOps0]
  after_results_simp
  rfl

/-- The norm's weights as one row. -/
theorem V_g : (V m c main_v2 : Vec Ideal S1x1024 .f32) = shapeCast S1x1024 (aG m c) shapeCasts_S1024_S1x1024 := by
  show StableHlo.after hostOps0 (fun b => m (c, b)) main_v2 = _
  simp only [hostOps0]
  after_results_simp
  rfl

/-- The convolution's biases as one row. -/
theorem V_b : (V m c main_v3 : Vec Ideal S1x5632 .f32) = shapeCast S1x5632 (aB m c) shapeCasts_S5632_S1x5632 := by
  show StableHlo.after hostOps0 (fun b => m (c, b)) main_v3 = _
  simp only [hostOps0]
  after_results_simp
  rfl

/-! ## The blocks -/

/-- A point's number is below 32. -/
theorem t_lt : t.val < 32 := Nat.lt_of_lt_of_eq t.isLt N_0

/-- A point's block of activations. -/
theorem blk_x (r : Fin 512) (l : Fin 1024) : (iblk m c 0 t : Vec Ideal S512x1024 .f32) (ix2 r l) = row (aX m c) (512 * t.val + r.val) l := by
  have hp := place_x t
  have ht := t_lt t
  have hr := r.isLt
  unfold iblk row
  show (V m c main_arg0 : Vec Ideal S16384x1024 .f32) _ = aX m c _
  rw [V_main_arg0]
  congr 1
  funext ax
  apply Fin.ext
  match ax with
  | ⟨0, _⟩ => show win0_0.index t 0 * 512 + 1 * r.val = (512 * t.val + r.val) % 16384; rw [hp.1]; omega
  | ⟨1, _⟩ => show win0_0.index t 1 * 1024 + 1 * l.val = l.val; rw [hp.2]; omega

/-- The norm's weights. -/
theorem blk_g (l : Fin 1024) : (iblk m c 1 t : Vec Ideal S1x1024 .f32) (ix2 0 l) = aG m c (ix1 l) := by
  have hp := place_g t
  unfold iblk
  have e : shapeCast S1x1024 (aG m c) shapeCasts_S1024_S1x1024 (ix2 0 l) = aG m c (ix1 l) := by pointwise
  rw [← e, ← V_g]
  show (V m c main_v2 : Vec Ideal S1x1024 .f32) _ = V m c main_v2 _
  congr 1
  funext ax
  apply Fin.ext
  match ax with
  | ⟨0, _⟩ => show win0_1.index t 0 * 1 + 1 * 0 = 0; rw [hp.1]
  | ⟨1, _⟩ => show win0_1.index t 1 * 1024 + 1 * l.val = l.val; rw [hp.2]; omega

/-- The up projection. -/
theorem blk_up (l : Fin 1024) (e : Fin 5632) : (iblk m c 2 t : Vec Ideal S1x1024x5632 .bf16) (ix3 0 l e) = aW m c (ix3 0 l e) := by
  have hp := place_up t
  unfold iblk
  rw [← V_up]
  show (V m c main_v0 : Vec Ideal S4x1024x5632 .bf16) _ = V m c main_v0 _
  congr 1
  funext ax
  apply Fin.ext
  match ax with
  | ⟨0, _⟩ => show win0_2.index t 0 * 1 + 1 * 0 = 0; rw [hp.1]
  | ⟨1, _⟩ => show win0_2.index t 1 * 1024 + 1 * l.val = l.val; rw [hp.2.1]; omega
  | ⟨2, _⟩ => show win0_2.index t 2 * 5632 + 1 * e.val = e.val; rw [hp.2.2]; omega

/-- The taps. -/
theorem blk_tap (j : Fin 3) (e : Fin 5632) : (iblk m c 3 t : Vec Ideal S3x5632 .f32) (ix2 j e) = aC m c (ix2 j e) := by
  have hp := place_tap t
  unfold iblk
  show (V m c main_arg3 : Vec Ideal S3x5632 .f32) _ = aC m c _
  rw [V_main_arg3]
  congr 1
  funext ax
  apply Fin.ext
  match ax with
  | ⟨0, _⟩ => show win0_3.index t 0 * 3 + 1 * j.val = j.val; rw [hp.1]; omega
  | ⟨1, _⟩ => show win0_3.index t 1 * 5632 + 1 * e.val = e.val; rw [hp.2]; omega

/-- The biases. -/
theorem blk_bias (e : Fin 5632) : (iblk m c 4 t : Vec Ideal S1x5632 .f32) (ix2 0 e) = aB m c (ix1 e) := by
  have hp := place_bias t
  unfold iblk
  have e1 : shapeCast S1x5632 (aB m c) shapeCasts_S5632_S1x5632 (ix2 0 e) = aB m c (ix1 e) := by pointwise
  rw [← e1, ← V_b]
  show (V m c main_v3 : Vec Ideal S1x5632 .f32) _ = V m c main_v3 _
  congr 1
  funext ax
  apply Fin.ext
  match ax with
  | ⟨0, _⟩ => show win0_4.index t 0 * 1 + 1 * 0 = 0; rw [hp.1]
  | ⟨1, _⟩ => show win0_4.index t 1 * 5632 + 1 * e.val = e.val; rw [hp.2]; omega

/-- The down projection. -/
theorem blk_down (k : Fin 2816) (d : Fin 1024) : (iblk m c 5 t : Vec Ideal S1x2816x1024 .bf16) (ix3 0 k d) = aD m c (ix3 0 k d) := by
  have hp := place_down t
  unfold iblk
  rw [← V_down]
  show (V m c main_v1 : Vec Ideal S4x2816x1024 .bf16) _ = V m c main_v1 _
  congr 1
  funext ax
  apply Fin.ext
  match ax with
  | ⟨0, _⟩ => show win0_5.index t 0 * 1 + 1 * 0 = 0; rw [hp.1]
  | ⟨1, _⟩ => show win0_5.index t 1 * 2816 + 1 * k.val = k.val; rw [hp.2.1]; omega
  | ⟨2, _⟩ => show win0_5.index t 2 * 1024 + 1 * d.val = d.val; rw [hp.2.2]; omega

/-- The rows before the point's sequence. -/
theorem blk_prev (j : Fin 2) (e : Fin 5632) : (iblk m c 6 t : Vec Ideal S1x2x5632 .f32) (ix3 0 j e)
    = aP m c (ix3 ⟨t.val / 16 % 2, Nat.mod_lt _ (by decide)⟩ j e) := by
  have hp := place_prev t
  have ht := t_lt t
  unfold iblk
  show (V m c main_arg6 : Vec Ideal S2x2x5632 .f32) _ = aP m c _
  rw [V_main_arg6]
  congr 1
  funext ax
  apply Fin.ext
  match ax with
  | ⟨0, _⟩ => show win0_6.index t 0 * 1 + 1 * 0 = t.val / 16 % 2; rw [hp.1]; omega
  | ⟨1, _⟩ => show win0_6.index t 1 * 2 + 1 * j.val = j.val; rw [hp.2.1]; omega
  | ⟨2, _⟩ => show win0_6.index t 2 * 5632 + 1 * e.val = e.val; rw [hp.2.2]; omega

/-! ## A point's rows -/

/-- A projected row of a point's block, first half. -/
theorem hLo_eq (r : Fin 512) (k : Fin 2816) : hLo (F := Ideal) (iblk m c 0 t) (iblk m c 1 t) (iblk m c 2 t) (ix2 r k)
    = proj (aX m c) (aG m c) (aW m c) (512 * t.val + r.val) ⟨k.val, by omega⟩ := by
  rw [hLo_at]
  unfold proj
  congr 1
  · funext l; exact blk_x m c t r l
  · funext l; exact blk_g m c t l
  · funext l; exact blk_up m c t l _

/-- A projected row of a point's block, second half. -/
theorem hHi_eq (r : Fin 512) (k : Fin 2816) : hHi (F := Ideal) (iblk m c 0 t) (iblk m c 1 t) (iblk m c 2 t) (ix2 r k)
    = proj (aX m c) (aG m c) (aW m c) (512 * t.val + r.val) ⟨2816 + k.val, by omega⟩ := by
  rw [hHi_at]
  unfold proj
  congr 1
  · funext l; exact blk_x m c t r l
  · funext l; exact blk_g m c t l
  · funext l; exact blk_up m c t l _

/-- A place behind the two rows before a sequence is a projected row. -/
theorem place_proj (s a : ℕ) (e : Fin 5632) (hs : 2 ≤ s) (ha : 8192 * (t.val / 16) + (s - 2) = a) :
    place (aX m c) (aG m c) (aW m c) (aP m c) (t.val / 16) s e = proj (aX m c) (aG m c) (aW m c) a e := by
  unfold place
  rw [if_neg (by omega), ha]

/-- A place among the two rows before a sequence. -/
theorem place_before (j : Fin 2) (e : Fin 5632) : place (aX m c) (aG m c) (aW m c) (aP m c) (t.val / 16) j.val e
    = aP m c (ix3 ⟨t.val / 16 % 2, Nat.mod_lt _ (by decide)⟩ j e) := by
  have hj := j.isLt
  unfold place
  rw [if_pos hj]
  congr 2
  apply Fin.ext
  show j.val % 2 = j.val
  omega

/-- The rows before a point's block, first half. -/
theorem rowsLo_eq (j : Fin 2) (k : Fin 2816) : rowsLo m c t (ix2 j k)
    = place (aX m c) (aG m c) (aW m c) (aP m c) (t.val / 16) (512 * (t.val % 16) + j.val) ⟨k.val, by omega⟩ := by
  have hj := j.isLt
  have ht := t_lt t
  unfold rowsLo
  by_cases h : t.val % 16 = 0
  · rw [if_pos h, prevLo_at, h, show 512 * 0 + j.val = j.val by omega, place_before, blk_prev]
  · rw [if_neg h, lastLo_at, hLo_eq]
    symm
    refine place_proj m c t _ _ _ (by omega) ?_
    show 8192 * (t.val / 16) + (512 * (t.val % 16) + j.val - 2) = 512 * (t.val - 1) + (510 + j.val)
    omega

/-- The rows before a point's block, second half. -/
theorem rowsHi_eq (j : Fin 2) (k : Fin 2816) : rowsHi m c t (ix2 j k)
    = place (aX m c) (aG m c) (aW m c) (aP m c) (t.val / 16) (512 * (t.val % 16) + j.val) ⟨2816 + k.val, by omega⟩ := by
  have hj := j.isLt
  have ht := t_lt t
  unfold rowsHi
  by_cases h : t.val % 16 = 0
  · rw [if_pos h, prevHi_at, h, show 512 * 0 + j.val = j.val by omega, place_before, blk_prev]
  · rw [if_neg h, lastHi_at, hHi_eq]
    symm
    refine place_proj m c t _ _ _ (by omega) ?_
    show 8192 * (t.val / 16) + (512 * (t.val % 16) + j.val - 2) = 512 * (t.val - 1) + (510 + j.val)
    omega

/-- Three successive rows of a block and its carried rows are three successive places of the sequence. -/
theorem conv_eq (h : Vec Ideal S512x2816 .f32) (p : Vec Ideal S2x2816 .f32) (k : Fin 2816) (e : Fin 5632)
    (hh : ∀ r : Fin 512, h (ix2 r k) = proj (aX m c) (aG m c) (aW m c) (512 * t.val + r.val) e)
    (hp : ∀ j : Fin 2, p (ix2 j k) = place (aX m c) (aG m c) (aW m c) (aP m c) (t.val / 16) (512 * (t.val % 16) + j.val) e) (r : Fin 512) :
    taps (back2 h p r k) (back1 h p r k) (h (ix2 r k)) (aC m c (ix2 0 e)) (aC m c (ix2 1 e)) (aC m c (ix2 2 e)) (aB m c (ix1 e))
      = conv (aX m c) (aG m c) (aW m c) (aC m c) (aB m c) (aP m c) (t.val / 16) (512 * (t.val % 16) + r.val) e := by
  have hr := r.isLt
  have ht := t_lt t
  have e2 : back2 h p r k = place (aX m c) (aG m c) (aW m c) (aP m c) (t.val / 16) (512 * (t.val % 16) + r.val) e := by
    unfold back2
    by_cases h0 : r.val = 0
    · rw [if_pos h0, hp, h0]; rfl
    · rw [if_neg h0]
      by_cases h1 : r.val = 1
      · rw [if_pos h1, hp, h1]; rfl
      · rw [if_neg h1, hh]
        symm
        refine place_proj m c t _ _ _ (by omega) ?_
        show 8192 * (t.val / 16) + (512 * (t.val % 16) + r.val - 2) = 512 * t.val + (r.val - 2)
        omega
  have e1 : back1 h p r k = place (aX m c) (aG m c) (aW m c) (aP m c) (t.val / 16) (512 * (t.val % 16) + r.val + 1) e := by
    unfold back1
    by_cases h0 : r.val = 0
    · rw [if_pos h0, hp, h0]; rfl
    · rw [if_neg h0, hh]
      symm
      refine place_proj m c t _ _ _ (by omega) ?_
      show 8192 * (t.val / 16) + (512 * (t.val % 16) + r.val + 1 - 2) = 512 * t.val + (r.val - 1)
      omega
  have e0 : h (ix2 r k) = place (aX m c) (aG m c) (aW m c) (aP m c) (t.val / 16) (512 * (t.val % 16) + r.val + 2) e := by
    rw [hh]
    symm
    refine place_proj m c t _ _ _ (by omega) ?_
    omega
  rw [e2, e1, e0]
  rfl

/-- An entry of the block of the output written at a point. -/
theorem outAt_at (r : Fin 512) (d : Fin 1024) : outAt m c t (ix2 r d)
    = output (aX m c) (aG m c) (aW m c) (aC m c) (aB m c) (aD m c) (aP m c) (ix2 ⟨(512 * t.val + r.val) % 16384, Nat.mod_lt _ (by decide)⟩ d) := by
  have hr := r.isLt
  have ht := t_lt t
  rw [output_at]
  unfold outAt
  rw [outOf_at, blk_x]
  refine congr (congrArg HAdd.hAdd rfl) (Finset.sum_congr rfl fun k _ => ?_)
  rw [convHi_at, convLo_at, blk_down]
  simp only [blk_tap, blk_bias]
  rw [conv_eq m c t _ _ k ⟨2816 + k.val, by omega⟩ (fun r => hHi_eq m c t r k) (fun j => rowsHi_eq m c t j k),
    conv_eq m c t _ _ k ⟨k.val, by omega⟩ (fun r => hLo_eq m c t r k) (fun j => rowsLo_eq m c t j k)]
  unfold gated
  have ea : (512 * t.val + r.val) % 16384 / 8192 = t.val / 16 := by omega
  have eb : (512 * t.val + r.val) % 16384 % 8192 = 512 * (t.val % 16) + r.val := by omega
  rw [ea, eb]

end Cert.FeedForwardIdeal.Ffn

end
-- ==== Proof.Ffn.Results.lean ====
module

public import proofs.«01_k».proof.Proof.Ffn.Whole

/-!
# The call's two result arrays

The blocks written cover the output; the blocks of the points that end a sequence cover the state. The run ends with both.
-/

@[expose] public section

set_option maxRecDepth 16384

noncomputable section

namespace Cert.FeedForwardIdeal.Ffn

open Cert.FeedForwardIdeal Cert.FeedForwardIdeal.Gen Idealize.ShloMosaic Idealize.ShloMosaic.TcCoe Idealize.SL.Sem
open Idealize.ShloMosaic.Pipeline (Dat)
open Cert.FfnMath

variable (m : (ℓ : Loc nD τ sig) → Buf (Elt Ideal) ℓ) (ρ : Dev nD → PrngReg) (c : Dev nD) (t : Fin cfg0.N)

/-! ## The output -/

/-- A point's write-back is its block of the output. -/
theorem flushed_out : (dats m 0 c).flushed 7 t = ((cfg0.win 7).blk t).view.read (Elt Ideal)
    (output (aX m c) (aG m c) (aW m c) (aC m c) (aB m c) (aD m c) (aP m c)) := by
  show (cfg0.win 7).cut (grid0.coords t) ((dats m 0 c).after 7 t) = _
  rw [after7]
  have hp := place_out t
  have ht := t_lt t
  funext y
  change S512x1024.Idx at y
  idx_vars y
  have h0 : y0.val < 512 := y0.isLt
  refine (outAt_at m c t y0 y1).trans ?_
  show output _ _ _ _ _ _ _ _ = output _ _ _ _ _ _ _ _
  congr 1
  funext ax
  apply Fin.ext
  match ax with
  | ⟨0, _⟩ => show (512 * t.val + y0.val) % 16384 = win0_7.index t 0 * 512 + 1 * y0.val; rw [hp.1]; omega
  | ⟨1, _⟩ => show y1.val = win0_7.index t 1 * 1024 + 1 * y1.val; rw [hp.2]; omega

/-- The blocks cover the output. -/
theorem cover_out (y : S16384x1024.Idx) : ∃ t : Fin cfg0.N, (cfg0.win 7).flush t = true ∧ y ∈ ((cfg0.win 7).blk t).view.set := by
  have h0 : (y 0).val < 16384 := (y 0).isLt
  have h1 : (y 1).val < 1024 := (y 1).isLt
  let t : Fin grid0.N := ⟨(y 0).val / 512, Nat.lt_of_lt_of_eq (by omega) N_0.symm⟩
  have hp := place_out t
  have ht : t.val = (y 0).val / 512 := rfl
  refine ⟨t, flush0_7 t, ?_⟩
  show y ∈ ((View.whole main_v4_0).slice (win0_7.rect t)).set
  rw [View.set_slice_whole, Rect.mem_set_unit]
  intro a
  match a with
  | ⟨0, _⟩ =>
    show win0_7.index t 0 * 512 ≤ (y 0).val ∧ (y 0).val < win0_7.index t 0 * 512 + 512
    rw [hp.1, ht]; omega
  | ⟨1, _⟩ =>
    show win0_7.index t 1 * 1024 ≤ (y 1).val ∧ (y 1).val < win0_7.index t 1 * 1024 + 1024
    rw [hp.2]; omega

/-- The first result array is the layer's output. -/
theorem out_eq : (dats m 0 c).arrAt 7 cfg0.N = output (aX m c) (aG m c) (aW m c) (aC m c) (aB m c) (aD m c) (aP m c) :=
  (dats m 0 c).arrAt_eq_of_cover 7 (output (aX m c) (aG m c) (aW m c) (aC m c) (aB m c) (aD m c) (aP m c))
    (fun t _ => flushed_out m c t) cover_out

/-! ## The state -/

/-- The stored rows, first half of the columns. -/
theorem storedLo_at (h : FVec Ideal S512x2816 .f32) (j : Fin 2) (k : Fin 2816) : k0_pay13 h (ix3 0 j k) = h (ix2 ⟨510 + j.val, by omega⟩ k) := by
  unfold k0_pay13
  pointwise

/-- The stored rows, second half of the columns. -/
theorem storedHi_at (h : FVec Ideal S512x2816 .f32) (j : Fin 2) (k : Fin 2816) : k0_pay2 h (ix3 0 j k) = h (ix2 ⟨510 + j.val, by omega⟩ k) := by
  unfold k0_pay2
  pointwise

/-- The rectangle of the state's second half of the columns. -/
abbrev rectHi : Rect S1x2x5632 := Rect.unit (s := S1x2x5632) ![0, 0, 2816] S1x2x2816.size inb_S1x2x5632_S1x2x2816_0_0_2816
/-- The rectangle of the state's first half of the columns. -/
abbrev rectLo : Rect S1x2x5632 := Rect.unit (s := S1x2x5632) ![0, 0, 0] S1x2x2816.size inb_S1x2x5632_S1x2x2816_0_0_0

/-- Where an entry of the second half's rectangle lies. -/
theorem embHi (j : Fin 2) (k : Fin 2816) : rectHi.emb (ix3 0 j k : S1x2x2816.Idx) = (ix3 0 j ⟨2816 + k.val, by omega⟩ : S1x2x5632.Idx) := by
  funext ax
  apply Fin.ext
  match ax with
  | ⟨0, _⟩ => rfl
  | ⟨1, _⟩ => show 0 + 1 * j.val = j.val; omega
  | ⟨2, _⟩ => show 2816 + 1 * k.val = 2816 + k.val; omega

/-- Where an entry of the first half's rectangle lies. -/
theorem embLo (j : Fin 2) (k : Fin 2816) : rectLo.emb (ix3 0 j k : S1x2x2816.Idx) = (ix3 0 j ⟨k.val, by omega⟩ : S1x2x5632.Idx) := by
  funext ax
  apply Fin.ext
  match ax with
  | ⟨0, _⟩ => rfl
  | ⟨1, _⟩ => show 0 + 1 * j.val = j.val; omega
  | ⟨2, _⟩ => show 0 + 1 * k.val = k.val; omega

/-- Of two stores, one on each half of the columns, an entry of the second half. -/
theorem halves_hi (a b : Vec Ideal S1x2x2816 .f32) (j : Fin 2) (k : Fin 2816) :
    View.canon (Val := Elt Ideal) (s := S1x2x5632) (e := .f32) [⟨rectHi, a⟩, ⟨rectLo, b⟩] (ix3 0 j ⟨2816 + k.val, by omega⟩) = a (ix3 0 j k) := by
  rw [← embHi]
  exact View.canon_cons_emb (Val := Elt Ideal) (e := .f32) rectHi a [⟨rectLo, b⟩] (ix3 0 j k)

/-- Of two stores, one on each half of the columns, an entry of the first half. -/
theorem halves_lo (a b : Vec Ideal S1x2x2816 .f32) (j : Fin 2) (k : Fin 2816) :
    View.canon (Val := Elt Ideal) (s := S1x2x5632) (e := .f32) [⟨rectHi, a⟩, ⟨rectLo, b⟩] (ix3 0 j ⟨k.val, by omega⟩) = b (ix3 0 j k) := by
  have hn : (ix3 0 j ⟨k.val, by omega⟩ : S1x2x5632.Idx) ∉ rectHi.set := by
    rw [Rect.mem_set_unit]
    intro hm
    have h2 := (hm ⟨2, by decide⟩).1
    change 2816 ≤ k.val at h2
    omega
  rw [View.canon_cons_of_not_mem (Val := Elt Ideal) (e := .f32) ⟨rectHi, a⟩ [⟨rectLo, b⟩] hn, ← embLo]
  exact View.canon_cons_emb (Val := Elt Ideal) (e := .f32) rectLo b [] (ix3 0 j k)

/-- An entry of the first half of the state's block. -/
theorem state_lo (j : Fin 2) (k : Fin 2816) : stateAt m c t (ix3 0 j ⟨k.val, by omega⟩)
    = proj (aX m c) (aG m c) (aW m c) (512 * t.val + (510 + j.val)) ⟨k.val, by omega⟩ := by
  unfold stateAt stateOf statePieces
  rw [halves_lo, storedLo_at]
  exact hLo_eq m c t ⟨510 + j.val, by omega⟩ k

/-- An entry of the second half of the state's block. -/
theorem state_hi (j : Fin 2) (k : Fin 2816) : stateAt m c t (ix3 0 j ⟨2816 + k.val, by omega⟩)
    = proj (aX m c) (aG m c) (aW m c) (512 * t.val + (510 + j.val)) ⟨2816 + k.val, by omega⟩ := by
  unfold stateAt stateOf statePieces
  rw [halves_hi, storedHi_at]
  exact hHi_eq m c t ⟨510 + j.val, by omega⟩ k

/-- An entry of the state's block written at a point. -/
theorem stateAt_at (j : Fin 2) (e : Fin 5632) : stateAt m c t (ix3 0 j e)
    = proj (aX m c) (aG m c) (aW m c) (512 * t.val + (510 + j.val)) e := by
  have he := e.isLt
  by_cases h : e.val < 2816
  · exact state_lo m c t j ⟨e.val, h⟩
  · obtain ⟨k, hk⟩ : ∃ k : Fin 2816, e = ⟨2816 + k.val, by omega⟩ :=
      ⟨⟨e.val - 2816, by omega⟩, Fin.ext (by show e.val = 2816 + (e.val - 2816); omega)⟩
    rw [hk]
    exact state_hi m c t j k

/-- The write-back of a point that ends a sequence is the sequence's last projected rows. -/
theorem flushed_state (h : t.val % 16 = 15) : (dats m 0 c).flushed 8 t = ((cfg0.win 8).blk t).view.read (Elt Ideal)
    (last (aX m c) (aG m c) (aW m c)) := by
  show (cfg0.win 8).cut (grid0.coords t) ((dats m 0 c).after 8 t) = _
  rw [after8]
  have hp := place_state t
  have ht := t_lt t
  funext y
  change S1x2x5632.Idx at y
  idx_vars y
  have e0 : y0 = (0 : Fin 1) := Fin.ext (Nat.lt_one_iff.mp y0.isLt)
  subst e0
  refine (stateAt_at m c t y1 y2).trans ?_
  have ha : 512 * t.val + (510 + y1.val) = 8192 * (t.val / 16) + (8190 + y1.val) := by omega
  rw [ha]
  refine (last_at (aX m c) (aG m c) (aW m c) ⟨t.val / 16, by omega⟩ y1 y2).symm.trans ?_
  show last _ _ _ _ = last _ _ _ _
  congr 1
  funext ax
  apply Fin.ext
  match ax with
  | ⟨0, _⟩ => show t.val / 16 = win0_8.index t 0 * 1 + 1 * 0; rw [hp.1]; omega
  | ⟨1, _⟩ => show y1.val = win0_8.index t 1 * 2 + 1 * y1.val; rw [hp.2.1]; omega
  | ⟨2, _⟩ => show y2.val = win0_8.index t 2 * 5632 + 1 * y2.val; rw [hp.2.2]; omega

/-- The blocks of the points that end a sequence cover the state. -/
theorem cover_state (y : S2x2x5632.Idx) : ∃ t : Fin cfg0.N, (cfg0.win 8).flush t = true ∧ y ∈ ((cfg0.win 8).blk t).view.set := by
  have h0 : (y 0).val < 2 := (y 0).isLt
  have h1 : (y 1).val < 2 := (y 1).isLt
  have h2 : (y 2).val < 5632 := (y 2).isLt
  let t : Fin grid0.N := ⟨16 * (y 0).val + 15, Nat.lt_of_lt_of_eq (by omega) N_0.symm⟩
  have hp := place_state t
  have ht : t.val = 16 * (y 0).val + 15 := rfl
  refine ⟨t, (flush0_8 t).mpr (by rw [ht]; omega), ?_⟩
  show y ∈ ((View.whole main_v4_1).slice (win0_8.rect t)).set
  rw [View.set_slice_whole, Rect.mem_set_unit]
  intro a
  match a with
  | ⟨0, _⟩ =>
    show win0_8.index t 0 * 1 ≤ (y 0).val ∧ (y 0).val < win0_8.index t 0 * 1 + 1
    rw [hp.1, ht]; omega
  | ⟨1, _⟩ =>
    show win0_8.index t 1 * 2 ≤ (y 1).val ∧ (y 1).val < win0_8.index t 1 * 2 + 2
    rw [hp.2.1]; omega
  | ⟨2, _⟩ =>
    show win0_8.index t 2 * 5632 ≤ (y 2).val ∧ (y 2).val < win0_8.index t 2 * 5632 + 5632
    rw [hp.2.2]; omega

/-- The second result array is the last projected rows of each sequence. -/
theorem state_eq : (dats m 0 c).arrAt 8 cfg0.N = last (aX m c) (aG m c) (aW m c) :=
  (dats m 0 c).arrAt_eq_of_cover 8 (last (aX m c) (aG m c) (aW m c))
    (fun t h => flushed_state m c t ((flush0_8 t).mp h)) cover_state

/-! ## The run -/

/-- The call ends with the output, the state and its arguments. -/
theorem run_results : θ_run defs (onTc (τ := τ) (main (F := Ideal))) ⟨m, fun _ => 0, ρ⟩ (fun r => ∀ c : Dev nD,
      r.2.mem ((c.tc : Thread nD τ).loc main_v4_0) = output (aX m c) (aG m c) (aW m c) (aC m c) (aB m c) (aD m c) (aP m c)
      ∧ r.2.mem ((c.tc : Thread nD τ).loc main_v4_1) = last (aX m c) (aG m c) (aW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1.1 c).1 7).trans (out_eq m c), ((h.1.1 c).1 8).trans (state_eq m c), h.2.1 c⟩)
    (θ_run_and (run_main m ρ) (frame m ρ))

end Cert.FeedForwardIdeal.Ffn

end
-- ==== Proof.Ffn.Ref.lean ====
module

public import proofs.«01_k».proof.Proof.Ffn.Meaning
public import proofs.«01_k».proof.Proof.Gen.FeedForwardRefIdeal.Run
public import Idealize.ShloMosaic.Lib.IdealHost

/-!
# The reference is the layer's formulas

The reference's composed terms, read stage by stage at an index.
-/

@[expose] public section

set_option maxRecDepth 16384

noncomputable section

namespace Cert.FfnRef

open Cert.FeedForwardRefIdeal Cert.FeedForwardRefIdeal.Gen Idealize.ShloMosaic Idealize.ShloMosaic.TcCoe Idealize.SL.Sem
open Cert.FfnMath

/-- The activations, sequence by sequence. -/
def rows (X : Vec Ideal S16384x1024 .f32) : FVec Ideal S2x8192x1024 .f32 := shapeCast S2x8192x1024 X shapeCasts_S16384x1024_S2x8192x1024

/-- The normed activations. -/
def norms (x : FVec Ideal S2x8192x1024 .f32) (g : Vec Ideal S1024 .f32) : FVec Ideal S2x8192x1024 .f32 :=
  mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))

/-- The projected activations. -/
def hidden (n : FVec Ideal S2x8192x1024 .f32) (W : Vec Ideal S4x1024x5632 .f32) : FVec Ideal S2x8192x5632 .f32 :=
  Host.dotGeneral (φ₂ := .f32) dot_S2x8192x1024_S1024x5632_S2x8192x5632_2_0_01_1_n_n none n (shapeCast S1024x5632 (extractStridedSlice S1x1024x5632 ![0, 0, 0] W slices_S4x1024x5632_S1x1024x5632_0_0_0) shapeCasts_S1x1024x5632_S1024x5632)

/-- The projected activations behind the rows before them. -/
def padded (P : Vec Ideal S2x2x5632 .f32) (h : FVec Ideal S2x8192x5632 .f32) : FVec Ideal S2x8194x5632 .f32 :=
  concatenate S2x8194x5632 1 [⟨S2x2x5632, P⟩, ⟨S2x8192x5632, h⟩] concatenates_S2x2x5632_S2x8192x5632_S2x8194x5632_d1

/-- The convolution of the padded rows. -/
def convs (xx : FVec Ideal S2x8194x5632 .f32) (cw : Vec Ideal S3x5632 .f32) (cb : Vec Ideal S5632 .f32) : FVec Ideal S2x8192x5632 .f32 :=
  addf (addf (addf (mulf (extractStridedSlice S2x8192x5632 ![0, 0, 0] xx slices_S2x8194x5632_S2x8192x5632_0_0_0) (broadcastInDim S2x8192x5632 ![0, 1, 2] bcast_S1x1x5632_S2x8192x5632_0_1_2 (broadcastInDim S1x1x5632 ![2] bcast_S5632_S1x1x5632_2 (shapeCast S5632 (extractStridedSlice S1x5632 ![0, 0] cw slices_S3x5632_S1x5632_0_0) shapeCasts_S1x5632_S5632)))) (mulf (extractStridedSlice S2x8192x5632 ![0, 1, 0] xx slices_S2x8194x5632_S2x8192x5632_0_1_0) (broadcastInDim S2x8192x5632 ![0, 1, 2] bcast_S1x1x5632_S2x8192x5632_0_1_2 (broadcastInDim S1x1x5632 ![2] bcast_S5632_S1x1x5632_2 (shapeCast S5632 (extractStridedSlice S1x5632 ![1, 0] cw slices_S3x5632_S1x5632_1_0) shapeCasts_S1x5632_S5632))))) (mulf (extractStridedSlice S2x8192x5632 ![0, 2, 0] xx slices_S2x8194x5632_S2x8192x5632_0_2_0) (broadcastInDim S2x8192x5632 ![0, 1, 2] bcast_S1x1x5632_S2x8192x5632_0_1_2 (broadcastInDim S1x1x5632 ![2] bcast_S5632_S1x1x5632_2 (shapeCast S5632 (extractStridedSlice S1x5632 ![2, 0] cw slices_S3x5632_S1x5632_2_0) shapeCasts_S1x5632_S5632))))) (broadcastInDim S2x8192x5632 ![0, 1, 2] bcast_S1x1x5632_S2x8192x5632_0_1_2 (broadcastInDim S1x1x5632 ![2] bcast_S5632_S1x1x5632_2 cb))

/-- The gated columns. -/
def gates (y : FVec Ideal S2x8192x5632 .f32) : FVec Ideal S2x8192x2816 .f32 :=
  mulf (mulf (extractStridedSlice S2x8192x2816 ![0, 0, 2816] y slices_S2x8192x5632_S2x8192x2816_0_0_2816) (Host.divf (broadcastInDim S2x8192x2816 ![] bcast_S_S2x8192x2816 (constant S_ .f32 0x3F800000#32)) (addf (broadcastInDim S2x8192x2816 ![] bcast_S_S2x8192x2816 (constant S_ .f32 0x3F800000#32)) (Host.exp (Host.negf (extractStridedSlice S2x8192x2816 ![0, 0, 2816] y slices_S2x8192x5632_S2x8192x2816_0_0_2816)))))) (extractStridedSlice S2x8192x2816 ![0, 0, 0] y slices_S2x8192x5632_S2x8192x2816_0_0_0)

/-- The gated columns projected back and added. -/
def result (x : FVec Ideal S2x8192x1024 .f32) (z : FVec Ideal S2x8192x2816 .f32) (D : Vec Ideal S4x2816x1024 .f32) : FVec Ideal S16384x1024 .f32 :=
  shapeCast S16384x1024 (addf x (Host.dotGeneral (φ₂ := .f32) dot_S2x8192x2816_S2816x1024_S2x8192x1024_2_0_01_1_n_n none z (shapeCast S2816x1024 (extractStridedSlice S1x2816x1024 ![0, 0, 0] D slices_S4x2816x1024_S1x2816x1024_0_0_0) shapeCasts_S1x2816x1024_S2816x1024))) shapeCasts_S2x8192x1024_S16384x1024

/-- The rows that end each sequence. -/
def ends (xx : FVec Ideal S2x8194x5632 .f32) : FVec Ideal S2x2x5632 .f32 :=
  extractStridedSlice S2x2x5632 ![0, 8192, 0] xx slices_S2x8194x5632_S2x2x5632_0_8192_0

/-- The padded projected rows of the arguments. -/
def paddedOf (X : Vec Ideal S16384x1024 .f32) (g : Vec Ideal S1024 .f32) (W : Vec Ideal S4x1024x5632 .f32) (P : Vec Ideal S2x2x5632 .f32) :
    FVec Ideal S2x8194x5632 .f32 := padded P (hidden (norms (rows X) g) W)

/-- The reference's first term is these stages. -/
theorem res_eq (m : (ℓ : Loc nD τ sig) → Buf (Elt Ideal) ℓ) (c : Dev nD) :
    Cert.FeedForwardRefIdeal.Value.res_main_v49 m c = result (rows (m ((c.tc : Thread nD τ).loc main_arg0)))
      (gates (convs (paddedOf (m ((c.tc : Thread nD τ).loc main_arg0)) (m ((c.tc : Thread nD τ).loc main_arg1))
        (m ((c.tc : Thread nD τ).loc main_arg2)) (m ((c.tc : Thread nD τ).loc main_arg6)))
        (m ((c.tc : Thread nD τ).loc main_arg3)) (m ((c.tc : Thread nD τ).loc main_arg4)))) (m ((c.tc : Thread nD τ).loc main_arg5)) := rfl

variable (X : Vec Ideal S16384x1024 .f32) (g : Vec Ideal S1024 .f32) (W : Vec Ideal S4x1024x5632 .f32)
  (cw : Vec Ideal S3x5632 .f32) (cb : Vec Ideal S5632 .f32) (D : Vec Ideal S4x2816x1024 .f32) (P : Vec Ideal S2x2x5632 .f32)

/-- A row of the activations in its sequence. -/
theorem rows_at (b : Fin 2) (i : Fin 8192) (l : Fin 1024) : rows X (ix3 b i l) = row X (8192 * b.val + i.val) l := by
  unfold rows row
  pointwise
  congr 2
  apply Fin.ext
  have := b.isLt
  have := i.isLt
  show _ = (8192 * b.val + i.val) % 16384
  dsimp only
  omega

/-- A normed entry. -/
theorem norms_at (x : FVec Ideal S2x8192x1024 .f32) (b : Fin 2) (i : Fin 8192) (l : Fin 1024) :
    norms x g (ix3 b i l) = normed (fun k => x (ix3 b i k)) (fun k => g (ix1 k)) l := by
  unfold norms normed
  pointwise

/-- A projected entry. -/
theorem hidden_at (n : FVec Ideal S2x8192x1024 .f32) (b : Fin 2) (i : Fin 8192) (e : Fin 5632) :
    hidden n W (ix3 b i e) = ∑ l : Fin 1024, n (ix3 b i l) * W (ix3 0 l e) := by
  unfold hidden
  pointwise

/-- A padded entry. -/
theorem padded_at (h : FVec Ideal S2x8192x5632 .f32) (b : Fin 2) (s : Fin 8194) (e : Fin 5632) :
    padded P h (ix3 b s e) = if hs : s.val < 2 then P (ix3 b ⟨s.val, hs⟩ e) else h (ix3 b ⟨s.val - 2, by omega⟩ e) := by
  unfold padded
  pointwise

/-- An entry of the convolution. -/
theorem convs_at (xx : FVec Ideal S2x8194x5632 .f32) (b : Fin 2) (i : Fin 8192) (e : Fin 5632) :
    convs xx cw cb (ix3 b i e) = taps (xx (ix3 b ⟨i.val, by omega⟩ e)) (xx (ix3 b ⟨i.val + 1, by omega⟩ e)) (xx (ix3 b ⟨i.val + 2, by omega⟩ e))
      (cw (ix2 0 e)) (cw (ix2 1 e)) (cw (ix2 2 e)) (cb (ix1 e)) := by
  unfold convs taps
  pointwise
  simp only [Nat.add_comm]

/-- A gated entry. -/
theorem gates_at (y : FVec Ideal S2x8192x5632 .f32) (b : Fin 2) (i : Fin 8192) (k : Fin 2816) :
    gates y (ix3 b i k) = silu (y (ix3 b i ⟨2816 + k.val, by omega⟩)) * y (ix3 b i ⟨k.val, by omega⟩) := by
  unfold gates silu
  pointwise

/-- An entry of the result. -/
theorem result_at (x : FVec Ideal S2x8192x1024 .f32) (z : FVec Ideal S2x8192x2816 .f32) (a : Fin 16384) (d : Fin 1024) :
    result x z D (ix2 a d) = x (ix3 ⟨a.val / 8192, by omega⟩ ⟨a.val % 8192, by omega⟩ d)
      + ∑ k : Fin 2816, z (ix3 ⟨a.val / 8192, by omega⟩ ⟨a.val % 8192, by omega⟩ k) * D (ix3 0 k d) := by
  unfold result
  pointwise

/-- An entry of the rows that end each sequence. -/
theorem ends_at (xx : FVec Ideal S2x8194x5632 .f32) (b j : Fin 2) (e : Fin 5632) :
    ends xx (ix3 b j e) = xx (ix3 b ⟨8192 + j.val, by omega⟩ e) := by
  unfold ends
  pointwise

/-- The padded rows are the layer's places. -/
theorem paddedOf_at (b : Fin 2) (s : Fin 8194) (e : Fin 5632) : paddedOf X g W P (ix3 b s e) = place X g W P b.val s.val e := by
  have hb := b.isLt
  have hs := s.isLt
  unfold paddedOf place
  rw [padded_at]
  by_cases h : s.val < 2
  · rw [dif_pos h, if_pos h]
    congr 2
    · apply Fin.ext; show b.val = b.val % 2; omega
    · apply Fin.ext; show s.val = s.val % 2; omega
  · rw [dif_neg h, if_neg h, hidden_at]
    unfold proj project
    refine Finset.sum_congr rfl fun l _ => ?_
    rw [norms_at]
    congr 1
    congr 1
    funext k
    exact rows_at X b _ k

/-- The reference's first result is the layer's output. -/
theorem stages_eq : result (rows X) (gates (convs (paddedOf X g W P) cw cb)) D = output X g W cw cb D P := by
  funext y
  idx_vars y
  have h0 : y0.val < 16384 := y0.isLt
  rw [result_at, rows_at]
  refine Eq.trans ?_ (output_at X g W cw cb D P y0 y1).symm
  refine congr (congrArg HAdd.hAdd ?_) ?_
  · unfold row
    congr 2
    apply Fin.ext
    show (8192 * (y0.val / 8192) + y0.val % 8192) % 16384 = y0.val
    omega
  · refine Finset.sum_congr rfl fun k _ => ?_
    rw [gates_at, convs_at, convs_at]
    unfold gated conv
    simp only [paddedOf_at]

/-- The reference's second result is the last projected rows. -/
theorem ends_eq : ends (paddedOf X g W P) = last X g W := by
  funext y
  idx_vars y
  rw [ends_at, paddedOf_at]
  unfold place
  rw [if_neg (by show ¬(8192 + y1.val < 2); omega)]
  refine Eq.trans ?_ (last_at X g W y0 y1 y2).symm
  congr 1
  show 8192 * y0.val + (8192 + y1.val - 2) = 8192 * y0.val + (8190 + y1.val)
  omega

end Cert.FfnRef

end
-- ==== Proof.Ffn.Same.lean ====
module

public import proofs.«01_k».proof.Defs
public import proofs.«01_k».proof.Proof.Gen.FeedForward
public import proofs.«01_k».proof.Proof.Gen.FeedForward.Skeleton
public import proofs.«01_k».proof.Proof.Gen.FeedForwardIdeal
public import proofs.«01_k».proof.Proof.Gen.FeedForwardIdeal.Skeleton

/-!
# The feed-forward call and its idealization are one program
-/

@[expose] public section

set_option maxRecDepth 16384

noncomputable section

namespace Cert.FfnSame

open Idealize.ShloMosaic Idealize.SL.Sem

/-- The two programs' kernel bodies are the same. -/
theorem bodies_eq : Cert.FeedForward.defs₀ (F := Bits) = Cert.FeedForwardIdeal.defs₀ (F := Bits) := by
  unfold Cert.FeedForward.defs₀ Cert.FeedForwardIdeal.defs₀
  refine congrArg Defs.onTc (funext fun l => funext fun x => ?_)
  change Fin 1 at l
  match l, x with
  | ⟨0, _⟩, (t, s) => rfl
  | ⟨_ + 1, h⟩, _ => exact absurd h (Nat.not_lt.2 (Nat.le_add_left _ _))

/-- The two programs' body tables are the same. -/
theorem tables_eq : Cert.FeedForward.defs (F := Bits) = Cert.FeedForwardIdeal.defs (F := Bits) := by
  unfold Cert.FeedForward.defs
  rw [bodies_eq]
  rfl

end Cert.FfnSame

end
-- ==== Proof.Prep.Values.lean ====
module

public import proofs.«01_k».proof.Proof.Gen.KeyPrepIdeal.Frame.Runs
public import Idealize.ShloMosaic.Lib.Pipeline.FrameBody
public import Idealize.ShloMosaic.Lib.Ring
public import Idealize.ShloMosaic.Lib.WholeRead
public import Idealize.ShloMosaic.Lib.WritesUnit
public import Idealize.ShloMosaic.Lib.Tactic
public import Idealize.ShloMosaic.Lib.WordCmp

/-! What the preparation kernel computes from its blocks, over the row carried from the block before. -/

@[expose] public section

set_option maxRecDepth 16384

noncomputable section

namespace Cert.KeyPrepIdeal.Prep

open Cert.KeyPrepIdeal Cert.KeyPrepIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The kernel's test of a sequence's start. -/
abbrev first (i : grid0.Coords) : Prop :=
  (Scalar.cmpi .ne (Scalar.extui (Scalar.cmpi .eq (BitVec.ofNat 32 (i 1).val) 0#32)) 0#32) = 1#1

/-- The carried row: the scratch's first row. -/
def row0 (x : Vec F S8x128 .f32) : Vec F S1x128 .f32 := fun y => x ((Rect.unit (s := S8x128) ![0, 0] S1x128.size inb_S8x128_S1x128_0_0).idx y)

/-- The row carried into a sequence's first block: the first row of the fill. -/
def zeroRow : Vec F S1x128 .f32 := row0 (k0_pay1 (F := F))

/-- The first of three stacked matrices. -/
def slab0 (x : Vec F S3x128x1024 .bf16) : Vec F S1x128x1024 .bf16 := fun y => x ((Rect.unit (s := S3x128x1024) ![0, 0, 0] S1x128x1024.size inb_S3x128x1024_S1x128x1024_0_0_0).idx y)
/-- The second of three stacked matrices. -/
def slab1 (x : Vec F S3x128x1024 .bf16) : Vec F S1x128x1024 .bf16 := fun y => x ((Rect.unit (s := S3x128x1024) ![1, 0, 0] S1x128x1024.size inb_S3x128x1024_S1x128x1024_1_0_0).idx y)
/-- The third of three stacked matrices. -/
def slab2 (x : Vec F S3x128x1024 .bf16) : Vec F S1x128x1024 .bf16 := fun y => x ((Rect.unit (s := S3x128x1024) ![2, 0, 0] S1x128x1024.size inb_S3x128x1024_S1x128x1024_2_0_0).idx y)

/-- The block of log gates, from the gates' logits and their bias. -/
def gatesOf (x5 : Vec F S512x128 .f32) (x8 : Vec F S1x128 .f32) : Vec F S512x128 .f32 := k0_pay7 x5 x8

/-- The running sums of the log gates over the carried row `p`. -/
def sumsOf (x5 : Vec F S512x128 .f32) (x8 : Vec F S1x128 .f32) (x16 : Vec F S512x512 .bf16) (p : Vec F S1x128 .f32) :
    FVec F S512x128 .f32 := k0_pay8 x5 x8 x16 p

/-- The row carried to the next block. -/
def nextOf (x5 : Vec F S512x128 .f32) (x8 : Vec F S1x128 .f32) (x16 : Vec F S512x512 .bf16) (p : Vec F S1x128 .f32) :
    Vec F S1x128 .f32 := k0_pay10 (k0_pay9 x5 x8 x16 p)

/-- The block of normalized keys. -/
def keysOf (x3 : Vec F S512x512 .f32) (x7 : Vec F S1x512 .f32) (x17 : Vec F S512x512 .bf16) : Vec F S512x512 .f32 :=
  k0_pay6 x3 (k0_pay4 x7) (k0_pay5 x17 x3) (Scalar.ofBits .f32 0x3C800000#32)

/-- The block of widened queries. -/
def wideQOf (x2 : Vec F S512x512 .f32) (x6 : Vec F S1x512 .f32) (x9 : Vec F S512x1024 .bf16) (x11 : Vec F S3x128x1024 .bf16)
    (x13 : Vec F S1x1024 .f32) (x17 : Vec F S512x512 .bf16) (s : FVec F S512x128 .f32) : Vec F S512x1024 .bf16 :=
  k0_pay18 (k0_pay16 (k0_pay3 x17 x2 x6) s x9 (slab0 x11) (slab1 x11) (slab2 x11) x13)

/-- The block of widened keys. -/
def wideKOf (x3 : Vec F S512x512 .f32) (x7 : Vec F S1x512 .f32) (x9 : Vec F S512x1024 .bf16) (x12 : Vec F S3x128x1024 .bf16)
    (x14 : Vec F S1x1024 .f32) (x17 : Vec F S512x512 .bf16) (s : FVec F S512x128 .f32) : Vec F S512x1024 .bf16 :=
  k0_pay19 (k0_pay13 s) (k0_pay14 s) (k0_pay17 (keysOf x3 x7 x17) s x9 (slab0 x12)) (slab1 x12) (slab2 x12) x14

/-- The block of transposed values. -/
def valuesOf (x4 : Vec F S512x512 .f32) (x10 : Vec F S1024x512 .bf16) (x15 : Vec F S1024x1 .f32) : Vec F S1x8x1x128x512 .bf16 :=
  k0_pay20 x10 x4 x15

end Cert.KeyPrepIdeal.Prep

end
-- ==== Proof.Prep.RunA.lean ====
module

public import proofs.«01_k».proof.Proof.Prep.Values

/-! One run of the preparation kernel's body: at the start of a sequence. -/

@[expose] public section

set_option maxRecDepth 16384

noncomputable section

namespace Cert.KeyPrepIdeal.Prep

open Cert.KeyPrepIdeal Cert.KeyPrepIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- What the body stores at the start of a sequence, with the proof that the body run from the inputs at `x2` … `x17` and the carried
    scratch at `x23` leaves those stores in the outputs and the carried scratch, and the inputs as they were. -/
noncomputable def runA (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x128 .f32) (harg8 : arg8.IsWhole) (arg9 : Memref sig .tc .vmem S512x1024 .bf16) (harg9 : arg9.IsWhole) (arg10 : Memref sig .tc .vmem S1024x512 .bf16) (harg10 : arg10.IsWhole) (arg11 : Memref sig .tc .vmem S3x128x1024 .bf16) (harg11 : arg11.IsWhole) (arg12 : Memref sig .tc .vmem S3x128x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x1 .f32) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S1x8x1x128x512 .bf16) (harg20 : arg20.IsWhole) (arg21 : Memref sig .tc .vmem S512x512 .f32) (harg21 : arg21.IsWhole) (arg22 : Memref sig .tc .vmem S512x128 .f32) (harg22 : arg22.IsWhole) (arg23 : Memref sig .tc .vmem S8x128 .f32) (harg23 : arg23.IsWhole)
    (hc0 : first i) (x2 : Vec F S512x512 .f32) (x3 : Vec F S512x512 .f32) (x4 : Vec F S512x512 .f32) (x5 : Vec F S512x128 .f32) (x6 : Vec F S1x512 .f32) (x7 : Vec F S1x512 .f32) (x8 : Vec F S1x128 .f32) (x9 : Vec F S512x1024 .bf16) (x10 : Vec F S1024x512 .bf16) (x11 : Vec F S3x128x1024 .bf16) (x12 : Vec F S3x128x1024 .bf16) (x13 : Vec F S1x1024 .f32) (x14 : Vec F S1x1024 .f32) (x15 : Vec F S1024x1 .f32) (x16 : Vec F S512x512 .bf16) (x17 : Vec F S512x512 .bf16) (x23 : Vec F S8x128 .f32) :
    { L : List (View.Piece (Elt F) S512x1024 .bf16) × List (View.Piece (Elt F) S512x1024 .bf16) × List (View.Piece (Elt F) S1x8x1x128x512 .bf16) × List (View.Piece (Elt F) S512x512 .f32) × List (View.Piece (Elt F) S512x128 .f32) × List (View.Piece (Elt F) S8x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ owns (c : Thread nD τ) arg23 fullShare x23
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ f, arg18.view.loc (c : Thread nD τ) ↦[arg18.view.set]{fullShare} arg18.view.writes (Elt F) f L.1) ∗ (∃ f, arg19.view.loc (c : Thread nD τ) ↦[arg19.view.set]{fullShare} arg19.view.writes (Elt F) f L.2.1) ∗ (∃ f, arg20.view.loc (c : Thread nD τ) ↦[arg20.view.set]{fullShare} arg20.view.writes (Elt F) f L.2.2.1) ∗ (∃ f, arg21.view.loc (c : Thread nD τ) ↦[arg21.view.set]{fullShare} arg21.view.writes (Elt F) f L.2.2.2.1) ∗ (∃ f, arg22.view.loc (c : Thread nD τ) ↦[arg22.view.set]{fullShare} arg22.view.writes (Elt F) f L.2.2.2.2.1) ∗ (arg23.view.loc (c : Thread nD τ) ↦[arg23.view.set]{fullShare} arg23.view.writes (Elt F) (harg23.unread x23) L.2.2.2.2.2)) -∗ K ⟨⟩))
          ⊢ wp frame (wpE (defs₀ (F := F)) Variants.none c none) E (cc0_fox_prep i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨(?_, ?_, ?_, ?_, ?_, ?_), fun E K => ?run⟩
  case run =>
    simp only [cc0_fox_prep_eq_skeleton]; unfold cc0_fox_prep_skel
    simp only [k0_part1_eq_skeleton, k0_part2_eq_skeleton, k0_part3_eq_skeleton, k0_part4_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%f23, %hf23, H23⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    obtain rfl := harg14.eq_unread hf14
    obtain rfl := harg15.eq_unread hf15
    obtain rfl := harg16.eq_unread hf16
    obtain rfl := harg17.eq_unread hf17
    obtain rfl := harg23.eq_unread hf23
    sl_exec (disch := first | sl_exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; iexact H18
    isplitl [H19]
    · iexists _; iexact H19
    isplitl [H20]
    · iexists _; iexact H20
    isplitl [H21]
    · iexists _; iexact H21
    isplitl [H22]
    · iexists _; iexact H22
    iexact H23

end Cert.KeyPrepIdeal.Prep

end
-- ==== Proof.Prep.Whole.lean ====
module

public import proofs.«01_k».proof.Proof.Prep.Values

/-! Reading back what was stored over a whole buffer. -/

@[expose] public section

set_option maxRecDepth 16384

noncomputable section

namespace Cert.KeyPrepIdeal.Prep

open Cert.KeyPrepIdeal Cert.KeyPrepIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The unit rectangle at the origin leaves an index where it is. -/
theorem unit_idx {s : Shape} (o : Fin s.rank → ℕ) (h) (ho : o = fun _ => 0) (y : s.Idx) :
    (Rect.unit (s := s) o s.size h).idx y = y := by
  subst ho
  funext a
  apply Fin.ext
  show 0 + 1 * (y a).val = (y a).val
  omega

/-- One store over a whole buffer fills it: wideWhole. -/
theorem wideWhole (v : View sig .tc .vmem S512x1024 .bf16) (f : v.ty.Contents (Elt F)) (w : Vec F S512x1024 .bf16) :
    v.read (Elt F) (v.writes (Elt F) f [⟨(Rect.unit (s := S512x1024) ![0, 0] S512x1024.size inb_S512x1024_S512x1024_0_0), w⟩]) = w := by
  funext y
  refine View.read_writes_cons_unit_of_mem (Val := Elt F) (e := .bf16) v f inb_S512x1024_S512x1024_0_0 w [] y y rfl ?_
  intro a; fin_cases a
  · show (y 0).val = 0 + (y 0).val; omega
  · show (y 1).val = 0 + (y 1).val; omega

/-- One store over a whole buffer fills it: valuesWhole. -/
theorem valuesWhole (v : View sig .tc .vmem S1x8x1x128x512 .bf16) (f : v.ty.Contents (Elt F)) (w : Vec F S1x8x1x128x512 .bf16) :
    v.read (Elt F) (v.writes (Elt F) f [⟨(Rect.unit (s := S1x8x1x128x512) ![0, 0, 0, 0, 0] S1x8x1x128x512.size inb_S1x8x1x128x512_S1x8x1x128x512_0_0_0_0_0), w⟩]) = w := by
  funext y
  refine View.read_writes_cons_unit_of_mem (Val := Elt F) (e := .bf16) v f inb_S1x8x1x128x512_S1x8x1x128x512_0_0_0_0_0 w [] y y rfl ?_
  intro a; fin_cases a
  · show (y 0).val = 0 + (y 0).val; omega
  · show (y 1).val = 0 + (y 1).val; omega
  · show (y 2).val = 0 + (y 2).val; omega
  · show (y 3).val = 0 + (y 3).val; omega
  · show (y 4).val = 0 + (y 4).val; omega

/-- One store over a whole buffer fills it: keysWhole. -/
theorem keysWhole (v : View sig .tc .vmem S512x512 .f32) (f : v.ty.Contents (Elt F)) (w : Vec F S512x512 .f32) :
    v.read (Elt F) (v.writes (Elt F) f [⟨(Rect.unit (s := S512x512) ![0, 0] S512x512.size inb_S512x512_S512x512_0_0), w⟩]) = w := by
  funext y
  refine View.read_writes_cons_unit_of_mem (Val := Elt F) (e := .f32) v f inb_S512x512_S512x512_0_0 w [] y y rfl ?_
  intro a; fin_cases a
  · show (y 0).val = 0 + (y 0).val; omega
  · show (y 1).val = 0 + (y 1).val; omega

/-- One store over a whole buffer fills it: gatesWhole. -/
theorem gatesWhole (v : View sig .tc .vmem S512x128 .f32) (f : v.ty.Contents (Elt F)) (w : Vec F S512x128 .f32) :
    v.read (Elt F) (v.writes (Elt F) f [⟨(Rect.unit (s := S512x128) ![0, 0] S512x128.size inb_S512x128_S512x128_0_0), w⟩]) = w := by
  funext y
  refine View.read_writes_cons_unit_of_mem (Val := Elt F) (e := .f32) v f inb_S512x128_S512x128_0_0 w [] y y rfl ?_
  intro a; fin_cases a
  · show (y 0).val = 0 + (y 0).val; omega
  · show (y 1).val = 0 + (y 1).val; omega

/-- After a store over the first row the carried row is what was stored. -/
theorem row0_stored (v : View sig .tc .vmem S8x128 .f32) (f : v.ty.Contents (Elt F)) (b : Vec F S1x128 .f32)
    (T : List (View.Piece (Elt F) S8x128 .f32)) :
    row0 (v.read (Elt F) (v.writes (Elt F) f (⟨(Rect.unit (s := S8x128) ![0, 0] S1x128.size inb_S8x128_S1x128_0_0), b⟩ :: T))) = b := by
  funext y
  refine View.read_writes_cons_unit_of_mem (Val := Elt F) (e := .f32) v f inb_S8x128_S1x128_0_0 b T _ y rfl ?_
  intro d; fin_cases d
  · show 0 + 1 * (y 0).val = 0 + (y 0).val; omega
  · show 0 + 1 * (y 1).val = 0 + (y 1).val; omega

end Cert.KeyPrepIdeal.Prep

end
-- ==== Proof.Prep.PiecesA.lean ====
module

public import proofs.«01_k».proof.Proof.Prep.RunA
public import proofs.«01_k».proof.Proof.Prep.Values
public import proofs.«01_k».proof.Proof.Prep.Whole

/-! The stores of one run of the preparation kernel's body. -/

@[expose] public section

set_option maxRecDepth 16384

noncomputable section

namespace Cert.KeyPrepIdeal.Prep

open Cert.KeyPrepIdeal Cert.KeyPrepIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- What the body stores at the start of a sequence. -/
theorem piecesA (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x128 .f32) (harg8 : arg8.IsWhole) (arg9 : Memref sig .tc .vmem S512x1024 .bf16) (harg9 : arg9.IsWhole) (arg10 : Memref sig .tc .vmem S1024x512 .bf16) (harg10 : arg10.IsWhole) (arg11 : Memref sig .tc .vmem S3x128x1024 .bf16) (harg11 : arg11.IsWhole) (arg12 : Memref sig .tc .vmem S3x128x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x1 .f32) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S1x8x1x128x512 .bf16) (harg20 : arg20.IsWhole) (arg21 : Memref sig .tc .vmem S512x512 .f32) (harg21 : arg21.IsWhole) (arg22 : Memref sig .tc .vmem S512x128 .f32) (harg22 : arg22.IsWhole) (arg23 : Memref sig .tc .vmem S8x128 .f32) (harg23 : arg23.IsWhole)
    (hc0 : first i) (x2 : Vec F S512x512 .f32) (x3 : Vec F S512x512 .f32) (x4 : Vec F S512x512 .f32) (x5 : Vec F S512x128 .f32) (x6 : Vec F S1x512 .f32) (x7 : Vec F S1x512 .f32) (x8 : Vec F S1x128 .f32) (x9 : Vec F S512x1024 .bf16) (x10 : Vec F S1024x512 .bf16) (x11 : Vec F S3x128x1024 .bf16) (x12 : Vec F S3x128x1024 .bf16) (x13 : Vec F S1x1024 .f32) (x14 : Vec F S1x1024 .f32) (x15 : Vec F S1024x1 .f32) (x16 : Vec F S512x512 .bf16) (x17 : Vec F S512x512 .bf16) (x23 : Vec F S8x128 .f32) :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x2 x3 x4 x5 x6 x7 x8 x9 x10 x11 x12 x13 x14 x15 x16 x17 x23).1 = (
      [⟨(Rect.unit (s := S512x1024) ![0, 0] S512x1024.size inb_S512x1024_S512x1024_0_0), (wideQOf x2 x6 x9 x11 x13 x17 (sumsOf x5 x8 x16 zeroRow))⟩],
      [⟨(Rect.unit (s := S512x1024) ![0, 0] S512x1024.size inb_S512x1024_S512x1024_0_0), (wideKOf x3 x7 x9 x12 x14 x17 (sumsOf x5 x8 x16 zeroRow))⟩],
      [⟨(Rect.unit (s := S1x8x1x128x512) ![0, 0, 0, 0, 0] S1x8x1x128x512.size inb_S1x8x1x128x512_S1x8x1x128x512_0_0_0_0_0), (valuesOf x4 x10 x15)⟩],
      [⟨(Rect.unit (s := S512x512) ![0, 0] S512x512.size inb_S512x512_S512x512_0_0), (keysOf x3 x7 x17)⟩],
      [⟨(Rect.unit (s := S512x128) ![0, 0] S512x128.size inb_S512x128_S512x128_0_0), (gatesOf x5 x8)⟩],
      [⟨(Rect.unit (s := S8x128) ![0, 0] S1x128.size inb_S8x128_S1x128_0_0), nextOf x5 x8 x16 zeroRow⟩, ⟨(Rect.unit (s := S8x128) ![0, 0] S8x128.size inb_S8x128_S8x128_0_0), k0_pay1 (F := F)⟩]) := by
  have e2 : x2 = View.readAt (Elt F) arg2.view (Rect.unit (s := S512x512) ![0, 0] S512x512.size inb_S512x512_S512x512_0_0).toLoadRect (harg2.unread x2) :=
    (funext fun y => (harg2.readAt_unread x2 (Rect.unit (s := S512x512) ![0, 0] S512x512.size inb_S512x512_S512x512_0_0).toLoadRect y).trans (congrArg x2 (unit_idx _ _ (by decide) y))).symm
  have e3 : x3 = View.readAt (Elt F) arg3.view (Rect.unit (s := S512x512) ![0, 0] S512x512.size inb_S512x512_S512x512_0_0).toLoadRect (harg3.unread x3) :=
    (funext fun y => (harg3.readAt_unread x3 (Rect.unit (s := S512x512) ![0, 0] S512x512.size inb_S512x512_S512x512_0_0).toLoadRect y).trans (congrArg x3 (unit_idx _ _ (by decide) y))).symm
  have e4 : x4 = View.readAt (Elt F) arg4.view (Rect.unit (s := S512x512) ![0, 0] S512x512.size inb_S512x512_S512x512_0_0).toLoadRect (harg4.unread x4) :=
    (funext fun y => (harg4.readAt_unread x4 (Rect.unit (s := S512x512) ![0, 0] S512x512.size inb_S512x512_S512x512_0_0).toLoadRect y).trans (congrArg x4 (unit_idx _ _ (by decide) y))).symm
  have e5 : x5 = View.readAt (Elt F) arg5.view (Rect.unit (s := S512x128) ![0, 0] S512x128.size inb_S512x128_S512x128_0_0).toLoadRect (harg5.unread x5) :=
    (funext fun y => (harg5.readAt_unread x5 (Rect.unit (s := S512x128) ![0, 0] S512x128.size inb_S512x128_S512x128_0_0).toLoadRect y).trans (congrArg x5 (unit_idx _ _ (by decide) y))).symm
  have e6 : x6 = View.readAt (Elt F) arg6.view (Rect.unit (s := S1x512) ![0, 0] S1x512.size inb_S1x512_S1x512_0_0).toLoadRect (harg6.unread x6) :=
    (funext fun y => (harg6.readAt_unread x6 (Rect.unit (s := S1x512) ![0, 0] S1x512.size inb_S1x512_S1x512_0_0).toLoadRect y).trans (congrArg x6 (unit_idx _ _ (by decide) y))).symm
  have e7 : x7 = View.readAt (Elt F) arg7.view (Rect.unit (s := S1x512) ![0, 0] S1x512.size inb_S1x512_S1x512_0_0).toLoadRect (harg7.unread x7) :=
    (funext fun y => (harg7.readAt_unread x7 (Rect.unit (s := S1x512) ![0, 0] S1x512.size inb_S1x512_S1x512_0_0).toLoadRect y).trans (congrArg x7 (unit_idx _ _ (by decide) y))).symm
  have e8 : x8 = View.readAt (Elt F) arg8.view (Rect.unit (s := S1x128) ![0, 0] S1x128.size inb_S1x128_S1x128_0_0).toLoadRect (harg8.unread x8) :=
    (funext fun y => (harg8.readAt_unread x8 (Rect.unit (s := S1x128) ![0, 0] S1x128.size inb_S1x128_S1x128_0_0).toLoadRect y).trans (congrArg x8 (unit_idx _ _ (by decide) y))).symm
  have e9 : x9 = View.readAt (Elt F) arg9.view (Rect.unit (s := S512x1024) ![0, 0] S512x1024.size inb_S512x1024_S512x1024_0_0).toLoadRect (harg9.unread x9) :=
    (funext fun y => (harg9.readAt_unread x9 (Rect.unit (s := S512x1024) ![0, 0] S512x1024.size inb_S512x1024_S512x1024_0_0).toLoadRect y).trans (congrArg x9 (unit_idx _ _ (by decide) y))).symm
  have e10 : x10 = View.readAt (Elt F) arg10.view (Rect.unit (s := S1024x512) ![0, 0] S1024x512.size inb_S1024x512_S1024x512_0_0).toLoadRect (harg10.unread x10) :=
    (funext fun y => (harg10.readAt_unread x10 (Rect.unit (s := S1024x512) ![0, 0] S1024x512.size inb_S1024x512_S1024x512_0_0).toLoadRect y).trans (congrArg x10 (unit_idx _ _ (by decide) y))).symm
  have e110 : slab0 x11 = View.readAt (Elt F) arg11.view (Rect.unit (s := S3x128x1024) ![0, 0, 0] S1x128x1024.size inb_S3x128x1024_S1x128x1024_0_0_0).toLoadRect (harg11.unread x11) :=
    (funext fun y => harg11.readAt_unread x11 (Rect.unit (s := S3x128x1024) ![0, 0, 0] S1x128x1024.size inb_S3x128x1024_S1x128x1024_0_0_0).toLoadRect y).symm
  have e111 : slab1 x11 = View.readAt (Elt F) arg11.view (Rect.unit (s := S3x128x1024) ![1, 0, 0] S1x128x1024.size inb_S3x128x1024_S1x128x1024_1_0_0).toLoadRect (harg11.unread x11) :=
    (funext fun y => harg11.readAt_unread x11 (Rect.unit (s := S3x128x1024) ![1, 0, 0] S1x128x1024.size inb_S3x128x1024_S1x128x1024_1_0_0).toLoadRect y).symm
  have e112 : slab2 x11 = View.readAt (Elt F) arg11.view (Rect.unit (s := S3x128x1024) ![2, 0, 0] S1x128x1024.size inb_S3x128x1024_S1x128x1024_2_0_0).toLoadRect (harg11.unread x11) :=
    (funext fun y => harg11.readAt_unread x11 (Rect.unit (s := S3x128x1024) ![2, 0, 0] S1x128x1024.size inb_S3x128x1024_S1x128x1024_2_0_0).toLoadRect y).symm
  have e120 : slab0 x12 = View.readAt (Elt F) arg12.view (Rect.unit (s := S3x128x1024) ![0, 0, 0] S1x128x1024.size inb_S3x128x1024_S1x128x1024_0_0_0).toLoadRect (harg12.unread x12) :=
    (funext fun y => harg12.readAt_unread x12 (Rect.unit (s := S3x128x1024) ![0, 0, 0] S1x128x1024.size inb_S3x128x1024_S1x128x1024_0_0_0).toLoadRect y).symm
  have e121 : slab1 x12 = View.readAt (Elt F) arg12.view (Rect.unit (s := S3x128x1024) ![1, 0, 0] S1x128x1024.size inb_S3x128x1024_S1x128x1024_1_0_0).toLoadRect (harg12.unread x12) :=
    (funext fun y => harg12.readAt_unread x12 (Rect.unit (s := S3x128x1024) ![1, 0, 0] S1x128x1024.size inb_S3x128x1024_S1x128x1024_1_0_0).toLoadRect y).symm
  have e122 : slab2 x12 = View.readAt (Elt F) arg12.view (Rect.unit (s := S3x128x1024) ![2, 0, 0] S1x128x1024.size inb_S3x128x1024_S1x128x1024_2_0_0).toLoadRect (harg12.unread x12) :=
    (funext fun y => harg12.readAt_unread x12 (Rect.unit (s := S3x128x1024) ![2, 0, 0] S1x128x1024.size inb_S3x128x1024_S1x128x1024_2_0_0).toLoadRect y).symm
  have e13 : x13 = View.readAt (Elt F) arg13.view (Rect.unit (s := S1x1024) ![0, 0] S1x1024.size inb_S1x1024_S1x1024_0_0).toLoadRect (harg13.unread x13) :=
    (funext fun y => (harg13.readAt_unread x13 (Rect.unit (s := S1x1024) ![0, 0] S1x1024.size inb_S1x1024_S1x1024_0_0).toLoadRect y).trans (congrArg x13 (unit_idx _ _ (by decide) y))).symm
  have e14 : x14 = View.readAt (Elt F) arg14.view (Rect.unit (s := S1x1024) ![0, 0] S1x1024.size inb_S1x1024_S1x1024_0_0).toLoadRect (harg14.unread x14) :=
    (funext fun y => (harg14.readAt_unread x14 (Rect.unit (s := S1x1024) ![0, 0] S1x1024.size inb_S1x1024_S1x1024_0_0).toLoadRect y).trans (congrArg x14 (unit_idx _ _ (by decide) y))).symm
  have e15 : x15 = View.readAt (Elt F) arg15.view (Rect.unit (s := S1024x1) ![0, 0] S1024x1.size inb_S1024x1_S1024x1_0_0).toLoadRect (harg15.unread x15) :=
    (funext fun y => (harg15.readAt_unread x15 (Rect.unit (s := S1024x1) ![0, 0] S1024x1.size inb_S1024x1_S1024x1_0_0).toLoadRect y).trans (congrArg x15 (unit_idx _ _ (by decide) y))).symm
  have e16 : x16 = View.readAt (Elt F) arg16.view (Rect.unit (s := S512x512) ![0, 0] S512x512.size inb_S512x512_S512x512_0_0).toLoadRect (harg16.unread x16) :=
    (funext fun y => (harg16.readAt_unread x16 (Rect.unit (s := S512x512) ![0, 0] S512x512.size inb_S512x512_S512x512_0_0).toLoadRect y).trans (congrArg x16 (unit_idx _ _ (by decide) y))).symm
  have e17 : x17 = View.readAt (Elt F) arg17.view (Rect.unit (s := S512x512) ![0, 0] S512x512.size inb_S512x512_S512x512_0_0).toLoadRect (harg17.unread x17) :=
    (funext fun y => (harg17.readAt_unread x17 (Rect.unit (s := S512x512) ![0, 0] S512x512.size inb_S512x512_S512x512_0_0).toLoadRect y).trans (congrArg x17 (unit_idx _ _ (by decide) y))).symm
  have ep : (zeroRow : Vec F S1x128 .f32) = View.readCov arg23.view [⟨(Rect.unit (s := S8x128) ![0, 0] S8x128.size inb_S8x128_S8x128_0_0), k0_pay1 (F := F)⟩] (Rect.unit (s := S8x128) ![0, 0] S1x128.size inb_S8x128_S1x128_0_0).toLoadRect := by
    funext y
    refine (View.read_writes_cons_unit_of_mem (Val := Elt F) (e := .f32) arg23.view _ inb_S8x128_S8x128_0_0 (k0_pay1 (F := F)) [] _ ((Rect.unit (s := S8x128) ![0, 0] S1x128.size inb_S8x128_S1x128_0_0).idx y) rfl ?_).symm
    intro a; fin_cases a
    · show 0 + 1 * (y 0).val = 0 + (0 + 1 * (y 0).val); omega
    · show 0 + 1 * (y 1).val = 0 + (0 + 1 * (y 1).val); omega
  unfold wideQOf wideKOf sumsOf nextOf valuesOf keysOf gatesOf
  conv_rhs => rw [ep, e110, e111, e112, e120, e121, e122, e2, e3, e4, e5, e6, e7, e8, e9, e10, e13, e14, e15, e16, e17]
  rfl

end Cert.KeyPrepIdeal.Prep

end
-- ==== Proof.Prep.RunB.lean ====
module

public import proofs.«01_k».proof.Proof.Prep.Values

/-! One run of the preparation kernel's body: away from the start of a sequence. -/

@[expose] public section

set_option maxRecDepth 16384

noncomputable section

namespace Cert.KeyPrepIdeal.Prep

open Cert.KeyPrepIdeal Cert.KeyPrepIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- What the body stores away from the start of a sequence, with the proof that the body run from the inputs at `x2` … `x17` and the carried
    scratch at `x23` leaves those stores in the outputs and the carried scratch, and the inputs as they were. -/
noncomputable def runB (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x128 .f32) (harg8 : arg8.IsWhole) (arg9 : Memref sig .tc .vmem S512x1024 .bf16) (harg9 : arg9.IsWhole) (arg10 : Memref sig .tc .vmem S1024x512 .bf16) (harg10 : arg10.IsWhole) (arg11 : Memref sig .tc .vmem S3x128x1024 .bf16) (harg11 : arg11.IsWhole) (arg12 : Memref sig .tc .vmem S3x128x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x1 .f32) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S1x8x1x128x512 .bf16) (harg20 : arg20.IsWhole) (arg21 : Memref sig .tc .vmem S512x512 .f32) (harg21 : arg21.IsWhole) (arg22 : Memref sig .tc .vmem S512x128 .f32) (harg22 : arg22.IsWhole) (arg23 : Memref sig .tc .vmem S8x128 .f32) (harg23 : arg23.IsWhole)
    (hc0 : ¬first i) (x2 : Vec F S512x512 .f32) (x3 : Vec F S512x512 .f32) (x4 : Vec F S512x512 .f32) (x5 : Vec F S512x128 .f32) (x6 : Vec F S1x512 .f32) (x7 : Vec F S1x512 .f32) (x8 : Vec F S1x128 .f32) (x9 : Vec F S512x1024 .bf16) (x10 : Vec F S1024x512 .bf16) (x11 : Vec F S3x128x1024 .bf16) (x12 : Vec F S3x128x1024 .bf16) (x13 : Vec F S1x1024 .f32) (x14 : Vec F S1x1024 .f32) (x15 : Vec F S1024x1 .f32) (x16 : Vec F S512x512 .bf16) (x17 : Vec F S512x512 .bf16) (x23 : Vec F S8x128 .f32) :
    { L : List (View.Piece (Elt F) S512x1024 .bf16) × List (View.Piece (Elt F) S512x1024 .bf16) × List (View.Piece (Elt F) S1x8x1x128x512 .bf16) × List (View.Piece (Elt F) S512x512 .f32) × List (View.Piece (Elt F) S512x128 .f32) × List (View.Piece (Elt F) S8x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ owns (c : Thread nD τ) arg23 fullShare x23
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ f, arg18.view.loc (c : Thread nD τ) ↦[arg18.view.set]{fullShare} arg18.view.writes (Elt F) f L.1) ∗ (∃ f, arg19.view.loc (c : Thread nD τ) ↦[arg19.view.set]{fullShare} arg19.view.writes (Elt F) f L.2.1) ∗ (∃ f, arg20.view.loc (c : Thread nD τ) ↦[arg20.view.set]{fullShare} arg20.view.writes (Elt F) f L.2.2.1) ∗ (∃ f, arg21.view.loc (c : Thread nD τ) ↦[arg21.view.set]{fullShare} arg21.view.writes (Elt F) f L.2.2.2.1) ∗ (∃ f, arg22.view.loc (c : Thread nD τ) ↦[arg22.view.set]{fullShare} arg22.view.writes (Elt F) f L.2.2.2.2.1) ∗ (arg23.view.loc (c : Thread nD τ) ↦[arg23.view.set]{fullShare} arg23.view.writes (Elt F) (harg23.unread x23) L.2.2.2.2.2)) -∗ K ⟨⟩))
          ⊢ wp frame (wpE (defs₀ (F := F)) Variants.none c none) E (cc0_fox_prep i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨(?_, ?_, ?_, ?_, ?_, ?_), fun E K => ?run⟩
  case run =>
    simp only [cc0_fox_prep_eq_skeleton]; unfold cc0_fox_prep_skel
    simp only [k0_part1_eq_skeleton, k0_part2_eq_skeleton, k0_part3_eq_skeleton, k0_part4_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%f23, %hf23, H23⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    obtain rfl := harg14.eq_unread hf14
    obtain rfl := harg15.eq_unread hf15
    obtain rfl := harg16.eq_unread hf16
    obtain rfl := harg17.eq_unread hf17
    obtain rfl := harg23.eq_unread hf23
    sl_exec (disch := first | sl_exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; iexact H18
    isplitl [H19]
    · iexists _; iexact H19
    isplitl [H20]
    · iexists _; iexact H20
    isplitl [H21]
    · iexists _; iexact H21
    isplitl [H22]
    · iexists _; iexact H22
    iexact H23

end Cert.KeyPrepIdeal.Prep

end
-- ==== Proof.Prep.PiecesB.lean ====
module

public import proofs.«01_k».proof.Proof.Prep.RunB
public import proofs.«01_k».proof.Proof.Prep.Values
public import proofs.«01_k».proof.Proof.Prep.Whole

/-! The stores of one run of the preparation kernel's body. -/

@[expose] public section

set_option maxRecDepth 16384

noncomputable section

namespace Cert.KeyPrepIdeal.Prep

open Cert.KeyPrepIdeal Cert.KeyPrepIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- What the body stores away from the start of a sequence. -/
theorem piecesB (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x128 .f32) (harg8 : arg8.IsWhole) (arg9 : Memref sig .tc .vmem S512x1024 .bf16) (harg9 : arg9.IsWhole) (arg10 : Memref sig .tc .vmem S1024x512 .bf16) (harg10 : arg10.IsWhole) (arg11 : Memref sig .tc .vmem S3x128x1024 .bf16) (harg11 : arg11.IsWhole) (arg12 : Memref sig .tc .vmem S3x128x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x1 .f32) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S1x8x1x128x512 .bf16) (harg20 : arg20.IsWhole) (arg21 : Memref sig .tc .vmem S512x512 .f32) (harg21 : arg21.IsWhole) (arg22 : Memref sig .tc .vmem S512x128 .f32) (harg22 : arg22.IsWhole) (arg23 : Memref sig .tc .vmem S8x128 .f32) (harg23 : arg23.IsWhole)
    (hc0 : ¬first i) (x2 : Vec F S512x512 .f32) (x3 : Vec F S512x512 .f32) (x4 : Vec F S512x512 .f32) (x5 : Vec F S512x128 .f32) (x6 : Vec F S1x512 .f32) (x7 : Vec F S1x512 .f32) (x8 : Vec F S1x128 .f32) (x9 : Vec F S512x1024 .bf16) (x10 : Vec F S1024x512 .bf16) (x11 : Vec F S3x128x1024 .bf16) (x12 : Vec F S3x128x1024 .bf16) (x13 : Vec F S1x1024 .f32) (x14 : Vec F S1x1024 .f32) (x15 : Vec F S1024x1 .f32) (x16 : Vec F S512x512 .bf16) (x17 : Vec F S512x512 .bf16) (x23 : Vec F S8x128 .f32) :
    (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x2 x3 x4 x5 x6 x7 x8 x9 x10 x11 x12 x13 x14 x15 x16 x17 x23).1 = (
      [⟨(Rect.unit (s := S512x1024) ![0, 0] S512x1024.size inb_S512x1024_S512x1024_0_0), (wideQOf x2 x6 x9 x11 x13 x17 (sumsOf x5 x8 x16 (row0 x23)))⟩],
      [⟨(Rect.unit (s := S512x1024) ![0, 0] S512x1024.size inb_S512x1024_S512x1024_0_0), (wideKOf x3 x7 x9 x12 x14 x17 (sumsOf x5 x8 x16 (row0 x23)))⟩],
      [⟨(Rect.unit (s := S1x8x1x128x512) ![0, 0, 0, 0, 0] S1x8x1x128x512.size inb_S1x8x1x128x512_S1x8x1x128x512_0_0_0_0_0), (valuesOf x4 x10 x15)⟩],
      [⟨(Rect.unit (s := S512x512) ![0, 0] S512x512.size inb_S512x512_S512x512_0_0), (keysOf x3 x7 x17)⟩],
      [⟨(Rect.unit (s := S512x128) ![0, 0] S512x128.size inb_S512x128_S512x128_0_0), (gatesOf x5 x8)⟩],
      [⟨(Rect.unit (s := S8x128) ![0, 0] S1x128.size inb_S8x128_S1x128_0_0), nextOf x5 x8 x16 (row0 x23)⟩]) := by
  have e2 : x2 = View.readAt (Elt F) arg2.view (Rect.unit (s := S512x512) ![0, 0] S512x512.size inb_S512x512_S512x512_0_0).toLoadRect (harg2.unread x2) :=
    (funext fun y => (harg2.readAt_unread x2 (Rect.unit (s := S512x512) ![0, 0] S512x512.size inb_S512x512_S512x512_0_0).toLoadRect y).trans (congrArg x2 (unit_idx _ _ (by decide) y))).symm
  have e3 : x3 = View.readAt (Elt F) arg3.view (Rect.unit (s := S512x512) ![0, 0] S512x512.size inb_S512x512_S512x512_0_0).toLoadRect (harg3.unread x3) :=
    (funext fun y => (harg3.readAt_unread x3 (Rect.unit (s := S512x512) ![0, 0] S512x512.size inb_S512x512_S512x512_0_0).toLoadRect y).trans (congrArg x3 (unit_idx _ _ (by decide) y))).symm
  have e4 : x4 = View.readAt (Elt F) arg4.view (Rect.unit (s := S512x512) ![0, 0] S512x512.size inb_S512x512_S512x512_0_0).toLoadRect (harg4.unread x4) :=
    (funext fun y => (harg4.readAt_unread x4 (Rect.unit (s := S512x512) ![0, 0] S512x512.size inb_S512x512_S512x512_0_0).toLoadRect y).trans (congrArg x4 (unit_idx _ _ (by decide) y))).symm
  have e5 : x5 = View.readAt (Elt F) arg5.view (Rect.unit (s := S512x128) ![0, 0] S512x128.size inb_S512x128_S512x128_0_0).toLoadRect (harg5.unread x5) :=
    (funext fun y => (harg5.readAt_unread x5 (Rect.unit (s := S512x128) ![0, 0] S512x128.size inb_S512x128_S512x128_0_0).toLoadRect y).trans (congrArg x5 (unit_idx _ _ (by decide) y))).symm
  have e6 : x6 = View.readAt (Elt F) arg6.view (Rect.unit (s := S1x512) ![0, 0] S1x512.size inb_S1x512_S1x512_0_0).toLoadRect (harg6.unread x6) :=
    (funext fun y => (harg6.readAt_unread x6 (Rect.unit (s := S1x512) ![0, 0] S1x512.size inb_S1x512_S1x512_0_0).toLoadRect y).trans (congrArg x6 (unit_idx _ _ (by decide) y))).symm
  have e7 : x7 = View.readAt (Elt F) arg7.view (Rect.unit (s := S1x512) ![0, 0] S1x512.size inb_S1x512_S1x512_0_0).toLoadRect (harg7.unread x7) :=
    (funext fun y => (harg7.readAt_unread x7 (Rect.unit (s := S1x512) ![0, 0] S1x512.size inb_S1x512_S1x512_0_0).toLoadRect y).trans (congrArg x7 (unit_idx _ _ (by decide) y))).symm
  have e8 : x8 = View.readAt (Elt F) arg8.view (Rect.unit (s := S1x128) ![0, 0] S1x128.size inb_S1x128_S1x128_0_0).toLoadRect (harg8.unread x8) :=
    (funext fun y => (harg8.readAt_unread x8 (Rect.unit (s := S1x128) ![0, 0] S1x128.size inb_S1x128_S1x128_0_0).toLoadRect y).trans (congrArg x8 (unit_idx _ _ (by decide) y))).symm
  have e9 : x9 = View.readAt (Elt F) arg9.view (Rect.unit (s := S512x1024) ![0, 0] S512x1024.size inb_S512x1024_S512x1024_0_0).toLoadRect (harg9.unread x9) :=
    (funext fun y => (harg9.readAt_unread x9 (Rect.unit (s := S512x1024) ![0, 0] S512x1024.size inb_S512x1024_S512x1024_0_0).toLoadRect y).trans (congrArg x9 (unit_idx _ _ (by decide) y))).symm
  have e10 : x10 = View.readAt (Elt F) arg10.view (Rect.unit (s := S1024x512) ![0, 0] S1024x512.size inb_S1024x512_S1024x512_0_0).toLoadRect (harg10.unread x10) :=
    (funext fun y => (harg10.readAt_unread x10 (Rect.unit (s := S1024x512) ![0, 0] S1024x512.size inb_S1024x512_S1024x512_0_0).toLoadRect y).trans (congrArg x10 (unit_idx _ _ (by decide) y))).symm
  have e110 : slab0 x11 = View.readAt (Elt F) arg11.view (Rect.unit (s := S3x128x1024) ![0, 0, 0] S1x128x1024.size inb_S3x128x1024_S1x128x1024_0_0_0).toLoadRect (harg11.unread x11) :=
    (funext fun y => harg11.readAt_unread x11 (Rect.unit (s := S3x128x1024) ![0, 0, 0] S1x128x1024.size inb_S3x128x1024_S1x128x1024_0_0_0).toLoadRect y).symm
  have e111 : slab1 x11 = View.readAt (Elt F) arg11.view (Rect.unit (s := S3x128x1024) ![1, 0, 0] S1x128x1024.size inb_S3x128x1024_S1x128x1024_1_0_0).toLoadRect (harg11.unread x11) :=
    (funext fun y => harg11.readAt_unread x11 (Rect.unit (s := S3x128x1024) ![1, 0, 0] S1x128x1024.size inb_S3x128x1024_S1x128x1024_1_0_0).toLoadRect y).symm
  have e112 : slab2 x11 = View.readAt (Elt F) arg11.view (Rect.unit (s := S3x128x1024) ![2, 0, 0] S1x128x1024.size inb_S3x128x1024_S1x128x1024_2_0_0).toLoadRect (harg11.unread x11) :=
    (funext fun y => harg11.readAt_unread x11 (Rect.unit (s := S3x128x1024) ![2, 0, 0] S1x128x1024.size inb_S3x128x1024_S1x128x1024_2_0_0).toLoadRect y).symm
  have e120 : slab0 x12 = View.readAt (Elt F) arg12.view (Rect.unit (s := S3x128x1024) ![0, 0, 0] S1x128x1024.size inb_S3x128x1024_S1x128x1024_0_0_0).toLoadRect (harg12.unread x12) :=
    (funext fun y => harg12.readAt_unread x12 (Rect.unit (s := S3x128x1024) ![0, 0, 0] S1x128x1024.size inb_S3x128x1024_S1x128x1024_0_0_0).toLoadRect y).symm
  have e121 : slab1 x12 = View.readAt (Elt F) arg12.view (Rect.unit (s := S3x128x1024) ![1, 0, 0] S1x128x1024.size inb_S3x128x1024_S1x128x1024_1_0_0).toLoadRect (harg12.unread x12) :=
    (funext fun y => harg12.readAt_unread x12 (Rect.unit (s := S3x128x1024) ![1, 0, 0] S1x128x1024.size inb_S3x128x1024_S1x128x1024_1_0_0).toLoadRect y).symm
  have e122 : slab2 x12 = View.readAt (Elt F) arg12.view (Rect.unit (s := S3x128x1024) ![2, 0, 0] S1x128x1024.size inb_S3x128x1024_S1x128x1024_2_0_0).toLoadRect (harg12.unread x12) :=
    (funext fun y => harg12.readAt_unread x12 (Rect.unit (s := S3x128x1024) ![2, 0, 0] S1x128x1024.size inb_S3x128x1024_S1x128x1024_2_0_0).toLoadRect y).symm
  have e13 : x13 = View.readAt (Elt F) arg13.view (Rect.unit (s := S1x1024) ![0, 0] S1x1024.size inb_S1x1024_S1x1024_0_0).toLoadRect (harg13.unread x13) :=
    (funext fun y => (harg13.readAt_unread x13 (Rect.unit (s := S1x1024) ![0, 0] S1x1024.size inb_S1x1024_S1x1024_0_0).toLoadRect y).trans (congrArg x13 (unit_idx _ _ (by decide) y))).symm
  have e14 : x14 = View.readAt (Elt F) arg14.view (Rect.unit (s := S1x1024) ![0, 0] S1x1024.size inb_S1x1024_S1x1024_0_0).toLoadRect (harg14.unread x14) :=
    (funext fun y => (harg14.readAt_unread x14 (Rect.unit (s := S1x1024) ![0, 0] S1x1024.size inb_S1x1024_S1x1024_0_0).toLoadRect y).trans (congrArg x14 (unit_idx _ _ (by decide) y))).symm
  have e15 : x15 = View.readAt (Elt F) arg15.view (Rect.unit (s := S1024x1) ![0, 0] S1024x1.size inb_S1024x1_S1024x1_0_0).toLoadRect (harg15.unread x15) :=
    (funext fun y => (harg15.readAt_unread x15 (Rect.unit (s := S1024x1) ![0, 0] S1024x1.size inb_S1024x1_S1024x1_0_0).toLoadRect y).trans (congrArg x15 (unit_idx _ _ (by decide) y))).symm
  have e16 : x16 = View.readAt (Elt F) arg16.view (Rect.unit (s := S512x512) ![0, 0] S512x512.size inb_S512x512_S512x512_0_0).toLoadRect (harg16.unread x16) :=
    (funext fun y => (harg16.readAt_unread x16 (Rect.unit (s := S512x512) ![0, 0] S512x512.size inb_S512x512_S512x512_0_0).toLoadRect y).trans (congrArg x16 (unit_idx _ _ (by decide) y))).symm
  have e17 : x17 = View.readAt (Elt F) arg17.view (Rect.unit (s := S512x512) ![0, 0] S512x512.size inb_S512x512_S512x512_0_0).toLoadRect (harg17.unread x17) :=
    (funext fun y => (harg17.readAt_unread x17 (Rect.unit (s := S512x512) ![0, 0] S512x512.size inb_S512x512_S512x512_0_0).toLoadRect y).trans (congrArg x17 (unit_idx _ _ (by decide) y))).symm
  have ep : row0 x23 = View.readAt (Elt F) arg23.view (Rect.unit (s := S8x128) ![0, 0] S1x128.size inb_S8x128_S1x128_0_0).toLoadRect (harg23.unread x23) :=
    (funext fun y => harg23.readAt_unread x23 (Rect.unit (s := S8x128) ![0, 0] S1x128.size inb_S8x128_S1x128_0_0).toLoadRect y).symm
  unfold wideQOf wideKOf sumsOf nextOf valuesOf keysOf gatesOf
  conv_rhs => rw [ep, e110, e111, e112, e120, e121, e122, e2, e3, e4, e5, e6, e7, e8, e9, e10, e13, e14, e15, e16, e17]
  rfl

end Cert.KeyPrepIdeal.Prep

end
-- ==== Proof.Prep.Body.lean ====
module

public import proofs.«01_k».proof.Proof.Prep.PiecesA
public import proofs.«01_k».proof.Proof.Prep.PiecesB
public import proofs.«01_k».proof.Proof.Prep.Whole

/-! The preparation kernel's body at one grid point. The two ways through it, at the start of a sequence and away from it,
give one statement. -/

@[expose] public section

set_option maxRecDepth 16384

noncomputable section

namespace Cert.KeyPrepIdeal.Prep

open Cert.KeyPrepIdeal Cert.KeyPrepIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging buffers: the inputs are left as they were, each output holds its value over the carried row
    `p` — the fill's at the start of a sequence, the one found otherwise — and the block's next row is left carried. -/
theorem body (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x128 .f32) (harg8 : arg8.IsWhole) (arg9 : Memref sig .tc .vmem S512x1024 .bf16) (harg9 : arg9.IsWhole) (arg10 : Memref sig .tc .vmem S1024x512 .bf16) (harg10 : arg10.IsWhole) (arg11 : Memref sig .tc .vmem S3x128x1024 .bf16) (harg11 : arg11.IsWhole) (arg12 : Memref sig .tc .vmem S3x128x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x1 .f32) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S1x8x1x128x512 .bf16) (harg20 : arg20.IsWhole) (arg21 : Memref sig .tc .vmem S512x512 .f32) (harg21 : arg21.IsWhole) (arg22 : Memref sig .tc .vmem S512x128 .f32) (harg22 : arg22.IsWhole) (arg23 : Memref sig .tc .vmem S8x128 .f32) (harg23 : arg23.IsWhole)
    (x2 : Vec F S512x512 .f32) (x3 : Vec F S512x512 .f32) (x4 : Vec F S512x512 .f32) (x5 : Vec F S512x128 .f32) (x6 : Vec F S1x512 .f32) (x7 : Vec F S1x512 .f32) (x8 : Vec F S1x128 .f32) (x9 : Vec F S512x1024 .bf16) (x10 : Vec F S1024x512 .bf16) (x11 : Vec F S3x128x1024 .bf16) (x12 : Vec F S3x128x1024 .bf16) (x13 : Vec F S1x1024 .f32) (x14 : Vec F S1x1024 .f32) (x15 : Vec F S1024x1 .f32) (x16 : Vec F S512x512 .bf16) (x17 : Vec F S512x512 .bf16) (x23 : Vec F S8x128 .f32) (p : Vec F S1x128 .f32)
    (hA : first i → zeroRow = p) (hB : ¬first i → row0 x23 = p)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ owns (c : Thread nD τ) arg23 fullShare x23
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
            ∗ owns (c : Thread nD τ) arg18 fullShare (wideQOf x2 x6 x9 x11 x13 x17 (sumsOf x5 x8 x16 p)) ∗ owns (c : Thread nD τ) arg19 fullShare (wideKOf x3 x7 x9 x12 x14 x17 (sumsOf x5 x8 x16 p)) ∗ owns (c : Thread nD τ) arg20 fullShare (valuesOf x4 x10 x15) ∗ owns (c : Thread nD τ) arg21 fullShare (keysOf x3 x7 x17) ∗ owns (c : Thread nD τ) arg22 fullShare (gatesOf x5 x8)
            ∗ (∃ d, ⌜row0 d = nextOf x5 x8 x16 p⌝ ∗ owns (c : Thread nD τ) arg23 fullShare d)) -∗ K ⟨⟩))
      ⊢ wp frame (wpE (defs₀ (F := F)) Variants.none c none) E (cc0_fox_prep i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  by_cases hc : first i
  · obtain rfl := hA hc
    iintro ⟨H2, H3, H4, H5, H6, H7, H8, H9, H10, H11, H12, H13, H14, H15, H16, H17, H18, H19, H20, H21, H22, H23, Hk⟩
    iapply ((runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc x2 x3 x4 x5 x6 x7 x8 x9 x10 x11 x12 x13 x14 x15 x16 x17 x23).2 E K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    rw [piecesA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc x2 x3 x4 x5 x6 x7 x8 x9 x10 x11 x12 x13 x14 x15 x16 x17 x23]
    iintro ⟨H2, H3, H4, H5, H6, H7, H8, H9, H10, H11, H12, H13, H14, H15, H16, H17, ⟨%f18, H18⟩, ⟨%f19, H19⟩, ⟨%f20, H20⟩, ⟨%f21, H21⟩, ⟨%f22, H22⟩, H23⟩
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]
    · unfold owns; iexists _; isplitr
      swap; · iexact H18
      ipureintro; exact wideWhole _ _ _
    isplitl [H19]
    · unfold owns; iexists _; isplitr
      swap; · iexact H19
      ipureintro; exact wideWhole _ _ _
    isplitl [H20]
    · unfold owns; iexists _; isplitr
      swap; · iexact H20
      ipureintro; exact valuesWhole _ _ _
    isplitl [H21]
    · unfold owns; iexists _; isplitr
      swap; · iexact H21
      ipureintro; exact keysWhole _ _ _
    isplitl [H22]
    · unfold owns; iexists _; isplitr
      swap; · iexact H22
      ipureintro; exact gatesWhole _ _ _
    iexists _; isplitr
    swap
    · unfold owns; iexists _; isplitr
      swap; · iexact H23
      ipureintro; rfl
    ipureintro
    exact row0_stored _ _ _ _
  · obtain rfl := hB hc
    iintro ⟨H2, H3, H4, H5, H6, H7, H8, H9, H10, H11, H12, H13, H14, H15, H16, H17, H18, H19, H20, H21, H22, H23, Hk⟩
    iapply ((runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc x2 x3 x4 x5 x6 x7 x8 x9 x10 x11 x12 x13 x14 x15 x16 x17 x23).2 E K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    rw [piecesB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc x2 x3 x4 x5 x6 x7 x8 x9 x10 x11 x12 x13 x14 x15 x16 x17 x23]
    iintro ⟨H2, H3, H4, H5, H6, H7, H8, H9, H10, H11, H12, H13, H14, H15, H16, H17, ⟨%f18, H18⟩, ⟨%f19, H19⟩, ⟨%f20, H20⟩, ⟨%f21, H21⟩, ⟨%f22, H22⟩, H23⟩
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]
    · unfold owns; iexists _; isplitr
      swap; · iexact H18
      ipureintro; exact wideWhole _ _ _
    isplitl [H19]
    · unfold owns; iexists _; isplitr
      swap; · iexact H19
      ipureintro; exact wideWhole _ _ _
    isplitl [H20]
    · unfold owns; iexists _; isplitr
      swap; · iexact H20
      ipureintro; exact valuesWhole _ _ _
    isplitl [H21]
    · unfold owns; iexists _; isplitr
      swap; · iexact H21
      ipureintro; exact keysWhole _ _ _
    isplitl [H22]
    · unfold owns; iexists _; isplitr
      swap; · iexact H22
      ipureintro; exact gatesWhole _ _ _
    iexists _; isplitr
    swap
    · unfold owns; iexists _; isplitr
      swap; · iexact H23
      ipureintro; rfl
    ipureintro
    exact row0_stored _ _ _ _

end Cert.KeyPrepIdeal.Prep

end
-- ==== Proof.Prep.Frame.lean ====
module

public import proofs.«01_k».proof.Proof.Prep.Body
public import proofs.«01_k».proof.Proof.Gen.KeyPrepIdeal.Launch
public import Idealize.ShloMosaic.Lib.Claim

/-! The preparation call's run

The 32 grid points go through two sequences of 16 blocks of rows each. Before a point that does not start a sequence the
scratch's first row is the last running sum of the log gates of the point before. With this as the invariant the whole call runs
to an end, leaves its arguments as they were and its counters at zero, and leaves each result at the blocks written to it. -/

@[expose] public section

set_option maxRecDepth 16384

noncomputable section

namespace Cert.KeyPrepIdeal.Prep

open Cert.KeyPrepIdeal Cert.KeyPrepIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel's test holds at the points that start a sequence. -/
theorem first_iff (t : Fin cfg0.N) : first (grid0.coords t) ↔ t.val % 16 = 0 := hcond0_0 t

/-- The carried scratch, whole. -/
abbrev carried : Memref sig .tc .vmem S8x128 .f32 := Memref.whole cc0_scratch0

/-- The point at a position. -/
def pt (n : ℕ) : Fin cfg0.N := ⟨n % 32, Nat.lt_of_lt_of_eq (Nat.mod_lt _ (by decide)) N_0.symm⟩

/-- The point at a point's position is the point. -/
theorem pt_val (t : Fin cfg0.N) : pt t.val = t :=
  Fin.ext (Nat.mod_eq_of_lt (Nat.lt_of_lt_of_eq t.isLt N_0))

/-- The carried row before a position: the fill's at the start of a sequence. -/
def rowBefore (c : Dev nD) : ℕ → Vec F S1x128 .f32
  | 0 => zeroRow
  | n + 1 => if (n + 1) % 16 = 0 then zeroRow
      else nextOf (iblk m c 3 (pt n)) (iblk m c 6 (pt n)) (iblk m c 14 (pt n)) (rowBefore c n)

/-- At the start of a sequence the carried row is the fill's. -/
theorem rowBefore_start (c : Dev nD) (n : ℕ) (h : n % 16 = 0) : rowBefore m c n = zeroRow := by
  cases n with
  | zero => rfl
  | succ n => unfold rowBefore; rw [if_pos h]

/-- The scratch carries the row it should before position `n`: nothing is asked at the start of a sequence. -/
def CarriedOk (c : Dev nD) (n : ℕ) (d : Vec F S8x128 .f32) : Prop := ¬n % 16 = 0 → row0 d = rowBefore m c n

/-- The invariant before position `n`: the scratch carries its row, the generator's register is at some state. -/
def inv (c : Dev nD) (n : ℕ) : sProp 𝕄 :=
  iprop((∃ d, ⌜CarriedOk m c n d⌝ ∗ owns (c : Thread nD τ) carried fullShare d) ∗ (∃ r, prngReg c r))

/-- The running sums of the log gates at a point. -/
def sumsAt (c : Dev nD) (t : Fin cfg0.N) : FVec F S512x128 .f32 :=
  sumsOf (iblk m c 3 t) (iblk m c 6 t) (iblk m c 14 t) (rowBefore m c t.val)

/-- The block of widened queries written at a point. -/
def wideQAt (c : Dev nD) (t : Fin cfg0.N) : Vec F S512x1024 .bf16 :=
  wideQOf (iblk m c 0 t) (iblk m c 4 t) (iblk m c 7 t) (iblk m c 9 t) (iblk m c 11 t) (iblk m c 15 t) (sumsAt m c t)

/-- The block of widened keys written at a point. -/
def wideKAt (c : Dev nD) (t : Fin cfg0.N) : Vec F S512x1024 .bf16 :=
  wideKOf (iblk m c 1 t) (iblk m c 5 t) (iblk m c 7 t) (iblk m c 10 t) (iblk m c 12 t) (iblk m c 15 t) (sumsAt m c t)

/-- The block of transposed values written at a point. -/
def valuesAt (c : Dev nD) (t : Fin cfg0.N) : Vec F S1x8x1x128x512 .bf16 :=
  valuesOf (iblk m c 2 t) (iblk m c 8 t) (iblk m c 13 t)

/-- The block of normalized keys written at a point. -/
def keysAt (c : Dev nD) (t : Fin cfg0.N) : Vec F S512x512 .f32 := keysOf (iblk m c 1 t) (iblk m c 5 t) (iblk m c 15 t)

/-- The block of log gates written at a point. -/
def gatesAt (c : Dev nD) (t : Fin cfg0.N) : Vec F S512x128 .f32 := gatesOf (iblk m c 3 t) (iblk m c 6 t)

/-- What the launch hands over: the scratch at anything and the generator's register. -/
theorem start_eq (c : Dev nD) :
    (Pipeline.ΦA spec0 c : sProp 𝕄)
      = iprop(iprop((∃ d, owns (c : Thread nD τ) carried fullShare d)) ∗ (∃ r, prngReg c r)) := by
  unfold Pipeline.ΦA; rw [scopedRest0_eq]; simp only [carried, owns_whole]; try rfl

/-- What each window's buffer holds after each point: an input its block, the results the point's blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => wideQAt m c t
    | ⟨17, _⟩ => wideKAt m c t
    | ⟨18, _⟩ => valuesAt m c t
    | ⟨19, _⟩ => keysAt m c t
    | ⟨20, _⟩ => gatesAt m c t
    | ⟨_ + 21, h⟩ => absurd h (Nat.not_lt.2 (Nat.le_add_left _ _))
  Φ t := inv m c t.val
  q w := Pipeline.shareOf spec0 w
  owed _ := 0

/-- The arrays are those the call finds. -/
theorem A_eq (c : Dev nD) (w : Fin cfg0.W) : (dats m 0 c).A w = V m c (Pipeline.arrRef spec0 w) := by
  dsimp only [dats]

/-- The body leaves the block of queries as it was. -/
theorem after0 (c : Dev nD) (t : Fin cfg0.N) : (dats m 0 c).after 0 t = iblk m c 0 t := by dsimp only [dats]
/-- The body leaves the block of keys as it was. -/
theorem after1 (c : Dev nD) (t : Fin cfg0.N) : (dats m 0 c).after 1 t = iblk m c 1 t := by dsimp only [dats]
/-- The body leaves the block of values as it was. -/
theorem after2 (c : Dev nD) (t : Fin cfg0.N) : (dats m 0 c).after 2 t = iblk m c 2 t := by dsimp only [dats]
/-- The body leaves the block of gate logits as it was. -/
theorem after3 (c : Dev nD) (t : Fin cfg0.N) : (dats m 0 c).after 3 t = iblk m c 3 t := by dsimp only [dats]
/-- The body leaves the block of query gains as it was. -/
theorem after4 (c : Dev nD) (t : Fin cfg0.N) : (dats m 0 c).after 4 t = iblk m c 4 t := by dsimp only [dats]
/-- The body leaves the block of key gains as it was. -/
theorem after5 (c : Dev nD) (t : Fin cfg0.N) : (dats m 0 c).after 5 t = iblk m c 5 t := by dsimp only [dats]
/-- The body leaves the block of gate biases as it was. -/
theorem after6 (c : Dev nD) (t : Fin cfg0.N) : (dats m 0 c).after 6 t = iblk m c 6 t := by dsimp only [dats]
/-- The body leaves the block of placement as it was. -/
theorem after7 (c : Dev nD) (t : Fin cfg0.N) : (dats m 0 c).after 7 t = iblk m c 7 t := by dsimp only [dats]
/-- The body leaves the block of transposed placement as it was. -/
theorem after8 (c : Dev nD) (t : Fin cfg0.N) : (dats m 0 c).after 8 t = iblk m c 8 t := by dsimp only [dats]
/-- The body leaves the block of query slots as it was. -/
theorem after9 (c : Dev nD) (t : Fin cfg0.N) : (dats m 0 c).after 9 t = iblk m c 9 t := by dsimp only [dats]
/-- The body leaves the block of key slots as it was. -/
theorem after10 (c : Dev nD) (t : Fin cfg0.N) : (dats m 0 c).after 10 t = iblk m c 10 t := by dsimp only [dats]
/-- The body leaves the block of query ones as it was. -/
theorem after11 (c : Dev nD) (t : Fin cfg0.N) : (dats m 0 c).after 11 t = iblk m c 11 t := by dsimp only [dats]
/-- The body leaves the block of key ones as it was. -/
theorem after12 (c : Dev nD) (t : Fin cfg0.N) : (dats m 0 c).after 12 t = iblk m c 12 t := by dsimp only [dats]
/-- The body leaves the block of value ones as it was. -/
theorem after13 (c : Dev nD) (t : Fin cfg0.N) : (dats m 0 c).after 13 t = iblk m c 13 t := by dsimp only [dats]
/-- The body leaves the block of triangle as it was. -/
theorem after14 (c : Dev nD) (t : Fin cfg0.N) : (dats m 0 c).after 14 t = iblk m c 14 t := by dsimp only [dats]
/-- The body leaves the block of head sums as it was. -/
theorem after15 (c : Dev nD) (t : Fin cfg0.N) : (dats m 0 c).after 15 t = iblk m c 15 t := by dsimp only [dats]
/-- The body leaves the block of widened queries. -/
theorem after16 (c : Dev nD) (t : Fin cfg0.N) : (dats m 0 c).after 16 t = wideQAt m c t := by dsimp only [dats]
/-- The body leaves the block of widened keys. -/
theorem after17 (c : Dev nD) (t : Fin cfg0.N) : (dats m 0 c).after 17 t = wideKAt m c t := by dsimp only [dats]
/-- The body leaves the block of transposed values. -/
theorem after18 (c : Dev nD) (t : Fin cfg0.N) : (dats m 0 c).after 18 t = valuesAt m c t := by dsimp only [dats]
/-- The body leaves the block of normalized keys. -/
theorem after19 (c : Dev nD) (t : Fin cfg0.N) : (dats m 0 c).after 19 t = keysAt m c t := by dsimp only [dats]
/-- The body leaves the block of log gates. -/
theorem after20 (c : Dev nD) (t : Fin cfg0.N) : (dats m 0 c).after 20 t = gatesAt m c t := by dsimp only [dats]
/-- The body finds the block of queries. -/
theorem before0 (c : Dev nD) (t : Fin cfg0.N) (d) : (dats m 0 c).before 0 t d = iblk m c 0 t :=
  before0_0_of m (dats m 0 c) (A_eq m c 0) (after0 m c) t d
/-- The body finds the block of keys. -/
theorem before1 (c : Dev nD) (t : Fin cfg0.N) (d) : (dats m 0 c).before 1 t d = iblk m c 1 t :=
  before0_1_of m (dats m 0 c) (A_eq m c 1) (after1 m c) t d
/-- The body finds the block of values. -/
theorem before2 (c : Dev nD) (t : Fin cfg0.N) (d) : (dats m 0 c).before 2 t d = iblk m c 2 t :=
  before0_2_of m (dats m 0 c) (A_eq m c 2) (after2 m c) t d
/-- The body finds the block of gate logits. -/
theorem before3 (c : Dev nD) (t : Fin cfg0.N) (d) : (dats m 0 c).before 3 t d = iblk m c 3 t :=
  before0_3_of m (dats m 0 c) (A_eq m c 3) (after3 m c) t d
/-- The body finds the block of query gains. -/
theorem before4 (c : Dev nD) (t : Fin cfg0.N) (d) : (dats m 0 c).before 4 t d = iblk m c 4 t :=
  before0_4_of m (dats m 0 c) (A_eq m c 4) (after4 m c) t d
/-- The body finds the block of key gains. -/
theorem before5 (c : Dev nD) (t : Fin cfg0.N) (d) : (dats m 0 c).before 5 t d = iblk m c 5 t :=
  before0_5_of m (dats m 0 c) (A_eq m c 5) (after5 m c) t d
/-- The body finds the block of gate biases. -/
theorem before6 (c : Dev nD) (t : Fin cfg0.N) (d) : (dats m 0 c).before 6 t d = iblk m c 6 t :=
  before0_6_of m (dats m 0 c) (A_eq m c 6) (after6 m c) t d
/-- The body finds the block of placement. -/
theorem before7 (c : Dev nD) (t : Fin cfg0.N) (d) : (dats m 0 c).before 7 t d = iblk m c 7 t :=
  before0_7_of m (dats m 0 c) (A_eq m c 7) (after7 m c) t d
/-- The body finds the block of transposed placement. -/
theorem before8 (c : Dev nD) (t : Fin cfg0.N) (d) : (dats m 0 c).before 8 t d = iblk m c 8 t :=
  before0_8_of m (dats m 0 c) (A_eq m c 8) (after8 m c) t d
/-- The body finds the block of query slots. -/
theorem before9 (c : Dev nD) (t : Fin cfg0.N) (d) : (dats m 0 c).before 9 t d = iblk m c 9 t :=
  before0_9_of m (dats m 0 c) (A_eq m c 9) (after9 m c) t d
/-- The body finds the block of key slots. -/
theorem before10 (c : Dev nD) (t : Fin cfg0.N) (d) : (dats m 0 c).before 10 t d = iblk m c 10 t :=
  before0_10_of m (dats m 0 c) (A_eq m c 10) (after10 m c) t d
/-- The body finds the block of query ones. -/
theorem before11 (c : Dev nD) (t : Fin cfg0.N) (d) : (dats m 0 c).before 11 t d = iblk m c 11 t :=
  before0_11_of m (dats m 0 c) (A_eq m c 11) (after11 m c) t d
/-- The body finds the block of key ones. -/
theorem before12 (c : Dev nD) (t : Fin cfg0.N) (d) : (dats m 0 c).before 12 t d = iblk m c 12 t :=
  before0_12_of m (dats m 0 c) (A_eq m c 12) (after12 m c) t d
/-- The body finds the block of value ones. -/
theorem before13 (c : Dev nD) (t : Fin cfg0.N) (d) : (dats m 0 c).before 13 t d = iblk m c 13 t :=
  before0_13_of m (dats m 0 c) (A_eq m c 13) (after13 m c) t d
/-- The body finds the block of triangle. -/
theorem before14 (c : Dev nD) (t : Fin cfg0.N) (d) : (dats m 0 c).before 14 t d = iblk m c 14 t :=
  before0_14_of m (dats m 0 c) (A_eq m c 14) (after14 m c) t d
/-- The body finds the block of head sums. -/
theorem before15 (c : Dev nD) (t : Fin cfg0.N) (d) : (dats m 0 c).before 15 t d = iblk m c 15 t :=
  before0_15_of m (dats m 0 c) (A_eq m c 15) (after15 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d)))

/-- What the body returns at a point. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t))

/-- What the body leaves carried is what the next point should find. -/
theorem carried_next (c : Dev nD) (t : Fin cfg0.N) (d : Vec F S8x128 .f32)
    (h : row0 d = nextOf (iblk m c 3 t) (iblk m c 6 t) (iblk m c 14 t) (rowBefore m c t.val)) :
    CarriedOk m c (t.val + 1) d := by
  intro hn
  rw [rowBefore, if_neg hn, pt_val]
  exact h

set_option maxHeartbeats 6400000 in
/-- The body at any point keeps the invariant. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15]
  rw [show (dats m 0 c).owesAt () t.succ = (dats m 0 c).owesAt () t.castSucc from rfl,
    after0, after1, after2, after3, after4, after5, after6, after7, after8, after9, after10, after11, after12, after13, after14, after15, after16, after17, after18, after19, after20]
  rw [show (dats m 0 c).Φ t.succ = inv m c (t.val + 1) from rfl, show (dats m 0 c).Φ t.castSucc = inv m c t.val from rfl]
  unfold inv
  iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (body c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) (st0_19 t) (hstage0_19 ((cfg0.slots t 19).cast nbuf0_19)) (st0_20 t) (hstage0_20 ((cfg0.slots t 20).cast nbuf0_20)) carried (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) d (rowBefore m c t.val)
    (fun h => (rowBefore_start m c t.val ((first_iff t).mp h)).symm)
    (fun h => hd fun h0 => h ((first_iff t).mpr h0)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [HS]; · iexact HS
  iintro ⟨H0, H1, H2, H3, H4, H5, H6, H7, H8, H9, H10, H11, H12, H13, H14, H15, H16, H17, H18, H19, H20, ⟨%d', %hd', HS⟩⟩
  isplitl [HS Hg]
  · isplitl [HS]
    · iexists _; isplitr
      swap; · iexact HS
      ipureintro; exact carried_next m c t d' hd'
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The body the call's table holds is the one above. -/
theorem table_row (t : Fin cfg0.N) :
    defs₀ (F := F) .tc cfg0.body (cfg0.bodyArgs t (cfg0.slots t)) = bodyAt0 t := by
  unfold defs₀; rw [Defs.onTc_tc]

set_option maxHeartbeats 8000000 in
/-- Every point's body keeps the invariant, as the launch asks it. -/
theorem body_obligation (c : Dev nD) : BodyObligation (dats (F := F) m 0 c) (defs₀ (F := F)) Variants.none () Set.univ := fun t => by
  rw [bigSep_W0, bigSep_W0, table_row]
  exact triple_restated (sound_body m c t) rfl .rfl fun _ => .rfl

/-- Before the first point nothing is asked of the scratch. -/
theorem inv_start (c : Dev nD) : Pipeline.ΦA spec0 c ⊢ (dats m 0 c).Φ 0 := by
  rw [show (dats m 0 c).Φ 0 = inv m c 0 from rfl, start_eq]
  unfold inv
  iintro ⟨⟨%d, HS⟩, Hg⟩
  isplitl [HS]
  · iexists d; isplitr
    swap; · iexact HS
    ipureintro; intro hn; exact absurd rfl hn
  iexact Hg

/-- After the last point what the scratch holds is forgotten. -/
theorem inv_end (c : Dev nD) : (dats m 0 c).Φ (Fin.last cfg0.N) ⊢ Pipeline.ΦA spec0 c := by
  rw [show (dats m 0 c).Φ (Fin.last cfg0.N) = inv m c (Fin.last cfg0.N).val from rfl, start_eq]
  unfold inv
  iintro ⟨⟨%d, -, HS⟩, Hg⟩
  isplitl [HS]
  · iexists d; iexact HS
  iexact Hg

set_option backward.isDefEq.respectTransparency.types false in
/-- The call runs to an end with every array at what the points left in it and every counter at zero. -/
theorem run_main : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := inv_start m) (hout := inv_end m)

/-- The call leaves its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KeyPrepIdeal.Prep

end
-- ==== Proof.Prep.Meaning.lean ====
module

public import proofs.«01_k».proof.Proof.Gen.KeyPrepIdeal
public import Idealize.ShloMosaic.Lib.IdealHost
public import Idealize.ShloMosaic.Lib.Pointwise

/-!
# The normalized keys and the log gates, in formulas

A key entry is divided by the root of the mean square of its head's 64 entries and scaled. A log gate is the logarithm of the
sigmoid of a logit and its bias.
-/

@[expose] public section

set_option maxRecDepth 16384

noncomputable section

namespace Cert.PrepMath

open Cert.KeyPrepIdeal Idealize.ShloMosaic

/-- Entry `e` of a row of keys over the root of its head's mean square, scaled. -/
def normedKey (x : Fin 512 → EReal) (g : Fin 64 → EReal) (e : Fin 512) : EReal :=
  x e * Ideal.rsqrt (Ideal.div (∑ d : Fin 64, x ⟨64 * (e.val / 64) + d.val, by omega⟩ * x ⟨64 * (e.val / 64) + d.val, by omega⟩)
    (Ideal.ofBits .f32 0x42800000#32) + Ideal.ofBits .f32 0x358637BD#32) * g ⟨e.val % 64, by omega⟩

/-- The logarithm of the sigmoid. -/
def logSigmoid (z : EReal) : EReal := min z 0 - Ideal.log1p (Ideal.exp (0 - max z (-z)))

/-- Row `a` of the keys: the second quarter of the columns. -/
def keyRow (X : Vec Ideal S16384x2048 .f32) (a : Fin 16384) (e : Fin 512) : EReal := X (ix2 a ⟨512 + e.val, by omega⟩)

/-- An entry of the bias, zeros behind it. -/
def bias (b : Vec Ideal S8 .f32) (e : Fin 128) : EReal := if h : e.val < 8 then b (ix1 ⟨e.val, h⟩) else 0

/-- An entry of the normalized keys. -/
def keyEntry (X : Vec Ideal S16384x2048 .f32) (g : Vec Ideal S64 .f32) (a : Fin 16384) (e : Fin 512) : EReal :=
  normedKey (keyRow X a) (fun d => g (ix1 d)) e

/-- The normalized keys. -/
def keys (X : Vec Ideal S16384x2048 .f32) (g : Vec Ideal S64 .f32) : Vec Ideal S16384x512 .f32 := fun y => keyEntry X g (y 0) (y 1)

/-- An entry of the log gates. -/
def gateEntry (L : Vec Ideal S16384x128 .f32) (b : Vec Ideal S8 .f32) (a : Fin 16384) (e : Fin 128) : EReal :=
  logSigmoid (L (ix2 a e) + bias b e)

/-- The log gates. -/
def gates (L : Vec Ideal S16384x128 .f32) (b : Vec Ideal S8 .f32) : Vec Ideal S16384x128 .f32 := fun y => gateEntry L b (y 0) (y 1)

/-- A product with a sixty-fourth is a division by sixty-four. -/
theorem mul_inv (x : EReal) : x * Ideal.ofBits .f32 0x3C800000#32 = Ideal.div x (Ideal.ofBits .f32 0x42800000#32) := by
  rw [show Ideal.ofBits .f32 0x42800000#32 = ((64 : ℝ) : EReal) by simp [Ideal.ofBits, Ideal.ieee, -EReal.coe_mul]; norm_num,
    Ideal.div_coe (by norm_num),
    show Ideal.ofBits .f32 0x3C800000#32 = ((1 / 64 : ℝ) : EReal) by simp [Ideal.ofBits, Ideal.ieee, -EReal.coe_mul]; norm_num]

/-- A sum against the indicator of a head is the sum over the head. -/
theorem sum_head (s : Fin 512 → EReal) (n : Fin 8) : (∑ j : Fin 512, s j * (if j.val / 64 = n.val then 1 else 0))
    = ∑ d : Fin 64, s ⟨64 * n.val + d.val, by omega⟩ := by
  have h : (∑ j : Fin 512, s j * (if j.val / 64 = n.val then (1 : EReal) else 0))
      = ∑ p : Fin 8 × Fin 64, s (finProdFinEquiv p) * (if (finProdFinEquiv p : Fin (8 * 64)).val / 64 = n.val then 1 else 0) :=
    (Equiv.sum_comp (finProdFinEquiv : Fin 8 × Fin 64 ≃ Fin (8 * 64)) fun j : Fin 512 => s j * (if j.val / 64 = n.val then (1 : EReal) else 0)).symm
  rw [h, Fintype.sum_prod_type, Finset.sum_eq_single n]
  · refine Finset.sum_congr rfl fun d _ => ?_
    have hd := d.isLt
    have hv : (finProdFinEquiv (n, d) : Fin (8 * 64)).val = d.val + 64 * n.val := rfl
    rw [if_pos (by rw [hv]; omega), mul_one]
    exact congrArg s (Fin.ext (by show d.val + 64 * n.val = 64 * n.val + d.val; omega))
  · intro b _ hb
    refine Finset.sum_eq_zero fun d _ => ?_
    have hd := d.isLt
    have hv : (finProdFinEquiv (b, d) : Fin (8 * 64)).val = d.val + 64 * b.val := rfl
    have hne : b.val ≠ n.val := fun e => hb (Fin.ext e)
    rw [if_neg (by rw [hv]; omega), mul_zero]
  · exact fun hn => absurd (Finset.mem_univ n) hn

/-- The square of a real number less itself is zero. -/
theorem square_sub {x : EReal} (h : x ≠ ⊤ ∧ x ≠ ⊥) : x * x - x * x = 0 := by
  induction x with
  | coe x => rw [← EReal.coe_mul, ← EReal.coe_sub, sub_self, EReal.coe_zero]
  | top => exact absurd rfl h.1
  | bot => exact absurd rfl h.2

/-- The logarithm of the sigmoid as the negated softplus of the negation. -/
theorem softplus (z : EReal) : -(max (-z) 0 + Ideal.log1p (Ideal.exp (-(max (-z - 0) (-(-z - 0)))))) = logSigmoid z := by
  unfold logSigmoid
  rw [sub_zero, neg_neg, zero_sub, max_comm (-z) z]
  have hb : Ideal.log1p (Ideal.exp (-max z (-z))) ≠ ⊥ ∧ Ideal.log1p (Ideal.exp (-max z (-z))) ≠ ⊤ := by
    have hx : ∃ r : ℝ, 0 ≤ r ∧ Ideal.exp (-max z (-z)) = (r : EReal) := by
      induction z with
      | coe x =>
        refine ⟨Real.exp (-max x (-x)), (Real.exp_pos _).le, ?_⟩
        rw [← EReal.coe_neg, show max (x : EReal) ((-x : ℝ) : EReal) = ((max x (-x) : ℝ) : EReal) from (EReal.coe_strictMono.monotone.map_max).symm, ← EReal.coe_neg]
        rfl
      | top => exact ⟨0, le_refl _, by rw [EReal.neg_top, max_eq_left bot_le, EReal.neg_top]; rfl⟩
      | bot => exact ⟨0, le_refl _, by rw [EReal.neg_bot, max_eq_right bot_le, EReal.neg_top]; rfl⟩
    obtain ⟨r, hr, e⟩ := hx
    have hp : ¬ (1 + r ≤ 0) := by linarith
    have hl : Ideal.log1p (r : EReal) = ((Real.log (1 + r) : ℝ) : EReal) := by
      unfold Ideal.log1p
      rw [← EReal.coe_one, ← EReal.coe_add]
      show (if 1 + r ≤ 0 then (⊥ : EReal) else _) = _
      rw [if_neg hp]
    rw [e, hl]
    exact ⟨EReal.coe_ne_bot _, EReal.coe_ne_top _⟩
  rw [EReal.neg_add (Or.inr hb.2) (Or.inr hb.1)]
  congr 1
  induction z with
  | coe x =>
    rw [← EReal.coe_neg, ← EReal.coe_zero, ← EReal.coe_strictMono.monotone.map_max, ← EReal.coe_strictMono.monotone.map_min, ← EReal.coe_neg]
    congr 1
    rcases le_total x 0 with h | h
    · rw [min_eq_left h, max_eq_left (by linarith), neg_neg]
    · rw [min_eq_right h, max_eq_right (by linarith), neg_zero]
  | top => simp
  | bot => simp

end Cert.PrepMath

end
-- ==== Proof.Prep.Blocks.lean ====
module

public import proofs.«01_k».proof.Proof.Prep.Values
public import proofs.«01_k».proof.Proof.Prep.Meaning

/-!
# The blocks of normalized keys and log gates

What a grid point reads, and the entries of the two blocks it computes.
-/

@[expose] public section

set_option maxRecDepth 16384

noncomputable section

namespace Cert.KeyPrepIdeal.Prep

open Cert.KeyPrepIdeal Cert.KeyPrepIdeal.Gen Idealize.ShloMosaic Idealize.ShloMosaic.TcCoe Idealize.SL.Sem
open Cert.PrepMath

/-! ## The windows' places -/

/-- A point reads its rows of the second quarter of the columns. -/
theorem place_1 : ∀ t : Fin grid0.N, win0_1.index t 0 = t.val ∧ win0_1.index t 1 = 1 := by decide +kernel
/-- A point reads its rows of the logits. -/
theorem place_3 : ∀ t : Fin grid0.N, win0_3.index t 0 = t.val ∧ win0_3.index t 1 = 0 := by decide +kernel
/-- The keys' scale is one block. -/
theorem place_5 : ∀ t : Fin grid0.N, win0_5.index t 0 = 0 ∧ win0_5.index t 1 = 0 := by decide +kernel
/-- The bias is one block. -/
theorem place_6 : ∀ t : Fin grid0.N, win0_6.index t 0 = 0 ∧ win0_6.index t 1 = 0 := by decide +kernel
/-- The indicator of equal heads is one block. -/
theorem place_15 : ∀ t : Fin grid0.N, win0_15.index t 0 = 0 ∧ win0_15.index t 1 = 0 := by decide +kernel
/-- A point writes its rows of the keys. -/
theorem place_19 : ∀ t : Fin grid0.N, win0_19.index t 0 = t.val ∧ win0_19.index t 1 = 0 := by decide +kernel
/-- A point writes its rows of the log gates. -/
theorem place_20 : ∀ t : Fin grid0.N, win0_20.index t 0 = t.val ∧ win0_20.index t 1 = 0 := by decide +kernel

variable (m : (ℓ : Loc nD τ sig) → Buf (Elt Ideal) ℓ) (c : Dev nD) (t : Fin cfg0.N)

/-- The projected columns. -/
abbrev aX : Vec Ideal S16384x2048 .f32 := m ((c : Thread nD τ).loc main_arg0)
/-- The gates' logits. -/
abbrev aL : Vec Ideal S16384x128 .f32 := m ((c : Thread nD τ).loc main_arg1)
/-- The keys' scale. -/
abbrev aG : Vec Ideal S64 .f32 := m ((c : Thread nD τ).loc main_arg3)
/-- The gates' bias. -/
abbrev aB : Vec Ideal S8 .f32 := m ((c : Thread nD τ).loc main_arg4)

/-- A point's number is below 32. -/
theorem t_lt : t.val < 32 := Nat.lt_of_lt_of_eq t.isLt N_0

/-- Row `r` of a point's block, in the array. -/
def rowOf (r : Fin 512) : Fin 16384 := ⟨512 * t.val + r.val, by have := t_lt t; omega⟩

/-! ## What the host prepares -/

/-- The scale, once for each head, as one row. -/
def scales (g : Vec Ideal S64 .f32) : Vec Ideal S1x512 .f32 :=
  shapeCast S1x512 (shapeCast S512 (broadcastInDim S8x64 ![0, 1] bcast_S1x64_S8x64_0_1 (shapeCast S1x64 g shapeCasts_S64_S1x64)) shapeCasts_S8x64_S512) shapeCasts_S512_S1x512

/-- The bias, zeros behind it, as one row. -/
def biases (b : Vec Ideal S8 .f32) : Vec Ideal S1x128 .f32 :=
  shapeCast S1x128 (concatenate S128 0 [⟨S0, broadcastInDim S0 ![] bcast_S_S0 (constant (F := Ideal) S_ .f32 0x00000000#32 : Vec Ideal S_ .f32)⟩,
    ⟨S8, b⟩, ⟨S120, broadcastInDim S120 ![] bcast_S_S120 (constant (F := Ideal) S_ .f32 0x00000000#32 : Vec Ideal S_ .f32)⟩] concatenates_S0_S8_S120_S128_d0) shapeCasts_S128_S1x128

/-- The head of each column. -/
def heads : IVec S512 32 := shapeCast S512 (iotaInDim S8x64 32 0) shapeCasts_S8x64_S512

/-- The indicator of equal heads. -/
def indicator : Vec Ideal S512x512 .bf16 :=
  uitofp (F := Ideal) .bf16 (cmpi .eq (broadcastInDim S512x512 ![0, 1] bcast_S512x1_S512x512_0_1 (broadcastInDim S512x1 ![0] bcast_S512_S512x1_0 heads))
    (broadcastInDim S512x512 ![0, 1] bcast_S1x512_S512x512_0_1 (broadcastInDim S1x512 ![1] bcast_S512_S1x512_1 heads)))

set_option maxHeartbeats 2000000 in
/-- The scale the call reads. -/
theorem V_scale : (V m c main_v92 : Vec Ideal S1x512 .f32) = scales (aG m c) := by
  show StableHlo.after hostOps0 (fun b => m (c, b)) main_v92 = _
  simp only [hostOps0]
  after_results_simp
  rfl

set_option maxHeartbeats 2000000 in
/-- The bias the call reads. -/
theorem V_bias : (V m c main_v84 : Vec Ideal S1x128 .f32) = biases (aB m c) := by
  show StableHlo.after hostOps0 (fun b => m (c, b)) main_v84 = _
  simp only [hostOps0]
  after_results_simp
  rfl

set_option maxHeartbeats 2000000 in
/-- The indicator the call reads. -/
theorem V_indicator : (V m c main_v80 : Vec Ideal S512x512 .bf16) = indicator := by
  show StableHlo.after hostOps0 (fun b => m (c, b)) main_v80 = _
  simp only [hostOps0]
  after_results_simp
  rfl

/-- An entry of the scale's row. -/
theorem scales_at (g : Vec Ideal S64 .f32) (e : Fin 512) : scales g (ix2 0 e) = g (ix1 ⟨e.val % 64, by omega⟩) := by
  unfold scales
  pointwise

/-- An entry of the bias's row. -/
theorem biases_at (b : Vec Ideal S8 .f32) (e : Fin 128) : biases b (ix2 0 e) = bias b e := by
  unfold biases bias
  pointwise
  rw [dif_neg (by omega)]

/-- A column's head is its number over 64. -/
theorem heads_at (e : Fin 512) : heads (ix1 e) = BitVec.ofNat 32 (e.val / 64) := by
  unfold heads
  pointwise

/-- An entry of the indicator. -/
theorem indicator_at (j e : Fin 512) : indicator (ix2 j e) = if j.val / 64 = e.val / 64 then (1 : EReal) else 0 := by
  have h : indicator (ix2 j e) = FloatOps.uitofp (F := Ideal) .bf16 (IntOp.cmpi .eq (heads (ix1 j)) (heads (ix1 e))) := by
    unfold indicator
    generalize heads = h
    pointwise
  rw [h, heads_at, heads_at]
  have hj := j.isLt
  have he := e.isLt
  by_cases hc : j.val / 64 = e.val / 64
  · rw [if_pos hc, hc]
    show (((IntOp.cmpi .eq (BitVec.ofNat 32 (e.val / 64)) (BitVec.ofNat 32 (e.val / 64))).toNat : ℝ) : EReal) = 1
    simp [IntOp.cmpi]
  · rw [if_neg hc]
    have hne : BitVec.ofNat 32 (j.val / 64) ≠ BitVec.ofNat 32 (e.val / 64) := fun hb => hc (by
      have := congrArg BitVec.toNat hb
      simp only [BitVec.toNat_ofNat] at this
      omega)
    show (((IntOp.cmpi .eq (BitVec.ofNat 32 (j.val / 64)) (BitVec.ofNat 32 (e.val / 64))).toNat : ℝ) : EReal) = 0
    simp [IntOp.cmpi, hne]

/-! ## What a point reads -/

/-- A key entry a point reads. -/
theorem blk_1 (r e : Fin 512) : (iblk m c 1 t : Vec Ideal S512x512 .f32) (ix2 r e) = keyRow (aX m c) (rowOf t r) e := by
  have hp := place_1 t
  unfold iblk keyRow
  show (V m c main_arg0 : Vec Ideal S16384x2048 .f32) _ = aX m c _
  rw [V_main_arg0]
  congr 1
  funext ax
  apply Fin.ext
  match ax with
  | ⟨0, _⟩ => show win0_1.index t 0 * 512 + 1 * r.val = 512 * t.val + r.val; rw [hp.1]; omega
  | ⟨1, _⟩ => show win0_1.index t 1 * 512 + 1 * e.val = 512 + e.val; rw [hp.2]; omega

/-- A logit a point reads. -/
theorem blk_3 (r : Fin 512) (e : Fin 128) : (iblk m c 3 t : Vec Ideal S512x128 .f32) (ix2 r e) = aL m c (ix2 (rowOf t r) e) := by
  have hp := place_3 t
  unfold iblk
  show (V m c main_arg1 : Vec Ideal S16384x128 .f32) _ = aL m c _
  rw [V_main_arg1]
  congr 1
  funext ax
  apply Fin.ext
  match ax with
  | ⟨0, _⟩ => show win0_3.index t 0 * 512 + 1 * r.val = 512 * t.val + r.val; rw [hp.1]; omega
  | ⟨1, _⟩ => show win0_3.index t 1 * 128 + 1 * e.val = e.val; rw [hp.2]; omega

/-- An entry of the scale a point reads. -/
theorem blk_5 (e : Fin 512) : (iblk m c 5 t : Vec Ideal S1x512 .f32) (ix2 0 e) = aG m c (ix1 ⟨e.val % 64, by omega⟩) := by
  have hp := place_5 t
  unfold iblk
  rw [← scales_at (aG m c), ← V_scale]
  show (V m c main_v92 : Vec Ideal S1x512 .f32) _ = V m c main_v92 _
  congr 1
  funext ax
  apply Fin.ext
  match ax with
  | ⟨0, _⟩ => show win0_5.index t 0 * 1 + 1 * 0 = 0; rw [hp.1]
  | ⟨1, _⟩ => show win0_5.index t 1 * 512 + 1 * e.val = e.val; rw [hp.2]; omega

/-- An entry of the bias a point reads. -/
theorem blk_6 (e : Fin 128) : (iblk m c 6 t : Vec Ideal S1x128 .f32) (ix2 0 e) = bias (aB m c) e := by
  have hp := place_6 t
  unfold iblk
  rw [← biases_at (aB m c), ← V_bias]
  show (V m c main_v84 : Vec Ideal S1x128 .f32) _ = V m c main_v84 _
  congr 1
  funext ax
  apply Fin.ext
  match ax with
  | ⟨0, _⟩ => show win0_6.index t 0 * 1 + 1 * 0 = 0; rw [hp.1]
  | ⟨1, _⟩ => show win0_6.index t 1 * 128 + 1 * e.val = e.val; rw [hp.2]; omega

/-- An entry of the indicator a point reads. -/
theorem blk_15 (j e : Fin 512) : (iblk m c 15 t : Vec Ideal S512x512 .bf16) (ix2 j e) = if j.val / 64 = e.val / 64 then (1 : EReal) else 0 := by
  have hp := place_15 t
  unfold iblk
  rw [← indicator_at, ← V_indicator m c]
  show (V m c main_v80 : Vec Ideal S512x512 .bf16) _ = V m c main_v80 _
  congr 1
  funext ax
  apply Fin.ext
  match ax with
  | ⟨0, _⟩ => show win0_15.index t 0 * 512 + 1 * j.val = j.val; rw [hp.1]; omega
  | ⟨1, _⟩ => show win0_15.index t 1 * 512 + 1 * e.val = e.val; rw [hp.2]; omega

/-! ## What a point computes -/

/-- The sum of a head's squares, in two parts. -/
theorem squares_at (w : Vec Ideal S512x512 .bf16) (x : Vec Ideal S512x512 .f32) (r e : Fin 512) :
    k0_pay5 w x (ix2 r e) = (∑ j : Fin 512, x (ix2 r j) * x (ix2 r j) * w (ix2 j e))
      + ∑ j : Fin 512, (x (ix2 r j) * x (ix2 r j) - x (ix2 r j) * x (ix2 r j)) * w (ix2 j e) := by
  unfold k0_pay5 k0_pay2
  pointwise

/-- An entry of the scaled keys. -/
theorem scaled_at (x : Vec Ideal S512x512 .f32) (g : Vec Ideal S1x512 .f32) (s : FVec Ideal S512x512 .f32) (r e : Fin 512) :
    k0_pay6 x (k0_pay4 g) s (Scalar.ofBits .f32 0x3C800000#32) (ix2 r e)
      = x (ix2 r e) * Ideal.rsqrt (s (ix2 r e) * Ideal.ofBits .f32 0x3C800000#32 + Ideal.ofBits .f32 0x358637BD#32) * g (ix2 0 e) := by
  unfold k0_pay6 k0_pay4
  pointwise

/-- An entry of a block of normalized keys: real keys square to real numbers, and the second part of the sum is zero. -/
theorem keysOf_at (h : ∀ a e, keyRow (aX m c) a e ≠ ⊤ ∧ keyRow (aX m c) a e ≠ ⊥) (r e : Fin 512) :
    keysOf (iblk m c 1 t) (iblk m c 5 t) (iblk m c 15 t) (ix2 r e) = keyEntry (aX m c) (aG m c) (rowOf t r) e := by
  have he := e.isLt
  unfold keysOf
  rw [scaled_at, squares_at, blk_5]
  simp only [blk_1, blk_15]
  have h2 : (∑ j : Fin 512, (keyRow (aX m c) (rowOf t r) j * keyRow (aX m c) (rowOf t r) j - keyRow (aX m c) (rowOf t r) j * keyRow (aX m c) (rowOf t r) j)
      * (if j.val / 64 = e.val / 64 then (1 : EReal) else 0)) = 0 :=
    Finset.sum_eq_zero fun j _ => by rw [square_sub (h _ _), zero_mul]
  rw [h2, add_zero, mul_inv, sum_head (fun j => keyRow (aX m c) (rowOf t r) j * keyRow (aX m c) (rowOf t r) j) ⟨e.val / 64, by omega⟩]
  rfl

/-- An entry of a block of log gates. -/
theorem gatesOf_at (r : Fin 512) (e : Fin 128) : gatesOf (iblk m c 3 t) (iblk m c 6 t) (ix2 r e) = gateEntry (aL m c) (aB m c) (rowOf t r) e := by
  have h : ∀ (x : Vec Ideal S512x128 .f32) (b : Vec Ideal S1x128 .f32), k0_pay7 x b (ix2 r e) = logSigmoid (x (ix2 r e) + b (ix2 0 e)) := fun x b => by
    unfold k0_pay7 logSigmoid
    pointwise
    rfl
  unfold gatesOf gateEntry
  rw [h, blk_3, blk_6]

end Cert.KeyPrepIdeal.Prep

end
-- ==== Proof.Prep.Results.lean ====
module

public import proofs.«01_k».proof.Proof.Prep.Frame
public import proofs.«01_k».proof.Proof.Prep.Blocks

/-!
# The normalized keys and the log gates after the call

The blocks written cover the two arrays. The run ends with both.
-/

@[expose] public section

set_option maxRecDepth 16384

noncomputable section

namespace Cert.KeyPrepIdeal.Prep

open Cert.KeyPrepIdeal Cert.KeyPrepIdeal.Gen Idealize.ShloMosaic Idealize.ShloMosaic.TcCoe Idealize.SL.Sem
open Idealize.ShloMosaic.Pipeline (Dat)
open Cert.PrepMath

variable (m : (ℓ : Loc nD τ sig) → Buf (Elt Ideal) ℓ) (ρ : Dev nD → PrngReg) (c : Dev nD) (t : Fin cfg0.N)

/-- A point's write-back is its block of the keys. -/
theorem flushed_keys (h : ∀ a e, keyRow (aX m c) a e ≠ ⊤ ∧ keyRow (aX m c) a e ≠ ⊥) :
    (dats m 0 c).flushed 19 t = ((cfg0.win 19).blk t).view.read (Elt Ideal) (keys (aX m c) (aG m c)) := by
  show (cfg0.win 19).cut (grid0.coords t) ((dats m 0 c).after 19 t) = _
  rw [after19]
  have hp := place_19 t
  funext y
  change S512x512.Idx at y
  idx_vars y
  refine (keysOf_at m c t h y0 y1).trans ?_
  show keys _ _ (ix2 _ _) = keys _ _ _
  congr 1
  funext ax
  apply Fin.ext
  match ax with
  | ⟨0, _⟩ => show 512 * t.val + y0.val = win0_19.index t 0 * 512 + 1 * y0.val; rw [hp.1]; omega
  | ⟨1, _⟩ => show y1.val = win0_19.index t 1 * 512 + 1 * y1.val; rw [hp.2]; omega

/-- The blocks cover the keys. -/
theorem cover_keys (y : S16384x512.Idx) : ∃ t : Fin cfg0.N, (cfg0.win 19).flush t = true ∧ y ∈ ((cfg0.win 19).blk t).view.set := by
  have h0 : (y 0).val < 16384 := (y 0).isLt
  have h1 : (y 1).val < 512 := (y 1).isLt
  let t : Fin grid0.N := ⟨(y 0).val / 512, Nat.lt_of_lt_of_eq (by omega) N_0.symm⟩
  have hp := place_19 t
  have ht : t.val = (y 0).val / 512 := rfl
  refine ⟨t, flush0_19 t, ?_⟩
  show y ∈ ((View.whole main_v93_3).slice (win0_19.rect t)).set
  rw [View.set_slice_whole, Rect.mem_set_unit]
  intro a
  match a with
  | ⟨0, _⟩ =>
    show win0_19.index t 0 * 512 ≤ (y 0).val ∧ (y 0).val < win0_19.index t 0 * 512 + 512
    rw [hp.1, ht]; omega
  | ⟨1, _⟩ =>
    show win0_19.index t 1 * 512 ≤ (y 1).val ∧ (y 1).val < win0_19.index t 1 * 512 + 512
    rw [hp.2]; omega

/-- The call's keys are the normalized keys. -/
theorem keys_eq (h : ∀ a e, keyRow (aX m c) a e ≠ ⊤ ∧ keyRow (aX m c) a e ≠ ⊥) :
    (dats m 0 c).arrAt 19 cfg0.N = keys (aX m c) (aG m c) :=
  (dats m 0 c).arrAt_eq_of_cover 19 (keys (aX m c) (aG m c)) (fun t _ => flushed_keys m c t h) cover_keys

/-- A point's write-back is its block of the log gates. -/
theorem flushed_gates : (dats m 0 c).flushed 20 t = ((cfg0.win 20).blk t).view.read (Elt Ideal) (gates (aL m c) (aB m c)) := by
  show (cfg0.win 20).cut (grid0.coords t) ((dats m 0 c).after 20 t) = _
  rw [after20]
  have hp := place_20 t
  funext y
  change S512x128.Idx at y
  idx_vars y
  refine (gatesOf_at m c t y0 y1).trans ?_
  show gates _ _ (ix2 _ _) = gates _ _ _
  congr 1
  funext ax
  apply Fin.ext
  match ax with
  | ⟨0, _⟩ => show 512 * t.val + y0.val = win0_20.index t 0 * 512 + 1 * y0.val; rw [hp.1]; omega
  | ⟨1, _⟩ => show y1.val = win0_20.index t 1 * 128 + 1 * y1.val; rw [hp.2]; omega

/-- The blocks cover the log gates. -/
theorem cover_gates (y : S16384x128.Idx) : ∃ t : Fin cfg0.N, (cfg0.win 20).flush t = true ∧ y ∈ ((cfg0.win 20).blk t).view.set := by
  have h0 : (y 0).val < 16384 := (y 0).isLt
  have h1 : (y 1).val < 128 := (y 1).isLt
  let t : Fin grid0.N := ⟨(y 0).val / 512, Nat.lt_of_lt_of_eq (by omega) N_0.symm⟩
  have hp := place_20 t
  have ht : t.val = (y 0).val / 512 := rfl
  refine ⟨t, flush0_20 t, ?_⟩
  show y ∈ ((View.whole main_v93_4).slice (win0_20.rect t)).set
  rw [View.set_slice_whole, Rect.mem_set_unit]
  intro a
  match a with
  | ⟨0, _⟩ =>
    show win0_20.index t 0 * 512 ≤ (y 0).val ∧ (y 0).val < win0_20.index t 0 * 512 + 512
    rw [hp.1, ht]; omega
  | ⟨1, _⟩ =>
    show win0_20.index t 1 * 128 ≤ (y 1).val ∧ (y 1).val < win0_20.index t 1 * 128 + 128
    rw [hp.2]; omega

/-- The call's log gates are the log gates. -/
theorem gates_eq : (dats m 0 c).arrAt 20 cfg0.N = gates (aL m c) (aB m c) :=
  (dats m 0 c).arrAt_eq_of_cover 20 (gates (aL m c) (aB m c)) (fun t _ => flushed_gates m c t) cover_gates

/-- The call ends with the keys, the log gates and its arguments. -/
theorem run_results (h : ∀ c : Dev nD, ∀ a e, keyRow (aX m c) a e ≠ ⊤ ∧ keyRow (aX m c) a e ≠ ⊥) :
    θ_run defs (onTc (τ := τ) (main (F := Ideal))) ⟨m, fun _ => 0, ρ⟩ (fun r => ∀ c : Dev nD,
      r.2.mem ((c.tc : Thread nD τ).loc main_v93_3) = keys (aX m c) (aG m c)
      ∧ r.2.mem ((c.tc : Thread nD τ).loc main_v93_4) = gates (aL m c) (aB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ hr c => ⟨((hr.1.1 c).1 19).trans (keys_eq m c (h c)), ((hr.1.1 c).1 20).trans (gates_eq m c), hr.2.1 c⟩)
    (θ_run_and (run_main m ρ) (frame m ρ))

end Cert.KeyPrepIdeal.Prep

end
-- ==== Proof.Prep.Ref.lean ====
module

public import proofs.«01_k».proof.Proof.Prep.Meaning
public import proofs.«01_k».proof.Proof.Gen.KeyPrepRefIdeal.Run

/-!
# The reference of the normalized keys and the log gates

The reference's composed terms, read at an index.
-/

@[expose] public section

set_option maxRecDepth 16384

noncomputable section

namespace Cert.PrepRef

open Cert.KeyPrepRefIdeal Cert.KeyPrepRefIdeal.Gen Idealize.ShloMosaic Idealize.ShloMosaic.TcCoe Idealize.SL.Sem
open Cert.PrepMath

variable (X : Vec Ideal S16384x2048 .f32) (L : Vec Ideal S16384x128 .f32) (g : Vec Ideal S64 .f32) (b : Vec Ideal S8 .f32)

/-- The keys, head by head. -/
def heads (X : Vec Ideal S16384x2048 .f32) : FVec Ideal S16384x8x64 .f32 :=
  shapeCast S16384x8x64 (extractStridedSlice S16384x512 ![0, 512] X slices_S16384x2048_S16384x512_0_512) shapeCasts_S16384x512_S16384x8x64

/-- The inverse root of each head's mean square. -/
def roots (k : FVec Ideal S16384x8x64 .f32) : FVec Ideal S16384x8x1 .f32 :=
  Host.rsqrt (addf (Host.divf (broadcastInDim S16384x8x1 ![0, 1] bcast_S16384x8_S16384x8x1_0_1 (Host.reduceAdd (mulf k k) (constant S_ .f32 0x00000000#32) reducesTo_S16384x8x64_S16384x8_d2 h_S_))
    (broadcastInDim S16384x8x1 ![] bcast_S_S16384x8x1 (constant S_ .f32 0x42800000#32))) (broadcastInDim S16384x8x1 ![] bcast_S_S16384x8x1 (constant S_ .f32 0x358637BD#32)))

/-- The reference's term for the keys. -/
def keysTerm (X : Vec Ideal S16384x2048 .f32) (g : Vec Ideal S64 .f32) : FVec Ideal S16384x512 .f32 :=
  shapeCast S16384x512 (mulf (mulf (heads X) (broadcastInDim S16384x8x64 ![0, 1, 2] bcast_S16384x8x1_S16384x8x64_0_1_2 (roots (heads X))))
    (broadcastInDim S16384x8x64 ![0, 1, 2] bcast_S1x1x64_S16384x8x64_0_1_2 (broadcastInDim S1x1x64 ![2] bcast_S64_S1x1x64_2 g))) shapeCasts_S16384x8x64_S16384x512

/-- A key entry of a head. -/
theorem heads_at (a : Fin 16384) (n : Fin 8) (d : Fin 64) : heads X (ix3 a n d) = keyRow X a ⟨64 * n.val + d.val, by omega⟩ := by
  unfold heads keyRow
  pointwise
  exact congrArg (fun k => X (ix2 a k)) (Fin.ext (by show 512 + (n.val * 64 + d.val) = 512 + (64 * n.val + d.val); omega))

/-- The inverse root of a head's mean square. -/
theorem roots_at (k : FVec Ideal S16384x8x64 .f32) (a : Fin 16384) (n : Fin 8) : roots k (ix3 a n 0)
    = Ideal.rsqrt (Ideal.div (∑ d : Fin 64, k (ix3 a n d) * k (ix3 a n d)) (Ideal.ofBits .f32 0x42800000#32) + Ideal.ofBits .f32 0x358637BD#32) := by
  unfold roots
  pointwise

/-- The reference's term for the keys is the formula's. -/
theorem keys_eq : keysTerm X g = keys X g := by
  funext y
  change S16384x512.Idx at y
  idx_vars y
  show _ = keyEntry X g y0 y1
  have h1 := y1.isLt
  have h : keysTerm X g (ix2 y0 y1) = heads X (ix3 y0 ⟨y1.val / 64, by omega⟩ ⟨y1.val % 64, by omega⟩)
      * roots (heads X) (ix3 y0 ⟨y1.val / 64, by omega⟩ 0) * g (ix1 ⟨y1.val % 64, by omega⟩) := by
    unfold keysTerm
    generalize roots (heads X) = r
    generalize heads X = k
    pointwise
  rw [h, roots_at]
  simp only [heads_at]
  unfold keyEntry normedKey
  congr 2
  exact congrArg (keyRow X y0) (Fin.ext (by show 64 * (y1.val / 64) + y1.val % 64 = y1.val; omega))

/-- The word zero as a number is zero. -/
theorem zero_word : (FloatOps.sitofp .f32 (0#32 : BitVec 32) : Ideal .f32) = 0 := by
  show ((((0#32 : BitVec 32).toInt : ℝ)) : EReal) = 0
  simp

/-- The logits with the bias. -/
def logits (L : Vec Ideal S16384x128 .f32) (b : Vec Ideal S8 .f32) : FVec Ideal S16384x128 .f32 :=
  addf L (broadcastInDim S16384x128 ![0, 1] bcast_S1x128_S16384x128_0_1 (broadcastInDim S1x128 ![1] bcast_S128_S1x128_1
    (pad S128 ![0] ![120] ![0] b (sitofp .f32 (constantI S_ 32 0#32)) pads_S8_S128_01200 h_S_)))

/-- Zeros. -/
def zeros : FVec Ideal S16384x128 .f32 := broadcastInDim S16384x128 ![] bcast_S_S16384x128 (constant S_ .f32 0x00000000#32)

/-- The logarithm of the sigmoid of each entry, as the reference spells it. -/
def gatesOf (z : FVec Ideal S16384x128 .f32) : FVec Ideal S16384x128 .f32 :=
  Host.negf (select (cmpf .une (subf (Host.negf z) zeros) (subf (Host.negf z) zeros)) (addf (Host.negf z) zeros)
    (addf (maximumf (Host.negf z) zeros) (Host.log1p (Host.exp (Host.negf (Host.absf (subf (Host.negf z) zeros)))))))

/-- The reference's term for the log gates. -/
def gatesTerm (L : Vec Ideal S16384x128 .f32) (b : Vec Ideal S8 .f32) : FVec Ideal S16384x128 .f32 := gatesOf (logits L b)

/-- A logit with its bias. -/
theorem logits_at (a : Fin 16384) (e : Fin 128) : logits L b (ix2 a e) = L (ix2 a e) + bias b e := by
  unfold logits bias
  pointwise
  rw [zero_word]

/-- An entry of the zeros. -/
theorem zeros_at (y : S16384x128.Idx) : zeros y = 0 := by
  unfold zeros
  idx_vars y
  pointwise

/-- An entry of the log gates. -/
theorem gatesOf_at (z : FVec Ideal S16384x128 .f32) (y : S16384x128.Idx) : gatesOf z y = logSigmoid (z y) := by
  have hc : Ideal.cmp .une (-(z y) - zeros y) (-(z y) - zeros y) = 0#1 := by simp [Ideal.cmp]
  have h : gatesOf z y = -(if Ideal.cmp .une (-(z y) - zeros y) (-(z y) - zeros y) = 1#1 then -(z y) + zeros y
      else max (-(z y)) (zeros y) + Ideal.log1p (Ideal.exp (-(max (-(z y) - zeros y) (-(-(z y) - zeros y)))))) := rfl
  rw [h, hc, zeros_at, if_neg (by decide)]
  exact softplus (z y)

/-- The reference's term for the log gates is the formula's. -/
theorem gates_eq : gatesTerm L b = gates L b := by
  funext y
  change S16384x128.Idx at y
  idx_vars y
  unfold gatesTerm
  rw [gatesOf_at, logits_at]
  rfl

end Cert.PrepRef

end
-- ==== Proof.Prep.Pre.lean ====
module

public import proofs.«01_k».proof.Proof.Gen.Pre_finite_keys
public import proofs.«01_k».proof.Proof.Attn.Equation
public import proofs.«01_k».proof.Proof.Prep.Meaning
public import Idealize.ShloMosaic.Lib.ReduceAll

/-!
# The finite keys

What the precondition of the normalized keys says of the projected array: every key is a real number.
-/

@[expose] public section

set_option maxRecDepth 16384

noncomputable section

namespace Cert.PrepPre

open Cert.Pre_finite_keys Cert.Pre_finite_keys.Gen Idealize.ShloMosaic
open Cert.PrepMath

/-- A scalar array has one index. -/
instance : Subsingleton S_.Idx := ⟨fun a b => funext fun i => i.elim0⟩

/-- Under the precondition every key is a real number. -/
theorem read (X : FVec Ideal S16384x2048 .f32) (L : FVec Ideal S16384x128 .f32) (g k : FVec Ideal S64 .f32) (b : FVec Ideal S8 .f32)
    (h : fn (F := Ideal) X L g k b ix0 = 1#1) (a : Fin 16384) (e : Fin 512) : keyRow X a e ≠ ⊤ ∧ keyRow X a e ≠ ⊥ := by
  dsimp only [fn] at h
  have e1 := Host.reduce_andi_all _ _ _ _ _ h (ix2 a e)
  have e2 : extractStridedSlice S16384x512 ![0, 512] X Facts.slices_S16384x2048_S16384x512_0_512 (ix2 a e) = keyRow X a e := by
    unfold keyRow
    pointwise
  rw [← e2]
  exact Cert.AttnPre.real_of_abs e1

end Cert.PrepPre

end
-- ==== Proof.lean ====
/- The proof of the certificate's claim. The kernel's run ends with its result array at the blocks its grid points write; those
   blocks are the causal softmax attention of the argument arrays (Proof/Attn/Tile.lean), and so is the reference's term
   (Proof/Attn/Equation.lean). The feed-forward call's two result arrays are the layer's output and its last projected rows
   (Proof/Ffn/Results.lean), and so are the two terms of its reference (Proof/Ffn/Ref.lean). Each projection and the last norm has a
   module for its call and one for its reference in Proof/Proj: both end with the arrays of one formula. The preparation call's keys and
   log gates are in Proof/Prep: the blocks its grid points write (Results.lean) and its reference's terms (Ref.lean). -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_scores_unit_lane
public import proofs.«01_k».proof.Proof.Gen.KernelIdeal.Value
public import proofs.«01_k».proof.Proof.Gen.ReferenceIdeal.Run
public import proofs.«01_k».proof.Proof.Gen.FeedForward
public import proofs.«01_k».proof.Proof.Gen.FeedForward.Skeleton
public import proofs.«01_k».proof.Proof.Gen.FeedForward.Launch
public import proofs.«01_k».proof.Proof.Gen.FeedForward.Points
public import proofs.«01_k».proof.Proof.Gen.FeedForwardIdeal
public import proofs.«01_k».proof.Proof.Gen.FeedForwardIdeal.Skeleton
public import proofs.«01_k».proof.Proof.Gen.FeedForwardIdeal.Launch
public import proofs.«01_k».proof.Proof.Gen.FeedForwardIdeal.Points
public import proofs.«01_k».proof.Proof.Gen.FeedForwardRefIdeal
public import proofs.«01_k».proof.Proof.Gen.FeedForwardRefIdeal.Run
public import proofs.«01_k».proof.Proof.Proj.EvenInRef
public import proofs.«01_k».proof.Proof.Proj.OddInRef
public import proofs.«01_k».proof.Proof.Proj.EvenOutRef
public import proofs.«01_k».proof.Proof.Proj.OddOutRef
public import proofs.«01_k».proof.Proof.Proj.FinalNormRef
public import proofs.«01_k».proof.Proof.Gen.EvenIn
public import proofs.«01_k».proof.Proof.Gen.EvenIn.Skeleton
public import proofs.«01_k».proof.Proof.Gen.EvenIn.Launch
public import proofs.«01_k».proof.Proof.Gen.EvenIn.Points
public import proofs.«01_k».proof.Proof.Gen.EvenIn.Frame
public import proofs.«01_k».proof.Proof.Gen.EvenInIdeal
public import proofs.«01_k».proof.Proof.Gen.EvenInIdeal.Skeleton
public import proofs.«01_k».proof.Proof.Gen.EvenInIdeal.Launch
public import proofs.«01_k».proof.Proof.Gen.EvenInIdeal.Points
public import proofs.«01_k».proof.Proof.Gen.EvenInIdeal.Frame
public import proofs.«01_k».proof.Proof.Gen.EvenInIdeal.Value
public import proofs.«01_k».proof.Proof.Gen.EvenInRefIdeal
public import proofs.«01_k».proof.Proof.Gen.EvenInRefIdeal.Run
public import proofs.«01_k».proof.Proof.Gen.OddIn
public import proofs.«01_k».proof.Proof.Gen.OddIn.Skeleton
public import proofs.«01_k».proof.Proof.Gen.OddIn.Launch
public import proofs.«01_k».proof.Proof.Gen.OddIn.Points
public import proofs.«01_k».proof.Proof.Gen.OddIn.Frame
public import proofs.«01_k».proof.Proof.Gen.OddInIdeal
public import proofs.«01_k».proof.Proof.Gen.OddInIdeal.Skeleton
public import proofs.«01_k».proof.Proof.Gen.OddInIdeal.Launch
public import proofs.«01_k».proof.Proof.Gen.OddInIdeal.Points
public import proofs.«01_k».proof.Proof.Gen.OddInIdeal.Frame
public import proofs.«01_k».proof.Proof.Gen.OddInIdeal.Value
public import proofs.«01_k».proof.Proof.Gen.OddInRefIdeal
public import proofs.«01_k».proof.Proof.Gen.OddInRefIdeal.Run
public import proofs.«01_k».proof.Proof.Gen.EvenOut
public import proofs.«01_k».proof.Proof.Gen.EvenOut.Skeleton
public import proofs.«01_k».proof.Proof.Gen.EvenOut.Launch
public import proofs.«01_k».proof.Proof.Gen.EvenOut.Points
public import proofs.«01_k».proof.Proof.Gen.EvenOut.Frame
public import proofs.«01_k».proof.Proof.Gen.EvenOutIdeal
public import proofs.«01_k».proof.Proof.Gen.EvenOutIdeal.Skeleton
public import proofs.«01_k».proof.Proof.Gen.EvenOutIdeal.Launch
public import proofs.«01_k».proof.Proof.Gen.EvenOutIdeal.Points
public import proofs.«01_k».proof.Proof.Gen.EvenOutIdeal.Frame
public import proofs.«01_k».proof.Proof.Gen.EvenOutIdeal.Value
public import proofs.«01_k».proof.Proof.Gen.EvenOutRefIdeal
public import proofs.«01_k».proof.Proof.Gen.EvenOutRefIdeal.Run
public import proofs.«01_k».proof.Proof.Gen.OddOut
public import proofs.«01_k».proof.Proof.Gen.OddOut.Skeleton
public import proofs.«01_k».proof.Proof.Gen.OddOut.Launch
public import proofs.«01_k».proof.Proof.Gen.OddOut.Points
public import proofs.«01_k».proof.Proof.Gen.OddOut.Frame
public import proofs.«01_k».proof.Proof.Gen.OddOutIdeal
public import proofs.«01_k».proof.Proof.Gen.OddOutIdeal.Skeleton
public import proofs.«01_k».proof.Proof.Gen.OddOutIdeal.Launch
public import proofs.«01_k».proof.Proof.Gen.OddOutIdeal.Points
public import proofs.«01_k».proof.Proof.Gen.OddOutIdeal.Frame
public import proofs.«01_k».proof.Proof.Gen.OddOutIdeal.Value
public import proofs.«01_k».proof.Proof.Gen.OddOutRefIdeal
public import proofs.«01_k».proof.Proof.Gen.OddOutRefIdeal.Run
public import proofs.«01_k».proof.Proof.Gen.FinalNorm
public import proofs.«01_k».proof.Proof.Gen.FinalNorm.Skeleton
public import proofs.«01_k».proof.Proof.Gen.FinalNorm.Launch
public import proofs.«01_k».proof.Proof.Gen.FinalNorm.Points
public import proofs.«01_k».proof.Proof.Gen.FinalNorm.Frame
public import proofs.«01_k».proof.Proof.Gen.FinalNormIdeal
public import proofs.«01_k».proof.Proof.Gen.FinalNormIdeal.Skeleton
public import proofs.«01_k».proof.Proof.Gen.FinalNormIdeal.Launch
public import proofs.«01_k».proof.Proof.Gen.FinalNormIdeal.Points
public import proofs.«01_k».proof.Proof.Gen.FinalNormIdeal.Frame
public import proofs.«01_k».proof.Proof.Gen.FinalNormIdeal.Value
public import proofs.«01_k».proof.Proof.Gen.FinalNormRefIdeal
public import proofs.«01_k».proof.Proof.Gen.FinalNormRefIdeal.Run
public import proofs.«01_k».proof.Proof.Attn.Equation
public import proofs.«01_k».proof.Proof.Ffn.Results
public import proofs.«01_k».proof.Proof.Ffn.Ref
public import proofs.«01_k».proof.Proof.Ffn.Same
public import proofs.«01_k».proof.Proof.Gen.KeyPrep
public import proofs.«01_k».proof.Proof.Gen.KeyPrep.Skeleton
public import proofs.«01_k».proof.Proof.Gen.KeyPrep.Launch
public import proofs.«01_k».proof.Proof.Gen.KeyPrep.Points
public import proofs.«01_k».proof.Proof.Gen.KeyPrep.Frame.Runs
public import proofs.«01_k».proof.Proof.Gen.KeyPrepIdeal
public import proofs.«01_k».proof.Proof.Gen.KeyPrepIdeal.Skeleton
public import proofs.«01_k».proof.Proof.Gen.KeyPrepIdeal.Launch
public import proofs.«01_k».proof.Proof.Gen.KeyPrepIdeal.Points
public import proofs.«01_k».proof.Proof.Gen.KeyPrepIdeal.Frame.Runs
public import proofs.«01_k».proof.Proof.Gen.KeyPrepRefIdeal
public import proofs.«01_k».proof.Proof.Gen.KeyPrepRefIdeal.Run
public import proofs.«01_k».proof.Proof.Gen.Pre_finite_keys
public import proofs.«01_k».proof.Proof.Prep.Results
public import proofs.«01_k».proof.Proof.Prep.Ref
public import proofs.«01_k».proof.Proof.Prep.Printed.Frame
public import proofs.«01_k».proof.Proof.Prep.Pre
public import Idealize.ShloMosaic.Adequacy
public import Idealize.ShloMosaic.Init
public import Idealize.ShloMosaic.Lib.Quiescent

@[expose] public section

noncomputable section

namespace Cert.Proof

open Idealize.ShloMosaic Idealize.SL.Sem

/-- Under the precondition the kernel's arguments are real, with a value lane of ones. -/
theorem good (m : (ℓ : Loc Cert.KernelIdeal.nD Cert.KernelIdeal.τ Cert.KernelIdeal.sig) → Buf (Elt Ideal) ℓ)
    (h : Pre_KernelIdeal_finite_scores_unit_lane (hPre_finite_scores_unit_lane := Cert.Pre_finite_scores_unit_lane.Gen.facts) m)
    (c : Dev Cert.KernelIdeal.nD) : Attn.Good m c := by
  obtain ⟨hQ, hK, hV⟩ := AttnPre.read _ _ _ (congrFun (h c) ix0)
  exact ⟨hQ, hK, fun b n key => hV _ _ _ _⟩

/-- The reference ends with its arguments unchanged; it declares no semaphore. -/
theorem frame_reference : quiescent_ReferenceIdeal (hReferenceIdeal := Cert.ReferenceIdeal.Gen.facts) :=
  fun m g _ => (θ_run _ _ _).mono (fun r h => ⟨fun c => (h c).2, sem_eq_zero_of_no_sems (by decide) r.2⟩)
    (Cert.ReferenceIdeal.Value.run m g)

/-- The kernel and the reference end with the same attention. -/
theorem algebraic : algebraic_KernelIdeal_ReferenceIdeal_pre_finite_scores_unit_lane (hKernelIdeal := Cert.KernelIdeal.Gen.facts)
    (hReferenceIdeal := Cert.ReferenceIdeal.Gen.facts) (hPre_finite_scores_unit_lane := Cert.Pre_finite_scores_unit_lane.Gen.facts) :=
  fun m g m' g' hpre hag => ⟨fun c => Attn.attention (Attn.aq m c) (Attn.ak m c) (Attn.av m c),
    (θ_run _ _ _).mono (fun _ h c => ⟨(h c).1.trans (Attn.result_eq m c (good m hpre c)), (h c).2⟩)
      (Cert.KernelIdeal.Value.run_blocks m g),
    (θ_run _ _ _).mono (fun _ h c => ⟨(h c).1.trans (by
        rw [AttnRef.result_eq m' c, (hag c).1, (hag c).2.1, (hag c).2.2]), (h c).2⟩)
      (Cert.ReferenceIdeal.Value.run m' g')⟩

/-- The feed-forward call leaves its arguments as they were and every counter at zero. -/
theorem frame_feedForward : quiescent_FeedForward (hFeedForward := Cert.FeedForward.Gen.facts) := by
  intro m g _
  rw [FfnSame.tables_eq]
  exact Cert.FeedForwardIdeal.Ffn.frame (F := Bits) m g

/-- The feed-forward reference ends with its arguments unchanged; it declares no semaphore. -/
theorem frame_feedForwardRef : quiescent_FeedForwardRefIdeal (hFeedForwardRefIdeal := Cert.FeedForwardRefIdeal.Gen.facts) :=
  fun m g _ => (θ_run _ _ _).mono (fun r h => ⟨fun c => (h c).2.2, sem_eq_zero_of_no_sems (by decide) r.2⟩)
    (Cert.FeedForwardRefIdeal.Value.run m g)

/-- The feed-forward call and its reference end with the same output and the same last rows. -/
theorem algebraic_feedForward : algebraic_FeedForwardIdeal_FeedForwardRefIdeal (hFeedForwardIdeal := Cert.FeedForwardIdeal.Gen.facts)
    (hFeedForwardRefIdeal := Cert.FeedForwardRefIdeal.Gen.facts) := by
  intro m g m' g' _ hag
  refine ⟨fun c => FfnMath.output (FeedForwardIdeal.Ffn.aX m c) (FeedForwardIdeal.Ffn.aG m c) (FeedForwardIdeal.Ffn.aW m c)
      (FeedForwardIdeal.Ffn.aC m c) (FeedForwardIdeal.Ffn.aB m c) (FeedForwardIdeal.Ffn.aD m c) (FeedForwardIdeal.Ffn.aP m c),
    fun c => FfnMath.last (FeedForwardIdeal.Ffn.aX m c) (FeedForwardIdeal.Ffn.aG m c) (FeedForwardIdeal.Ffn.aW m c),
    Cert.FeedForwardIdeal.Ffn.run_results m g,
    (θ_run _ _ _).mono (fun _ h c => ⟨(h c).1.trans ?_, (h c).2.1.trans ?_, (h c).2.2⟩) (Cert.FeedForwardRefIdeal.Value.run m' g')⟩
  · obtain ⟨h0, h1, h2, h3, h4, h5, h6⟩ := hag c
    refine (FfnRef.res_eq m' c).trans ?_
    rw [h0, h1, h2, h3, h4, h5, h6]
    exact FfnRef.stages_eq _ _ _ _ _ _ _
  · obtain ⟨h0, h1, h2, h3, h4, h5, h6⟩ := hag c
    rw [h0, h1, h2, h6]
    exact FfnRef.ends_eq _ _ _ _

/-- The even layers' input projection's reference runs to its end, arguments kept and semaphores at zero. -/
theorem frame_evenInRef : quiescent_EvenInRefIdeal (hEvenInRefIdeal := Cert.EvenInRefIdeal.Gen.facts) := fun m g _ =>
  (θ_run _ _ _).mono (fun r h => ⟨fun c => (h c).2.2.2, sem_eq_zero_of_no_sems (by decide) r.2⟩) (Cert.EvenInRefIdeal.Value.run m g)

/-- The even layers' input projection: the call and the reference end with the same arrays. -/
theorem algebraic_evenIn : algebraic_EvenInIdeal_EvenInRefIdeal (hEvenInIdeal := Cert.EvenInIdeal.Gen.facts) (hEvenInRefIdeal := Cert.EvenInRefIdeal.Gen.facts) := by
  intro m g m' g' _ hag
  refine ⟨fun c => Cert.EvenInIdeal.Proj.fox (Cert.EvenInIdeal.Proj.aX m c) (Cert.EvenInIdeal.Proj.aG m c) (Cert.EvenInIdeal.Proj.aW m c), fun c => Cert.EvenInIdeal.Proj.rwkv (Cert.EvenInIdeal.Proj.aX m c) (Cert.EvenInIdeal.Proj.aG m c) (Cert.EvenInIdeal.Proj.aW m c), fun c => Cert.EvenInIdeal.Proj.forget (Cert.EvenInIdeal.Proj.aX m c) (Cert.EvenInIdeal.Proj.aG m c) (Cert.EvenInIdeal.Proj.aW m c), Cert.EvenInIdeal.Proj.run_results m g,
    (θ_run _ _ _).mono (fun _ h c => ⟨(h c).1.trans ?_, (h c).2.1.trans ?_, (h c).2.2.1.trans ?_, (h c).2.2.2⟩) (Cert.EvenInRefIdeal.Value.run m' g')⟩
  · obtain ⟨h0, h1, h2⟩ := hag c
    refine Eq.trans ?_ (Cert.EvenInRef.fox_eq (Cert.EvenInIdeal.Proj.aX m c) (Cert.EvenInIdeal.Proj.aG m c) (Cert.EvenInIdeal.Proj.aW m c))
    rw [h0, h1, h2]
    rfl
  · obtain ⟨h0, h1, h2⟩ := hag c
    refine Eq.trans ?_ (Cert.EvenInRef.rwkv_eq (Cert.EvenInIdeal.Proj.aX m c) (Cert.EvenInIdeal.Proj.aG m c) (Cert.EvenInIdeal.Proj.aW m c))
    rw [h0, h1, h2]
    rfl
  · obtain ⟨h0, h1, h2⟩ := hag c
    refine Eq.trans ?_ (Cert.EvenInRef.forget_eq (Cert.EvenInIdeal.Proj.aX m c) (Cert.EvenInIdeal.Proj.aG m c) (Cert.EvenInIdeal.Proj.aW m c))
    rw [h0, h1, h2]
    rfl

/-- The odd layers' input projection's reference runs to its end, arguments kept and semaphores at zero. -/
theorem frame_oddInRef : quiescent_OddInRefIdeal (hOddInRefIdeal := Cert.OddInRefIdeal.Gen.facts) := fun m g _ =>
  (θ_run _ _ _).mono (fun r h => ⟨fun c => (h c).2.2.2, sem_eq_zero_of_no_sems (by decide) r.2⟩) (Cert.OddInRefIdeal.Value.run m g)

/-- The odd layers' input projection: the call and the reference end with the same arrays. -/
theorem algebraic_oddIn : algebraic_OddInIdeal_OddInRefIdeal (hOddInIdeal := Cert.OddInIdeal.Gen.facts) (hOddInRefIdeal := Cert.OddInRefIdeal.Gen.facts) := by
  intro m g m' g' _ hag
  refine ⟨fun c => Cert.OddInIdeal.Proj.qkv (Cert.OddInIdeal.Proj.aX m c) (Cert.OddInIdeal.Proj.aG m c) (Cert.OddInIdeal.Proj.aW m c), fun c => Cert.OddInIdeal.Proj.outer (Cert.OddInIdeal.Proj.aX m c) (Cert.OddInIdeal.Proj.aG m c) (Cert.OddInIdeal.Proj.aW m c), fun c => Cert.OddInIdeal.Proj.small (Cert.OddInIdeal.Proj.aX m c) (Cert.OddInIdeal.Proj.aG m c) (Cert.OddInIdeal.Proj.aW m c), Cert.OddInIdeal.Proj.run_results m g,
    (θ_run _ _ _).mono (fun _ h c => ⟨(h c).1.trans ?_, (h c).2.1.trans ?_, (h c).2.2.1.trans ?_, (h c).2.2.2⟩) (Cert.OddInRefIdeal.Value.run m' g')⟩
  · obtain ⟨h0, h1, h2⟩ := hag c
    refine Eq.trans ?_ (Cert.OddInRef.qkv_eq (Cert.OddInIdeal.Proj.aX m c) (Cert.OddInIdeal.Proj.aG m c) (Cert.OddInIdeal.Proj.aW m c))
    rw [h0, h1, h2]
    rfl
  · obtain ⟨h0, h1, h2⟩ := hag c
    refine Eq.trans ?_ (Cert.OddInRef.outer_eq (Cert.OddInIdeal.Proj.aX m c) (Cert.OddInIdeal.Proj.aG m c) (Cert.OddInIdeal.Proj.aW m c))
    rw [h0, h1, h2]
    rfl
  · obtain ⟨h0, h1, h2⟩ := hag c
    refine Eq.trans ?_ (Cert.OddInRef.small_eq (Cert.OddInIdeal.Proj.aX m c) (Cert.OddInIdeal.Proj.aG m c) (Cert.OddInIdeal.Proj.aW m c))
    rw [h0, h1, h2]
    rfl

/-- The even layers' output projection's reference runs to its end, arguments kept and semaphores at zero. -/
theorem frame_evenOutRef : quiescent_EvenOutRefIdeal (hEvenOutRefIdeal := Cert.EvenOutRefIdeal.Gen.facts) := fun m g _ =>
  (θ_run _ _ _).mono (fun r h => ⟨fun c => (h c).2, sem_eq_zero_of_no_sems (by decide) r.2⟩) (Cert.EvenOutRefIdeal.Value.run m g)

/-- The even layers' output projection: the call and the reference end with the same arrays. -/
theorem algebraic_evenOut : algebraic_EvenOutIdeal_EvenOutRefIdeal (hEvenOutIdeal := Cert.EvenOutIdeal.Gen.facts) (hEvenOutRefIdeal := Cert.EvenOutRefIdeal.Gen.facts) := by
  intro m g m' g' _ hag
  refine ⟨fun c => Cert.EvenOutIdeal.Proj.output (Cert.EvenOutIdeal.Proj.aO m c) (Cert.EvenOutIdeal.Proj.aQ m c) (Cert.EvenOutIdeal.Proj.aB m c) (Cert.EvenOutIdeal.Proj.aW m c) (Cert.EvenOutIdeal.Proj.aX m c), Cert.EvenOutIdeal.Proj.run_results m g,
    (θ_run _ _ _).mono (fun _ h c => ⟨(h c).1.trans ?_, (h c).2⟩) (Cert.EvenOutRefIdeal.Value.run m' g')⟩
  · obtain ⟨h0, h1, h2, h3, h4⟩ := hag c
    refine Eq.trans ?_ (Cert.EvenOutRef.term_eq (Cert.EvenOutIdeal.Proj.aO m c) (Cert.EvenOutIdeal.Proj.aQ m c) (Cert.EvenOutIdeal.Proj.aB m c) (Cert.EvenOutIdeal.Proj.aW m c) (Cert.EvenOutIdeal.Proj.aX m c))
    rw [h0, h1, h2, h3, h4]
    rfl

/-- The odd layers' output projection's reference runs to its end, arguments kept and semaphores at zero. -/
theorem frame_oddOutRef : quiescent_OddOutRefIdeal (hOddOutRefIdeal := Cert.OddOutRefIdeal.Gen.facts) := fun m g _ =>
  (θ_run _ _ _).mono (fun r h => ⟨fun c => (h c).2, sem_eq_zero_of_no_sems (by decide) r.2⟩) (Cert.OddOutRefIdeal.Value.run m g)

/-- The odd layers' output projection: the call and the reference end with the same arrays. -/
theorem algebraic_oddOut : algebraic_OddOutIdeal_OddOutRefIdeal (hOddOutIdeal := Cert.OddOutIdeal.Gen.facts) (hOddOutRefIdeal := Cert.OddOutRefIdeal.Gen.facts) := by
  intro m g m' g' _ hag
  refine ⟨fun c => Cert.OddOutIdeal.Proj.output (Cert.OddOutIdeal.Proj.aO m c) (Cert.OddOutIdeal.Proj.aW m c) (Cert.OddOutIdeal.Proj.aX m c), Cert.OddOutIdeal.Proj.run_results m g,
    (θ_run _ _ _).mono (fun _ h c => ⟨(h c).1.trans ?_, (h c).2⟩) (Cert.OddOutRefIdeal.Value.run m' g')⟩
  · obtain ⟨h0, h1, h2⟩ := hag c
    refine Eq.trans ?_ (Cert.OddOutRef.term_eq (Cert.OddOutIdeal.Proj.aO m c) (Cert.OddOutIdeal.Proj.aW m c) (Cert.OddOutIdeal.Proj.aX m c))
    rw [h0, h1, h2]
    rfl

/-- The last norm's reference runs to its end, arguments kept and semaphores at zero. -/
theorem frame_finalNormRef : quiescent_FinalNormRefIdeal (hFinalNormRefIdeal := Cert.FinalNormRefIdeal.Gen.facts) := fun m g _ =>
  (θ_run _ _ _).mono (fun r h => ⟨fun c => (h c).2, sem_eq_zero_of_no_sems (by decide) r.2⟩) (Cert.FinalNormRefIdeal.Value.run m g)

/-- The last norm: the call and the reference end with the same arrays. -/
theorem algebraic_finalNorm : algebraic_FinalNormIdeal_FinalNormRefIdeal (hFinalNormIdeal := Cert.FinalNormIdeal.Gen.facts) (hFinalNormRefIdeal := Cert.FinalNormRefIdeal.Gen.facts) := by
  intro m g m' g' _ hag
  refine ⟨fun c => Cert.FinalNormIdeal.Proj.output (Cert.FinalNormIdeal.Proj.aX m c) (Cert.FinalNormIdeal.Proj.aG m c), Cert.FinalNormIdeal.Proj.run_results m g,
    (θ_run _ _ _).mono (fun _ h c => ⟨(h c).1.trans ?_, (h c).2⟩) (Cert.FinalNormRefIdeal.Value.run m' g')⟩
  · obtain ⟨h0, h1⟩ := hag c
    refine Eq.trans ?_ (Cert.FinalNormRef.term_eq (Cert.FinalNormIdeal.Proj.aX m c) (Cert.FinalNormIdeal.Proj.aG m c))
    rw [h0, h1]
    rfl

/-- The preparation call leaves its arguments as they were and every counter at zero. -/
theorem frame_keyPrep : quiescent_KeyPrep (hKeyPrep := Cert.KeyPrep.Gen.facts) := fun m g _ => Cert.KeyPrep.Prep.frame m g

/-- The preparation's reference ends with its arguments unchanged; it declares no semaphore. -/
theorem frame_keyPrepRef : quiescent_KeyPrepRefIdeal (hKeyPrepRefIdeal := Cert.KeyPrepRefIdeal.Gen.facts) := fun m g _ =>
  (θ_run _ _ _).mono (fun r h => ⟨fun c => (h c).2.2, sem_eq_zero_of_no_sems (by decide) r.2⟩) (Cert.KeyPrepRefIdeal.Value.run m g)

/-- From finite keys, the preparation call and its reference end with the same normalized keys and the same log gates. -/
theorem algebraic_keyPrep : algebraic_KeyPrepIdeal_KeyPrepRefIdeal_pre_finite_keys (hKeyPrepIdeal := Cert.KeyPrepIdeal.Gen.facts)
    (hKeyPrepRefIdeal := Cert.KeyPrepRefIdeal.Gen.facts) (hPre_finite_keys := Cert.Pre_finite_keys.Gen.facts) := by
  intro m g m' g' hpre hag
  refine ⟨fun c => PrepMath.keys (KeyPrepIdeal.Prep.aX m c) (KeyPrepIdeal.Prep.aG m c),
    fun c => PrepMath.gates (KeyPrepIdeal.Prep.aL m c) (KeyPrepIdeal.Prep.aB m c),
    Cert.KeyPrepIdeal.Prep.run_results m g (fun c => PrepPre.read _ _ _ _ _ (congrFun (hpre c) ix0)),
    (θ_run _ _ _).mono (fun _ h c => ⟨(h c).1.trans ?_, (h c).2.1.trans ?_, (h c).2.2⟩) (Cert.KeyPrepRefIdeal.Value.run m' g')⟩
  · obtain ⟨h0, -, -, h3, -⟩ := hag c
    refine Eq.trans ?_ (PrepRef.keys_eq (KeyPrepIdeal.Prep.aX m c) (KeyPrepIdeal.Prep.aG m c))
    rw [h0, h3]
    rfl
  · obtain ⟨-, h1, -, -, h4⟩ := hag c
    refine Eq.trans ?_ (PrepRef.gates_eq (KeyPrepIdeal.Prep.aL m c) (KeyPrepIdeal.Prep.aB m c))
    rw [h1, h4]
    rfl

/-- Everything the certificate claims. -/
theorem claim : Cert.Claim := ⟨Cert.Kernel.Gen.facts, Cert.KernelIdeal.Gen.facts, Cert.ReferenceIdeal.Gen.facts,
  Cert.FeedForward.Gen.facts, Cert.FeedForwardIdeal.Gen.facts, Cert.FeedForwardRefIdeal.Gen.facts, Cert.EvenIn.Gen.facts, Cert.EvenInIdeal.Gen.facts, Cert.EvenInRefIdeal.Gen.facts, Cert.OddIn.Gen.facts, Cert.OddInIdeal.Gen.facts, Cert.OddInRefIdeal.Gen.facts, Cert.EvenOut.Gen.facts, Cert.EvenOutIdeal.Gen.facts, Cert.EvenOutRefIdeal.Gen.facts, Cert.OddOut.Gen.facts, Cert.OddOutIdeal.Gen.facts, Cert.OddOutRefIdeal.Gen.facts, Cert.FinalNorm.Gen.facts, Cert.FinalNormIdeal.Gen.facts, Cert.FinalNormRefIdeal.Gen.facts, Cert.KeyPrep.Gen.facts, Cert.KeyPrepIdeal.Gen.facts, Cert.KeyPrepRefIdeal.Gen.facts,
  Cert.Pre_finite_scores_unit_lane.Gen.facts, Cert.Pre_finite_keys.Gen.facts,
  fun m g _ => Cert.Kernel.Gen.frame m g, fun m g _ => Cert.KernelIdeal.Gen.frame m g, fun m g _ => Cert.KernelIdeal.Gen.frame m g,
  frame_reference, fun m g _ => frame_reference m g trivial,
  frame_feedForward, fun m g _ => Cert.FeedForwardIdeal.Ffn.frame m g, frame_feedForwardRef,
  fun m g _ => Cert.EvenIn.Gen.frame m g, fun m g _ => Cert.EvenInIdeal.Gen.frame m g, frame_evenInRef,
  fun m g _ => Cert.OddIn.Gen.frame m g, fun m g _ => Cert.OddInIdeal.Gen.frame m g, frame_oddInRef,
  fun m g _ => Cert.EvenOut.Gen.frame m g, fun m g _ => Cert.EvenOutIdeal.Gen.frame m g, frame_evenOutRef,
  fun m g _ => Cert.OddOut.Gen.frame m g, fun m g _ => Cert.OddOutIdeal.Gen.frame m g, frame_oddOutRef,
  fun m g _ => Cert.FinalNorm.Gen.frame m g, fun m g _ => Cert.FinalNormIdeal.Gen.frame m g, frame_finalNormRef,
  frame_keyPrep, fun m g _ => Cert.KeyPrepIdeal.Prep.frame m g, fun m g _ => Cert.KeyPrepIdeal.Prep.frame m g,
  frame_keyPrepRef, fun m g _ => frame_keyPrepRef m g trivial,
  IdealRules.named_const.statement Cert.KernelIdeal.κ "mask" .f32 0xF149F2CA#32 ⊥ rfl, algebraic, trivial, algebraic_feedForward,
  trivial, algebraic_evenIn, trivial, algebraic_oddIn, trivial, algebraic_evenOut, trivial, algebraic_oddOut, trivial, algebraic_finalNorm,
  trivial, algebraic_keyPrep⟩

end Cert.Proof

end
